-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_alive [hPre_finite_and_alive : Cert.Pre_finite_and_alive.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_alive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_alive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_alive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_and_alive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_alive [hPre_finite_and_alive : Cert.Pre_finite_and_alive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_alive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_alive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_alive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_and_alive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_GradH (m : (ℓ : Loc Cert.GradH.nD Cert.GradH.τ Cert.GradH.sig) → Buf (Elt Bits) ℓ) : Prop :=
  True

def Pre_GradHIdeal (m : (ℓ : Loc Cert.GradHIdeal.nD Cert.GradHIdeal.τ Cert.GradHIdeal.sig) → Buf (Elt Ideal) ℓ) : Prop :=
  True

def Pre_GradHRefIdeal (m : (ℓ : Loc Cert.GradHRefIdeal.nD Cert.GradHRefIdeal.τ Cert.GradHRefIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWRefIdeal (m : (ℓ : Loc Cert.GradWRefIdeal.nD Cert.GradWRefIdeal.τ Cert.GradWRefIdeal.sig) → Buf (Elt Ideal) ℓ) : Prop :=
  True

def Pre_GradMixed (m : (ℓ : Loc Cert.GradMixed.nD Cert.GradMixed.τ Cert.GradMixed.sig) → Buf (Elt Bits) ℓ) : Prop :=
  True

def Pre_GradMixedIdeal (m : (ℓ : Loc Cert.GradMixedIdeal.nD Cert.GradMixedIdeal.τ Cert.GradMixedIdeal.sig) → Buf (Elt Ideal) ℓ) : Prop :=
  True

def Pre_GradMixedRefIdeal (m : (ℓ : Loc Cert.GradMixedRefIdeal.nD Cert.GradMixedRefIdeal.τ Cert.GradMixedRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjE (m : (ℓ : Loc Cert.OutProjE.nD Cert.OutProjE.τ Cert.OutProjE.sig) → Buf (Elt Bits) ℓ) : Prop :=
  True

def Pre_OutProjEIdeal (m : (ℓ : Loc Cert.OutProjEIdeal.nD Cert.OutProjEIdeal.τ Cert.OutProjEIdeal.sig) → Buf (Elt Ideal) ℓ) : Prop :=
  True

def Pre_OutProjERefIdeal (m : (ℓ : Loc Cert.OutProjERefIdeal.nD Cert.OutProjERefIdeal.τ Cert.OutProjERefIdeal.sig) → Buf (Elt Ideal) ℓ) : Prop :=
  True

def Pre_GradOutE (m : (ℓ : Loc Cert.GradOutE.nD Cert.GradOutE.τ Cert.GradOutE.sig) → Buf (Elt Bits) ℓ) : Prop :=
  True

def Pre_GradOutEIdeal (m : (ℓ : Loc Cert.GradOutEIdeal.nD Cert.GradOutEIdeal.τ Cert.GradOutEIdeal.sig) → Buf (Elt Ideal) ℓ) : Prop :=
  True

def Pre_GradOutERefIdeal (m : (ℓ : Loc Cert.GradOutERefIdeal.nD Cert.GradOutERefIdeal.τ Cert.GradOutERefIdeal.sig) → Buf (Elt Ideal) ℓ) : Prop :=
  True

def Pre_GateA (m : (ℓ : Loc Cert.GateA.nD Cert.GateA.τ Cert.GateA.sig) → Buf (Elt Bits) ℓ) : Prop :=
  True

def Pre_GateAIdeal (m : (ℓ : Loc Cert.GateAIdeal.nD Cert.GateAIdeal.τ Cert.GateAIdeal.sig) → Buf (Elt Ideal) ℓ) : Prop :=
  True

def Pre_GateARefIdeal (m : (ℓ : Loc Cert.GateARefIdeal.nD Cert.GateARefIdeal.τ Cert.GateARefIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamInE (m : (ℓ : Loc Cert.AdamInE.nD Cert.AdamInE.τ Cert.AdamInE.sig) → Buf (Elt Bits) ℓ) : Prop :=
  True

def Pre_AdamInEIdeal (m : (ℓ : Loc Cert.AdamInEIdeal.nD Cert.AdamInEIdeal.τ Cert.AdamInEIdeal.sig) → Buf (Elt Ideal) ℓ) : Prop :=
  True

def Pre_AdamInERefIdeal (m : (ℓ : Loc Cert.AdamInERefIdeal.nD Cert.AdamInERefIdeal.τ Cert.AdamInERefIdeal.sig) → Buf (Elt Ideal) ℓ) : Prop :=
  True

def Pre_AdamOutE (m : (ℓ : Loc Cert.AdamOutE.nD Cert.AdamOutE.τ Cert.AdamOutE.sig) → Buf (Elt Bits) ℓ) : Prop :=
  True

def Pre_AdamOutEIdeal (m : (ℓ : Loc Cert.AdamOutEIdeal.nD Cert.AdamOutEIdeal.τ Cert.AdamOutEIdeal.sig) → Buf (Elt Ideal) ℓ) : Prop :=
  True

def Pre_AdamOutERefIdeal (m : (ℓ : Loc Cert.AdamOutERefIdeal.nD Cert.AdamOutERefIdeal.τ Cert.AdamOutERefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_PreBwdE (m : (ℓ : Loc Cert.PreBwdE.nD Cert.PreBwdE.τ Cert.PreBwdE.sig) → Buf (Elt Bits) ℓ) : Prop :=
  True

def Pre_PreBwdEIdeal (m : (ℓ : Loc Cert.PreBwdEIdeal.nD Cert.PreBwdEIdeal.τ Cert.PreBwdEIdeal.sig) → Buf (Elt Ideal) ℓ) : Prop :=
  True

def Pre_PreBwdERefIdeal (m : (ℓ : Loc Cert.PreBwdERefIdeal.nD Cert.PreBwdERefIdeal.τ Cert.PreBwdERefIdeal.sig) → Buf (Elt Ideal) ℓ) : Prop :=
  True

def Pre_PreNormE (m : (ℓ : Loc Cert.PreNormE.nD Cert.PreNormE.τ Cert.PreNormE.sig) → Buf (Elt Bits) ℓ) : Prop :=
  True

def Pre_PreNormEIdeal (m : (ℓ : Loc Cert.PreNormEIdeal.nD Cert.PreNormEIdeal.τ Cert.PreNormEIdeal.sig) → Buf (Elt Ideal) ℓ) : Prop :=
  True

def Pre_PreNormERefIdeal (m : (ℓ : Loc Cert.PreNormERefIdeal.nD Cert.PreNormERefIdeal.τ Cert.PreNormERefIdeal.sig) → Buf (Elt Ideal) ℓ) : Prop :=
  True

def Pre_PostNormE (m : (ℓ : Loc Cert.PostNormE.nD Cert.PostNormE.τ Cert.PostNormE.sig) → Buf (Elt Bits) ℓ) : Prop :=
  True

def Pre_PostNormEIdeal (m : (ℓ : Loc Cert.PostNormEIdeal.nD Cert.PostNormEIdeal.τ Cert.PostNormEIdeal.sig) → Buf (Elt Ideal) ℓ) : Prop :=
  True

def Pre_PostNormERefIdeal (m : (ℓ : Loc Cert.PostNormERefIdeal.nD Cert.PostNormERefIdeal.τ Cert.PostNormERefIdeal.sig) → Buf (Elt Ideal) ℓ) : Prop :=
  True

def Pre_PostBwdE (m : (ℓ : Loc Cert.PostBwdE.nD Cert.PostBwdE.τ Cert.PostBwdE.sig) → Buf (Elt Bits) ℓ) : Prop :=
  True

def Pre_PostBwdEIdeal (m : (ℓ : Loc Cert.PostBwdEIdeal.nD Cert.PostBwdEIdeal.τ Cert.PostBwdEIdeal.sig) → Buf (Elt Ideal) ℓ) : Prop :=
  True

def Pre_PostBwdERefIdeal (m : (ℓ : Loc Cert.PostBwdERefIdeal.nD Cert.PostBwdERefIdeal.τ Cert.PostBwdERefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_GradForget (m : (ℓ : Loc Cert.GradForget.nD Cert.GradForget.τ Cert.GradForget.sig) → Buf (Elt Bits) ℓ) : Prop :=
  True

def Pre_GradForgetIdeal (m : (ℓ : Loc Cert.GradForgetIdeal.nD Cert.GradForgetIdeal.τ Cert.GradForgetIdeal.sig) → Buf (Elt Ideal) ℓ) : Prop :=
  True

def Pre_GradForgetRefIdeal (m : (ℓ : Loc Cert.GradForgetRefIdeal.nD Cert.GradForgetRefIdeal.τ Cert.GradForgetRefIdeal.sig) → Buf (Elt Ideal) ℓ) : Prop :=
  True

def Pre_GradHForget (m : (ℓ : Loc Cert.GradHForget.nD Cert.GradHForget.τ Cert.GradHForget.sig) → Buf (Elt Bits) ℓ) : Prop :=
  True

def Pre_GradHForgetIdeal (m : (ℓ : Loc Cert.GradHForgetIdeal.nD Cert.GradHForgetIdeal.τ Cert.GradHForgetIdeal.sig) → Buf (Elt Ideal) ℓ) : Prop :=
  True

def Pre_GradHForgetRefIdeal (m : (ℓ : Loc Cert.GradHForgetRefIdeal.nD Cert.GradHForgetRefIdeal.τ Cert.GradHForgetRefIdeal.sig) → Buf (Elt Ideal) ℓ) : Prop :=
  True

def Pre_GateSum (m : (ℓ : Loc Cert.GateSum.nD Cert.GateSum.τ Cert.GateSum.sig) → Buf (Elt Bits) ℓ) : Prop :=
  True

def Pre_GateSumIdeal (m : (ℓ : Loc Cert.GateSumIdeal.nD Cert.GateSumIdeal.τ Cert.GateSumIdeal.sig) → Buf (Elt Ideal) ℓ) : Prop :=
  True

def Pre_GateSumRefIdeal (m : (ℓ : Loc Cert.GateSumRefIdeal.nD Cert.GateSumRefIdeal.τ Cert.GateSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_alive [hKernelIdeal : Cert.KernelIdeal.Facts] [hPre_finite_and_alive : Cert.Pre_finite_and_alive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_alive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_alive [hReferenceIdeal : Cert.ReferenceIdeal.Facts] [hPre_finite_and_alive : Cert.Pre_finite_and_alive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_alive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GradH [hGradH : Cert.GradH.Facts] : Prop :=
  ∀ (m : (ℓ : Loc Cert.GradH.nD Cert.GradH.τ Cert.GradH.sig) → Buf (Elt Bits) ℓ) (g : Dev Cert.GradH.nD → PrngReg), Pre_GradH m →
    θ_run (Cert.GradH.defs (F := Bits)) (onTc (τ := Cert.GradH.τ) (Cert.GradH.main (F := Bits))) ⟨m, fun _ => 0, g⟩ (fun r => (∀ c : Dev Cert.GradH.nD,
      r.2.mem ((c.tc : Thread Cert.GradH.nD Cert.GradH.τ).loc Cert.GradH.main_arg0) = m ((c.tc : Thread Cert.GradH.nD Cert.GradH.τ).loc Cert.GradH.main_arg0)
      ∧ r.2.mem ((c.tc : Thread Cert.GradH.nD Cert.GradH.τ).loc Cert.GradH.main_arg1) = m ((c.tc : Thread Cert.GradH.nD Cert.GradH.τ).loc Cert.GradH.main_arg1)
      ∧ r.2.mem ((c.tc : Thread Cert.GradH.nD Cert.GradH.τ).loc Cert.GradH.main_arg2) = m ((c.tc : Thread Cert.GradH.nD Cert.GradH.τ).loc Cert.GradH.main_arg2)
      ∧ r.2.mem ((c.tc : Thread Cert.GradH.nD Cert.GradH.τ).loc Cert.GradH.main_arg3) = m ((c.tc : Thread Cert.GradH.nD Cert.GradH.τ).loc Cert.GradH.main_arg3)
      ∧ r.2.mem ((c.tc : Thread Cert.GradH.nD Cert.GradH.τ).loc Cert.GradH.main_arg4) = m ((c.tc : Thread Cert.GradH.nD Cert.GradH.τ).loc Cert.GradH.main_arg4))
      ∧ r.2.sem = fun _ => 0)

def quiescent_GradHIdeal [hGradHIdeal : Cert.GradHIdeal.Facts] : Prop :=
  ∀ (m : (ℓ : Loc Cert.GradHIdeal.nD Cert.GradHIdeal.τ Cert.GradHIdeal.sig) → Buf (Elt Ideal) ℓ) (g : Dev Cert.GradHIdeal.nD → PrngReg), Pre_GradHIdeal m →
    θ_run (Cert.GradHIdeal.defs (F := Ideal)) (onTc (τ := Cert.GradHIdeal.τ) (Cert.GradHIdeal.main (F := Ideal))) ⟨m, fun _ => 0, g⟩ (fun r => (∀ c : Dev Cert.GradHIdeal.nD,
      r.2.mem ((c.tc : Thread Cert.GradHIdeal.nD Cert.GradHIdeal.τ).loc Cert.GradHIdeal.main_arg0) = m ((c.tc : Thread Cert.GradHIdeal.nD Cert.GradHIdeal.τ).loc Cert.GradHIdeal.main_arg0)
      ∧ r.2.mem ((c.tc : Thread Cert.GradHIdeal.nD Cert.GradHIdeal.τ).loc Cert.GradHIdeal.main_arg1) = m ((c.tc : Thread Cert.GradHIdeal.nD Cert.GradHIdeal.τ).loc Cert.GradHIdeal.main_arg1)
      ∧ r.2.mem ((c.tc : Thread Cert.GradHIdeal.nD Cert.GradHIdeal.τ).loc Cert.GradHIdeal.main_arg2) = m ((c.tc : Thread Cert.GradHIdeal.nD Cert.GradHIdeal.τ).loc Cert.GradHIdeal.main_arg2)
      ∧ r.2.mem ((c.tc : Thread Cert.GradHIdeal.nD Cert.GradHIdeal.τ).loc Cert.GradHIdeal.main_arg3) = m ((c.tc : Thread Cert.GradHIdeal.nD Cert.GradHIdeal.τ).loc Cert.GradHIdeal.main_arg3)
      ∧ r.2.mem ((c.tc : Thread Cert.GradHIdeal.nD Cert.GradHIdeal.τ).loc Cert.GradHIdeal.main_arg4) = m ((c.tc : Thread Cert.GradHIdeal.nD Cert.GradHIdeal.τ).loc Cert.GradHIdeal.main_arg4))
      ∧ r.2.sem = fun _ => 0)

def quiescent_GradHRefIdeal [hGradHRefIdeal : Cert.GradHRefIdeal.Facts] : Prop :=
  ∀ (m : (ℓ : Loc Cert.GradHRefIdeal.nD Cert.GradHRefIdeal.τ Cert.GradHRefIdeal.sig) → Buf (Elt Ideal) ℓ) (g : Dev Cert.GradHRefIdeal.nD → PrngReg), Pre_GradHRefIdeal m →
    θ_run (Cert.GradHRefIdeal.defs (F := Ideal)) (onTc (τ := Cert.GradHRefIdeal.τ) (Cert.GradHRefIdeal.main (F := Ideal))) ⟨m, fun _ => 0, g⟩ (fun r => (∀ c : Dev Cert.GradHRefIdeal.nD,
      r.2.mem ((c.tc : Thread Cert.GradHRefIdeal.nD Cert.GradHRefIdeal.τ).loc Cert.GradHRefIdeal.main_arg0) = m ((c.tc : Thread Cert.GradHRefIdeal.nD Cert.GradHRefIdeal.τ).loc Cert.GradHRefIdeal.main_arg0)
      ∧ r.2.mem ((c.tc : Thread Cert.GradHRefIdeal.nD Cert.GradHRefIdeal.τ).loc Cert.GradHRefIdeal.main_arg1) = m ((c.tc : Thread Cert.GradHRefIdeal.nD Cert.GradHRefIdeal.τ).loc Cert.GradHRefIdeal.main_arg1)
      ∧ r.2.mem ((c.tc : Thread Cert.GradHRefIdeal.nD Cert.GradHRefIdeal.τ).loc Cert.GradHRefIdeal.main_arg2) = m ((c.tc : Thread Cert.GradHRefIdeal.nD Cert.GradHRefIdeal.τ).loc Cert.GradHRefIdeal.main_arg2)
      ∧ r.2.mem ((c.tc : Thread Cert.GradHRefIdeal.nD Cert.GradHRefIdeal.τ).loc Cert.GradHRefIdeal.main_arg3) = m ((c.tc : Thread Cert.GradHRefIdeal.nD Cert.GradHRefIdeal.τ).loc Cert.GradHRefIdeal.main_arg3)
      ∧ r.2.mem ((c.tc : Thread Cert.GradHRefIdeal.nD Cert.GradHRefIdeal.τ).loc Cert.GradHRefIdeal.main_arg4) = m ((c.tc : Thread Cert.GradHRefIdeal.nD Cert.GradHRefIdeal.τ).loc Cert.GradHRefIdeal.main_arg4))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1)
      ∧ r.2.mem ((c.tc : Thread Cert.GradW.nD Cert.GradW.τ).loc Cert.GradW.main_arg2) = m ((c.tc : Thread Cert.GradW.nD Cert.GradW.τ).loc Cert.GradW.main_arg2)
      ∧ r.2.mem ((c.tc : Thread Cert.GradW.nD Cert.GradW.τ).loc Cert.GradW.main_arg3) = m ((c.tc : Thread Cert.GradW.nD Cert.GradW.τ).loc Cert.GradW.main_arg3)
      ∧ r.2.mem ((c.tc : Thread Cert.GradW.nD Cert.GradW.τ).loc Cert.GradW.main_arg4) = m ((c.tc : Thread Cert.GradW.nD Cert.GradW.τ).loc Cert.GradW.main_arg4))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
      ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
      ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3)
      ∧ r.2.mem ((c.tc : Thread Cert.GradWIdeal.nD Cert.GradWIdeal.τ).loc Cert.GradWIdeal.main_arg4) = m ((c.tc : Thread Cert.GradWIdeal.nD Cert.GradWIdeal.τ).loc Cert.GradWIdeal.main_arg4))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1)
      ∧ r.2.mem ((c.tc : Thread Cert.GradWRefIdeal.nD Cert.GradWRefIdeal.τ).loc Cert.GradWRefIdeal.main_arg2) = m ((c.tc : Thread Cert.GradWRefIdeal.nD Cert.GradWRefIdeal.τ).loc Cert.GradWRefIdeal.main_arg2)
      ∧ r.2.mem ((c.tc : Thread Cert.GradWRefIdeal.nD Cert.GradWRefIdeal.τ).loc Cert.GradWRefIdeal.main_arg3) = m ((c.tc : Thread Cert.GradWRefIdeal.nD Cert.GradWRefIdeal.τ).loc Cert.GradWRefIdeal.main_arg3)
      ∧ r.2.mem ((c.tc : Thread Cert.GradWRefIdeal.nD Cert.GradWRefIdeal.τ).loc Cert.GradWRefIdeal.main_arg4) = m ((c.tc : Thread Cert.GradWRefIdeal.nD Cert.GradWRefIdeal.τ).loc Cert.GradWRefIdeal.main_arg4))
      ∧ r.2.sem = fun _ => 0)

def quiescent_GradMixed [hGradMixed : Cert.GradMixed.Facts] : Prop :=
  ∀ (m : (ℓ : Loc Cert.GradMixed.nD Cert.GradMixed.τ Cert.GradMixed.sig) → Buf (Elt Bits) ℓ) (g : Dev Cert.GradMixed.nD → PrngReg), Pre_GradMixed m →
    θ_run (Cert.GradMixed.defs (F := Bits)) (onTc (τ := Cert.GradMixed.τ) (Cert.GradMixed.main (F := Bits))) ⟨m, fun _ => 0, g⟩ (fun r => (∀ c : Dev Cert.GradMixed.nD,
      r.2.mem ((c.tc : Thread Cert.GradMixed.nD Cert.GradMixed.τ).loc Cert.GradMixed.main_arg0) = m ((c.tc : Thread Cert.GradMixed.nD Cert.GradMixed.τ).loc Cert.GradMixed.main_arg0)
      ∧ r.2.mem ((c.tc : Thread Cert.GradMixed.nD Cert.GradMixed.τ).loc Cert.GradMixed.main_arg1) = m ((c.tc : Thread Cert.GradMixed.nD Cert.GradMixed.τ).loc Cert.GradMixed.main_arg1))
      ∧ r.2.sem = fun _ => 0)

def quiescent_GradMixedIdeal [hGradMixedIdeal : Cert.GradMixedIdeal.Facts] : Prop :=
  ∀ (m : (ℓ : Loc Cert.GradMixedIdeal.nD Cert.GradMixedIdeal.τ Cert.GradMixedIdeal.sig) → Buf (Elt Ideal) ℓ) (g : Dev Cert.GradMixedIdeal.nD → PrngReg), Pre_GradMixedIdeal m →
    θ_run (Cert.GradMixedIdeal.defs (F := Ideal)) (onTc (τ := Cert.GradMixedIdeal.τ) (Cert.GradMixedIdeal.main (F := Ideal))) ⟨m, fun _ => 0, g⟩ (fun r => (∀ c : Dev Cert.GradMixedIdeal.nD,
      r.2.mem ((c.tc : Thread Cert.GradMixedIdeal.nD Cert.GradMixedIdeal.τ).loc Cert.GradMixedIdeal.main_arg0) = m ((c.tc : Thread Cert.GradMixedIdeal.nD Cert.GradMixedIdeal.τ).loc Cert.GradMixedIdeal.main_arg0)
      ∧ r.2.mem ((c.tc : Thread Cert.GradMixedIdeal.nD Cert.GradMixedIdeal.τ).loc Cert.GradMixedIdeal.main_arg1) = m ((c.tc : Thread Cert.GradMixedIdeal.nD Cert.GradMixedIdeal.τ).loc Cert.GradMixedIdeal.main_arg1))
      ∧ r.2.sem = fun _ => 0)

def quiescent_GradMixedRefIdeal [hGradMixedRefIdeal : Cert.GradMixedRefIdeal.Facts] : Prop :=
  ∀ (m : (ℓ : Loc Cert.GradMixedRefIdeal.nD Cert.GradMixedRefIdeal.τ Cert.GradMixedRefIdeal.sig) → Buf (Elt Ideal) ℓ) (g : Dev Cert.GradMixedRefIdeal.nD → PrngReg), Pre_GradMixedRefIdeal m →
    θ_run (Cert.GradMixedRefIdeal.defs (F := Ideal)) (onTc (τ := Cert.GradMixedRefIdeal.τ) (Cert.GradMixedRefIdeal.main (F := Ideal))) ⟨m, fun _ => 0, g⟩ (fun r => (∀ c : Dev Cert.GradMixedRefIdeal.nD,
      r.2.mem ((c.tc : Thread Cert.GradMixedRefIdeal.nD Cert.GradMixedRefIdeal.τ).loc Cert.GradMixedRefIdeal.main_arg0) = m ((c.tc : Thread Cert.GradMixedRefIdeal.nD Cert.GradMixedRefIdeal.τ).loc Cert.GradMixedRefIdeal.main_arg0)
      ∧ r.2.mem ((c.tc : Thread Cert.GradMixedRefIdeal.nD Cert.GradMixedRefIdeal.τ).loc Cert.GradMixedRefIdeal.main_arg1) = m ((c.tc : Thread Cert.GradMixedRefIdeal.nD Cert.GradMixedRefIdeal.τ).loc Cert.GradMixedRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutProjE [hOutProjE : Cert.OutProjE.Facts] : Prop :=
  ∀ (m : (ℓ : Loc Cert.OutProjE.nD Cert.OutProjE.τ Cert.OutProjE.sig) → Buf (Elt Bits) ℓ) (g : Dev Cert.OutProjE.nD → PrngReg), Pre_OutProjE m →
    θ_run (Cert.OutProjE.defs (F := Bits)) (onTc (τ := Cert.OutProjE.τ) (Cert.OutProjE.main (F := Bits))) ⟨m, fun _ => 0, g⟩ (fun r => (∀ c : Dev Cert.OutProjE.nD,
      r.2.mem ((c.tc : Thread Cert.OutProjE.nD Cert.OutProjE.τ).loc Cert.OutProjE.main_arg0) = m ((c.tc : Thread Cert.OutProjE.nD Cert.OutProjE.τ).loc Cert.OutProjE.main_arg0)
      ∧ r.2.mem ((c.tc : Thread Cert.OutProjE.nD Cert.OutProjE.τ).loc Cert.OutProjE.main_arg1) = m ((c.tc : Thread Cert.OutProjE.nD Cert.OutProjE.τ).loc Cert.OutProjE.main_arg1)
      ∧ r.2.mem ((c.tc : Thread Cert.OutProjE.nD Cert.OutProjE.τ).loc Cert.OutProjE.main_arg2) = m ((c.tc : Thread Cert.OutProjE.nD Cert.OutProjE.τ).loc Cert.OutProjE.main_arg2))
      ∧ r.2.sem = fun _ => 0)

def quiescent_OutProjEIdeal [hOutProjEIdeal : Cert.OutProjEIdeal.Facts] : Prop :=
  ∀ (m : (ℓ : Loc Cert.OutProjEIdeal.nD Cert.OutProjEIdeal.τ Cert.OutProjEIdeal.sig) → Buf (Elt Ideal) ℓ) (g : Dev Cert.OutProjEIdeal.nD → PrngReg), Pre_OutProjEIdeal m →
    θ_run (Cert.OutProjEIdeal.defs (F := Ideal)) (onTc (τ := Cert.OutProjEIdeal.τ) (Cert.OutProjEIdeal.main (F := Ideal))) ⟨m, fun _ => 0, g⟩ (fun r => (∀ c : Dev Cert.OutProjEIdeal.nD,
      r.2.mem ((c.tc : Thread Cert.OutProjEIdeal.nD Cert.OutProjEIdeal.τ).loc Cert.OutProjEIdeal.main_arg0) = m ((c.tc : Thread Cert.OutProjEIdeal.nD Cert.OutProjEIdeal.τ).loc Cert.OutProjEIdeal.main_arg0)
      ∧ r.2.mem ((c.tc : Thread Cert.OutProjEIdeal.nD Cert.OutProjEIdeal.τ).loc Cert.OutProjEIdeal.main_arg1) = m ((c.tc : Thread Cert.OutProjEIdeal.nD Cert.OutProjEIdeal.τ).loc Cert.OutProjEIdeal.main_arg1)
      ∧ r.2.mem ((c.tc : Thread Cert.OutProjEIdeal.nD Cert.OutProjEIdeal.τ).loc Cert.OutProjEIdeal.main_arg2) = m ((c.tc : Thread Cert.OutProjEIdeal.nD Cert.OutProjEIdeal.τ).loc Cert.OutProjEIdeal.main_arg2))
      ∧ r.2.sem = fun _ => 0)

def quiescent_OutProjERefIdeal [hOutProjERefIdeal : Cert.OutProjERefIdeal.Facts] : Prop :=
  ∀ (m : (ℓ : Loc Cert.OutProjERefIdeal.nD Cert.OutProjERefIdeal.τ Cert.OutProjERefIdeal.sig) → Buf (Elt Ideal) ℓ) (g : Dev Cert.OutProjERefIdeal.nD → PrngReg), Pre_OutProjERefIdeal m →
    θ_run (Cert.OutProjERefIdeal.defs (F := Ideal)) (onTc (τ := Cert.OutProjERefIdeal.τ) (Cert.OutProjERefIdeal.main (F := Ideal))) ⟨m, fun _ => 0, g⟩ (fun r => (∀ c : Dev Cert.OutProjERefIdeal.nD,
      r.2.mem ((c.tc : Thread Cert.OutProjERefIdeal.nD Cert.OutProjERefIdeal.τ).loc Cert.OutProjERefIdeal.main_arg0) = m ((c.tc : Thread Cert.OutProjERefIdeal.nD Cert.OutProjERefIdeal.τ).loc Cert.OutProjERefIdeal.main_arg0)
      ∧ r.2.mem ((c.tc : Thread Cert.OutProjERefIdeal.nD Cert.OutProjERefIdeal.τ).loc Cert.OutProjERefIdeal.main_arg1) = m ((c.tc : Thread Cert.OutProjERefIdeal.nD Cert.OutProjERefIdeal.τ).loc Cert.OutProjERefIdeal.main_arg1)
      ∧ r.2.mem ((c.tc : Thread Cert.OutProjERefIdeal.nD Cert.OutProjERefIdeal.τ).loc Cert.OutProjERefIdeal.main_arg2) = m ((c.tc : Thread Cert.OutProjERefIdeal.nD Cert.OutProjERefIdeal.τ).loc Cert.OutProjERefIdeal.main_arg2))
      ∧ r.2.sem = fun _ => 0)

def quiescent_GradOutE [hGradOutE : Cert.GradOutE.Facts] : Prop :=
  ∀ (m : (ℓ : Loc Cert.GradOutE.nD Cert.GradOutE.τ Cert.GradOutE.sig) → Buf (Elt Bits) ℓ) (g : Dev Cert.GradOutE.nD → PrngReg), Pre_GradOutE m →
    θ_run (Cert.GradOutE.defs (F := Bits)) (onTc (τ := Cert.GradOutE.τ) (Cert.GradOutE.main (F := Bits))) ⟨m, fun _ => 0, g⟩ (fun r => (∀ c : Dev Cert.GradOutE.nD,
      r.2.mem ((c.tc : Thread Cert.GradOutE.nD Cert.GradOutE.τ).loc Cert.GradOutE.main_arg0) = m ((c.tc : Thread Cert.GradOutE.nD Cert.GradOutE.τ).loc Cert.GradOutE.main_arg0)
      ∧ r.2.mem ((c.tc : Thread Cert.GradOutE.nD Cert.GradOutE.τ).loc Cert.GradOutE.main_arg1) = m ((c.tc : Thread Cert.GradOutE.nD Cert.GradOutE.τ).loc Cert.GradOutE.main_arg1)
      ∧ r.2.mem ((c.tc : Thread Cert.GradOutE.nD Cert.GradOutE.τ).loc Cert.GradOutE.main_arg2) = m ((c.tc : Thread Cert.GradOutE.nD Cert.GradOutE.τ).loc Cert.GradOutE.main_arg2))
      ∧ r.2.sem = fun _ => 0)

def quiescent_GradOutEIdeal [hGradOutEIdeal : Cert.GradOutEIdeal.Facts] : Prop :=
  ∀ (m : (ℓ : Loc Cert.GradOutEIdeal.nD Cert.GradOutEIdeal.τ Cert.GradOutEIdeal.sig) → Buf (Elt Ideal) ℓ) (g : Dev Cert.GradOutEIdeal.nD → PrngReg), Pre_GradOutEIdeal m →
    θ_run (Cert.GradOutEIdeal.defs (F := Ideal)) (onTc (τ := Cert.GradOutEIdeal.τ) (Cert.GradOutEIdeal.main (F := Ideal))) ⟨m, fun _ => 0, g⟩ (fun r => (∀ c : Dev Cert.GradOutEIdeal.nD,
      r.2.mem ((c.tc : Thread Cert.GradOutEIdeal.nD Cert.GradOutEIdeal.τ).loc Cert.GradOutEIdeal.main_arg0) = m ((c.tc : Thread Cert.GradOutEIdeal.nD Cert.GradOutEIdeal.τ).loc Cert.GradOutEIdeal.main_arg0)
      ∧ r.2.mem ((c.tc : Thread Cert.GradOutEIdeal.nD Cert.GradOutEIdeal.τ).loc Cert.GradOutEIdeal.main_arg1) = m ((c.tc : Thread Cert.GradOutEIdeal.nD Cert.GradOutEIdeal.τ).loc Cert.GradOutEIdeal.main_arg1)
      ∧ r.2.mem ((c.tc : Thread Cert.GradOutEIdeal.nD Cert.GradOutEIdeal.τ).loc Cert.GradOutEIdeal.main_arg2) = m ((c.tc : Thread Cert.GradOutEIdeal.nD Cert.GradOutEIdeal.τ).loc Cert.GradOutEIdeal.main_arg2))
      ∧ r.2.sem = fun _ => 0)

def quiescent_GradOutERefIdeal [hGradOutERefIdeal : Cert.GradOutERefIdeal.Facts] : Prop :=
  ∀ (m : (ℓ : Loc Cert.GradOutERefIdeal.nD Cert.GradOutERefIdeal.τ Cert.GradOutERefIdeal.sig) → Buf (Elt Ideal) ℓ) (g : Dev Cert.GradOutERefIdeal.nD → PrngReg), Pre_GradOutERefIdeal m →
    θ_run (Cert.GradOutERefIdeal.defs (F := Ideal)) (onTc (τ := Cert.GradOutERefIdeal.τ) (Cert.GradOutERefIdeal.main (F := Ideal))) ⟨m, fun _ => 0, g⟩ (fun r => (∀ c : Dev Cert.GradOutERefIdeal.nD,
      r.2.mem ((c.tc : Thread Cert.GradOutERefIdeal.nD Cert.GradOutERefIdeal.τ).loc Cert.GradOutERefIdeal.main_arg0) = m ((c.tc : Thread Cert.GradOutERefIdeal.nD Cert.GradOutERefIdeal.τ).loc Cert.GradOutERefIdeal.main_arg0)
      ∧ r.2.mem ((c.tc : Thread Cert.GradOutERefIdeal.nD Cert.GradOutERefIdeal.τ).loc Cert.GradOutERefIdeal.main_arg1) = m ((c.tc : Thread Cert.GradOutERefIdeal.nD Cert.GradOutERefIdeal.τ).loc Cert.GradOutERefIdeal.main_arg1)
      ∧ r.2.mem ((c.tc : Thread Cert.GradOutERefIdeal.nD Cert.GradOutERefIdeal.τ).loc Cert.GradOutERefIdeal.main_arg2) = m ((c.tc : Thread Cert.GradOutERefIdeal.nD Cert.GradOutERefIdeal.τ).loc Cert.GradOutERefIdeal.main_arg2))
      ∧ r.2.sem = fun _ => 0)

def quiescent_GateA [hGateA : Cert.GateA.Facts] : Prop :=
  ∀ (m : (ℓ : Loc Cert.GateA.nD Cert.GateA.τ Cert.GateA.sig) → Buf (Elt Bits) ℓ) (g : Dev Cert.GateA.nD → PrngReg), Pre_GateA m →
    θ_run (Cert.GateA.defs (F := Bits)) (onTc (τ := Cert.GateA.τ) (Cert.GateA.main (F := Bits))) ⟨m, fun _ => 0, g⟩ (fun r => (∀ c : Dev Cert.GateA.nD,
      r.2.mem ((c.tc : Thread Cert.GateA.nD Cert.GateA.τ).loc Cert.GateA.main_arg0) = m ((c.tc : Thread Cert.GateA.nD Cert.GateA.τ).loc Cert.GateA.main_arg0)
      ∧ r.2.mem ((c.tc : Thread Cert.GateA.nD Cert.GateA.τ).loc Cert.GateA.main_arg1) = m ((c.tc : Thread Cert.GateA.nD Cert.GateA.τ).loc Cert.GateA.main_arg1))
      ∧ r.2.sem = fun _ => 0)

def quiescent_GateAIdeal [hGateAIdeal : Cert.GateAIdeal.Facts] : Prop :=
  ∀ (m : (ℓ : Loc Cert.GateAIdeal.nD Cert.GateAIdeal.τ Cert.GateAIdeal.sig) → Buf (Elt Ideal) ℓ) (g : Dev Cert.GateAIdeal.nD → PrngReg), Pre_GateAIdeal m →
    θ_run (Cert.GateAIdeal.defs (F := Ideal)) (onTc (τ := Cert.GateAIdeal.τ) (Cert.GateAIdeal.main (F := Ideal))) ⟨m, fun _ => 0, g⟩ (fun r => (∀ c : Dev Cert.GateAIdeal.nD,
      r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
      ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1))
      ∧ r.2.sem = fun _ => 0)

def quiescent_GateARefIdeal [hGateARefIdeal : Cert.GateARefIdeal.Facts] : Prop :=
  ∀ (m : (ℓ : Loc Cert.GateARefIdeal.nD Cert.GateARefIdeal.τ Cert.GateARefIdeal.sig) → Buf (Elt Ideal) ℓ) (g : Dev Cert.GateARefIdeal.nD → PrngReg), Pre_GateARefIdeal m →
    θ_run (Cert.GateARefIdeal.defs (F := Ideal)) (onTc (τ := Cert.GateARefIdeal.τ) (Cert.GateARefIdeal.main (F := Ideal))) ⟨m, fun _ => 0, g⟩ (fun r => (∀ c : Dev Cert.GateARefIdeal.nD,
      r.2.mem ((c.tc : Thread Cert.GateARefIdeal.nD Cert.GateARefIdeal.τ).loc Cert.GateARefIdeal.main_arg0) = m ((c.tc : Thread Cert.GateARefIdeal.nD Cert.GateARefIdeal.τ).loc Cert.GateARefIdeal.main_arg0)
      ∧ r.2.mem ((c.tc : Thread Cert.GateARefIdeal.nD Cert.GateARefIdeal.τ).loc Cert.GateARefIdeal.main_arg1) = m ((c.tc : Thread Cert.GateARefIdeal.nD Cert.GateARefIdeal.τ).loc Cert.GateARefIdeal.main_arg1))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamInE [hAdamInE : Cert.AdamInE.Facts] : Prop :=
  ∀ (m : (ℓ : Loc Cert.AdamInE.nD Cert.AdamInE.τ Cert.AdamInE.sig) → Buf (Elt Bits) ℓ) (g : Dev Cert.AdamInE.nD → PrngReg), Pre_AdamInE m →
    θ_run (Cert.AdamInE.defs (F := Bits)) (onTc (τ := Cert.AdamInE.τ) (Cert.AdamInE.main (F := Bits))) ⟨m, fun _ => 0, g⟩ (fun r => (∀ c : Dev Cert.AdamInE.nD,
      r.2.mem ((c.tc : Thread Cert.AdamInE.nD Cert.AdamInE.τ).loc Cert.AdamInE.main_arg0) = m ((c.tc : Thread Cert.AdamInE.nD Cert.AdamInE.τ).loc Cert.AdamInE.main_arg0)
      ∧ r.2.mem ((c.tc : Thread Cert.AdamInE.nD Cert.AdamInE.τ).loc Cert.AdamInE.main_arg1) = m ((c.tc : Thread Cert.AdamInE.nD Cert.AdamInE.τ).loc Cert.AdamInE.main_arg1)
      ∧ r.2.mem ((c.tc : Thread Cert.AdamInE.nD Cert.AdamInE.τ).loc Cert.AdamInE.main_arg2) = m ((c.tc : Thread Cert.AdamInE.nD Cert.AdamInE.τ).loc Cert.AdamInE.main_arg2)
      ∧ r.2.mem ((c.tc : Thread Cert.AdamInE.nD Cert.AdamInE.τ).loc Cert.AdamInE.main_arg3) = m ((c.tc : Thread Cert.AdamInE.nD Cert.AdamInE.τ).loc Cert.AdamInE.main_arg3))
      ∧ r.2.sem = fun _ => 0)

def quiescent_AdamInEIdeal [hAdamInEIdeal : Cert.AdamInEIdeal.Facts] : Prop :=
  ∀ (m : (ℓ : Loc Cert.AdamInEIdeal.nD Cert.AdamInEIdeal.τ Cert.AdamInEIdeal.sig) → Buf (Elt Ideal) ℓ) (g : Dev Cert.AdamInEIdeal.nD → PrngReg), Pre_AdamInEIdeal m →
    θ_run (Cert.AdamInEIdeal.defs (F := Ideal)) (onTc (τ := Cert.AdamInEIdeal.τ) (Cert.AdamInEIdeal.main (F := Ideal))) ⟨m, fun _ => 0, g⟩ (fun r => (∀ c : Dev Cert.AdamInEIdeal.nD,
      r.2.mem ((c.tc : Thread Cert.AdamInEIdeal.nD Cert.AdamInEIdeal.τ).loc Cert.AdamInEIdeal.main_arg0) = m ((c.tc : Thread Cert.AdamInEIdeal.nD Cert.AdamInEIdeal.τ).loc Cert.AdamInEIdeal.main_arg0)
      ∧ r.2.mem ((c.tc : Thread Cert.AdamInEIdeal.nD Cert.AdamInEIdeal.τ).loc Cert.AdamInEIdeal.main_arg1) = m ((c.tc : Thread Cert.AdamInEIdeal.nD Cert.AdamInEIdeal.τ).loc Cert.AdamInEIdeal.main_arg1)
      ∧ r.2.mem ((c.tc : Thread Cert.AdamInEIdeal.nD Cert.AdamInEIdeal.τ).loc Cert.AdamInEIdeal.main_arg2) = m ((c.tc : Thread Cert.AdamInEIdeal.nD Cert.AdamInEIdeal.τ).loc Cert.AdamInEIdeal.main_arg2)
      ∧ r.2.mem ((c.tc : Thread Cert.AdamInEIdeal.nD Cert.AdamInEIdeal.τ).loc Cert.AdamInEIdeal.main_arg3) = m ((c.tc : Thread Cert.AdamInEIdeal.nD Cert.AdamInEIdeal.τ).loc Cert.AdamInEIdeal.main_arg3))
      ∧ r.2.sem = fun _ => 0)

def quiescent_AdamInERefIdeal [hAdamInERefIdeal : Cert.AdamInERefIdeal.Facts] : Prop :=
  ∀ (m : (ℓ : Loc Cert.AdamInERefIdeal.nD Cert.AdamInERefIdeal.τ Cert.AdamInERefIdeal.sig) → Buf (Elt Ideal) ℓ) (g : Dev Cert.AdamInERefIdeal.nD → PrngReg), Pre_AdamInERefIdeal m →
    θ_run (Cert.AdamInERefIdeal.defs (F := Ideal)) (onTc (τ := Cert.AdamInERefIdeal.τ) (Cert.AdamInERefIdeal.main (F := Ideal))) ⟨m, fun _ => 0, g⟩ (fun r => (∀ c : Dev Cert.AdamInERefIdeal.nD,
      r.2.mem ((c.tc : Thread Cert.AdamInERefIdeal.nD Cert.AdamInERefIdeal.τ).loc Cert.AdamInERefIdeal.main_arg0) = m ((c.tc : Thread Cert.AdamInERefIdeal.nD Cert.AdamInERefIdeal.τ).loc Cert.AdamInERefIdeal.main_arg0)
      ∧ r.2.mem ((c.tc : Thread Cert.AdamInERefIdeal.nD Cert.AdamInERefIdeal.τ).loc Cert.AdamInERefIdeal.main_arg1) = m ((c.tc : Thread Cert.AdamInERefIdeal.nD Cert.AdamInERefIdeal.τ).loc Cert.AdamInERefIdeal.main_arg1)
      ∧ r.2.mem ((c.tc : Thread Cert.AdamInERefIdeal.nD Cert.AdamInERefIdeal.τ).loc Cert.AdamInERefIdeal.main_arg2) = m ((c.tc : Thread Cert.AdamInERefIdeal.nD Cert.AdamInERefIdeal.τ).loc Cert.AdamInERefIdeal.main_arg2)
      ∧ r.2.mem ((c.tc : Thread Cert.AdamInERefIdeal.nD Cert.AdamInERefIdeal.τ).loc Cert.AdamInERefIdeal.main_arg3) = m ((c.tc : Thread Cert.AdamInERefIdeal.nD Cert.AdamInERefIdeal.τ).loc Cert.AdamInERefIdeal.main_arg3))
      ∧ r.2.sem = fun _ => 0)

def quiescent_AdamOutE [hAdamOutE : Cert.AdamOutE.Facts] : Prop :=
  ∀ (m : (ℓ : Loc Cert.AdamOutE.nD Cert.AdamOutE.τ Cert.AdamOutE.sig) → Buf (Elt Bits) ℓ) (g : Dev Cert.AdamOutE.nD → PrngReg), Pre_AdamOutE m →
    θ_run (Cert.AdamOutE.defs (F := Bits)) (onTc (τ := Cert.AdamOutE.τ) (Cert.AdamOutE.main (F := Bits))) ⟨m, fun _ => 0, g⟩ (fun r => (∀ c : Dev Cert.AdamOutE.nD,
      r.2.mem ((c.tc : Thread Cert.AdamOutE.nD Cert.AdamOutE.τ).loc Cert.AdamOutE.main_arg0) = m ((c.tc : Thread Cert.AdamOutE.nD Cert.AdamOutE.τ).loc Cert.AdamOutE.main_arg0)
      ∧ r.2.mem ((c.tc : Thread Cert.AdamOutE.nD Cert.AdamOutE.τ).loc Cert.AdamOutE.main_arg1) = m ((c.tc : Thread Cert.AdamOutE.nD Cert.AdamOutE.τ).loc Cert.AdamOutE.main_arg1)
      ∧ r.2.mem ((c.tc : Thread Cert.AdamOutE.nD Cert.AdamOutE.τ).loc Cert.AdamOutE.main_arg2) = m ((c.tc : Thread Cert.AdamOutE.nD Cert.AdamOutE.τ).loc Cert.AdamOutE.main_arg2)
      ∧ r.2.mem ((c.tc : Thread Cert.AdamOutE.nD Cert.AdamOutE.τ).loc Cert.AdamOutE.main_arg3) = m ((c.tc : Thread Cert.AdamOutE.nD Cert.AdamOutE.τ).loc Cert.AdamOutE.main_arg3))
      ∧ r.2.sem = fun _ => 0)

def quiescent_AdamOutEIdeal [hAdamOutEIdeal : Cert.AdamOutEIdeal.Facts] : Prop :=
  ∀ (m : (ℓ : Loc Cert.AdamOutEIdeal.nD Cert.AdamOutEIdeal.τ Cert.AdamOutEIdeal.sig) → Buf (Elt Ideal) ℓ) (g : Dev Cert.AdamOutEIdeal.nD → PrngReg), Pre_AdamOutEIdeal m →
    θ_run (Cert.AdamOutEIdeal.defs (F := Ideal)) (onTc (τ := Cert.AdamOutEIdeal.τ) (Cert.AdamOutEIdeal.main (F := Ideal))) ⟨m, fun _ => 0, g⟩ (fun r => (∀ c : Dev Cert.AdamOutEIdeal.nD,
      r.2.mem ((c.tc : Thread Cert.AdamOutEIdeal.nD Cert.AdamOutEIdeal.τ).loc Cert.AdamOutEIdeal.main_arg0) = m ((c.tc : Thread Cert.AdamOutEIdeal.nD Cert.AdamOutEIdeal.τ).loc Cert.AdamOutEIdeal.main_arg0)
      ∧ r.2.mem ((c.tc : Thread Cert.AdamOutEIdeal.nD Cert.AdamOutEIdeal.τ).loc Cert.AdamOutEIdeal.main_arg1) = m ((c.tc : Thread Cert.AdamOutEIdeal.nD Cert.AdamOutEIdeal.τ).loc Cert.AdamOutEIdeal.main_arg1)
      ∧ r.2.mem ((c.tc : Thread Cert.AdamOutEIdeal.nD Cert.AdamOutEIdeal.τ).loc Cert.AdamOutEIdeal.main_arg2) = m ((c.tc : Thread Cert.AdamOutEIdeal.nD Cert.AdamOutEIdeal.τ).loc Cert.AdamOutEIdeal.main_arg2)
      ∧ r.2.mem ((c.tc : Thread Cert.AdamOutEIdeal.nD Cert.AdamOutEIdeal.τ).loc Cert.AdamOutEIdeal.main_arg3) = m ((c.tc : Thread Cert.AdamOutEIdeal.nD Cert.AdamOutEIdeal.τ).loc Cert.AdamOutEIdeal.main_arg3))
      ∧ r.2.sem = fun _ => 0)

def quiescent_AdamOutERefIdeal [hAdamOutERefIdeal : Cert.AdamOutERefIdeal.Facts] : Prop :=
  ∀ (m : (ℓ : Loc Cert.AdamOutERefIdeal.nD Cert.AdamOutERefIdeal.τ Cert.AdamOutERefIdeal.sig) → Buf (Elt Ideal) ℓ) (g : Dev Cert.AdamOutERefIdeal.nD → PrngReg), Pre_AdamOutERefIdeal m →
    θ_run (Cert.AdamOutERefIdeal.defs (F := Ideal)) (onTc (τ := Cert.AdamOutERefIdeal.τ) (Cert.AdamOutERefIdeal.main (F := Ideal))) ⟨m, fun _ => 0, g⟩ (fun r => (∀ c : Dev Cert.AdamOutERefIdeal.nD,
      r.2.mem ((c.tc : Thread Cert.AdamOutERefIdeal.nD Cert.AdamOutERefIdeal.τ).loc Cert.AdamOutERefIdeal.main_arg0) = m ((c.tc : Thread Cert.AdamOutERefIdeal.nD Cert.AdamOutERefIdeal.τ).loc Cert.AdamOutERefIdeal.main_arg0)
      ∧ r.2.mem ((c.tc : Thread Cert.AdamOutERefIdeal.nD Cert.AdamOutERefIdeal.τ).loc Cert.AdamOutERefIdeal.main_arg1) = m ((c.tc : Thread Cert.AdamOutERefIdeal.nD Cert.AdamOutERefIdeal.τ).loc Cert.AdamOutERefIdeal.main_arg1)
      ∧ r.2.mem ((c.tc : Thread Cert.AdamOutERefIdeal.nD Cert.AdamOutERefIdeal.τ).loc Cert.AdamOutERefIdeal.main_arg2) = m ((c.tc : Thread Cert.AdamOutERefIdeal.nD Cert.AdamOutERefIdeal.τ).loc Cert.AdamOutERefIdeal.main_arg2)
      ∧ r.2.mem ((c.tc : Thread Cert.AdamOutERefIdeal.nD Cert.AdamOutERefIdeal.τ).loc Cert.AdamOutERefIdeal.main_arg3) = m ((c.tc : Thread Cert.AdamOutERefIdeal.nD Cert.AdamOutERefIdeal.τ).loc Cert.AdamOutERefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_PreBwdE [hPreBwdE : Cert.PreBwdE.Facts] : Prop :=
  ∀ (m : (ℓ : Loc Cert.PreBwdE.nD Cert.PreBwdE.τ Cert.PreBwdE.sig) → Buf (Elt Bits) ℓ) (g : Dev Cert.PreBwdE.nD → PrngReg), Pre_PreBwdE m →
    θ_run (Cert.PreBwdE.defs (F := Bits)) (onTc (τ := Cert.PreBwdE.τ) (Cert.PreBwdE.main (F := Bits))) ⟨m, fun _ => 0, g⟩ (fun r => (∀ c : Dev Cert.PreBwdE.nD,
      r.2.mem ((c.tc : Thread Cert.PreBwdE.nD Cert.PreBwdE.τ).loc Cert.PreBwdE.main_arg0) = m ((c.tc : Thread Cert.PreBwdE.nD Cert.PreBwdE.τ).loc Cert.PreBwdE.main_arg0)
      ∧ r.2.mem ((c.tc : Thread Cert.PreBwdE.nD Cert.PreBwdE.τ).loc Cert.PreBwdE.main_arg1) = m ((c.tc : Thread Cert.PreBwdE.nD Cert.PreBwdE.τ).loc Cert.PreBwdE.main_arg1)
      ∧ r.2.mem ((c.tc : Thread Cert.PreBwdE.nD Cert.PreBwdE.τ).loc Cert.PreBwdE.main_arg2) = m ((c.tc : Thread Cert.PreBwdE.nD Cert.PreBwdE.τ).loc Cert.PreBwdE.main_arg2)
      ∧ r.2.mem ((c.tc : Thread Cert.PreBwdE.nD Cert.PreBwdE.τ).loc Cert.PreBwdE.main_arg3) = m ((c.tc : Thread Cert.PreBwdE.nD Cert.PreBwdE.τ).loc Cert.PreBwdE.main_arg3)
      ∧ r.2.mem ((c.tc : Thread Cert.PreBwdE.nD Cert.PreBwdE.τ).loc Cert.PreBwdE.main_arg4) = m ((c.tc : Thread Cert.PreBwdE.nD Cert.PreBwdE.τ).loc Cert.PreBwdE.main_arg4))
      ∧ r.2.sem = fun _ => 0)

def quiescent_PreBwdEIdeal [hPreBwdEIdeal : Cert.PreBwdEIdeal.Facts] : Prop :=
  ∀ (m : (ℓ : Loc Cert.PreBwdEIdeal.nD Cert.PreBwdEIdeal.τ Cert.PreBwdEIdeal.sig) → Buf (Elt Ideal) ℓ) (g : Dev Cert.PreBwdEIdeal.nD → PrngReg), Pre_PreBwdEIdeal m →
    θ_run (Cert.PreBwdEIdeal.defs (F := Ideal)) (onTc (τ := Cert.PreBwdEIdeal.τ) (Cert.PreBwdEIdeal.main (F := Ideal))) ⟨m, fun _ => 0, g⟩ (fun r => (∀ c : Dev Cert.PreBwdEIdeal.nD,
      r.2.mem ((c.tc : Thread Cert.PreBwdEIdeal.nD Cert.PreBwdEIdeal.τ).loc Cert.PreBwdEIdeal.main_arg0) = m ((c.tc : Thread Cert.PreBwdEIdeal.nD Cert.PreBwdEIdeal.τ).loc Cert.PreBwdEIdeal.main_arg0)
      ∧ r.2.mem ((c.tc : Thread Cert.PreBwdEIdeal.nD Cert.PreBwdEIdeal.τ).loc Cert.PreBwdEIdeal.main_arg1) = m ((c.tc : Thread Cert.PreBwdEIdeal.nD Cert.PreBwdEIdeal.τ).loc Cert.PreBwdEIdeal.main_arg1)
      ∧ r.2.mem ((c.tc : Thread Cert.PreBwdEIdeal.nD Cert.PreBwdEIdeal.τ).loc Cert.PreBwdEIdeal.main_arg2) = m ((c.tc : Thread Cert.PreBwdEIdeal.nD Cert.PreBwdEIdeal.τ).loc Cert.PreBwdEIdeal.main_arg2)
      ∧ r.2.mem ((c.tc : Thread Cert.PreBwdEIdeal.nD Cert.PreBwdEIdeal.τ).loc Cert.PreBwdEIdeal.main_arg3) = m ((c.tc : Thread Cert.PreBwdEIdeal.nD Cert.PreBwdEIdeal.τ).loc Cert.PreBwdEIdeal.main_arg3)
      ∧ r.2.mem ((c.tc : Thread Cert.PreBwdEIdeal.nD Cert.PreBwdEIdeal.τ).loc Cert.PreBwdEIdeal.main_arg4) = m ((c.tc : Thread Cert.PreBwdEIdeal.nD Cert.PreBwdEIdeal.τ).loc Cert.PreBwdEIdeal.main_arg4))
      ∧ r.2.sem = fun _ => 0)

def quiescent_PreBwdERefIdeal [hPreBwdERefIdeal : Cert.PreBwdERefIdeal.Facts] : Prop :=
  ∀ (m : (ℓ : Loc Cert.PreBwdERefIdeal.nD Cert.PreBwdERefIdeal.τ Cert.PreBwdERefIdeal.sig) → Buf (Elt Ideal) ℓ) (g : Dev Cert.PreBwdERefIdeal.nD → PrngReg), Pre_PreBwdERefIdeal m →
    θ_run (Cert.PreBwdERefIdeal.defs (F := Ideal)) (onTc (τ := Cert.PreBwdERefIdeal.τ) (Cert.PreBwdERefIdeal.main (F := Ideal))) ⟨m, fun _ => 0, g⟩ (fun r => (∀ c : Dev Cert.PreBwdERefIdeal.nD,
      r.2.mem ((c.tc : Thread Cert.PreBwdERefIdeal.nD Cert.PreBwdERefIdeal.τ).loc Cert.PreBwdERefIdeal.main_arg0) = m ((c.tc : Thread Cert.PreBwdERefIdeal.nD Cert.PreBwdERefIdeal.τ).loc Cert.PreBwdERefIdeal.main_arg0)
      ∧ r.2.mem ((c.tc : Thread Cert.PreBwdERefIdeal.nD Cert.PreBwdERefIdeal.τ).loc Cert.PreBwdERefIdeal.main_arg1) = m ((c.tc : Thread Cert.PreBwdERefIdeal.nD Cert.PreBwdERefIdeal.τ).loc Cert.PreBwdERefIdeal.main_arg1)
      ∧ r.2.mem ((c.tc : Thread Cert.PreBwdERefIdeal.nD Cert.PreBwdERefIdeal.τ).loc Cert.PreBwdERefIdeal.main_arg2) = m ((c.tc : Thread Cert.PreBwdERefIdeal.nD Cert.PreBwdERefIdeal.τ).loc Cert.PreBwdERefIdeal.main_arg2)
      ∧ r.2.mem ((c.tc : Thread Cert.PreBwdERefIdeal.nD Cert.PreBwdERefIdeal.τ).loc Cert.PreBwdERefIdeal.main_arg3) = m ((c.tc : Thread Cert.PreBwdERefIdeal.nD Cert.PreBwdERefIdeal.τ).loc Cert.PreBwdERefIdeal.main_arg3)
      ∧ r.2.mem ((c.tc : Thread Cert.PreBwdERefIdeal.nD Cert.PreBwdERefIdeal.τ).loc Cert.PreBwdERefIdeal.main_arg4) = m ((c.tc : Thread Cert.PreBwdERefIdeal.nD Cert.PreBwdERefIdeal.τ).loc Cert.PreBwdERefIdeal.main_arg4))
      ∧ r.2.sem = fun _ => 0)

def quiescent_PreNormE [hPreNormE : Cert.PreNormE.Facts] : Prop :=
  ∀ (m : (ℓ : Loc Cert.PreNormE.nD Cert.PreNormE.τ Cert.PreNormE.sig) → Buf (Elt Bits) ℓ) (g : Dev Cert.PreNormE.nD → PrngReg), Pre_PreNormE m →
    θ_run (Cert.PreNormE.defs (F := Bits)) (onTc (τ := Cert.PreNormE.τ) (Cert.PreNormE.main (F := Bits))) ⟨m, fun _ => 0, g⟩ (fun r => (∀ c : Dev Cert.PreNormE.nD,
      r.2.mem ((c.tc : Thread Cert.PreNormE.nD Cert.PreNormE.τ).loc Cert.PreNormE.main_arg0) = m ((c.tc : Thread Cert.PreNormE.nD Cert.PreNormE.τ).loc Cert.PreNormE.main_arg0)
      ∧ r.2.mem ((c.tc : Thread Cert.PreNormE.nD Cert.PreNormE.τ).loc Cert.PreNormE.main_arg1) = m ((c.tc : Thread Cert.PreNormE.nD Cert.PreNormE.τ).loc Cert.PreNormE.main_arg1))
      ∧ r.2.sem = fun _ => 0)

def quiescent_PreNormEIdeal [hPreNormEIdeal : Cert.PreNormEIdeal.Facts] : Prop :=
  ∀ (m : (ℓ : Loc Cert.PreNormEIdeal.nD Cert.PreNormEIdeal.τ Cert.PreNormEIdeal.sig) → Buf (Elt Ideal) ℓ) (g : Dev Cert.PreNormEIdeal.nD → PrngReg), Pre_PreNormEIdeal m →
    θ_run (Cert.PreNormEIdeal.defs (F := Ideal)) (onTc (τ := Cert.PreNormEIdeal.τ) (Cert.PreNormEIdeal.main (F := Ideal))) ⟨m, fun _ => 0, g⟩ (fun r => (∀ c : Dev Cert.PreNormEIdeal.nD,
      r.2.mem ((c.tc : Thread Cert.PreNormEIdeal.nD Cert.PreNormEIdeal.τ).loc Cert.PreNormEIdeal.main_arg0) = m ((c.tc : Thread Cert.PreNormEIdeal.nD Cert.PreNormEIdeal.τ).loc Cert.PreNormEIdeal.main_arg0)
      ∧ r.2.mem ((c.tc : Thread Cert.PreNormEIdeal.nD Cert.PreNormEIdeal.τ).loc Cert.PreNormEIdeal.main_arg1) = m ((c.tc : Thread Cert.PreNormEIdeal.nD Cert.PreNormEIdeal.τ).loc Cert.PreNormEIdeal.main_arg1))
      ∧ r.2.sem = fun _ => 0)

def quiescent_PreNormERefIdeal [hPreNormERefIdeal : Cert.PreNormERefIdeal.Facts] : Prop :=
  ∀ (m : (ℓ : Loc Cert.PreNormERefIdeal.nD Cert.PreNormERefIdeal.τ Cert.PreNormERefIdeal.sig) → Buf (Elt Ideal) ℓ) (g : Dev Cert.PreNormERefIdeal.nD → PrngReg), Pre_PreNormERefIdeal m →
    θ_run (Cert.PreNormERefIdeal.defs (F := Ideal)) (onTc (τ := Cert.PreNormERefIdeal.τ) (Cert.PreNormERefIdeal.main (F := Ideal))) ⟨m, fun _ => 0, g⟩ (fun r => (∀ c : Dev Cert.PreNormERefIdeal.nD,
      r.2.mem ((c.tc : Thread Cert.PreNormERefIdeal.nD Cert.PreNormERefIdeal.τ).loc Cert.PreNormERefIdeal.main_arg0) = m ((c.tc : Thread Cert.PreNormERefIdeal.nD Cert.PreNormERefIdeal.τ).loc Cert.PreNormERefIdeal.main_arg0)
      ∧ r.2.mem ((c.tc : Thread Cert.PreNormERefIdeal.nD Cert.PreNormERefIdeal.τ).loc Cert.PreNormERefIdeal.main_arg1) = m ((c.tc : Thread Cert.PreNormERefIdeal.nD Cert.PreNormERefIdeal.τ).loc Cert.PreNormERefIdeal.main_arg1))
      ∧ r.2.sem = fun _ => 0)

def quiescent_PostNormE [hPostNormE : Cert.PostNormE.Facts] : Prop :=
  ∀ (m : (ℓ : Loc Cert.PostNormE.nD Cert.PostNormE.τ Cert.PostNormE.sig) → Buf (Elt Bits) ℓ) (g : Dev Cert.PostNormE.nD → PrngReg), Pre_PostNormE m →
    θ_run (Cert.PostNormE.defs (F := Bits)) (onTc (τ := Cert.PostNormE.τ) (Cert.PostNormE.main (F := Bits))) ⟨m, fun _ => 0, g⟩ (fun r => (∀ c : Dev Cert.PostNormE.nD,
      r.2.mem ((c.tc : Thread Cert.PostNormE.nD Cert.PostNormE.τ).loc Cert.PostNormE.main_arg0) = m ((c.tc : Thread Cert.PostNormE.nD Cert.PostNormE.τ).loc Cert.PostNormE.main_arg0)
      ∧ r.2.mem ((c.tc : Thread Cert.PostNormE.nD Cert.PostNormE.τ).loc Cert.PostNormE.main_arg1) = m ((c.tc : Thread Cert.PostNormE.nD Cert.PostNormE.τ).loc Cert.PostNormE.main_arg1)
      ∧ r.2.mem ((c.tc : Thread Cert.PostNormE.nD Cert.PostNormE.τ).loc Cert.PostNormE.main_arg2) = m ((c.tc : Thread Cert.PostNormE.nD Cert.PostNormE.τ).loc Cert.PostNormE.main_arg2))
      ∧ r.2.sem = fun _ => 0)

def quiescent_PostNormEIdeal [hPostNormEIdeal : Cert.PostNormEIdeal.Facts] : Prop :=
  ∀ (m : (ℓ : Loc Cert.PostNormEIdeal.nD Cert.PostNormEIdeal.τ Cert.PostNormEIdeal.sig) → Buf (Elt Ideal) ℓ) (g : Dev Cert.PostNormEIdeal.nD → PrngReg), Pre_PostNormEIdeal m →
    θ_run (Cert.PostNormEIdeal.defs (F := Ideal)) (onTc (τ := Cert.PostNormEIdeal.τ) (Cert.PostNormEIdeal.main (F := Ideal))) ⟨m, fun _ => 0, g⟩ (fun r => (∀ c : Dev Cert.PostNormEIdeal.nD,
      r.2.mem ((c.tc : Thread Cert.PostNormEIdeal.nD Cert.PostNormEIdeal.τ).loc Cert.PostNormEIdeal.main_arg0) = m ((c.tc : Thread Cert.PostNormEIdeal.nD Cert.PostNormEIdeal.τ).loc Cert.PostNormEIdeal.main_arg0)
      ∧ r.2.mem ((c.tc : Thread Cert.PostNormEIdeal.nD Cert.PostNormEIdeal.τ).loc Cert.PostNormEIdeal.main_arg1) = m ((c.tc : Thread Cert.PostNormEIdeal.nD Cert.PostNormEIdeal.τ).loc Cert.PostNormEIdeal.main_arg1)
      ∧ r.2.mem ((c.tc : Thread Cert.PostNormEIdeal.nD Cert.PostNormEIdeal.τ).loc Cert.PostNormEIdeal.main_arg2) = m ((c.tc : Thread Cert.PostNormEIdeal.nD Cert.PostNormEIdeal.τ).loc Cert.PostNormEIdeal.main_arg2))
      ∧ r.2.sem = fun _ => 0)

def quiescent_PostNormERefIdeal [hPostNormERefIdeal : Cert.PostNormERefIdeal.Facts] : Prop :=
  ∀ (m : (ℓ : Loc Cert.PostNormERefIdeal.nD Cert.PostNormERefIdeal.τ Cert.PostNormERefIdeal.sig) → Buf (Elt Ideal) ℓ) (g : Dev Cert.PostNormERefIdeal.nD → PrngReg), Pre_PostNormERefIdeal m →
    θ_run (Cert.PostNormERefIdeal.defs (F := Ideal)) (onTc (τ := Cert.PostNormERefIdeal.τ) (Cert.PostNormERefIdeal.main (F := Ideal))) ⟨m, fun _ => 0, g⟩ (fun r => (∀ c : Dev Cert.PostNormERefIdeal.nD,
      r.2.mem ((c.tc : Thread Cert.PostNormERefIdeal.nD Cert.PostNormERefIdeal.τ).loc Cert.PostNormERefIdeal.main_arg0) = m ((c.tc : Thread Cert.PostNormERefIdeal.nD Cert.PostNormERefIdeal.τ).loc Cert.PostNormERefIdeal.main_arg0)
      ∧ r.2.mem ((c.tc : Thread Cert.PostNormERefIdeal.nD Cert.PostNormERefIdeal.τ).loc Cert.PostNormERefIdeal.main_arg1) = m ((c.tc : Thread Cert.PostNormERefIdeal.nD Cert.PostNormERefIdeal.τ).loc Cert.PostNormERefIdeal.main_arg1)
      ∧ r.2.mem ((c.tc : Thread Cert.PostNormERefIdeal.nD Cert.PostNormERefIdeal.τ).loc Cert.PostNormERefIdeal.main_arg2) = m ((c.tc : Thread Cert.PostNormERefIdeal.nD Cert.PostNormERefIdeal.τ).loc Cert.PostNormERefIdeal.main_arg2))
      ∧ r.2.sem = fun _ => 0)

def quiescent_PostBwdE [hPostBwdE : Cert.PostBwdE.Facts] : Prop :=
  ∀ (m : (ℓ : Loc Cert.PostBwdE.nD Cert.PostBwdE.τ Cert.PostBwdE.sig) → Buf (Elt Bits) ℓ) (g : Dev Cert.PostBwdE.nD → PrngReg), Pre_PostBwdE m →
    θ_run (Cert.PostBwdE.defs (F := Bits)) (onTc (τ := Cert.PostBwdE.τ) (Cert.PostBwdE.main (F := Bits))) ⟨m, fun _ => 0, g⟩ (fun r => (∀ c : Dev Cert.PostBwdE.nD,
      r.2.mem ((c.tc : Thread Cert.PostBwdE.nD Cert.PostBwdE.τ).loc Cert.PostBwdE.main_arg0) = m ((c.tc : Thread Cert.PostBwdE.nD Cert.PostBwdE.τ).loc Cert.PostBwdE.main_arg0)
      ∧ r.2.mem ((c.tc : Thread Cert.PostBwdE.nD Cert.PostBwdE.τ).loc Cert.PostBwdE.main_arg1) = m ((c.tc : Thread Cert.PostBwdE.nD Cert.PostBwdE.τ).loc Cert.PostBwdE.main_arg1)
      ∧ r.2.mem ((c.tc : Thread Cert.PostBwdE.nD Cert.PostBwdE.τ).loc Cert.PostBwdE.main_arg2) = m ((c.tc : Thread Cert.PostBwdE.nD Cert.PostBwdE.τ).loc Cert.PostBwdE.main_arg2))
      ∧ r.2.sem = fun _ => 0)

def quiescent_PostBwdEIdeal [hPostBwdEIdeal : Cert.PostBwdEIdeal.Facts] : Prop :=
  ∀ (m : (ℓ : Loc Cert.PostBwdEIdeal.nD Cert.PostBwdEIdeal.τ Cert.PostBwdEIdeal.sig) → Buf (Elt Ideal) ℓ) (g : Dev Cert.PostBwdEIdeal.nD → PrngReg), Pre_PostBwdEIdeal m →
    θ_run (Cert.PostBwdEIdeal.defs (F := Ideal)) (onTc (τ := Cert.PostBwdEIdeal.τ) (Cert.PostBwdEIdeal.main (F := Ideal))) ⟨m, fun _ => 0, g⟩ (fun r => (∀ c : Dev Cert.PostBwdEIdeal.nD,
      r.2.mem ((c.tc : Thread Cert.PostBwdEIdeal.nD Cert.PostBwdEIdeal.τ).loc Cert.PostBwdEIdeal.main_arg0) = m ((c.tc : Thread Cert.PostBwdEIdeal.nD Cert.PostBwdEIdeal.τ).loc Cert.PostBwdEIdeal.main_arg0)
      ∧ r.2.mem ((c.tc : Thread Cert.PostBwdEIdeal.nD Cert.PostBwdEIdeal.τ).loc Cert.PostBwdEIdeal.main_arg1) = m ((c.tc : Thread Cert.PostBwdEIdeal.nD Cert.PostBwdEIdeal.τ).loc Cert.PostBwdEIdeal.main_arg1)
      ∧ r.2.mem ((c.tc : Thread Cert.PostBwdEIdeal.nD Cert.PostBwdEIdeal.τ).loc Cert.PostBwdEIdeal.main_arg2) = m ((c.tc : Thread Cert.PostBwdEIdeal.nD Cert.PostBwdEIdeal.τ).loc Cert.PostBwdEIdeal.main_arg2))
      ∧ r.2.sem = fun _ => 0)

def quiescent_PostBwdERefIdeal [hPostBwdERefIdeal : Cert.PostBwdERefIdeal.Facts] : Prop :=
  ∀ (m : (ℓ : Loc Cert.PostBwdERefIdeal.nD Cert.PostBwdERefIdeal.τ Cert.PostBwdERefIdeal.sig) → Buf (Elt Ideal) ℓ) (g : Dev Cert.PostBwdERefIdeal.nD → PrngReg), Pre_PostBwdERefIdeal m →
    θ_run (Cert.PostBwdERefIdeal.defs (F := Ideal)) (onTc (τ := Cert.PostBwdERefIdeal.τ) (Cert.PostBwdERefIdeal.main (F := Ideal))) ⟨m, fun _ => 0, g⟩ (fun r => (∀ c : Dev Cert.PostBwdERefIdeal.nD,
      r.2.mem ((c.tc : Thread Cert.PostBwdERefIdeal.nD Cert.PostBwdERefIdeal.τ).loc Cert.PostBwdERefIdeal.main_arg0) = m ((c.tc : Thread Cert.PostBwdERefIdeal.nD Cert.PostBwdERefIdeal.τ).loc Cert.PostBwdERefIdeal.main_arg0)
      ∧ r.2.mem ((c.tc : Thread Cert.PostBwdERefIdeal.nD Cert.PostBwdERefIdeal.τ).loc Cert.PostBwdERefIdeal.main_arg1) = m ((c.tc : Thread Cert.PostBwdERefIdeal.nD Cert.PostBwdERefIdeal.τ).loc Cert.PostBwdERefIdeal.main_arg1)
      ∧ r.2.mem ((c.tc : Thread Cert.PostBwdERefIdeal.nD Cert.PostBwdERefIdeal.τ).loc Cert.PostBwdERefIdeal.main_arg2) = m ((c.tc : Thread Cert.PostBwdERefIdeal.nD Cert.PostBwdERefIdeal.τ).loc Cert.PostBwdERefIdeal.main_arg2))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1))
      ∧ r.2.sem = fun _ => 0)

def quiescent_GradForget [hGradForget : Cert.GradForget.Facts] : Prop :=
  ∀ (m : (ℓ : Loc Cert.GradForget.nD Cert.GradForget.τ Cert.GradForget.sig) → Buf (Elt Bits) ℓ) (g : Dev Cert.GradForget.nD → PrngReg), Pre_GradForget m →
    θ_run (Cert.GradForget.defs (F := Bits)) (onTc (τ := Cert.GradForget.τ) (Cert.GradForget.main (F := Bits))) ⟨m, fun _ => 0, g⟩ (fun r => (∀ c : Dev Cert.GradForget.nD,
      r.2.mem ((c.tc : Thread Cert.GradForget.nD Cert.GradForget.τ).loc Cert.GradForget.main_arg0) = m ((c.tc : Thread Cert.GradForget.nD Cert.GradForget.τ).loc Cert.GradForget.main_arg0)
      ∧ r.2.mem ((c.tc : Thread Cert.GradForget.nD Cert.GradForget.τ).loc Cert.GradForget.main_arg1) = m ((c.tc : Thread Cert.GradForget.nD Cert.GradForget.τ).loc Cert.GradForget.main_arg1))
      ∧ r.2.sem = fun _ => 0)

def quiescent_GradForgetIdeal [hGradForgetIdeal : Cert.GradForgetIdeal.Facts] : Prop :=
  ∀ (m : (ℓ : Loc Cert.GradForgetIdeal.nD Cert.GradForgetIdeal.τ Cert.GradForgetIdeal.sig) → Buf (Elt Ideal) ℓ) (g : Dev Cert.GradForgetIdeal.nD → PrngReg), Pre_GradForgetIdeal m →
    θ_run (Cert.GradForgetIdeal.defs (F := Ideal)) (onTc (τ := Cert.GradForgetIdeal.τ) (Cert.GradForgetIdeal.main (F := Ideal))) ⟨m, fun _ => 0, g⟩ (fun r => (∀ c : Dev Cert.GradForgetIdeal.nD,
      r.2.mem ((c.tc : Thread Cert.GradForgetIdeal.nD Cert.GradForgetIdeal.τ).loc Cert.GradForgetIdeal.main_arg0) = m ((c.tc : Thread Cert.GradForgetIdeal.nD Cert.GradForgetIdeal.τ).loc Cert.GradForgetIdeal.main_arg0)
      ∧ r.2.mem ((c.tc : Thread Cert.GradForgetIdeal.nD Cert.GradForgetIdeal.τ).loc Cert.GradForgetIdeal.main_arg1) = m ((c.tc : Thread Cert.GradForgetIdeal.nD Cert.GradForgetIdeal.τ).loc Cert.GradForgetIdeal.main_arg1))
      ∧ r.2.sem = fun _ => 0)

def quiescent_GradForgetRefIdeal [hGradForgetRefIdeal : Cert.GradForgetRefIdeal.Facts] : Prop :=
  ∀ (m : (ℓ : Loc Cert.GradForgetRefIdeal.nD Cert.GradForgetRefIdeal.τ Cert.GradForgetRefIdeal.sig) → Buf (Elt Ideal) ℓ) (g : Dev Cert.GradForgetRefIdeal.nD → PrngReg), Pre_GradForgetRefIdeal m →
    θ_run (Cert.GradForgetRefIdeal.defs (F := Ideal)) (onTc (τ := Cert.GradForgetRefIdeal.τ) (Cert.GradForgetRefIdeal.main (F := Ideal))) ⟨m, fun _ => 0, g⟩ (fun r => (∀ c : Dev Cert.GradForgetRefIdeal.nD,
      r.2.mem ((c.tc : Thread Cert.GradForgetRefIdeal.nD Cert.GradForgetRefIdeal.τ).loc Cert.GradForgetRefIdeal.main_arg0) = m ((c.tc : Thread Cert.GradForgetRefIdeal.nD Cert.GradForgetRefIdeal.τ).loc Cert.GradForgetRefIdeal.main_arg0)
      ∧ r.2.mem ((c.tc : Thread Cert.GradForgetRefIdeal.nD Cert.GradForgetRefIdeal.τ).loc Cert.GradForgetRefIdeal.main_arg1) = m ((c.tc : Thread Cert.GradForgetRefIdeal.nD Cert.GradForgetRefIdeal.τ).loc Cert.GradForgetRefIdeal.main_arg1))
      ∧ r.2.sem = fun _ => 0)

def quiescent_GradHForget [hGradHForget : Cert.GradHForget.Facts] : Prop :=
  ∀ (m : (ℓ : Loc Cert.GradHForget.nD Cert.GradHForget.τ Cert.GradHForget.sig) → Buf (Elt Bits) ℓ) (g : Dev Cert.GradHForget.nD → PrngReg), Pre_GradHForget m →
    θ_run (Cert.GradHForget.defs (F := Bits)) (onTc (τ := Cert.GradHForget.τ) (Cert.GradHForget.main (F := Bits))) ⟨m, fun _ => 0, g⟩ (fun r => (∀ c : Dev Cert.GradHForget.nD,
      r.2.mem ((c.tc : Thread Cert.GradHForget.nD Cert.GradHForget.τ).loc Cert.GradHForget.main_arg0) = m ((c.tc : Thread Cert.GradHForget.nD Cert.GradHForget.τ).loc Cert.GradHForget.main_arg0)
      ∧ r.2.mem ((c.tc : Thread Cert.GradHForget.nD Cert.GradHForget.τ).loc Cert.GradHForget.main_arg1) = m ((c.tc : Thread Cert.GradHForget.nD Cert.GradHForget.τ).loc Cert.GradHForget.main_arg1))
      ∧ r.2.sem = fun _ => 0)

def quiescent_GradHForgetIdeal [hGradHForgetIdeal : Cert.GradHForgetIdeal.Facts] : Prop :=
  ∀ (m : (ℓ : Loc Cert.GradHForgetIdeal.nD Cert.GradHForgetIdeal.τ Cert.GradHForgetIdeal.sig) → Buf (Elt Ideal) ℓ) (g : Dev Cert.GradHForgetIdeal.nD → PrngReg), Pre_GradHForgetIdeal m →
    θ_run (Cert.GradHForgetIdeal.defs (F := Ideal)) (onTc (τ := Cert.GradHForgetIdeal.τ) (Cert.GradHForgetIdeal.main (F := Ideal))) ⟨m, fun _ => 0, g⟩ (fun r => (∀ c : Dev Cert.GradHForgetIdeal.nD,
      r.2.mem ((c.tc : Thread Cert.GradHForgetIdeal.nD Cert.GradHForgetIdeal.τ).loc Cert.GradHForgetIdeal.main_arg0) = m ((c.tc : Thread Cert.GradHForgetIdeal.nD Cert.GradHForgetIdeal.τ).loc Cert.GradHForgetIdeal.main_arg0)
      ∧ r.2.mem ((c.tc : Thread Cert.GradHForgetIdeal.nD Cert.GradHForgetIdeal.τ).loc Cert.GradHForgetIdeal.main_arg1) = m ((c.tc : Thread Cert.GradHForgetIdeal.nD Cert.GradHForgetIdeal.τ).loc Cert.GradHForgetIdeal.main_arg1))
      ∧ r.2.sem = fun _ => 0)

def quiescent_GradHForgetRefIdeal [hGradHForgetRefIdeal : Cert.GradHForgetRefIdeal.Facts] : Prop :=
  ∀ (m : (ℓ : Loc Cert.GradHForgetRefIdeal.nD Cert.GradHForgetRefIdeal.τ Cert.GradHForgetRefIdeal.sig) → Buf (Elt Ideal) ℓ) (g : Dev Cert.GradHForgetRefIdeal.nD → PrngReg), Pre_GradHForgetRefIdeal m →
    θ_run (Cert.GradHForgetRefIdeal.defs (F := Ideal)) (onTc (τ := Cert.GradHForgetRefIdeal.τ) (Cert.GradHForgetRefIdeal.main (F := Ideal))) ⟨m, fun _ => 0, g⟩ (fun r => (∀ c : Dev Cert.GradHForgetRefIdeal.nD,
      r.2.mem ((c.tc : Thread Cert.GradHForgetRefIdeal.nD Cert.GradHForgetRefIdeal.τ).loc Cert.GradHForgetRefIdeal.main_arg0) = m ((c.tc : Thread Cert.GradHForgetRefIdeal.nD Cert.GradHForgetRefIdeal.τ).loc Cert.GradHForgetRefIdeal.main_arg0)
      ∧ r.2.mem ((c.tc : Thread Cert.GradHForgetRefIdeal.nD Cert.GradHForgetRefIdeal.τ).loc Cert.GradHForgetRefIdeal.main_arg1) = m ((c.tc : Thread Cert.GradHForgetRefIdeal.nD Cert.GradHForgetRefIdeal.τ).loc Cert.GradHForgetRefIdeal.main_arg1))
      ∧ r.2.sem = fun _ => 0)

def quiescent_GateSum [hGateSum : Cert.GateSum.Facts] : Prop :=
  ∀ (m : (ℓ : Loc Cert.GateSum.nD Cert.GateSum.τ Cert.GateSum.sig) → Buf (Elt Bits) ℓ) (g : Dev Cert.GateSum.nD → PrngReg), Pre_GateSum m →
    θ_run (Cert.GateSum.defs (F := Bits)) (onTc (τ := Cert.GateSum.τ) (Cert.GateSum.main (F := Bits))) ⟨m, fun _ => 0, g⟩ (fun r => (∀ c : Dev Cert.GateSum.nD,
      r.2.mem ((c.tc : Thread Cert.GateSum.nD Cert.GateSum.τ).loc Cert.GateSum.main_arg0) = m ((c.tc : Thread Cert.GateSum.nD Cert.GateSum.τ).loc Cert.GateSum.main_arg0)
      ∧ r.2.mem ((c.tc : Thread Cert.GateSum.nD Cert.GateSum.τ).loc Cert.GateSum.main_arg1) = m ((c.tc : Thread Cert.GateSum.nD Cert.GateSum.τ).loc Cert.GateSum.main_arg1))
      ∧ r.2.sem = fun _ => 0)

def quiescent_GateSumIdeal [hGateSumIdeal : Cert.GateSumIdeal.Facts] : Prop :=
  ∀ (m : (ℓ : Loc Cert.GateSumIdeal.nD Cert.GateSumIdeal.τ Cert.GateSumIdeal.sig) → Buf (Elt Ideal) ℓ) (g : Dev Cert.GateSumIdeal.nD → PrngReg), Pre_GateSumIdeal m →
    θ_run (Cert.GateSumIdeal.defs (F := Ideal)) (onTc (τ := Cert.GateSumIdeal.τ) (Cert.GateSumIdeal.main (F := Ideal))) ⟨m, fun _ => 0, g⟩ (fun r => (∀ c : Dev Cert.GateSumIdeal.nD,
      r.2.mem ((c.tc : Thread Cert.GateSumIdeal.nD Cert.GateSumIdeal.τ).loc Cert.GateSumIdeal.main_arg0) = m ((c.tc : Thread Cert.GateSumIdeal.nD Cert.GateSumIdeal.τ).loc Cert.GateSumIdeal.main_arg0)
      ∧ r.2.mem ((c.tc : Thread Cert.GateSumIdeal.nD Cert.GateSumIdeal.τ).loc Cert.GateSumIdeal.main_arg1) = m ((c.tc : Thread Cert.GateSumIdeal.nD Cert.GateSumIdeal.τ).loc Cert.GateSumIdeal.main_arg1))
      ∧ r.2.sem = fun _ => 0)

def quiescent_GateSumRefIdeal [hGateSumRefIdeal : Cert.GateSumRefIdeal.Facts] : Prop :=
  ∀ (m : (ℓ : Loc Cert.GateSumRefIdeal.nD Cert.GateSumRefIdeal.τ Cert.GateSumRefIdeal.sig) → Buf (Elt Ideal) ℓ) (g : Dev Cert.GateSumRefIdeal.nD → PrngReg), Pre_GateSumRefIdeal m →
    θ_run (Cert.GateSumRefIdeal.defs (F := Ideal)) (onTc (τ := Cert.GateSumRefIdeal.τ) (Cert.GateSumRefIdeal.main (F := Ideal))) ⟨m, fun _ => 0, g⟩ (fun r => (∀ c : Dev Cert.GateSumRefIdeal.nD,
      r.2.mem ((c.tc : Thread Cert.GateSumRefIdeal.nD Cert.GateSumRefIdeal.τ).loc Cert.GateSumRefIdeal.main_arg0) = m ((c.tc : Thread Cert.GateSumRefIdeal.nD Cert.GateSumRefIdeal.τ).loc Cert.GateSumRefIdeal.main_arg0)
      ∧ r.2.mem ((c.tc : Thread Cert.GateSumRefIdeal.nD Cert.GateSumRefIdeal.τ).loc Cert.GateSumRefIdeal.main_arg1) = m ((c.tc : Thread Cert.GateSumRefIdeal.nD Cert.GateSumRefIdeal.τ).loc Cert.GateSumRefIdeal.main_arg1))
      ∧ r.2.sem = fun _ => 0)

def preserves_Kernel_KernelIdeal : Prop :=
  True

def algebraic_KernelIdeal_ReferenceIdeal_pre_finite_and_alive [hKernelIdeal : Cert.KernelIdeal.Facts] [hReferenceIdeal : Cert.ReferenceIdeal.Facts] [hPre_finite_and_alive : Cert.Pre_finite_and_alive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_alive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GradH_GradHIdeal : Prop :=
  True

def algebraic_GradHIdeal_GradHRefIdeal [hGradHIdeal : Cert.GradHIdeal.Facts] [hGradHRefIdeal : Cert.GradHRefIdeal.Facts] : Prop :=
  ∀ (m : (ℓ : Loc Cert.GradHIdeal.nD Cert.GradHIdeal.τ Cert.GradHIdeal.sig) → Buf (Elt Ideal) ℓ) (g : Dev Cert.GradHIdeal.nD → PrngReg)
    (m' : (ℓ : Loc Cert.GradHRefIdeal.nD Cert.GradHRefIdeal.τ Cert.GradHRefIdeal.sig) → Buf (Elt Ideal) ℓ) (g' : Dev Cert.GradHRefIdeal.nD → PrngReg), Pre_GradHIdeal m →
    (∀ c : Dev Cert.GradHIdeal.nD,
      m' ((c.tc : Thread Cert.GradHRefIdeal.nD Cert.GradHRefIdeal.τ).loc Cert.GradHRefIdeal.main_arg0) = m ((c.tc : Thread Cert.GradHIdeal.nD Cert.GradHIdeal.τ).loc Cert.GradHIdeal.main_arg0)
      ∧ m' ((c.tc : Thread Cert.GradHRefIdeal.nD Cert.GradHRefIdeal.τ).loc Cert.GradHRefIdeal.main_arg1) = m ((c.tc : Thread Cert.GradHIdeal.nD Cert.GradHIdeal.τ).loc Cert.GradHIdeal.main_arg1)
      ∧ m' ((c.tc : Thread Cert.GradHRefIdeal.nD Cert.GradHRefIdeal.τ).loc Cert.GradHRefIdeal.main_arg2) = m ((c.tc : Thread Cert.GradHIdeal.nD Cert.GradHIdeal.τ).loc Cert.GradHIdeal.main_arg2)
      ∧ m' ((c.tc : Thread Cert.GradHRefIdeal.nD Cert.GradHRefIdeal.τ).loc Cert.GradHRefIdeal.main_arg3) = m ((c.tc : Thread Cert.GradHIdeal.nD Cert.GradHIdeal.τ).loc Cert.GradHIdeal.main_arg3)
      ∧ m' ((c.tc : Thread Cert.GradHRefIdeal.nD Cert.GradHRefIdeal.τ).loc Cert.GradHRefIdeal.main_arg4) = m ((c.tc : Thread Cert.GradHIdeal.nD Cert.GradHIdeal.τ).loc Cert.GradHIdeal.main_arg4)) →
    ∃ (v0 : (c : Dev Cert.GradHIdeal.nD) → Buf (Elt Ideal) ((c.tc : Thread Cert.GradHIdeal.nD Cert.GradHIdeal.τ).loc Cert.GradHIdeal.main_v0)),
      θ_run (Cert.GradHIdeal.defs (F := Ideal)) (onTc (τ := Cert.GradHIdeal.τ) (Cert.GradHIdeal.main (F := Ideal))) ⟨m, fun _ => 0, g⟩ (fun r => ∀ c : Dev Cert.GradHIdeal.nD,
          r.2.mem ((c.tc : Thread Cert.GradHIdeal.nD Cert.GradHIdeal.τ).loc Cert.GradHIdeal.main_v0) = v0 c
          ∧ r.2.mem ((c.tc : Thread Cert.GradHIdeal.nD Cert.GradHIdeal.τ).loc Cert.GradHIdeal.main_arg0) = m ((c.tc : Thread Cert.GradHIdeal.nD Cert.GradHIdeal.τ).loc Cert.GradHIdeal.main_arg0)
          ∧ r.2.mem ((c.tc : Thread Cert.GradHIdeal.nD Cert.GradHIdeal.τ).loc Cert.GradHIdeal.main_arg1) = m ((c.tc : Thread Cert.GradHIdeal.nD Cert.GradHIdeal.τ).loc Cert.GradHIdeal.main_arg1)
          ∧ r.2.mem ((c.tc : Thread Cert.GradHIdeal.nD Cert.GradHIdeal.τ).loc Cert.GradHIdeal.main_arg2) = m ((c.tc : Thread Cert.GradHIdeal.nD Cert.GradHIdeal.τ).loc Cert.GradHIdeal.main_arg2)
          ∧ r.2.mem ((c.tc : Thread Cert.GradHIdeal.nD Cert.GradHIdeal.τ).loc Cert.GradHIdeal.main_arg3) = m ((c.tc : Thread Cert.GradHIdeal.nD Cert.GradHIdeal.τ).loc Cert.GradHIdeal.main_arg3)
          ∧ r.2.mem ((c.tc : Thread Cert.GradHIdeal.nD Cert.GradHIdeal.τ).loc Cert.GradHIdeal.main_arg4) = m ((c.tc : Thread Cert.GradHIdeal.nD Cert.GradHIdeal.τ).loc Cert.GradHIdeal.main_arg4))
      ∧ θ_run (Cert.GradHRefIdeal.defs (F := Ideal)) (onTc (τ := Cert.GradHRefIdeal.τ) (Cert.GradHRefIdeal.main (F := Ideal))) ⟨m', fun _ => 0, g'⟩ (fun r => ∀ c : Dev Cert.GradHRefIdeal.nD,
          r.2.mem ((c.tc : Thread Cert.GradHRefIdeal.nD Cert.GradHRefIdeal.τ).loc Cert.GradHRefIdeal.main_v9) = v0 c
          ∧ r.2.mem ((c.tc : Thread Cert.GradHRefIdeal.nD Cert.GradHRefIdeal.τ).loc Cert.GradHRefIdeal.main_arg0) = m' ((c.tc : Thread Cert.GradHRefIdeal.nD Cert.GradHRefIdeal.τ).loc Cert.GradHRefIdeal.main_arg0)
          ∧ r.2.mem ((c.tc : Thread Cert.GradHRefIdeal.nD Cert.GradHRefIdeal.τ).loc Cert.GradHRefIdeal.main_arg1) = m' ((c.tc : Thread Cert.GradHRefIdeal.nD Cert.GradHRefIdeal.τ).loc Cert.GradHRefIdeal.main_arg1)
          ∧ r.2.mem ((c.tc : Thread Cert.GradHRefIdeal.nD Cert.GradHRefIdeal.τ).loc Cert.GradHRefIdeal.main_arg2) = m' ((c.tc : Thread Cert.GradHRefIdeal.nD Cert.GradHRefIdeal.τ).loc Cert.GradHRefIdeal.main_arg2)
          ∧ r.2.mem ((c.tc : Thread Cert.GradHRefIdeal.nD Cert.GradHRefIdeal.τ).loc Cert.GradHRefIdeal.main_arg3) = m' ((c.tc : Thread Cert.GradHRefIdeal.nD Cert.GradHRefIdeal.τ).loc Cert.GradHRefIdeal.main_arg3)
          ∧ r.2.mem ((c.tc : Thread Cert.GradHRefIdeal.nD Cert.GradHRefIdeal.τ).loc Cert.GradHRefIdeal.main_arg4) = m' ((c.tc : Thread Cert.GradHRefIdeal.nD Cert.GradHRefIdeal.τ).loc Cert.GradHRefIdeal.main_arg4))

def preserves_GradW_GradWIdeal : Prop :=
  True

def algebraic_GradWIdeal_GradWRefIdeal [hGradWIdeal : Cert.GradWIdeal.Facts] [hGradWRefIdeal : Cert.GradWRefIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)
      ∧ m' ((c.tc : Thread Cert.GradWRefIdeal.nD Cert.GradWRefIdeal.τ).loc Cert.GradWRefIdeal.main_arg2) = m ((c.tc : Thread Cert.GradWIdeal.nD Cert.GradWIdeal.τ).loc Cert.GradWIdeal.main_arg2)
      ∧ m' ((c.tc : Thread Cert.GradWRefIdeal.nD Cert.GradWRefIdeal.τ).loc Cert.GradWRefIdeal.main_arg3) = m ((c.tc : Thread Cert.GradWIdeal.nD Cert.GradWIdeal.τ).loc Cert.GradWIdeal.main_arg3)
      ∧ m' ((c.tc : Thread Cert.GradWRefIdeal.nD Cert.GradWRefIdeal.τ).loc Cert.GradWRefIdeal.main_arg4) = m ((c.tc : Thread Cert.GradWIdeal.nD Cert.GradWIdeal.τ).loc Cert.GradWIdeal.main_arg4)) →
    ∃ (v0 : (c : Dev Cert.GradWIdeal.nD) → Buf (Elt Ideal) ((c.tc : Thread Cert.GradWIdeal.nD Cert.GradWIdeal.τ).loc Cert.GradWIdeal.main_v0)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v0) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
          ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
          ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3)
          ∧ r.2.mem ((c.tc : Thread Cert.GradWIdeal.nD Cert.GradWIdeal.τ).loc Cert.GradWIdeal.main_arg4) = m ((c.tc : Thread Cert.GradWIdeal.nD Cert.GradWIdeal.τ).loc Cert.GradWIdeal.main_arg4))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v10) = v0 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1)
          ∧ r.2.mem ((c.tc : Thread Cert.GradWRefIdeal.nD Cert.GradWRefIdeal.τ).loc Cert.GradWRefIdeal.main_arg2) = m' ((c.tc : Thread Cert.GradWRefIdeal.nD Cert.GradWRefIdeal.τ).loc Cert.GradWRefIdeal.main_arg2)
          ∧ r.2.mem ((c.tc : Thread Cert.GradWRefIdeal.nD Cert.GradWRefIdeal.τ).loc Cert.GradWRefIdeal.main_arg3) = m' ((c.tc : Thread Cert.GradWRefIdeal.nD Cert.GradWRefIdeal.τ).loc Cert.GradWRefIdeal.main_arg3)
          ∧ r.2.mem ((c.tc : Thread Cert.GradWRefIdeal.nD Cert.GradWRefIdeal.τ).loc Cert.GradWRefIdeal.main_arg4) = m' ((c.tc : Thread Cert.GradWRefIdeal.nD Cert.GradWRefIdeal.τ).loc Cert.GradWRefIdeal.main_arg4))

def preserves_GradMixed_GradMixedIdeal : Prop :=
  True

def algebraic_GradMixedIdeal_GradMixedRefIdeal [hGradMixedIdeal : Cert.GradMixedIdeal.Facts] [hGradMixedRefIdeal : Cert.GradMixedRefIdeal.Facts] : Prop :=
  ∀ (m : (ℓ : Loc Cert.GradMixedIdeal.nD Cert.GradMixedIdeal.τ Cert.GradMixedIdeal.sig) → Buf (Elt Ideal) ℓ) (g : Dev Cert.GradMixedIdeal.nD → PrngReg)
    (m' : (ℓ : Loc Cert.GradMixedRefIdeal.nD Cert.GradMixedRefIdeal.τ Cert.GradMixedRefIdeal.sig) → Buf (Elt Ideal) ℓ) (g' : Dev Cert.GradMixedRefIdeal.nD → PrngReg), Pre_GradMixedIdeal m →
    (∀ c : Dev Cert.GradMixedIdeal.nD,
      m' ((c.tc : Thread Cert.GradMixedRefIdeal.nD Cert.GradMixedRefIdeal.τ).loc Cert.GradMixedRefIdeal.main_arg0) = m ((c.tc : Thread Cert.GradMixedIdeal.nD Cert.GradMixedIdeal.τ).loc Cert.GradMixedIdeal.main_arg0)
      ∧ m' ((c.tc : Thread Cert.GradMixedRefIdeal.nD Cert.GradMixedRefIdeal.τ).loc Cert.GradMixedRefIdeal.main_arg1) = m ((c.tc : Thread Cert.GradMixedIdeal.nD Cert.GradMixedIdeal.τ).loc Cert.GradMixedIdeal.main_arg1)) →
    ∃ (v0 : (c : Dev Cert.GradMixedIdeal.nD) → Buf (Elt Ideal) ((c.tc : Thread Cert.GradMixedIdeal.nD Cert.GradMixedIdeal.τ).loc Cert.GradMixedIdeal.main_v0)),
      θ_run (Cert.GradMixedIdeal.defs (F := Ideal)) (onTc (τ := Cert.GradMixedIdeal.τ) (Cert.GradMixedIdeal.main (F := Ideal))) ⟨m, fun _ => 0, g⟩ (fun r => ∀ c : Dev Cert.GradMixedIdeal.nD,
          r.2.mem ((c.tc : Thread Cert.GradMixedIdeal.nD Cert.GradMixedIdeal.τ).loc Cert.GradMixedIdeal.main_v0) = v0 c
          ∧ r.2.mem ((c.tc : Thread Cert.GradMixedIdeal.nD Cert.GradMixedIdeal.τ).loc Cert.GradMixedIdeal.main_arg0) = m ((c.tc : Thread Cert.GradMixedIdeal.nD Cert.GradMixedIdeal.τ).loc Cert.GradMixedIdeal.main_arg0)
          ∧ r.2.mem ((c.tc : Thread Cert.GradMixedIdeal.nD Cert.GradMixedIdeal.τ).loc Cert.GradMixedIdeal.main_arg1) = m ((c.tc : Thread Cert.GradMixedIdeal.nD Cert.GradMixedIdeal.τ).loc Cert.GradMixedIdeal.main_arg1))
      ∧ θ_run (Cert.GradMixedRefIdeal.defs (F := Ideal)) (onTc (τ := Cert.GradMixedRefIdeal.τ) (Cert.GradMixedRefIdeal.main (F := Ideal))) ⟨m', fun _ => 0, g'⟩ (fun r => ∀ c : Dev Cert.GradMixedRefIdeal.nD,
          r.2.mem ((c.tc : Thread Cert.GradMixedRefIdeal.nD Cert.GradMixedRefIdeal.τ).loc Cert.GradMixedRefIdeal.main_v6) = v0 c
          ∧ r.2.mem ((c.tc : Thread Cert.GradMixedRefIdeal.nD Cert.GradMixedRefIdeal.τ).loc Cert.GradMixedRefIdeal.main_arg0) = m' ((c.tc : Thread Cert.GradMixedRefIdeal.nD Cert.GradMixedRefIdeal.τ).loc Cert.GradMixedRefIdeal.main_arg0)
          ∧ r.2.mem ((c.tc : Thread Cert.GradMixedRefIdeal.nD Cert.GradMixedRefIdeal.τ).loc Cert.GradMixedRefIdeal.main_arg1) = m' ((c.tc : Thread Cert.GradMixedRefIdeal.nD Cert.GradMixedRefIdeal.τ).loc Cert.GradMixedRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v7) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v4) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutProjE_OutProjEIdeal : Prop :=
  True

def algebraic_OutProjEIdeal_OutProjERefIdeal [hOutProjEIdeal : Cert.OutProjEIdeal.Facts] [hOutProjERefIdeal : Cert.OutProjERefIdeal.Facts] : Prop :=
  ∀ (m : (ℓ : Loc Cert.OutProjEIdeal.nD Cert.OutProjEIdeal.τ Cert.OutProjEIdeal.sig) → Buf (Elt Ideal) ℓ) (g : Dev Cert.OutProjEIdeal.nD → PrngReg)
    (m' : (ℓ : Loc Cert.OutProjERefIdeal.nD Cert.OutProjERefIdeal.τ Cert.OutProjERefIdeal.sig) → Buf (Elt Ideal) ℓ) (g' : Dev Cert.OutProjERefIdeal.nD → PrngReg), Pre_OutProjEIdeal m →
    (∀ c : Dev Cert.OutProjEIdeal.nD,
      m' ((c.tc : Thread Cert.OutProjERefIdeal.nD Cert.OutProjERefIdeal.τ).loc Cert.OutProjERefIdeal.main_arg0) = m ((c.tc : Thread Cert.OutProjEIdeal.nD Cert.OutProjEIdeal.τ).loc Cert.OutProjEIdeal.main_arg0)
      ∧ m' ((c.tc : Thread Cert.OutProjERefIdeal.nD Cert.OutProjERefIdeal.τ).loc Cert.OutProjERefIdeal.main_arg1) = m ((c.tc : Thread Cert.OutProjEIdeal.nD Cert.OutProjEIdeal.τ).loc Cert.OutProjEIdeal.main_arg1)
      ∧ m' ((c.tc : Thread Cert.OutProjERefIdeal.nD Cert.OutProjERefIdeal.τ).loc Cert.OutProjERefIdeal.main_arg2) = m ((c.tc : Thread Cert.OutProjEIdeal.nD Cert.OutProjEIdeal.τ).loc Cert.OutProjEIdeal.main_arg2)) →
    ∃ (v0 : (c : Dev Cert.OutProjEIdeal.nD) → Buf (Elt Ideal) ((c.tc : Thread Cert.OutProjEIdeal.nD Cert.OutProjEIdeal.τ).loc Cert.OutProjEIdeal.main_v0)),
      θ_run (Cert.OutProjEIdeal.defs (F := Ideal)) (onTc (τ := Cert.OutProjEIdeal.τ) (Cert.OutProjEIdeal.main (F := Ideal))) ⟨m, fun _ => 0, g⟩ (fun r => ∀ c : Dev Cert.OutProjEIdeal.nD,
          r.2.mem ((c.tc : Thread Cert.OutProjEIdeal.nD Cert.OutProjEIdeal.τ).loc Cert.OutProjEIdeal.main_v0) = v0 c
          ∧ r.2.mem ((c.tc : Thread Cert.OutProjEIdeal.nD Cert.OutProjEIdeal.τ).loc Cert.OutProjEIdeal.main_arg0) = m ((c.tc : Thread Cert.OutProjEIdeal.nD Cert.OutProjEIdeal.τ).loc Cert.OutProjEIdeal.main_arg0)
          ∧ r.2.mem ((c.tc : Thread Cert.OutProjEIdeal.nD Cert.OutProjEIdeal.τ).loc Cert.OutProjEIdeal.main_arg1) = m ((c.tc : Thread Cert.OutProjEIdeal.nD Cert.OutProjEIdeal.τ).loc Cert.OutProjEIdeal.main_arg1)
          ∧ r.2.mem ((c.tc : Thread Cert.OutProjEIdeal.nD Cert.OutProjEIdeal.τ).loc Cert.OutProjEIdeal.main_arg2) = m ((c.tc : Thread Cert.OutProjEIdeal.nD Cert.OutProjEIdeal.τ).loc Cert.OutProjEIdeal.main_arg2))
      ∧ θ_run (Cert.OutProjERefIdeal.defs (F := Ideal)) (onTc (τ := Cert.OutProjERefIdeal.τ) (Cert.OutProjERefIdeal.main (F := Ideal))) ⟨m', fun _ => 0, g'⟩ (fun r => ∀ c : Dev Cert.OutProjERefIdeal.nD,
          r.2.mem ((c.tc : Thread Cert.OutProjERefIdeal.nD Cert.OutProjERefIdeal.τ).loc Cert.OutProjERefIdeal.main_v3) = v0 c
          ∧ r.2.mem ((c.tc : Thread Cert.OutProjERefIdeal.nD Cert.OutProjERefIdeal.τ).loc Cert.OutProjERefIdeal.main_arg0) = m' ((c.tc : Thread Cert.OutProjERefIdeal.nD Cert.OutProjERefIdeal.τ).loc Cert.OutProjERefIdeal.main_arg0)
          ∧ r.2.mem ((c.tc : Thread Cert.OutProjERefIdeal.nD Cert.OutProjERefIdeal.τ).loc Cert.OutProjERefIdeal.main_arg1) = m' ((c.tc : Thread Cert.OutProjERefIdeal.nD Cert.OutProjERefIdeal.τ).loc Cert.OutProjERefIdeal.main_arg1)
          ∧ r.2.mem ((c.tc : Thread Cert.OutProjERefIdeal.nD Cert.OutProjERefIdeal.τ).loc Cert.OutProjERefIdeal.main_arg2) = m' ((c.tc : Thread Cert.OutProjERefIdeal.nD Cert.OutProjERefIdeal.τ).loc Cert.OutProjERefIdeal.main_arg2))

def preserves_GradOutE_GradOutEIdeal : Prop :=
  True

def algebraic_GradOutEIdeal_GradOutERefIdeal [hGradOutEIdeal : Cert.GradOutEIdeal.Facts] [hGradOutERefIdeal : Cert.GradOutERefIdeal.Facts] : Prop :=
  ∀ (m : (ℓ : Loc Cert.GradOutEIdeal.nD Cert.GradOutEIdeal.τ Cert.GradOutEIdeal.sig) → Buf (Elt Ideal) ℓ) (g : Dev Cert.GradOutEIdeal.nD → PrngReg)
    (m' : (ℓ : Loc Cert.GradOutERefIdeal.nD Cert.GradOutERefIdeal.τ Cert.GradOutERefIdeal.sig) → Buf (Elt Ideal) ℓ) (g' : Dev Cert.GradOutERefIdeal.nD → PrngReg), Pre_GradOutEIdeal m →
    (∀ c : Dev Cert.GradOutEIdeal.nD,
      m' ((c.tc : Thread Cert.GradOutERefIdeal.nD Cert.GradOutERefIdeal.τ).loc Cert.GradOutERefIdeal.main_arg0) = m ((c.tc : Thread Cert.GradOutEIdeal.nD Cert.GradOutEIdeal.τ).loc Cert.GradOutEIdeal.main_arg0)
      ∧ m' ((c.tc : Thread Cert.GradOutERefIdeal.nD Cert.GradOutERefIdeal.τ).loc Cert.GradOutERefIdeal.main_arg1) = m ((c.tc : Thread Cert.GradOutEIdeal.nD Cert.GradOutEIdeal.τ).loc Cert.GradOutEIdeal.main_arg1)
      ∧ m' ((c.tc : Thread Cert.GradOutERefIdeal.nD Cert.GradOutERefIdeal.τ).loc Cert.GradOutERefIdeal.main_arg2) = m ((c.tc : Thread Cert.GradOutEIdeal.nD Cert.GradOutEIdeal.τ).loc Cert.GradOutEIdeal.main_arg2)) →
    ∃ (v0 : (c : Dev Cert.GradOutEIdeal.nD) → Buf (Elt Ideal) ((c.tc : Thread Cert.GradOutEIdeal.nD Cert.GradOutEIdeal.τ).loc Cert.GradOutEIdeal.main_v0)),
      θ_run (Cert.GradOutEIdeal.defs (F := Ideal)) (onTc (τ := Cert.GradOutEIdeal.τ) (Cert.GradOutEIdeal.main (F := Ideal))) ⟨m, fun _ => 0, g⟩ (fun r => ∀ c : Dev Cert.GradOutEIdeal.nD,
          r.2.mem ((c.tc : Thread Cert.GradOutEIdeal.nD Cert.GradOutEIdeal.τ).loc Cert.GradOutEIdeal.main_v0) = v0 c
          ∧ r.2.mem ((c.tc : Thread Cert.GradOutEIdeal.nD Cert.GradOutEIdeal.τ).loc Cert.GradOutEIdeal.main_arg0) = m ((c.tc : Thread Cert.GradOutEIdeal.nD Cert.GradOutEIdeal.τ).loc Cert.GradOutEIdeal.main_arg0)
          ∧ r.2.mem ((c.tc : Thread Cert.GradOutEIdeal.nD Cert.GradOutEIdeal.τ).loc Cert.GradOutEIdeal.main_arg1) = m ((c.tc : Thread Cert.GradOutEIdeal.nD Cert.GradOutEIdeal.τ).loc Cert.GradOutEIdeal.main_arg1)
          ∧ r.2.mem ((c.tc : Thread Cert.GradOutEIdeal.nD Cert.GradOutEIdeal.τ).loc Cert.GradOutEIdeal.main_arg2) = m ((c.tc : Thread Cert.GradOutEIdeal.nD Cert.GradOutEIdeal.τ).loc Cert.GradOutEIdeal.main_arg2))
      ∧ θ_run (Cert.GradOutERefIdeal.defs (F := Ideal)) (onTc (τ := Cert.GradOutERefIdeal.τ) (Cert.GradOutERefIdeal.main (F := Ideal))) ⟨m', fun _ => 0, g'⟩ (fun r => ∀ c : Dev Cert.GradOutERefIdeal.nD,
          r.2.mem ((c.tc : Thread Cert.GradOutERefIdeal.nD Cert.GradOutERefIdeal.τ).loc Cert.GradOutERefIdeal.main_v8) = v0 c
          ∧ r.2.mem ((c.tc : Thread Cert.GradOutERefIdeal.nD Cert.GradOutERefIdeal.τ).loc Cert.GradOutERefIdeal.main_arg0) = m' ((c.tc : Thread Cert.GradOutERefIdeal.nD Cert.GradOutERefIdeal.τ).loc Cert.GradOutERefIdeal.main_arg0)
          ∧ r.2.mem ((c.tc : Thread Cert.GradOutERefIdeal.nD Cert.GradOutERefIdeal.τ).loc Cert.GradOutERefIdeal.main_arg1) = m' ((c.tc : Thread Cert.GradOutERefIdeal.nD Cert.GradOutERefIdeal.τ).loc Cert.GradOutERefIdeal.main_arg1)
          ∧ r.2.mem ((c.tc : Thread Cert.GradOutERefIdeal.nD Cert.GradOutERefIdeal.τ).loc Cert.GradOutERefIdeal.main_arg2) = m' ((c.tc : Thread Cert.GradOutERefIdeal.nD Cert.GradOutERefIdeal.τ).loc Cert.GradOutERefIdeal.main_arg2))

def preserves_GateA_GateAIdeal : Prop :=
  True

def algebraic_GateAIdeal_GateARefIdeal [hGateAIdeal : Cert.GateAIdeal.Facts] [hGateARefIdeal : Cert.GateARefIdeal.Facts] : Prop :=
  ∀ (m : (ℓ : Loc Cert.GateAIdeal.nD Cert.GateAIdeal.τ Cert.GateAIdeal.sig) → Buf (Elt Ideal) ℓ) (g : Dev Cert.GateAIdeal.nD → PrngReg)
    (m' : (ℓ : Loc Cert.GateARefIdeal.nD Cert.GateARefIdeal.τ Cert.GateARefIdeal.sig) → Buf (Elt Ideal) ℓ) (g' : Dev Cert.GateARefIdeal.nD → PrngReg), Pre_GateAIdeal m →
    (∀ c : Dev Cert.GateAIdeal.nD,
      m' ((c.tc : Thread Cert.GateARefIdeal.nD Cert.GateARefIdeal.τ).loc Cert.GateARefIdeal.main_arg0) = m ((c.tc : Thread Cert.GateAIdeal.nD Cert.GateAIdeal.τ).loc Cert.GateAIdeal.main_arg0)
      ∧ m' ((c.tc : Thread Cert.GateARefIdeal.nD Cert.GateARefIdeal.τ).loc Cert.GateARefIdeal.main_arg1) = m ((c.tc : Thread Cert.GateAIdeal.nD Cert.GateAIdeal.τ).loc Cert.GateAIdeal.main_arg1)) →
    ∃ (v0 : (c : Dev Cert.GateAIdeal.nD) → Buf (Elt Ideal) ((c.tc : Thread Cert.GateAIdeal.nD Cert.GateAIdeal.τ).loc Cert.GateAIdeal.main_v0)),
      θ_run (Cert.GateAIdeal.defs (F := Ideal)) (onTc (τ := Cert.GateAIdeal.τ) (Cert.GateAIdeal.main (F := Ideal))) ⟨m, fun _ => 0, g⟩ (fun r => ∀ c : Dev Cert.GateAIdeal.nD,
          r.2.mem ((c.tc : Thread Cert.GateAIdeal.nD Cert.GateAIdeal.τ).loc Cert.GateAIdeal.main_v0) = v0 c
          ∧ r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
          ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1))
      ∧ θ_run (Cert.GateARefIdeal.defs (F := Ideal)) (onTc (τ := Cert.GateARefIdeal.τ) (Cert.GateARefIdeal.main (F := Ideal))) ⟨m', fun _ => 0, g'⟩ (fun r => ∀ c : Dev Cert.GateARefIdeal.nD,
          r.2.mem ((c.tc : Thread Cert.GateARefIdeal.nD Cert.GateARefIdeal.τ).loc Cert.GateARefIdeal.main_v3) = v0 c
          ∧ r.2.mem ((c.tc : Thread Cert.GateARefIdeal.nD Cert.GateARefIdeal.τ).loc Cert.GateARefIdeal.main_arg0) = m' ((c.tc : Thread Cert.GateARefIdeal.nD Cert.GateARefIdeal.τ).loc Cert.GateARefIdeal.main_arg0)
          ∧ r.2.mem ((c.tc : Thread Cert.GateARefIdeal.nD Cert.GateARefIdeal.τ).loc Cert.GateARefIdeal.main_arg1) = m' ((c.tc : Thread Cert.GateARefIdeal.nD Cert.GateARefIdeal.τ).loc Cert.GateARefIdeal.main_arg1))

def preserves_QkvB_QkvBIdeal : Prop :=
  True

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)) →
    ∃ (v0 : (c : Dev Cert.QkvBIdeal.nD) → Buf (Elt Ideal) ((c.tc : Thread Cert.QkvBIdeal.nD Cert.QkvBIdeal.τ).loc Cert.QkvBIdeal.main_v0)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v0) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v4) = v0 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)) →
    ∃ (v0 : (c : Dev Cert.GateBIdeal.nD) → Buf (Elt Ideal) ((c.tc : Thread Cert.GateBIdeal.nD Cert.GateBIdeal.τ).loc Cert.GateBIdeal.main_v0)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0) = v0 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v3) = v0 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v37) = v0 c
          ∧ r.2.mem ((c.tc : Thread Cert.PostBwdRefIdeal.nD Cert.PostBwdRefIdeal.τ).loc Cert.PostBwdRefIdeal.main_v38) = v1 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v37) = v0 c
          ∧ r.2.mem ((c.tc : Thread Cert.PreBwdRefIdeal.nD Cert.PreBwdRefIdeal.τ).loc Cert.PreBwdRefIdeal.main_v38) = v1 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v14) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)) →
    ∃ (v0 : (c : Dev Cert.PostNormIdeal.nD) → Buf (Elt Ideal) ((c.tc : Thread Cert.PostNormIdeal.nD Cert.PostNormIdeal.τ).loc Cert.PostNormIdeal.main_v0)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v0) = v0 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v14) = v0 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamInE_AdamInEIdeal : Prop :=
  IdealRules.named_const.Statement Cert.AdamInEIdeal.κ "c1" .f32 0x3FC48605#32 ((8388608 / 5463681 : ℝ) : EReal)
  ∧ IdealRules.named_const.Statement Cert.AdamInEIdeal.κ "c2" .f32 0x42C8E6D3#32 ((268435456 / 2672307 : ℝ) : EReal)

def algebraic_AdamInEIdeal_AdamInERefIdeal [hAdamInEIdeal : Cert.AdamInEIdeal.Facts] [hAdamInERefIdeal : Cert.AdamInERefIdeal.Facts] : Prop :=
  ∀ (m : (ℓ : Loc Cert.AdamInEIdeal.nD Cert.AdamInEIdeal.τ Cert.AdamInEIdeal.sig) → Buf (Elt Ideal) ℓ) (g : Dev Cert.AdamInEIdeal.nD → PrngReg)
    (m' : (ℓ : Loc Cert.AdamInERefIdeal.nD Cert.AdamInERefIdeal.τ Cert.AdamInERefIdeal.sig) → Buf (Elt Ideal) ℓ) (g' : Dev Cert.AdamInERefIdeal.nD → PrngReg), Pre_AdamInEIdeal m →
    (∀ c : Dev Cert.AdamInEIdeal.nD,
      m' ((c.tc : Thread Cert.AdamInERefIdeal.nD Cert.AdamInERefIdeal.τ).loc Cert.AdamInERefIdeal.main_arg0) = m ((c.tc : Thread Cert.AdamInEIdeal.nD Cert.AdamInEIdeal.τ).loc Cert.AdamInEIdeal.main_arg0)
      ∧ m' ((c.tc : Thread Cert.AdamInERefIdeal.nD Cert.AdamInERefIdeal.τ).loc Cert.AdamInERefIdeal.main_arg1) = m ((c.tc : Thread Cert.AdamInEIdeal.nD Cert.AdamInEIdeal.τ).loc Cert.AdamInEIdeal.main_arg1)
      ∧ m' ((c.tc : Thread Cert.AdamInERefIdeal.nD Cert.AdamInERefIdeal.τ).loc Cert.AdamInERefIdeal.main_arg2) = m ((c.tc : Thread Cert.AdamInEIdeal.nD Cert.AdamInEIdeal.τ).loc Cert.AdamInEIdeal.main_arg2)
      ∧ m' ((c.tc : Thread Cert.AdamInERefIdeal.nD Cert.AdamInERefIdeal.τ).loc Cert.AdamInERefIdeal.main_arg3) = m ((c.tc : Thread Cert.AdamInEIdeal.nD Cert.AdamInEIdeal.τ).loc Cert.AdamInEIdeal.main_arg3)) →
    ∃ (v0 : (c : Dev Cert.AdamInEIdeal.nD) → Buf (Elt Ideal) ((c.tc : Thread Cert.AdamInEIdeal.nD Cert.AdamInEIdeal.τ).loc Cert.AdamInEIdeal.main_v0_0)) (v1 : (c : Dev Cert.AdamInEIdeal.nD) → Buf (Elt Ideal) ((c.tc : Thread Cert.AdamInEIdeal.nD Cert.AdamInEIdeal.τ).loc Cert.AdamInEIdeal.main_v0_1)) (v2 : (c : Dev Cert.AdamInEIdeal.nD) → Buf (Elt Ideal) ((c.tc : Thread Cert.AdamInEIdeal.nD Cert.AdamInEIdeal.τ).loc Cert.AdamInEIdeal.main_v0_2)) (v3 : (c : Dev Cert.AdamInEIdeal.nD) → Buf (Elt Ideal) ((c.tc : Thread Cert.AdamInEIdeal.nD Cert.AdamInEIdeal.τ).loc Cert.AdamInEIdeal.main_v0_3)),
      θ_run (Cert.AdamInEIdeal.defs (F := Ideal)) (onTc (τ := Cert.AdamInEIdeal.τ) (Cert.AdamInEIdeal.main (F := Ideal))) ⟨m, fun _ => 0, g⟩ (fun r => ∀ c : Dev Cert.AdamInEIdeal.nD,
          r.2.mem ((c.tc : Thread Cert.AdamInEIdeal.nD Cert.AdamInEIdeal.τ).loc Cert.AdamInEIdeal.main_v0_0) = v0 c
          ∧ r.2.mem ((c.tc : Thread Cert.AdamInEIdeal.nD Cert.AdamInEIdeal.τ).loc Cert.AdamInEIdeal.main_v0_1) = v1 c
          ∧ r.2.mem ((c.tc : Thread Cert.AdamInEIdeal.nD Cert.AdamInEIdeal.τ).loc Cert.AdamInEIdeal.main_v0_2) = v2 c
          ∧ r.2.mem ((c.tc : Thread Cert.AdamInEIdeal.nD Cert.AdamInEIdeal.τ).loc Cert.AdamInEIdeal.main_v0_3) = v3 c
          ∧ r.2.mem ((c.tc : Thread Cert.AdamInEIdeal.nD Cert.AdamInEIdeal.τ).loc Cert.AdamInEIdeal.main_arg0) = m ((c.tc : Thread Cert.AdamInEIdeal.nD Cert.AdamInEIdeal.τ).loc Cert.AdamInEIdeal.main_arg0)
          ∧ r.2.mem ((c.tc : Thread Cert.AdamInEIdeal.nD Cert.AdamInEIdeal.τ).loc Cert.AdamInEIdeal.main_arg1) = m ((c.tc : Thread Cert.AdamInEIdeal.nD Cert.AdamInEIdeal.τ).loc Cert.AdamInEIdeal.main_arg1)
          ∧ r.2.mem ((c.tc : Thread Cert.AdamInEIdeal.nD Cert.AdamInEIdeal.τ).loc Cert.AdamInEIdeal.main_arg2) = m ((c.tc : Thread Cert.AdamInEIdeal.nD Cert.AdamInEIdeal.τ).loc Cert.AdamInEIdeal.main_arg2)
          ∧ r.2.mem ((c.tc : Thread Cert.AdamInEIdeal.nD Cert.AdamInEIdeal.τ).loc Cert.AdamInEIdeal.main_arg3) = m ((c.tc : Thread Cert.AdamInEIdeal.nD Cert.AdamInEIdeal.τ).loc Cert.AdamInEIdeal.main_arg3))
      ∧ θ_run (Cert.AdamInERefIdeal.defs (F := Ideal)) (onTc (τ := Cert.AdamInERefIdeal.τ) (Cert.AdamInERefIdeal.main (F := Ideal))) ⟨m', fun _ => 0, g'⟩ (fun r => ∀ c : Dev Cert.AdamInERefIdeal.nD,
          r.2.mem ((c.tc : Thread Cert.AdamInERefIdeal.nD Cert.AdamInERefIdeal.τ).loc Cert.AdamInERefIdeal.main_v1) = v0 c
          ∧ r.2.mem ((c.tc : Thread Cert.AdamInERefIdeal.nD Cert.AdamInERefIdeal.τ).loc Cert.AdamInERefIdeal.main_v25) = v1 c
          ∧ r.2.mem ((c.tc : Thread Cert.AdamInERefIdeal.nD Cert.AdamInERefIdeal.τ).loc Cert.AdamInERefIdeal.main_v6) = v2 c
          ∧ r.2.mem ((c.tc : Thread Cert.AdamInERefIdeal.nD Cert.AdamInERefIdeal.τ).loc Cert.AdamInERefIdeal.main_v12) = v3 c
          ∧ r.2.mem ((c.tc : Thread Cert.AdamInERefIdeal.nD Cert.AdamInERefIdeal.τ).loc Cert.AdamInERefIdeal.main_arg0) = m' ((c.tc : Thread Cert.AdamInERefIdeal.nD Cert.AdamInERefIdeal.τ).loc Cert.AdamInERefIdeal.main_arg0)
          ∧ r.2.mem ((c.tc : Thread Cert.AdamInERefIdeal.nD Cert.AdamInERefIdeal.τ).loc Cert.AdamInERefIdeal.main_arg1) = m' ((c.tc : Thread Cert.AdamInERefIdeal.nD Cert.AdamInERefIdeal.τ).loc Cert.AdamInERefIdeal.main_arg1)
          ∧ r.2.mem ((c.tc : Thread Cert.AdamInERefIdeal.nD Cert.AdamInERefIdeal.τ).loc Cert.AdamInERefIdeal.main_arg2) = m' ((c.tc : Thread Cert.AdamInERefIdeal.nD Cert.AdamInERefIdeal.τ).loc Cert.AdamInERefIdeal.main_arg2)
          ∧ r.2.mem ((c.tc : Thread Cert.AdamInERefIdeal.nD Cert.AdamInERefIdeal.τ).loc Cert.AdamInERefIdeal.main_arg3) = m' ((c.tc : Thread Cert.AdamInERefIdeal.nD Cert.AdamInERefIdeal.τ).loc Cert.AdamInERefIdeal.main_arg3))

def preserves_AdamOutE_AdamOutEIdeal : Prop :=
  IdealRules.named_const.Statement Cert.AdamOutEIdeal.κ "c1" .f32 0x3FC48605#32 ((8388608 / 5463681 : ℝ) : EReal)
  ∧ IdealRules.named_const.Statement Cert.AdamOutEIdeal.κ "c2" .f32 0x42C8E6D3#32 ((268435456 / 2672307 : ℝ) : EReal)

def algebraic_AdamOutEIdeal_AdamOutERefIdeal [hAdamOutEIdeal : Cert.AdamOutEIdeal.Facts] [hAdamOutERefIdeal : Cert.AdamOutERefIdeal.Facts] : Prop :=
  ∀ (m : (ℓ : Loc Cert.AdamOutEIdeal.nD Cert.AdamOutEIdeal.τ Cert.AdamOutEIdeal.sig) → Buf (Elt Ideal) ℓ) (g : Dev Cert.AdamOutEIdeal.nD → PrngReg)
    (m' : (ℓ : Loc Cert.AdamOutERefIdeal.nD Cert.AdamOutERefIdeal.τ Cert.AdamOutERefIdeal.sig) → Buf (Elt Ideal) ℓ) (g' : Dev Cert.AdamOutERefIdeal.nD → PrngReg), Pre_AdamOutEIdeal m →
    (∀ c : Dev Cert.AdamOutEIdeal.nD,
      m' ((c.tc : Thread Cert.AdamOutERefIdeal.nD Cert.AdamOutERefIdeal.τ).loc Cert.AdamOutERefIdeal.main_arg0) = m ((c.tc : Thread Cert.AdamOutEIdeal.nD Cert.AdamOutEIdeal.τ).loc Cert.AdamOutEIdeal.main_arg0)
      ∧ m' ((c.tc : Thread Cert.AdamOutERefIdeal.nD Cert.AdamOutERefIdeal.τ).loc Cert.AdamOutERefIdeal.main_arg1) = m ((c.tc : Thread Cert.AdamOutEIdeal.nD Cert.AdamOutEIdeal.τ).loc Cert.AdamOutEIdeal.main_arg1)
      ∧ m' ((c.tc : Thread Cert.AdamOutERefIdeal.nD Cert.AdamOutERefIdeal.τ).loc Cert.AdamOutERefIdeal.main_arg2) = m ((c.tc : Thread Cert.AdamOutEIdeal.nD Cert.AdamOutEIdeal.τ).loc Cert.AdamOutEIdeal.main_arg2)
      ∧ m' ((c.tc : Thread Cert.AdamOutERefIdeal.nD Cert.AdamOutERefIdeal.τ).loc Cert.AdamOutERefIdeal.main_arg3) = m ((c.tc : Thread Cert.AdamOutEIdeal.nD Cert.AdamOutEIdeal.τ).loc Cert.AdamOutEIdeal.main_arg3)) →
    ∃ (v0 : (c : Dev Cert.AdamOutEIdeal.nD) → Buf (Elt Ideal) ((c.tc : Thread Cert.AdamOutEIdeal.nD Cert.AdamOutEIdeal.τ).loc Cert.AdamOutEIdeal.main_v0_0)) (v1 : (c : Dev Cert.AdamOutEIdeal.nD) → Buf (Elt Ideal) ((c.tc : Thread Cert.AdamOutEIdeal.nD Cert.AdamOutEIdeal.τ).loc Cert.AdamOutEIdeal.main_v0_1)) (v2 : (c : Dev Cert.AdamOutEIdeal.nD) → Buf (Elt Ideal) ((c.tc : Thread Cert.AdamOutEIdeal.nD Cert.AdamOutEIdeal.τ).loc Cert.AdamOutEIdeal.main_v0_2)) (v3 : (c : Dev Cert.AdamOutEIdeal.nD) → Buf (Elt Ideal) ((c.tc : Thread Cert.AdamOutEIdeal.nD Cert.AdamOutEIdeal.τ).loc Cert.AdamOutEIdeal.main_v0_3)),
      θ_run (Cert.AdamOutEIdeal.defs (F := Ideal)) (onTc (τ := Cert.AdamOutEIdeal.τ) (Cert.AdamOutEIdeal.main (F := Ideal))) ⟨m, fun _ => 0, g⟩ (fun r => ∀ c : Dev Cert.AdamOutEIdeal.nD,
          r.2.mem ((c.tc : Thread Cert.AdamOutEIdeal.nD Cert.AdamOutEIdeal.τ).loc Cert.AdamOutEIdeal.main_v0_0) = v0 c
          ∧ r.2.mem ((c.tc : Thread Cert.AdamOutEIdeal.nD Cert.AdamOutEIdeal.τ).loc Cert.AdamOutEIdeal.main_v0_1) = v1 c
          ∧ r.2.mem ((c.tc : Thread Cert.AdamOutEIdeal.nD Cert.AdamOutEIdeal.τ).loc Cert.AdamOutEIdeal.main_v0_2) = v2 c
          ∧ r.2.mem ((c.tc : Thread Cert.AdamOutEIdeal.nD Cert.AdamOutEIdeal.τ).loc Cert.AdamOutEIdeal.main_v0_3) = v3 c
          ∧ r.2.mem ((c.tc : Thread Cert.AdamOutEIdeal.nD Cert.AdamOutEIdeal.τ).loc Cert.AdamOutEIdeal.main_arg0) = m ((c.tc : Thread Cert.AdamOutEIdeal.nD Cert.AdamOutEIdeal.τ).loc Cert.AdamOutEIdeal.main_arg0)
          ∧ r.2.mem ((c.tc : Thread Cert.AdamOutEIdeal.nD Cert.AdamOutEIdeal.τ).loc Cert.AdamOutEIdeal.main_arg1) = m ((c.tc : Thread Cert.AdamOutEIdeal.nD Cert.AdamOutEIdeal.τ).loc Cert.AdamOutEIdeal.main_arg1)
          ∧ r.2.mem ((c.tc : Thread Cert.AdamOutEIdeal.nD Cert.AdamOutEIdeal.τ).loc Cert.AdamOutEIdeal.main_arg2) = m ((c.tc : Thread Cert.AdamOutEIdeal.nD Cert.AdamOutEIdeal.τ).loc Cert.AdamOutEIdeal.main_arg2)
          ∧ r.2.mem ((c.tc : Thread Cert.AdamOutEIdeal.nD Cert.AdamOutEIdeal.τ).loc Cert.AdamOutEIdeal.main_arg3) = m ((c.tc : Thread Cert.AdamOutEIdeal.nD Cert.AdamOutEIdeal.τ).loc Cert.AdamOutEIdeal.main_arg3))
      ∧ θ_run (Cert.AdamOutERefIdeal.defs (F := Ideal)) (onTc (τ := Cert.AdamOutERefIdeal.τ) (Cert.AdamOutERefIdeal.main (F := Ideal))) ⟨m', fun _ => 0, g'⟩ (fun r => ∀ c : Dev Cert.AdamOutERefIdeal.nD,
          r.2.mem ((c.tc : Thread Cert.AdamOutERefIdeal.nD Cert.AdamOutERefIdeal.τ).loc Cert.AdamOutERefIdeal.main_v1) = v0 c
          ∧ r.2.mem ((c.tc : Thread Cert.AdamOutERefIdeal.nD Cert.AdamOutERefIdeal.τ).loc Cert.AdamOutERefIdeal.main_v25) = v1 c
          ∧ r.2.mem ((c.tc : Thread Cert.AdamOutERefIdeal.nD Cert.AdamOutERefIdeal.τ).loc Cert.AdamOutERefIdeal.main_v6) = v2 c
          ∧ r.2.mem ((c.tc : Thread Cert.AdamOutERefIdeal.nD Cert.AdamOutERefIdeal.τ).loc Cert.AdamOutERefIdeal.main_v12) = v3 c
          ∧ r.2.mem ((c.tc : Thread Cert.AdamOutERefIdeal.nD Cert.AdamOutERefIdeal.τ).loc Cert.AdamOutERefIdeal.main_arg0) = m' ((c.tc : Thread Cert.AdamOutERefIdeal.nD Cert.AdamOutERefIdeal.τ).loc Cert.AdamOutERefIdeal.main_arg0)
          ∧ r.2.mem ((c.tc : Thread Cert.AdamOutERefIdeal.nD Cert.AdamOutERefIdeal.τ).loc Cert.AdamOutERefIdeal.main_arg1) = m' ((c.tc : Thread Cert.AdamOutERefIdeal.nD Cert.AdamOutERefIdeal.τ).loc Cert.AdamOutERefIdeal.main_arg1)
          ∧ r.2.mem ((c.tc : Thread Cert.AdamOutERefIdeal.nD Cert.AdamOutERefIdeal.τ).loc Cert.AdamOutERefIdeal.main_arg2) = m' ((c.tc : Thread Cert.AdamOutERefIdeal.nD Cert.AdamOutERefIdeal.τ).loc Cert.AdamOutERefIdeal.main_arg2)
          ∧ r.2.mem ((c.tc : Thread Cert.AdamOutERefIdeal.nD Cert.AdamOutERefIdeal.τ).loc Cert.AdamOutERefIdeal.main_arg3) = m' ((c.tc : Thread Cert.AdamOutERefIdeal.nD Cert.AdamOutERefIdeal.τ).loc Cert.AdamOutERefIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_PreBwdE_PreBwdEIdeal : Prop :=
  True

def algebraic_PreBwdEIdeal_PreBwdERefIdeal [hPreBwdEIdeal : Cert.PreBwdEIdeal.Facts] [hPreBwdERefIdeal : Cert.PreBwdERefIdeal.Facts] : Prop :=
  ∀ (m : (ℓ : Loc Cert.PreBwdEIdeal.nD Cert.PreBwdEIdeal.τ Cert.PreBwdEIdeal.sig) → Buf (Elt Ideal) ℓ) (g : Dev Cert.PreBwdEIdeal.nD → PrngReg)
    (m' : (ℓ : Loc Cert.PreBwdERefIdeal.nD Cert.PreBwdERefIdeal.τ Cert.PreBwdERefIdeal.sig) → Buf (Elt Ideal) ℓ) (g' : Dev Cert.PreBwdERefIdeal.nD → PrngReg), Pre_PreBwdEIdeal m →
    (∀ c : Dev Cert.PreBwdEIdeal.nD,
      m' ((c.tc : Thread Cert.PreBwdERefIdeal.nD Cert.PreBwdERefIdeal.τ).loc Cert.PreBwdERefIdeal.main_arg0) = m ((c.tc : Thread Cert.PreBwdEIdeal.nD Cert.PreBwdEIdeal.τ).loc Cert.PreBwdEIdeal.main_arg0)
      ∧ m' ((c.tc : Thread Cert.PreBwdERefIdeal.nD Cert.PreBwdERefIdeal.τ).loc Cert.PreBwdERefIdeal.main_arg1) = m ((c.tc : Thread Cert.PreBwdEIdeal.nD Cert.PreBwdEIdeal.τ).loc Cert.PreBwdEIdeal.main_arg1)
      ∧ m' ((c.tc : Thread Cert.PreBwdERefIdeal.nD Cert.PreBwdERefIdeal.τ).loc Cert.PreBwdERefIdeal.main_arg2) = m ((c.tc : Thread Cert.PreBwdEIdeal.nD Cert.PreBwdEIdeal.τ).loc Cert.PreBwdEIdeal.main_arg2)
      ∧ m' ((c.tc : Thread Cert.PreBwdERefIdeal.nD Cert.PreBwdERefIdeal.τ).loc Cert.PreBwdERefIdeal.main_arg3) = m ((c.tc : Thread Cert.PreBwdEIdeal.nD Cert.PreBwdEIdeal.τ).loc Cert.PreBwdEIdeal.main_arg3)
      ∧ m' ((c.tc : Thread Cert.PreBwdERefIdeal.nD Cert.PreBwdERefIdeal.τ).loc Cert.PreBwdERefIdeal.main_arg4) = m ((c.tc : Thread Cert.PreBwdEIdeal.nD Cert.PreBwdEIdeal.τ).loc Cert.PreBwdEIdeal.main_arg4)) →
    ∃ (v0 : (c : Dev Cert.PreBwdEIdeal.nD) → Buf (Elt Ideal) ((c.tc : Thread Cert.PreBwdEIdeal.nD Cert.PreBwdEIdeal.τ).loc Cert.PreBwdEIdeal.main_v0_0)) (v1 : (c : Dev Cert.PreBwdEIdeal.nD) → Buf (Elt Ideal) ((c.tc : Thread Cert.PreBwdEIdeal.nD Cert.PreBwdEIdeal.τ).loc Cert.PreBwdEIdeal.main_v0_1)),
      θ_run (Cert.PreBwdEIdeal.defs (F := Ideal)) (onTc (τ := Cert.PreBwdEIdeal.τ) (Cert.PreBwdEIdeal.main (F := Ideal))) ⟨m, fun _ => 0, g⟩ (fun r => ∀ c : Dev Cert.PreBwdEIdeal.nD,
          r.2.mem ((c.tc : Thread Cert.PreBwdEIdeal.nD Cert.PreBwdEIdeal.τ).loc Cert.PreBwdEIdeal.main_v0_0) = v0 c
          ∧ r.2.mem ((c.tc : Thread Cert.PreBwdEIdeal.nD Cert.PreBwdEIdeal.τ).loc Cert.PreBwdEIdeal.main_v0_1) = v1 c
          ∧ r.2.mem ((c.tc : Thread Cert.PreBwdEIdeal.nD Cert.PreBwdEIdeal.τ).loc Cert.PreBwdEIdeal.main_arg0) = m ((c.tc : Thread Cert.PreBwdEIdeal.nD Cert.PreBwdEIdeal.τ).loc Cert.PreBwdEIdeal.main_arg0)
          ∧ r.2.mem ((c.tc : Thread Cert.PreBwdEIdeal.nD Cert.PreBwdEIdeal.τ).loc Cert.PreBwdEIdeal.main_arg1) = m ((c.tc : Thread Cert.PreBwdEIdeal.nD Cert.PreBwdEIdeal.τ).loc Cert.PreBwdEIdeal.main_arg1)
          ∧ r.2.mem ((c.tc : Thread Cert.PreBwdEIdeal.nD Cert.PreBwdEIdeal.τ).loc Cert.PreBwdEIdeal.main_arg2) = m ((c.tc : Thread Cert.PreBwdEIdeal.nD Cert.PreBwdEIdeal.τ).loc Cert.PreBwdEIdeal.main_arg2)
          ∧ r.2.mem ((c.tc : Thread Cert.PreBwdEIdeal.nD Cert.PreBwdEIdeal.τ).loc Cert.PreBwdEIdeal.main_arg3) = m ((c.tc : Thread Cert.PreBwdEIdeal.nD Cert.PreBwdEIdeal.τ).loc Cert.PreBwdEIdeal.main_arg3)
          ∧ r.2.mem ((c.tc : Thread Cert.PreBwdEIdeal.nD Cert.PreBwdEIdeal.τ).loc Cert.PreBwdEIdeal.main_arg4) = m ((c.tc : Thread Cert.PreBwdEIdeal.nD Cert.PreBwdEIdeal.τ).loc Cert.PreBwdEIdeal.main_arg4))
      ∧ θ_run (Cert.PreBwdERefIdeal.defs (F := Ideal)) (onTc (τ := Cert.PreBwdERefIdeal.τ) (Cert.PreBwdERefIdeal.main (F := Ideal))) ⟨m', fun _ => 0, g'⟩ (fun r => ∀ c : Dev Cert.PreBwdERefIdeal.nD,
          r.2.mem ((c.tc : Thread Cert.PreBwdERefIdeal.nD Cert.PreBwdERefIdeal.τ).loc Cert.PreBwdERefIdeal.main_v38) = v0 c
          ∧ r.2.mem ((c.tc : Thread Cert.PreBwdERefIdeal.nD Cert.PreBwdERefIdeal.τ).loc Cert.PreBwdERefIdeal.main_v39) = v1 c
          ∧ r.2.mem ((c.tc : Thread Cert.PreBwdERefIdeal.nD Cert.PreBwdERefIdeal.τ).loc Cert.PreBwdERefIdeal.main_arg0) = m' ((c.tc : Thread Cert.PreBwdERefIdeal.nD Cert.PreBwdERefIdeal.τ).loc Cert.PreBwdERefIdeal.main_arg0)
          ∧ r.2.mem ((c.tc : Thread Cert.PreBwdERefIdeal.nD Cert.PreBwdERefIdeal.τ).loc Cert.PreBwdERefIdeal.main_arg1) = m' ((c.tc : Thread Cert.PreBwdERefIdeal.nD Cert.PreBwdERefIdeal.τ).loc Cert.PreBwdERefIdeal.main_arg1)
          ∧ r.2.mem ((c.tc : Thread Cert.PreBwdERefIdeal.nD Cert.PreBwdERefIdeal.τ).loc Cert.PreBwdERefIdeal.main_arg2) = m' ((c.tc : Thread Cert.PreBwdERefIdeal.nD Cert.PreBwdERefIdeal.τ).loc Cert.PreBwdERefIdeal.main_arg2)
          ∧ r.2.mem ((c.tc : Thread Cert.PreBwdERefIdeal.nD Cert.PreBwdERefIdeal.τ).loc Cert.PreBwdERefIdeal.main_arg3) = m' ((c.tc : Thread Cert.PreBwdERefIdeal.nD Cert.PreBwdERefIdeal.τ).loc Cert.PreBwdERefIdeal.main_arg3)
          ∧ r.2.mem ((c.tc : Thread Cert.PreBwdERefIdeal.nD Cert.PreBwdERefIdeal.τ).loc Cert.PreBwdERefIdeal.main_arg4) = m' ((c.tc : Thread Cert.PreBwdERefIdeal.nD Cert.PreBwdERefIdeal.τ).loc Cert.PreBwdERefIdeal.main_arg4))

def preserves_PreNormE_PreNormEIdeal : Prop :=
  True

def algebraic_PreNormEIdeal_PreNormERefIdeal [hPreNormEIdeal : Cert.PreNormEIdeal.Facts] [hPreNormERefIdeal : Cert.PreNormERefIdeal.Facts] : Prop :=
  ∀ (m : (ℓ : Loc Cert.PreNormEIdeal.nD Cert.PreNormEIdeal.τ Cert.PreNormEIdeal.sig) → Buf (Elt Ideal) ℓ) (g : Dev Cert.PreNormEIdeal.nD → PrngReg)
    (m' : (ℓ : Loc Cert.PreNormERefIdeal.nD Cert.PreNormERefIdeal.τ Cert.PreNormERefIdeal.sig) → Buf (Elt Ideal) ℓ) (g' : Dev Cert.PreNormERefIdeal.nD → PrngReg), Pre_PreNormEIdeal m →
    (∀ c : Dev Cert.PreNormEIdeal.nD,
      m' ((c.tc : Thread Cert.PreNormERefIdeal.nD Cert.PreNormERefIdeal.τ).loc Cert.PreNormERefIdeal.main_arg0) = m ((c.tc : Thread Cert.PreNormEIdeal.nD Cert.PreNormEIdeal.τ).loc Cert.PreNormEIdeal.main_arg0)
      ∧ m' ((c.tc : Thread Cert.PreNormERefIdeal.nD Cert.PreNormERefIdeal.τ).loc Cert.PreNormERefIdeal.main_arg1) = m ((c.tc : Thread Cert.PreNormEIdeal.nD Cert.PreNormEIdeal.τ).loc Cert.PreNormEIdeal.main_arg1)) →
    ∃ (v0 : (c : Dev Cert.PreNormEIdeal.nD) → Buf (Elt Ideal) ((c.tc : Thread Cert.PreNormEIdeal.nD Cert.PreNormEIdeal.τ).loc Cert.PreNormEIdeal.main_v0)),
      θ_run (Cert.PreNormEIdeal.defs (F := Ideal)) (onTc (τ := Cert.PreNormEIdeal.τ) (Cert.PreNormEIdeal.main (F := Ideal))) ⟨m, fun _ => 0, g⟩ (fun r => ∀ c : Dev Cert.PreNormEIdeal.nD,
          r.2.mem ((c.tc : Thread Cert.PreNormEIdeal.nD Cert.PreNormEIdeal.τ).loc Cert.PreNormEIdeal.main_v0) = v0 c
          ∧ r.2.mem ((c.tc : Thread Cert.PreNormEIdeal.nD Cert.PreNormEIdeal.τ).loc Cert.PreNormEIdeal.main_arg0) = m ((c.tc : Thread Cert.PreNormEIdeal.nD Cert.PreNormEIdeal.τ).loc Cert.PreNormEIdeal.main_arg0)
          ∧ r.2.mem ((c.tc : Thread Cert.PreNormEIdeal.nD Cert.PreNormEIdeal.τ).loc Cert.PreNormEIdeal.main_arg1) = m ((c.tc : Thread Cert.PreNormEIdeal.nD Cert.PreNormEIdeal.τ).loc Cert.PreNormEIdeal.main_arg1))
      ∧ θ_run (Cert.PreNormERefIdeal.defs (F := Ideal)) (onTc (τ := Cert.PreNormERefIdeal.τ) (Cert.PreNormERefIdeal.main (F := Ideal))) ⟨m', fun _ => 0, g'⟩ (fun r => ∀ c : Dev Cert.PreNormERefIdeal.nD,
          r.2.mem ((c.tc : Thread Cert.PreNormERefIdeal.nD Cert.PreNormERefIdeal.τ).loc Cert.PreNormERefIdeal.main_v14) = v0 c
          ∧ r.2.mem ((c.tc : Thread Cert.PreNormERefIdeal.nD Cert.PreNormERefIdeal.τ).loc Cert.PreNormERefIdeal.main_arg0) = m' ((c.tc : Thread Cert.PreNormERefIdeal.nD Cert.PreNormERefIdeal.τ).loc Cert.PreNormERefIdeal.main_arg0)
          ∧ r.2.mem ((c.tc : Thread Cert.PreNormERefIdeal.nD Cert.PreNormERefIdeal.τ).loc Cert.PreNormERefIdeal.main_arg1) = m' ((c.tc : Thread Cert.PreNormERefIdeal.nD Cert.PreNormERefIdeal.τ).loc Cert.PreNormERefIdeal.main_arg1))

def preserves_PostNormE_PostNormEIdeal : Prop :=
  True

def algebraic_PostNormEIdeal_PostNormERefIdeal [hPostNormEIdeal : Cert.PostNormEIdeal.Facts] [hPostNormERefIdeal : Cert.PostNormERefIdeal.Facts] : Prop :=
  ∀ (m : (ℓ : Loc Cert.PostNormEIdeal.nD Cert.PostNormEIdeal.τ Cert.PostNormEIdeal.sig) → Buf (Elt Ideal) ℓ) (g : Dev Cert.PostNormEIdeal.nD → PrngReg)
    (m' : (ℓ : Loc Cert.PostNormERefIdeal.nD Cert.PostNormERefIdeal.τ Cert.PostNormERefIdeal.sig) → Buf (Elt Ideal) ℓ) (g' : Dev Cert.PostNormERefIdeal.nD → PrngReg), Pre_PostNormEIdeal m →
    (∀ c : Dev Cert.PostNormEIdeal.nD,
      m' ((c.tc : Thread Cert.PostNormERefIdeal.nD Cert.PostNormERefIdeal.τ).loc Cert.PostNormERefIdeal.main_arg0) = m ((c.tc : Thread Cert.PostNormEIdeal.nD Cert.PostNormEIdeal.τ).loc Cert.PostNormEIdeal.main_arg0)
      ∧ m' ((c.tc : Thread Cert.PostNormERefIdeal.nD Cert.PostNormERefIdeal.τ).loc Cert.PostNormERefIdeal.main_arg1) = m ((c.tc : Thread Cert.PostNormEIdeal.nD Cert.PostNormEIdeal.τ).loc Cert.PostNormEIdeal.main_arg1)
      ∧ m' ((c.tc : Thread Cert.PostNormERefIdeal.nD Cert.PostNormERefIdeal.τ).loc Cert.PostNormERefIdeal.main_arg2) = m ((c.tc : Thread Cert.PostNormEIdeal.nD Cert.PostNormEIdeal.τ).loc Cert.PostNormEIdeal.main_arg2)) →
    ∃ (v0 : (c : Dev Cert.PostNormEIdeal.nD) → Buf (Elt Ideal) ((c.tc : Thread Cert.PostNormEIdeal.nD Cert.PostNormEIdeal.τ).loc Cert.PostNormEIdeal.main_v0)),
      θ_run (Cert.PostNormEIdeal.defs (F := Ideal)) (onTc (τ := Cert.PostNormEIdeal.τ) (Cert.PostNormEIdeal.main (F := Ideal))) ⟨m, fun _ => 0, g⟩ (fun r => ∀ c : Dev Cert.PostNormEIdeal.nD,
          r.2.mem ((c.tc : Thread Cert.PostNormEIdeal.nD Cert.PostNormEIdeal.τ).loc Cert.PostNormEIdeal.main_v0) = v0 c
          ∧ r.2.mem ((c.tc : Thread Cert.PostNormEIdeal.nD Cert.PostNormEIdeal.τ).loc Cert.PostNormEIdeal.main_arg0) = m ((c.tc : Thread Cert.PostNormEIdeal.nD Cert.PostNormEIdeal.τ).loc Cert.PostNormEIdeal.main_arg0)
          ∧ r.2.mem ((c.tc : Thread Cert.PostNormEIdeal.nD Cert.PostNormEIdeal.τ).loc Cert.PostNormEIdeal.main_arg1) = m ((c.tc : Thread Cert.PostNormEIdeal.nD Cert.PostNormEIdeal.τ).loc Cert.PostNormEIdeal.main_arg1)
          ∧ r.2.mem ((c.tc : Thread Cert.PostNormEIdeal.nD Cert.PostNormEIdeal.τ).loc Cert.PostNormEIdeal.main_arg2) = m ((c.tc : Thread Cert.PostNormEIdeal.nD Cert.PostNormEIdeal.τ).loc Cert.PostNormEIdeal.main_arg2))
      ∧ θ_run (Cert.PostNormERefIdeal.defs (F := Ideal)) (onTc (τ := Cert.PostNormERefIdeal.τ) (Cert.PostNormERefIdeal.main (F := Ideal))) ⟨m', fun _ => 0, g'⟩ (fun r => ∀ c : Dev Cert.PostNormERefIdeal.nD,
          r.2.mem ((c.tc : Thread Cert.PostNormERefIdeal.nD Cert.PostNormERefIdeal.τ).loc Cert.PostNormERefIdeal.main_v14) = v0 c
          ∧ r.2.mem ((c.tc : Thread Cert.PostNormERefIdeal.nD Cert.PostNormERefIdeal.τ).loc Cert.PostNormERefIdeal.main_arg0) = m' ((c.tc : Thread Cert.PostNormERefIdeal.nD Cert.PostNormERefIdeal.τ).loc Cert.PostNormERefIdeal.main_arg0)
          ∧ r.2.mem ((c.tc : Thread Cert.PostNormERefIdeal.nD Cert.PostNormERefIdeal.τ).loc Cert.PostNormERefIdeal.main_arg1) = m' ((c.tc : Thread Cert.PostNormERefIdeal.nD Cert.PostNormERefIdeal.τ).loc Cert.PostNormERefIdeal.main_arg1)
          ∧ r.2.mem ((c.tc : Thread Cert.PostNormERefIdeal.nD Cert.PostNormERefIdeal.τ).loc Cert.PostNormERefIdeal.main_arg2) = m' ((c.tc : Thread Cert.PostNormERefIdeal.nD Cert.PostNormERefIdeal.τ).loc Cert.PostNormERefIdeal.main_arg2))

def preserves_PostBwdE_PostBwdEIdeal : Prop :=
  True

def algebraic_PostBwdEIdeal_PostBwdERefIdeal [hPostBwdEIdeal : Cert.PostBwdEIdeal.Facts] [hPostBwdERefIdeal : Cert.PostBwdERefIdeal.Facts] : Prop :=
  ∀ (m : (ℓ : Loc Cert.PostBwdEIdeal.nD Cert.PostBwdEIdeal.τ Cert.PostBwdEIdeal.sig) → Buf (Elt Ideal) ℓ) (g : Dev Cert.PostBwdEIdeal.nD → PrngReg)
    (m' : (ℓ : Loc Cert.PostBwdERefIdeal.nD Cert.PostBwdERefIdeal.τ Cert.PostBwdERefIdeal.sig) → Buf (Elt Ideal) ℓ) (g' : Dev Cert.PostBwdERefIdeal.nD → PrngReg), Pre_PostBwdEIdeal m →
    (∀ c : Dev Cert.PostBwdEIdeal.nD,
      m' ((c.tc : Thread Cert.PostBwdERefIdeal.nD Cert.PostBwdERefIdeal.τ).loc Cert.PostBwdERefIdeal.main_arg0) = m ((c.tc : Thread Cert.PostBwdEIdeal.nD Cert.PostBwdEIdeal.τ).loc Cert.PostBwdEIdeal.main_arg0)
      ∧ m' ((c.tc : Thread Cert.PostBwdERefIdeal.nD Cert.PostBwdERefIdeal.τ).loc Cert.PostBwdERefIdeal.main_arg1) = m ((c.tc : Thread Cert.PostBwdEIdeal.nD Cert.PostBwdEIdeal.τ).loc Cert.PostBwdEIdeal.main_arg1)
      ∧ m' ((c.tc : Thread Cert.PostBwdERefIdeal.nD Cert.PostBwdERefIdeal.τ).loc Cert.PostBwdERefIdeal.main_arg2) = m ((c.tc : Thread Cert.PostBwdEIdeal.nD Cert.PostBwdEIdeal.τ).loc Cert.PostBwdEIdeal.main_arg2)) →
    ∃ (v0 : (c : Dev Cert.PostBwdEIdeal.nD) → Buf (Elt Ideal) ((c.tc : Thread Cert.PostBwdEIdeal.nD Cert.PostBwdEIdeal.τ).loc Cert.PostBwdEIdeal.main_v0_0)) (v1 : (c : Dev Cert.PostBwdEIdeal.nD) → Buf (Elt Ideal) ((c.tc : Thread Cert.PostBwdEIdeal.nD Cert.PostBwdEIdeal.τ).loc Cert.PostBwdEIdeal.main_v0_1)),
      θ_run (Cert.PostBwdEIdeal.defs (F := Ideal)) (onTc (τ := Cert.PostBwdEIdeal.τ) (Cert.PostBwdEIdeal.main (F := Ideal))) ⟨m, fun _ => 0, g⟩ (fun r => ∀ c : Dev Cert.PostBwdEIdeal.nD,
          r.2.mem ((c.tc : Thread Cert.PostBwdEIdeal.nD Cert.PostBwdEIdeal.τ).loc Cert.PostBwdEIdeal.main_v0_0) = v0 c
          ∧ r.2.mem ((c.tc : Thread Cert.PostBwdEIdeal.nD Cert.PostBwdEIdeal.τ).loc Cert.PostBwdEIdeal.main_v0_1) = v1 c
          ∧ r.2.mem ((c.tc : Thread Cert.PostBwdEIdeal.nD Cert.PostBwdEIdeal.τ).loc Cert.PostBwdEIdeal.main_arg0) = m ((c.tc : Thread Cert.PostBwdEIdeal.nD Cert.PostBwdEIdeal.τ).loc Cert.PostBwdEIdeal.main_arg0)
          ∧ r.2.mem ((c.tc : Thread Cert.PostBwdEIdeal.nD Cert.PostBwdEIdeal.τ).loc Cert.PostBwdEIdeal.main_arg1) = m ((c.tc : Thread Cert.PostBwdEIdeal.nD Cert.PostBwdEIdeal.τ).loc Cert.PostBwdEIdeal.main_arg1)
          ∧ r.2.mem ((c.tc : Thread Cert.PostBwdEIdeal.nD Cert.PostBwdEIdeal.τ).loc Cert.PostBwdEIdeal.main_arg2) = m ((c.tc : Thread Cert.PostBwdEIdeal.nD Cert.PostBwdEIdeal.τ).loc Cert.PostBwdEIdeal.main_arg2))
      ∧ θ_run (Cert.PostBwdERefIdeal.defs (F := Ideal)) (onTc (τ := Cert.PostBwdERefIdeal.τ) (Cert.PostBwdERefIdeal.main (F := Ideal))) ⟨m', fun _ => 0, g'⟩ (fun r => ∀ c : Dev Cert.PostBwdERefIdeal.nD,
          r.2.mem ((c.tc : Thread Cert.PostBwdERefIdeal.nD Cert.PostBwdERefIdeal.τ).loc Cert.PostBwdERefIdeal.main_v37) = v0 c
          ∧ r.2.mem ((c.tc : Thread Cert.PostBwdERefIdeal.nD Cert.PostBwdERefIdeal.τ).loc Cert.PostBwdERefIdeal.main_v38) = v1 c
          ∧ r.2.mem ((c.tc : Thread Cert.PostBwdERefIdeal.nD Cert.PostBwdERefIdeal.τ).loc Cert.PostBwdERefIdeal.main_arg0) = m' ((c.tc : Thread Cert.PostBwdERefIdeal.nD Cert.PostBwdERefIdeal.τ).loc Cert.PostBwdERefIdeal.main_arg0)
          ∧ r.2.mem ((c.tc : Thread Cert.PostBwdERefIdeal.nD Cert.PostBwdERefIdeal.τ).loc Cert.PostBwdERefIdeal.main_arg1) = m' ((c.tc : Thread Cert.PostBwdERefIdeal.nD Cert.PostBwdERefIdeal.τ).loc Cert.PostBwdERefIdeal.main_arg1)
          ∧ r.2.mem ((c.tc : Thread Cert.PostBwdERefIdeal.nD Cert.PostBwdERefIdeal.τ).loc Cert.PostBwdERefIdeal.main_arg2) = m' ((c.tc : Thread Cert.PostBwdERefIdeal.nD Cert.PostBwdERefIdeal.τ).loc Cert.PostBwdERefIdeal.main_arg2))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v0)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v0) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v2) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1))

def preserves_GradForget_GradForgetIdeal : Prop :=
  True

def algebraic_GradForgetIdeal_GradForgetRefIdeal [hGradForgetIdeal : Cert.GradForgetIdeal.Facts] [hGradForgetRefIdeal : Cert.GradForgetRefIdeal.Facts] : Prop :=
  ∀ (m : (ℓ : Loc Cert.GradForgetIdeal.nD Cert.GradForgetIdeal.τ Cert.GradForgetIdeal.sig) → Buf (Elt Ideal) ℓ) (g : Dev Cert.GradForgetIdeal.nD → PrngReg)
    (m' : (ℓ : Loc Cert.GradForgetRefIdeal.nD Cert.GradForgetRefIdeal.τ Cert.GradForgetRefIdeal.sig) → Buf (Elt Ideal) ℓ) (g' : Dev Cert.GradForgetRefIdeal.nD → PrngReg), Pre_GradForgetIdeal m →
    (∀ c : Dev Cert.GradForgetIdeal.nD,
      m' ((c.tc : Thread Cert.GradForgetRefIdeal.nD Cert.GradForgetRefIdeal.τ).loc Cert.GradForgetRefIdeal.main_arg0) = m ((c.tc : Thread Cert.GradForgetIdeal.nD Cert.GradForgetIdeal.τ).loc Cert.GradForgetIdeal.main_arg0)
      ∧ m' ((c.tc : Thread Cert.GradForgetRefIdeal.nD Cert.GradForgetRefIdeal.τ).loc Cert.GradForgetRefIdeal.main_arg1) = m ((c.tc : Thread Cert.GradForgetIdeal.nD Cert.GradForgetIdeal.τ).loc Cert.GradForgetIdeal.main_arg1)) →
    ∃ (v0 : (c : Dev Cert.GradForgetIdeal.nD) → Buf (Elt Ideal) ((c.tc : Thread Cert.GradForgetIdeal.nD Cert.GradForgetIdeal.τ).loc Cert.GradForgetIdeal.main_v0)),
      θ_run (Cert.GradForgetIdeal.defs (F := Ideal)) (onTc (τ := Cert.GradForgetIdeal.τ) (Cert.GradForgetIdeal.main (F := Ideal))) ⟨m, fun _ => 0, g⟩ (fun r => ∀ c : Dev Cert.GradForgetIdeal.nD,
          r.2.mem ((c.tc : Thread Cert.GradForgetIdeal.nD Cert.GradForgetIdeal.τ).loc Cert.GradForgetIdeal.main_v0) = v0 c
          ∧ r.2.mem ((c.tc : Thread Cert.GradForgetIdeal.nD Cert.GradForgetIdeal.τ).loc Cert.GradForgetIdeal.main_arg0) = m ((c.tc : Thread Cert.GradForgetIdeal.nD Cert.GradForgetIdeal.τ).loc Cert.GradForgetIdeal.main_arg0)
          ∧ r.2.mem ((c.tc : Thread Cert.GradForgetIdeal.nD Cert.GradForgetIdeal.τ).loc Cert.GradForgetIdeal.main_arg1) = m ((c.tc : Thread Cert.GradForgetIdeal.nD Cert.GradForgetIdeal.τ).loc Cert.GradForgetIdeal.main_arg1))
      ∧ θ_run (Cert.GradForgetRefIdeal.defs (F := Ideal)) (onTc (τ := Cert.GradForgetRefIdeal.τ) (Cert.GradForgetRefIdeal.main (F := Ideal))) ⟨m', fun _ => 0, g'⟩ (fun r => ∀ c : Dev Cert.GradForgetRefIdeal.nD,
          r.2.mem ((c.tc : Thread Cert.GradForgetRefIdeal.nD Cert.GradForgetRefIdeal.τ).loc Cert.GradForgetRefIdeal.main_v7) = v0 c
          ∧ r.2.mem ((c.tc : Thread Cert.GradForgetRefIdeal.nD Cert.GradForgetRefIdeal.τ).loc Cert.GradForgetRefIdeal.main_arg0) = m' ((c.tc : Thread Cert.GradForgetRefIdeal.nD Cert.GradForgetRefIdeal.τ).loc Cert.GradForgetRefIdeal.main_arg0)
          ∧ r.2.mem ((c.tc : Thread Cert.GradForgetRefIdeal.nD Cert.GradForgetRefIdeal.τ).loc Cert.GradForgetRefIdeal.main_arg1) = m' ((c.tc : Thread Cert.GradForgetRefIdeal.nD Cert.GradForgetRefIdeal.τ).loc Cert.GradForgetRefIdeal.main_arg1))

def preserves_GradHForget_GradHForgetIdeal : Prop :=
  True

def algebraic_GradHForgetIdeal_GradHForgetRefIdeal [hGradHForgetIdeal : Cert.GradHForgetIdeal.Facts] [hGradHForgetRefIdeal : Cert.GradHForgetRefIdeal.Facts] : Prop :=
  ∀ (m : (ℓ : Loc Cert.GradHForgetIdeal.nD Cert.GradHForgetIdeal.τ Cert.GradHForgetIdeal.sig) → Buf (Elt Ideal) ℓ) (g : Dev Cert.GradHForgetIdeal.nD → PrngReg)
    (m' : (ℓ : Loc Cert.GradHForgetRefIdeal.nD Cert.GradHForgetRefIdeal.τ Cert.GradHForgetRefIdeal.sig) → Buf (Elt Ideal) ℓ) (g' : Dev Cert.GradHForgetRefIdeal.nD → PrngReg), Pre_GradHForgetIdeal m →
    (∀ c : Dev Cert.GradHForgetIdeal.nD,
      m' ((c.tc : Thread Cert.GradHForgetRefIdeal.nD Cert.GradHForgetRefIdeal.τ).loc Cert.GradHForgetRefIdeal.main_arg0) = m ((c.tc : Thread Cert.GradHForgetIdeal.nD Cert.GradHForgetIdeal.τ).loc Cert.GradHForgetIdeal.main_arg0)
      ∧ m' ((c.tc : Thread Cert.GradHForgetRefIdeal.nD Cert.GradHForgetRefIdeal.τ).loc Cert.GradHForgetRefIdeal.main_arg1) = m ((c.tc : Thread Cert.GradHForgetIdeal.nD Cert.GradHForgetIdeal.τ).loc Cert.GradHForgetIdeal.main_arg1)) →
    ∃ (v0 : (c : Dev Cert.GradHForgetIdeal.nD) → Buf (Elt Ideal) ((c.tc : Thread Cert.GradHForgetIdeal.nD Cert.GradHForgetIdeal.τ).loc Cert.GradHForgetIdeal.main_v0)),
      θ_run (Cert.GradHForgetIdeal.defs (F := Ideal)) (onTc (τ := Cert.GradHForgetIdeal.τ) (Cert.GradHForgetIdeal.main (F := Ideal))) ⟨m, fun _ => 0, g⟩ (fun r => ∀ c : Dev Cert.GradHForgetIdeal.nD,
          r.2.mem ((c.tc : Thread Cert.GradHForgetIdeal.nD Cert.GradHForgetIdeal.τ).loc Cert.GradHForgetIdeal.main_v0) = v0 c
          ∧ r.2.mem ((c.tc : Thread Cert.GradHForgetIdeal.nD Cert.GradHForgetIdeal.τ).loc Cert.GradHForgetIdeal.main_arg0) = m ((c.tc : Thread Cert.GradHForgetIdeal.nD Cert.GradHForgetIdeal.τ).loc Cert.GradHForgetIdeal.main_arg0)
          ∧ r.2.mem ((c.tc : Thread Cert.GradHForgetIdeal.nD Cert.GradHForgetIdeal.τ).loc Cert.GradHForgetIdeal.main_arg1) = m ((c.tc : Thread Cert.GradHForgetIdeal.nD Cert.GradHForgetIdeal.τ).loc Cert.GradHForgetIdeal.main_arg1))
      ∧ θ_run (Cert.GradHForgetRefIdeal.defs (F := Ideal)) (onTc (τ := Cert.GradHForgetRefIdeal.τ) (Cert.GradHForgetRefIdeal.main (F := Ideal))) ⟨m', fun _ => 0, g'⟩ (fun r => ∀ c : Dev Cert.GradHForgetRefIdeal.nD,
          r.2.mem ((c.tc : Thread Cert.GradHForgetRefIdeal.nD Cert.GradHForgetRefIdeal.τ).loc Cert.GradHForgetRefIdeal.main_v6) = v0 c
          ∧ r.2.mem ((c.tc : Thread Cert.GradHForgetRefIdeal.nD Cert.GradHForgetRefIdeal.τ).loc Cert.GradHForgetRefIdeal.main_arg0) = m' ((c.tc : Thread Cert.GradHForgetRefIdeal.nD Cert.GradHForgetRefIdeal.τ).loc Cert.GradHForgetRefIdeal.main_arg0)
          ∧ r.2.mem ((c.tc : Thread Cert.GradHForgetRefIdeal.nD Cert.GradHForgetRefIdeal.τ).loc Cert.GradHForgetRefIdeal.main_arg1) = m' ((c.tc : Thread Cert.GradHForgetRefIdeal.nD Cert.GradHForgetRefIdeal.τ).loc Cert.GradHForgetRefIdeal.main_arg1))

def preserves_GateSum_GateSumIdeal : Prop :=
  True

def algebraic_GateSumIdeal_GateSumRefIdeal [hGateSumIdeal : Cert.GateSumIdeal.Facts] [hGateSumRefIdeal : Cert.GateSumRefIdeal.Facts] : Prop :=
  ∀ (m : (ℓ : Loc Cert.GateSumIdeal.nD Cert.GateSumIdeal.τ Cert.GateSumIdeal.sig) → Buf (Elt Ideal) ℓ) (g : Dev Cert.GateSumIdeal.nD → PrngReg)
    (m' : (ℓ : Loc Cert.GateSumRefIdeal.nD Cert.GateSumRefIdeal.τ Cert.GateSumRefIdeal.sig) → Buf (Elt Ideal) ℓ) (g' : Dev Cert.GateSumRefIdeal.nD → PrngReg), Pre_GateSumIdeal m →
    (∀ c : Dev Cert.GateSumIdeal.nD,
      m' ((c.tc : Thread Cert.GateSumRefIdeal.nD Cert.GateSumRefIdeal.τ).loc Cert.GateSumRefIdeal.main_arg0) = m ((c.tc : Thread Cert.GateSumIdeal.nD Cert.GateSumIdeal.τ).loc Cert.GateSumIdeal.main_arg0)
      ∧ m' ((c.tc : Thread Cert.GateSumRefIdeal.nD Cert.GateSumRefIdeal.τ).loc Cert.GateSumRefIdeal.main_arg1) = m ((c.tc : Thread Cert.GateSumIdeal.nD Cert.GateSumIdeal.τ).loc Cert.GateSumIdeal.main_arg1)) →
    ∃ (v0 : (c : Dev Cert.GateSumIdeal.nD) → Buf (Elt Ideal) ((c.tc : Thread Cert.GateSumIdeal.nD Cert.GateSumIdeal.τ).loc Cert.GateSumIdeal.main_v0)),
      θ_run (Cert.GateSumIdeal.defs (F := Ideal)) (onTc (τ := Cert.GateSumIdeal.τ) (Cert.GateSumIdeal.main (F := Ideal))) ⟨m, fun _ => 0, g⟩ (fun r => ∀ c : Dev Cert.GateSumIdeal.nD,
          r.2.mem ((c.tc : Thread Cert.GateSumIdeal.nD Cert.GateSumIdeal.τ).loc Cert.GateSumIdeal.main_v0) = v0 c
          ∧ r.2.mem ((c.tc : Thread Cert.GateSumIdeal.nD Cert.GateSumIdeal.τ).loc Cert.GateSumIdeal.main_arg0) = m ((c.tc : Thread Cert.GateSumIdeal.nD Cert.GateSumIdeal.τ).loc Cert.GateSumIdeal.main_arg0)
          ∧ r.2.mem ((c.tc : Thread Cert.GateSumIdeal.nD Cert.GateSumIdeal.τ).loc Cert.GateSumIdeal.main_arg1) = m ((c.tc : Thread Cert.GateSumIdeal.nD Cert.GateSumIdeal.τ).loc Cert.GateSumIdeal.main_arg1))
      ∧ θ_run (Cert.GateSumRefIdeal.defs (F := Ideal)) (onTc (τ := Cert.GateSumRefIdeal.τ) (Cert.GateSumRefIdeal.main (F := Ideal))) ⟨m', fun _ => 0, g'⟩ (fun r => ∀ c : Dev Cert.GateSumRefIdeal.nD,
          r.2.mem ((c.tc : Thread Cert.GateSumRefIdeal.nD Cert.GateSumRefIdeal.τ).loc Cert.GateSumRefIdeal.main_v3) = v0 c
          ∧ r.2.mem ((c.tc : Thread Cert.GateSumRefIdeal.nD Cert.GateSumRefIdeal.τ).loc Cert.GateSumRefIdeal.main_arg0) = m' ((c.tc : Thread Cert.GateSumRefIdeal.nD Cert.GateSumRefIdeal.τ).loc Cert.GateSumRefIdeal.main_arg0)
          ∧ r.2.mem ((c.tc : Thread Cert.GateSumRefIdeal.nD Cert.GateSumRefIdeal.τ).loc Cert.GateSumRefIdeal.main_arg1) = m' ((c.tc : Thread Cert.GateSumRefIdeal.nD Cert.GateSumRefIdeal.τ).loc Cert.GateSumRefIdeal.main_arg1))

def Claim : Prop :=
  ∃ (hKernel : Cert.Kernel.Facts) (hKernelIdeal : Cert.KernelIdeal.Facts) (hReferenceIdeal : Cert.ReferenceIdeal.Facts) (hGradH : Cert.GradH.Facts) (hGradHIdeal : Cert.GradHIdeal.Facts) (hGradHRefIdeal : Cert.GradHRefIdeal.Facts) (hGradW : Cert.GradW.Facts) (hGradWIdeal : Cert.GradWIdeal.Facts) (hGradWRefIdeal : Cert.GradWRefIdeal.Facts) (hGradMixed : Cert.GradMixed.Facts) (hGradMixedIdeal : Cert.GradMixedIdeal.Facts) (hGradMixedRefIdeal : Cert.GradMixedRefIdeal.Facts) (hGradOut : Cert.GradOut.Facts) (hGradOutIdeal : Cert.GradOutIdeal.Facts) (hGradOutRefIdeal : Cert.GradOutRefIdeal.Facts) (hQkv : Cert.Qkv.Facts) (hQkvIdeal : Cert.QkvIdeal.Facts) (hQkvRefIdeal : Cert.QkvRefIdeal.Facts) (hGate : Cert.Gate.Facts) (hGateIdeal : Cert.GateIdeal.Facts) (hGateRefIdeal : Cert.GateRefIdeal.Facts) (hOutProj : Cert.OutProj.Facts) (hOutProjIdeal : Cert.OutProjIdeal.Facts) (hOutProjRefIdeal : Cert.OutProjRefIdeal.Facts) (hOutProjE : Cert.OutProjE.Facts) (hOutProjEIdeal : Cert.OutProjEIdeal.Facts) (hOutProjERefIdeal : Cert.OutProjERefIdeal.Facts) (hGradOutE : Cert.GradOutE.Facts) (hGradOutEIdeal : Cert.GradOutEIdeal.Facts) (hGradOutERefIdeal : Cert.GradOutERefIdeal.Facts) (hGateA : Cert.GateA.Facts) (hGateAIdeal : Cert.GateAIdeal.Facts) (hGateARefIdeal : Cert.GateARefIdeal.Facts) (hQkvB : Cert.QkvB.Facts) (hQkvBIdeal : Cert.QkvBIdeal.Facts) (hQkvBRefIdeal : Cert.QkvBRefIdeal.Facts) (hGateB : Cert.GateB.Facts) (hGateBIdeal : Cert.GateBIdeal.Facts) (hGateBRefIdeal : Cert.GateBRefIdeal.Facts) (hPostBwd : Cert.PostBwd.Facts) (hPostBwdIdeal : Cert.PostBwdIdeal.Facts) (hPostBwdRefIdeal : Cert.PostBwdRefIdeal.Facts) (hPreBwd : Cert.PreBwd.Facts) (hPreBwdIdeal : Cert.PreBwdIdeal.Facts) (hPreBwdRefIdeal : Cert.PreBwdRefIdeal.Facts) (hPreNorm : Cert.PreNorm.Facts) (hPreNormIdeal : Cert.PreNormIdeal.Facts) (hPreNormRefIdeal : Cert.PreNormRefIdeal.Facts) (hPostNorm : Cert.PostNorm.Facts) (hPostNormIdeal : Cert.PostNormIdeal.Facts) (hPostNormRefIdeal : Cert.PostNormRefIdeal.Facts) (hLoss : Cert.Loss.Facts) (hLossIdeal : Cert.LossIdeal.Facts) (hLossRefIdeal : Cert.LossRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamInE : Cert.AdamInE.Facts) (hAdamInEIdeal : Cert.AdamInEIdeal.Facts) (hAdamInERefIdeal : Cert.AdamInERefIdeal.Facts) (hAdamOutE : Cert.AdamOutE.Facts) (hAdamOutEIdeal : Cert.AdamOutEIdeal.Facts) (hAdamOutERefIdeal : Cert.AdamOutERefIdeal.Facts) (hAdamSmall : Cert.AdamSmall.Facts) (hAdamSmallIdeal : Cert.AdamSmallIdeal.Facts) (hAdamSmallRefIdeal : Cert.AdamSmallRefIdeal.Facts) (hPreBwdE : Cert.PreBwdE.Facts) (hPreBwdEIdeal : Cert.PreBwdEIdeal.Facts) (hPreBwdERefIdeal : Cert.PreBwdERefIdeal.Facts) (hPreNormE : Cert.PreNormE.Facts) (hPreNormEIdeal : Cert.PreNormEIdeal.Facts) (hPreNormERefIdeal : Cert.PreNormERefIdeal.Facts) (hPostNormE : Cert.PostNormE.Facts) (hPostNormEIdeal : Cert.PostNormEIdeal.Facts) (hPostNormERefIdeal : Cert.PostNormERefIdeal.Facts) (hPostBwdE : Cert.PostBwdE.Facts) (hPostBwdEIdeal : Cert.PostBwdEIdeal.Facts) (hPostBwdERefIdeal : Cert.PostBwdERefIdeal.Facts) (hForget : Cert.Forget.Facts) (hForgetIdeal : Cert.ForgetIdeal.Facts) (hForgetRefIdeal : Cert.ForgetRefIdeal.Facts) (hGradForget : Cert.GradForget.Facts) (hGradForgetIdeal : Cert.GradForgetIdeal.Facts) (hGradForgetRefIdeal : Cert.GradForgetRefIdeal.Facts) (hGradHForget : Cert.GradHForget.Facts) (hGradHForgetIdeal : Cert.GradHForgetIdeal.Facts) (hGradHForgetRefIdeal : Cert.GradHForgetRefIdeal.Facts) (hGateSum : Cert.GateSum.Facts) (hGateSumIdeal : Cert.GateSumIdeal.Facts) (hGateSumRefIdeal : Cert.GateSumRefIdeal.Facts) (hPre_finite_and_alive : Cert.Pre_finite_and_alive.Facts),
    quiescent_Kernel (hKernel := hKernel)
    ∧ quiescent_KernelIdeal (hKernelIdeal := hKernelIdeal)
    ∧ quiescent_KernelIdeal_pre_finite_and_alive (hKernelIdeal := hKernelIdeal) (hPre_finite_and_alive := hPre_finite_and_alive)
    ∧ quiescent_ReferenceIdeal (hReferenceIdeal := hReferenceIdeal)
    ∧ quiescent_ReferenceIdeal_pre_finite_and_alive (hReferenceIdeal := hReferenceIdeal) (hPre_finite_and_alive := hPre_finite_and_alive)
    ∧ quiescent_GradH (hGradH := hGradH)
    ∧ quiescent_GradHIdeal (hGradHIdeal := hGradHIdeal)
    ∧ quiescent_GradHRefIdeal (hGradHRefIdeal := hGradHRefIdeal)
    ∧ quiescent_GradW (hGradW := hGradW)
    ∧ quiescent_GradWIdeal (hGradWIdeal := hGradWIdeal)
    ∧ quiescent_GradWRefIdeal (hGradWRefIdeal := hGradWRefIdeal)
    ∧ quiescent_GradMixed (hGradMixed := hGradMixed)
    ∧ quiescent_GradMixedIdeal (hGradMixedIdeal := hGradMixedIdeal)
    ∧ quiescent_GradMixedRefIdeal (hGradMixedRefIdeal := hGradMixedRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gate (hGate := hGate)
    ∧ quiescent_GateIdeal (hGateIdeal := hGateIdeal)
    ∧ quiescent_GateRefIdeal (hGateRefIdeal := hGateRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjE (hOutProjE := hOutProjE)
    ∧ quiescent_OutProjEIdeal (hOutProjEIdeal := hOutProjEIdeal)
    ∧ quiescent_OutProjERefIdeal (hOutProjERefIdeal := hOutProjERefIdeal)
    ∧ quiescent_GradOutE (hGradOutE := hGradOutE)
    ∧ quiescent_GradOutEIdeal (hGradOutEIdeal := hGradOutEIdeal)
    ∧ quiescent_GradOutERefIdeal (hGradOutERefIdeal := hGradOutERefIdeal)
    ∧ quiescent_GateA (hGateA := hGateA)
    ∧ quiescent_GateAIdeal (hGateAIdeal := hGateAIdeal)
    ∧ quiescent_GateARefIdeal (hGateARefIdeal := hGateARefIdeal)
    ∧ quiescent_QkvB (hQkvB := hQkvB)
    ∧ quiescent_QkvBIdeal (hQkvBIdeal := hQkvBIdeal)
    ∧ quiescent_QkvBRefIdeal (hQkvBRefIdeal := hQkvBRefIdeal)
    ∧ quiescent_GateB (hGateB := hGateB)
    ∧ quiescent_GateBIdeal (hGateBIdeal := hGateBIdeal)
    ∧ quiescent_GateBRefIdeal (hGateBRefIdeal := hGateBRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PostNorm (hPostNorm := hPostNorm)
    ∧ quiescent_PostNormIdeal (hPostNormIdeal := hPostNormIdeal)
    ∧ quiescent_PostNormRefIdeal (hPostNormRefIdeal := hPostNormRefIdeal)
    ∧ quiescent_Loss (hLoss := hLoss)
    ∧ quiescent_LossIdeal (hLossIdeal := hLossIdeal)
    ∧ quiescent_LossRefIdeal (hLossRefIdeal := hLossRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamInE (hAdamInE := hAdamInE)
    ∧ quiescent_AdamInEIdeal (hAdamInEIdeal := hAdamInEIdeal)
    ∧ quiescent_AdamInERefIdeal (hAdamInERefIdeal := hAdamInERefIdeal)
    ∧ quiescent_AdamOutE (hAdamOutE := hAdamOutE)
    ∧ quiescent_AdamOutEIdeal (hAdamOutEIdeal := hAdamOutEIdeal)
    ∧ quiescent_AdamOutERefIdeal (hAdamOutERefIdeal := hAdamOutERefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_PreBwdE (hPreBwdE := hPreBwdE)
    ∧ quiescent_PreBwdEIdeal (hPreBwdEIdeal := hPreBwdEIdeal)
    ∧ quiescent_PreBwdERefIdeal (hPreBwdERefIdeal := hPreBwdERefIdeal)
    ∧ quiescent_PreNormE (hPreNormE := hPreNormE)
    ∧ quiescent_PreNormEIdeal (hPreNormEIdeal := hPreNormEIdeal)
    ∧ quiescent_PreNormERefIdeal (hPreNormERefIdeal := hPreNormERefIdeal)
    ∧ quiescent_PostNormE (hPostNormE := hPostNormE)
    ∧ quiescent_PostNormEIdeal (hPostNormEIdeal := hPostNormEIdeal)
    ∧ quiescent_PostNormERefIdeal (hPostNormERefIdeal := hPostNormERefIdeal)
    ∧ quiescent_PostBwdE (hPostBwdE := hPostBwdE)
    ∧ quiescent_PostBwdEIdeal (hPostBwdEIdeal := hPostBwdEIdeal)
    ∧ quiescent_PostBwdERefIdeal (hPostBwdERefIdeal := hPostBwdERefIdeal)
    ∧ quiescent_Forget (hForget := hForget)
    ∧ quiescent_ForgetIdeal (hForgetIdeal := hForgetIdeal)
    ∧ quiescent_ForgetRefIdeal (hForgetRefIdeal := hForgetRefIdeal)
    ∧ quiescent_GradForget (hGradForget := hGradForget)
    ∧ quiescent_GradForgetIdeal (hGradForgetIdeal := hGradForgetIdeal)
    ∧ quiescent_GradForgetRefIdeal (hGradForgetRefIdeal := hGradForgetRefIdeal)
    ∧ quiescent_GradHForget (hGradHForget := hGradHForget)
    ∧ quiescent_GradHForgetIdeal (hGradHForgetIdeal := hGradHForgetIdeal)
    ∧ quiescent_GradHForgetRefIdeal (hGradHForgetRefIdeal := hGradHForgetRefIdeal)
    ∧ quiescent_GateSum (hGateSum := hGateSum)
    ∧ quiescent_GateSumIdeal (hGateSumIdeal := hGateSumIdeal)
    ∧ quiescent_GateSumRefIdeal (hGateSumRefIdeal := hGateSumRefIdeal)
    ∧ preserves_Kernel_KernelIdeal
    ∧ algebraic_KernelIdeal_ReferenceIdeal_pre_finite_and_alive (hKernelIdeal := hKernelIdeal) (hReferenceIdeal := hReferenceIdeal) (hPre_finite_and_alive := hPre_finite_and_alive)
    ∧ preserves_GradH_GradHIdeal
    ∧ algebraic_GradHIdeal_GradHRefIdeal (hGradHIdeal := hGradHIdeal) (hGradHRefIdeal := hGradHRefIdeal)
    ∧ preserves_GradW_GradWIdeal
    ∧ algebraic_GradWIdeal_GradWRefIdeal (hGradWIdeal := hGradWIdeal) (hGradWRefIdeal := hGradWRefIdeal)
    ∧ preserves_GradMixed_GradMixedIdeal
    ∧ algebraic_GradMixedIdeal_GradMixedRefIdeal (hGradMixedIdeal := hGradMixedIdeal) (hGradMixedRefIdeal := hGradMixedRefIdeal)
    ∧ preserves_GradOut_GradOutIdeal
    ∧ algebraic_GradOutIdeal_GradOutRefIdeal (hGradOutIdeal := hGradOutIdeal) (hGradOutRefIdeal := hGradOutRefIdeal)
    ∧ preserves_Qkv_QkvIdeal
    ∧ algebraic_QkvIdeal_QkvRefIdeal (hQkvIdeal := hQkvIdeal) (hQkvRefIdeal := hQkvRefIdeal)
    ∧ preserves_Gate_GateIdeal
    ∧ algebraic_GateIdeal_GateRefIdeal (hGateIdeal := hGateIdeal) (hGateRefIdeal := hGateRefIdeal)
    ∧ preserves_OutProj_OutProjIdeal
    ∧ algebraic_OutProjIdeal_OutProjRefIdeal (hOutProjIdeal := hOutProjIdeal) (hOutProjRefIdeal := hOutProjRefIdeal)
    ∧ preserves_OutProjE_OutProjEIdeal
    ∧ algebraic_OutProjEIdeal_OutProjERefIdeal (hOutProjEIdeal := hOutProjEIdeal) (hOutProjERefIdeal := hOutProjERefIdeal)
    ∧ preserves_GradOutE_GradOutEIdeal
    ∧ algebraic_GradOutEIdeal_GradOutERefIdeal (hGradOutEIdeal := hGradOutEIdeal) (hGradOutERefIdeal := hGradOutERefIdeal)
    ∧ preserves_GateA_GateAIdeal
    ∧ algebraic_GateAIdeal_GateARefIdeal (hGateAIdeal := hGateAIdeal) (hGateARefIdeal := hGateARefIdeal)
    ∧ preserves_QkvB_QkvBIdeal
    ∧ algebraic_QkvBIdeal_QkvBRefIdeal (hQkvBIdeal := hQkvBIdeal) (hQkvBRefIdeal := hQkvBRefIdeal)
    ∧ preserves_GateB_GateBIdeal
    ∧ algebraic_GateBIdeal_GateBRefIdeal (hGateBIdeal := hGateBIdeal) (hGateBRefIdeal := hGateBRefIdeal)
    ∧ preserves_PostBwd_PostBwdIdeal
    ∧ algebraic_PostBwdIdeal_PostBwdRefIdeal (hPostBwdIdeal := hPostBwdIdeal) (hPostBwdRefIdeal := hPostBwdRefIdeal)
    ∧ preserves_PreBwd_PreBwdIdeal
    ∧ algebraic_PreBwdIdeal_PreBwdRefIdeal (hPreBwdIdeal := hPreBwdIdeal) (hPreBwdRefIdeal := hPreBwdRefIdeal)
    ∧ preserves_PreNorm_PreNormIdeal
    ∧ algebraic_PreNormIdeal_PreNormRefIdeal (hPreNormIdeal := hPreNormIdeal) (hPreNormRefIdeal := hPreNormRefIdeal)
    ∧ preserves_PostNorm_PostNormIdeal
    ∧ algebraic_PostNormIdeal_PostNormRefIdeal (hPostNormIdeal := hPostNormIdeal) (hPostNormRefIdeal := hPostNormRefIdeal)
    ∧ preserves_Loss_LossIdeal
    ∧ algebraic_LossIdeal_LossRefIdeal (hLossIdeal := hLossIdeal) (hLossRefIdeal := hLossRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamInE_AdamInEIdeal
    ∧ algebraic_AdamInEIdeal_AdamInERefIdeal (hAdamInEIdeal := hAdamInEIdeal) (hAdamInERefIdeal := hAdamInERefIdeal)
    ∧ preserves_AdamOutE_AdamOutEIdeal
    ∧ algebraic_AdamOutEIdeal_AdamOutERefIdeal (hAdamOutEIdeal := hAdamOutEIdeal) (hAdamOutERefIdeal := hAdamOutERefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_PreBwdE_PreBwdEIdeal
    ∧ algebraic_PreBwdEIdeal_PreBwdERefIdeal (hPreBwdEIdeal := hPreBwdEIdeal) (hPreBwdERefIdeal := hPreBwdERefIdeal)
    ∧ preserves_PreNormE_PreNormEIdeal
    ∧ algebraic_PreNormEIdeal_PreNormERefIdeal (hPreNormEIdeal := hPreNormEIdeal) (hPreNormERefIdeal := hPreNormERefIdeal)
    ∧ preserves_PostNormE_PostNormEIdeal
    ∧ algebraic_PostNormEIdeal_PostNormERefIdeal (hPostNormEIdeal := hPostNormEIdeal) (hPostNormERefIdeal := hPostNormERefIdeal)
    ∧ preserves_PostBwdE_PostBwdEIdeal
    ∧ algebraic_PostBwdEIdeal_PostBwdERefIdeal (hPostBwdEIdeal := hPostBwdEIdeal) (hPostBwdERefIdeal := hPostBwdERefIdeal)
    ∧ preserves_Forget_ForgetIdeal
    ∧ algebraic_ForgetIdeal_ForgetRefIdeal (hForgetIdeal := hForgetIdeal) (hForgetRefIdeal := hForgetRefIdeal)
    ∧ preserves_GradForget_GradForgetIdeal
    ∧ algebraic_GradForgetIdeal_GradForgetRefIdeal (hGradForgetIdeal := hGradForgetIdeal) (hGradForgetRefIdeal := hGradForgetRefIdeal)
    ∧ preserves_GradHForget_GradHForgetIdeal
    ∧ algebraic_GradHForgetIdeal_GradHForgetRefIdeal (hGradHForgetIdeal := hGradHForgetIdeal) (hGradHForgetRefIdeal := hGradHForgetRefIdeal)
    ∧ preserves_GateSum_GateSumIdeal
    ∧ algebraic_GateSumIdeal_GateSumRefIdeal (hGateSumIdeal := hGateSumIdeal) (hGateSumRefIdeal := hGateSumRefIdeal)
-- ==== Pre_finite_and_alive.lean ====
abbrev S4096x12288 : Shape := ⟨2, ![4096, 12288]⟩
abbrev S4096x4096 : Shape := ⟨2, ![4096, 4096]⟩
abbrev S4096x32x128 : Shape := ⟨3, ![4096, 32, 128]⟩
abbrev S32x4096x4096 : Shape := ⟨3, ![32, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S32x4096 : Shape := ⟨2, ![32, 4096]⟩
abbrev S32x8x512 : Shape := ⟨3, ![32, 8, 512]⟩
abbrev S32x8 : Shape := ⟨2, ![32, 8]⟩

class Facts : Prop where
  bitsLt_bf16_f32 : FTy.bits .bf16 < FTy.bits .f32
  slices_S4096x12288_S4096x4096_0_0 : S4096x12288.Slices ![0, 0] S4096x4096
  slices_S4096x12288_S4096x4096_0_4096 : S4096x12288.Slices ![0, 4096] S4096x4096
  slices_S4096x12288_S4096x4096_0_8192 : S4096x12288.Slices ![0, 8192] S4096x4096
  shapeCasts_S4096x4096_S4096x32x128 : S4096x4096.ShapeCasts S4096x32x128
  bcast_S_S32x4096x4096 : S_.BroadcastsInDim S32x4096x4096 (![] : Fin 0 → Fin S32x4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S4096x4096_S32x4096x4096_1_2 : S4096x4096.BroadcastsInDim S32x4096x4096 (![1, 2] : Fin 2 → Fin S32x4096x4096.rank)
  reducesTo_S32x4096x4096_S32x4096_d2 : S32x4096x4096.ReducesTo [2] S32x4096
  h_S_ : 0 < S_.numel
  shapeCasts_S32x4096_S32x8x512 : S32x4096.ShapeCasts S32x8x512
  bcast_S_S4096x12288 : S_.BroadcastsInDim S4096x12288 (![] : Fin 0 → Fin S4096x12288.rank)
  bcast_S_S4096x4096 : S_.BroadcastsInDim S4096x4096 (![] : Fin 0 → Fin S4096x4096.rank)
  reducesTo_S32x8x512_S32x8_d2 : S32x8x512.ReducesTo [2] S32x8
  bcast_S_S32x8 : S_.BroadcastsInDim S32x8 (![] : Fin 0 → Fin S32x8.rank)
  dot_S4096x32x128_S4096x32x128_S32x4096x4096_2_2_0_0_1_1_wf : DotDims.WF S4096x32x128 S4096x32x128 S32x4096x4096 [2] [2] [0] [0] [1] [1]

variable [Facts]

def dot_S4096x32x128_S4096x32x128_S32x4096x4096_2_2_0_0_1_1 : DotDims S4096x32x128 S4096x32x128 S32x4096x4096 where
  lhsContracting := [2]
  rhsContracting := [2]
  lhsNonContracting := [0]
  rhsNonContracting := [0]
  lhsBatch := [1]
  rhsBatch := [1]
  wf := dot_S4096x32x128_S4096x32x128_S32x4096x4096_2_2_0_0_1_1_wf
def fn_softplus {F : FTy → Type} [FloatOps F] (arg0 : FVec F S32x4096x4096 .f32) : FVec F S32x4096x4096 .f32 :=
  let cst : FVec F S_ .f32 := constant S_ .f32 0x00000000#32
  let v0 : FVec F S32x4096x4096 .f32 := broadcastInDim S32x4096x4096 ![] bcast_S_S32x4096x4096 cst
  let v1 : FVec F S32x4096x4096 .f32 := maximumf arg0 v0
  let v2 : FVec F S32x4096x4096 .f32 := broadcastInDim S32x4096x4096 ![] bcast_S_S32x4096x4096 cst
  let v3 : FVec F S32x4096x4096 .f32 := subf arg0 v2
  let v4 : IVec S32x4096x4096 1 := cmpf .une v3 v3
  let v5 : FVec F S32x4096x4096 .f32 := broadcastInDim S32x4096x4096 ![] bcast_S_S32x4096x4096 cst
  let v6 : FVec F S32x4096x4096 .f32 := addf arg0 v5
  let v7 : FVec F S32x4096x4096 .f32 := Host.absf v3
  let v8 : FVec F S32x4096x4096 .f32 := Host.negf v7
  let v9 : FVec F S32x4096x4096 .f32 := Host.exp v8
  let v10 : FVec F S32x4096x4096 .f32 := Host.log1p v9
  let v11 : FVec F S32x4096x4096 .f32 := addf v1 v10
  let v12 : FVec F S32x4096x4096 .f32 := select v4 v6 v11
  v12

def fn_log_sigmoid {F : FTy → Type} [FloatOps F] (arg0 : FVec F S32x4096x4096 .f32) : FVec F S32x4096x4096 .f32 :=
  let v0 : FVec F S32x4096x4096 .f32 := Host.negf arg0
  let v1 : FVec F S32x4096x4096 .f32 := fn_softplus (F := F) v0
  let v2 : FVec F S32x4096x4096 .f32 := Host.negf v1
  v2

def fn_where {F : FTy → Type} [FloatOps F] (arg0 : IVec S4096x4096 1) (arg1 : FVec F S32x4096x4096 .f32) (arg2 : FVec F S_ .f32) : FVec F S32x4096x4096 .f32 :=
  let v0 : FVec F S_ .f32 := id arg2
  let v1 : IVec S32x4096x4096 1 := broadcastInDim S32x4096x4096 ![1, 2] bcast_S4096x4096_S32x4096x4096_1_2 arg0
  let v2 : FVec F S32x4096x4096 .f32 := broadcastInDim S32x4096x4096 ![] bcast_S_S32x4096x4096 v0
  let v3 : FVec F S32x4096x4096 .f32 := select v1 arg1 v2
  v3

def fn_part1 {F : FTy → Type} [FloatOps F] (main_arg0 : FVec F S4096x12288 .bf16) (main_arg1 : FVec F S4096x4096 .f32) (main_arg2 : FVec F S4096x4096 .f32) (main_v19 : IVec S4096x4096 1) (main_v21 : FVec F S32x4096x4096 .f32) : IVec S4096x12288 1 × IVec S4096x4096 1 × IVec S4096x4096 1 × IVec S32x8 1 :=
  let main_cst_0 : FVec F S_ .f32 := constant S_ .f32 0x00000000#32
  let main_v22 : FVec F S32x4096x4096 .f32 := fn_where (F := F) main_v19 main_v21 main_cst_0
  let main_cst_1 : FVec F S_ .f32 := constant S_ .f32 0x00000000#32
  let main_v23 : FVec F S32x4096 .f32 := (fun x v => Host.reduceAdd x v reducesTo_S32x4096x4096_S32x4096_d2 h_S_) main_v22 main_cst_1
  let main_v24 : FVec F S32x8x512 .f32 := shapeCast S32x8x512 main_v23 shapeCasts_S32x4096_S32x8x512
  let main_v25 : FVec F S4096x12288 .f32 := (extf .f32 · bitsLt_bf16_f32) main_arg0
  let main_v26 : FVec F S4096x12288 .f32 := Host.absf main_v25
  let main_cst_2 : FVec F S_ .f32 := constant S_ .f32 0x7F800000#32
  let main_v27 : FVec F S4096x12288 .f32 := broadcastInDim S4096x12288 ![] bcast_S_S4096x12288 main_cst_2
  let main_v28 : IVec S4096x12288 1 := cmpf .olt main_v26 main_v27
  let main_v29 : FVec F S4096x4096 .f32 := Host.absf main_arg1
  let main_cst_3 : FVec F S_ .f32 := constant S_ .f32 0x7F800000#32
  let main_v30 : FVec F S4096x4096 .f32 := broadcastInDim S4096x4096 ![] bcast_S_S4096x4096 main_cst_3
  let main_v31 : IVec S4096x4096 1 := cmpf .olt main_v29 main_v30
  let main_v32 : FVec F S4096x4096 .f32 := Host.absf main_arg2
  let main_cst_4 : FVec F S_ .f32 := constant S_ .f32 0x7F800000#32
  let main_v33 : FVec F S4096x4096 .f32 := broadcastInDim S4096x4096 ![] bcast_S_S4096x4096 main_cst_4
  let main_v34 : IVec S4096x4096 1 := cmpf .olt main_v32 main_v33
  let main_cst_5 : FVec F S_ .f32 := constant S_ .f32 0xFF800000#32
  let main_v35 : FVec F S32x8 .f32 := (fun x v => Host.reduce FloatOps.maximumf x v reducesTo_S32x8x512_S32x8_d2 h_S_) main_v24 main_cst_5
  let main_cst_6 : FVec F S_ .f32 := constant S_ .f32 0xC2DC0000#32
  let main_v36 : FVec F S32x8 .f32 := broadcastInDim S32x8 ![] bcast_S_S32x8 main_cst_6
  let main_v37 : IVec S32x8 1 := cmpf .ogt main_v35 main_v36
  (main_v28, main_v31, main_v34, main_v37)

def fn {F : FTy → Type} [FloatOps F] (main_arg0 : FVec F S4096x12288 .bf16) (main_arg1 : FVec F S4096x4096 .f32) (main_arg2 : FVec F S4096x4096 .f32) : IVec S4096x12288 1 × IVec S4096x4096 1 × IVec S4096x4096 1 × IVec S32x8 1 :=
  let main_v0 : FVec F S4096x12288 .f32 := (extf .f32 · bitsLt_bf16_f32) main_arg0
  let main_v1 : FVec F S4096x4096 .f32 := (extractStridedSlice S4096x4096 ![0, 0] · slices_S4096x12288_S4096x4096_0_0) main_v0
  let main_v2 : FVec F S4096x4096 .f32 := (extractStridedSlice S4096x4096 ![0, 4096] · slices_S4096x12288_S4096x4096_0_4096) main_v0
  let main_v3 : FVec F S4096x4096 .f32 := (extractStridedSlice S4096x4096 ![0, 8192] · slices_S4096x12288_S4096x4096_0_8192) main_v0
  let main_v4 : FVec F S4096x32x128 .f32 := shapeCast S4096x32x128 main_v1 shapeCasts_S4096x4096_S4096x32x128
  let main_v5 : FVec F S4096x32x128 .f32 := shapeCast S4096x32x128 main_v2 shapeCasts_S4096x4096_S4096x32x128
  let main_v6 : FVec F S32x4096x4096 .f32 := (fun l r => Host.dotGeneral dot_S4096x32x128_S4096x32x128_S32x4096x4096_2_2_0_0_1_1 none l r) main_v4 main_v5
  let main_cst : FVec F S_ .f32 := constant S_ .f32 0x3DB504F3#32
  let main_v7 : FVec F S32x4096x4096 .f32 := broadcastInDim S32x4096x4096 ![] bcast_S_S32x4096x4096 main_cst
  let main_v8 : FVec F S32x4096x4096 .f32 := mulf main_v6 main_v7
  let main_v9 : IVec S4096 32 := iotaInDim S4096 32 0
  let main_v10 : IVec S4096x1 32 := broadcastInDim S4096x1 ![0] bcast_S4096_S4096x1_0 main_v9
  let main_v11 : IVec S4096 32 := iotaInDim S4096 32 0
  let main_v12 : IVec S1x4096 32 := broadcastInDim S1x4096 ![1] bcast_S4096_S1x4096_1 main_v11
  let main_c : IVec S_ 32 := constantI S_ 32 256#32
  let main_v13 : IVec S1x4096 32 := broadcastInDim S1x4096 ![] bcast_S_S1x4096 main_c
  let main_v14 : IVec S1x4096 1 := cmpi .sge main_v12 main_v13
  let main_v15 : IVec S4096x4096 32 := broadcastInDim S4096x4096 ![0, 1] bcast_S1x4096_S4096x4096_0_1 main_v12
  let main_v16 : IVec S4096x4096 32 := broadcastInDim S4096x4096 ![0, 1] bcast_S4096x1_S4096x4096_0_1 main_v10
  let main_v17 : IVec S4096x4096 1 := cmpi .slt main_v15 main_v16
  let main_v18 : IVec S4096x4096 1 := broadcastInDim S4096x4096 ![0, 1] bcast_S1x4096_S4096x4096_0_1 main_v14
  let main_v19 : IVec S4096x4096 1 := andi main_v18 main_v17
  let main_v20 : FVec F S32x4096x4096 .f32 := Host.negf main_v8
  let main_v21 : FVec F S32x4096x4096 .f32 := fn_log_sigmoid (F := F) main_v20
  fn_part1 (F := F) main_arg0 main_arg1 main_arg2 main_v19 main_v21
-- ==== Kernel.lean ====
abbrev S4096x12288 : Shape := ⟨2, ![4096, 12288]⟩
abbrev S4096x4096 : Shape := ⟨2, ![4096, 4096]⟩
abbrev S4096x32x128 : Shape := ⟨3, ![4096, 32, 128]⟩
abbrev S32x4096x4096 : Shape := ⟨3, ![32, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S32x128x4096 : Shape := ⟨3, ![32, 128, 4096]⟩
abbrev S512x128 : Shape := ⟨2, ![512, 128]⟩
abbrev S4096x128 : Shape := ⟨2, ![4096, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S512x256 : Shape := ⟨2, ![512, 256]⟩

abbrev nBuf : Space → Nat
  | .hbm => 77
  | .vmem => 22
  | .smem => 0
  | _ => 0

abbrev bufTy : (tb : Table) → Fin (tcTables nBuf tb) → BufTy
  | .hbm, ⟨0, _⟩ => ⟨S4096x12288, .bf16⟩
  | .hbm, ⟨1, _⟩ => ⟨S4096x4096, .f32⟩
  | .hbm, ⟨2, _⟩ => ⟨S4096x4096, .f32⟩
  | .hbm, ⟨3, _⟩ => ⟨S4096x12288, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x32x128, .f32⟩
  | .hbm, ⟨8, _⟩ => ⟨S4096x32x128, .f32⟩
  | .hbm, ⟨9, _⟩ => ⟨S4096x32x128, .f32⟩
  | .hbm, ⟨10, _⟩ => ⟨S32x4096x4096, .f32⟩
  | .hbm, ⟨11, _⟩ => ⟨S_, .f32⟩
  | .hbm, ⟨12, _⟩ => ⟨S32x4096x4096, .f32⟩
  | .hbm, ⟨13, _⟩ => ⟨S32x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S32x4096x4096, .f32⟩
  | .hbm, ⟨22, _⟩ => ⟨S_, .f32⟩
  | .hbm, ⟨23, _⟩ => ⟨S32x4096x4096, .f32⟩
  | .hbm, ⟨24, _⟩ => ⟨S32x4096x4096, .f32⟩
  | .hbm, ⟨25, _⟩ => ⟨S32x4096x4096, .f32⟩
  | .hbm, ⟨26, _⟩ => ⟨S32x4096x4096, .f32⟩
  | .hbm, ⟨27, _⟩ => ⟨S32x4096x4096, .i1⟩
  | .hbm, ⟨28, _⟩ => ⟨S32x4096x4096, .f32⟩
  | .hbm, ⟨29, _⟩ => ⟨S32x4096x4096, .f32⟩
  | .hbm, ⟨30, _⟩ => ⟨S32x4096x4096, .f32⟩
  | .hbm, ⟨31, _⟩ => ⟨S32x4096x4096, .f32⟩
  | .hbm, ⟨32, _⟩ => ⟨S32x4096x4096, .f32⟩
  | .hbm, ⟨33, _⟩ => ⟨S32x4096x4096, .f32⟩
  | .hbm, ⟨34, _⟩ => ⟨S32x4096x4096, .f32⟩
  | .hbm, ⟨35, _⟩ => ⟨S32x4096x4096, .f32⟩
  | .hbm, ⟨36, _⟩ => ⟨S32x4096x4096, .f32⟩
  | .hbm, ⟨37, _⟩ => ⟨S32x4096x4096, .f32⟩
  | .hbm, ⟨38, _⟩ => ⟨S32x4096x4096, .f32⟩
  | .hbm, ⟨39, _⟩ => ⟨S_, .f32⟩
  | .hbm, ⟨40, _⟩ => ⟨S32x4096x4096, .f32⟩
  | .hbm, ⟨41, _⟩ => ⟨S32x4096x4096, .f32⟩
  | .hbm, ⟨42, _⟩ => ⟨S32x4096x4096, .f32⟩
  | .hbm, ⟨43, _⟩ => ⟨S32x4096x4096, .f32⟩
  | .hbm, ⟨44, _⟩ => ⟨S32x4096x4096, .i1⟩
  | .hbm, ⟨45, _⟩ => ⟨S32x4096x4096, .f32⟩
  | .hbm, ⟨46, _⟩ => ⟨S32x4096x4096, .f32⟩
  | .hbm, ⟨47, _⟩ => ⟨S32x4096x4096, .f32⟩
  | .hbm, ⟨48, _⟩ => ⟨S32x4096x4096, .f32⟩
  | .hbm, ⟨49, _⟩ => ⟨S32x4096x4096, .f32⟩
  | .hbm, ⟨50, _⟩ => ⟨S32x4096x4096, .f32⟩
  | .hbm, ⟨51, _⟩ => ⟨S32x4096x4096, .f32⟩
  | .hbm, ⟨52, _⟩ => ⟨S32x4096x4096, .f32⟩
  | .hbm, ⟨53, _⟩ => ⟨S32x4096x4096, .f32⟩
  | .hbm, ⟨54, _⟩ => ⟨S_, .f32⟩
  | .hbm, ⟨55, _⟩ => ⟨S_, .f32⟩
  | .hbm, ⟨56, _⟩ => ⟨S32x4096x4096, .i1⟩
  | .hbm, ⟨57, _⟩ => ⟨S32x4096x4096, .f32⟩
  | .hbm, ⟨58, _⟩ => ⟨S32x4096x4096, .f32⟩
  | .hbm, ⟨59, _⟩ => ⟨S_, .f32⟩
  | .hbm, ⟨60, _⟩ => ⟨S_, .f32⟩
  | .hbm, ⟨61, _⟩ => ⟨S32x4096x4096, .f32⟩
  | .hbm, ⟨62, _⟩ => ⟨S32x4096x4096, .f32⟩
  | .hbm, ⟨63, _⟩ => ⟨S32x4096x4096, .f32⟩
  | .hbm, ⟨64, _⟩ => ⟨S32x4096x4096, .f32⟩
  | .hbm, ⟨65, _⟩ => ⟨S_, .f32⟩
  | .hbm, ⟨66, _⟩ => ⟨S_, .f32⟩
  | .hbm, ⟨67, _⟩ => ⟨S32x4096x4096, .i1⟩
  | .hbm, ⟨68, _⟩ => ⟨S32x4096x4096, .f32⟩
  | .hbm, ⟨69, _⟩ => ⟨S32x4096x4096, .f32⟩
  | .hbm, ⟨70, _⟩ => ⟨S32x128x4096, .f32⟩
  | .hbm, ⟨71, _⟩ => ⟨S4096x32x128, .f32⟩
  | .hbm, ⟨72, _⟩ => ⟨S4096x4096, .f32⟩
  | .hbm, ⟨73, _⟩ => ⟨S4096x4096, .bf16⟩
  | .hbm, ⟨74, _⟩ => ⟨S4096x4096, .bf16⟩
  | .hbm, ⟨75, _⟩ => ⟨S4096x4096, .bf16⟩
  | .hbm, ⟨76, _⟩ => ⟨S4096x4096, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S512x128, .bf16⟩
  | .local _ .vmem, ⟨19, _⟩ => ⟨S512x128, .bf16⟩
  | .local _ .vmem, ⟨20, _⟩ => ⟨S4096x128, .f32⟩
  | .local _ .vmem, ⟨21, _⟩ => ⟨S4096x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v19 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v20 : Ref sig .tc := ⟨.hbm, 58, rfl⟩
abbrev main_call3_cst : Ref sig .tc := ⟨.hbm, 59, rfl⟩
abbrev main_call3_v0 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29_0 : Ref sig .tc := ⟨.hbm, 73, rfl⟩
abbrev main_v29_1 : Ref sig .tc := ⟨.hbm, 74, rfl⟩
abbrev main_v29_2 : Ref sig .tc := ⟨.hbm, 75, rfl⟩
abbrev main_v29_3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let c2_i32 : BitVec 32 := 2#32
  let arg1 : BitVec 32 := BitVec.ofNat 32 (i 1).val
  let v43 : BitVec 32 := Scalar.muli c2_i32 arg1
  let c1_i32 : BitVec 32 := 1#32
  let v44 : BitVec 32 := Scalar.addi v43 c1_i32
  let c256_i32 : BitVec 32 := 256#32
  let v45 : BitVec 32 := Scalar.muli v44 c256_i32
  v45
def k0_off1 (i : grid0.Coords) : Fin 2 → Nat :=
  let c2_i32 : BitVec 32 := 2#32
  let arg1 : BitVec 32 := BitVec.ofNat 32 (i 1).val
  let v43 : BitVec 32 := Scalar.muli c2_i32 arg1
  let c1_i32 : BitVec 32 := 1#32
  let v44 : BitVec 32 := Scalar.addi v43 c1_i32
  let c256_i32 : BitVec 32 := 256#32
  let v45 : BitVec 32 := Scalar.muli v44 c256_i32
  let v46 : BitVec 32 := v45
  let v47 : Index := Scalar.indexCast v46
  let c0_14 : Index := 0#32
  ![v47.toNat, 0]
def k0_mult2 (i : grid0.Coords) : BitVec 32 :=
  let c2_i32_23 : BitVec 32 := 2#32
  let arg1 : BitVec 32 := BitVec.ofNat 32 (i 1).val
  let v68 : BitVec 32 := Scalar.muli c2_i32_23 arg1
  let c256_i32_24 : BitVec 32 := 256#32
  let v69 : BitVec 32 := Scalar.muli v68 c256_i32_24
  v69
def k0_off2 (i : grid0.Coords) : Fin 2 → Nat :=
  let c2_i32_23 : BitVec 32 := 2#32
  let arg1 : BitVec 32 := BitVec.ofNat 32 (i 1).val
  let v68 : BitVec 32 := Scalar.muli c2_i32_23 arg1
  let c256_i32_24 : BitVec 32 := 256#32
  let v69 : BitVec 32 := Scalar.muli v68 c256_i32_24
  let v70 : BitVec 32 := v69
  let v71 : Index := Scalar.indexCast v70
  let c0_25 : Index := 0#32
  ![v71.toNat, 0]
def k0_mult3 (i : grid0.Coords) : BitVec 32 :=
  let c2_i32_33 : BitVec 32 := 2#32
  let arg1 : BitVec 32 := BitVec.ofNat 32 (i 1).val
  let v91 : BitVec 32 := Scalar.muli c2_i32_33 arg1
  let c256_i32_34 : BitVec 32 := 256#32
  let v92 : BitVec 32 := Scalar.muli v91 c256_i32_34
  v92
def k0_mult4 (i : grid0.Coords) (arg14 : BitVec 32) : BitVec 32 :=
  let c2_i32_120 : BitVec 32 := 2#32
  let arg1 : BitVec 32 := BitVec.ofNat 32 (i 1).val
  let v375 : BitVec 32 := Scalar.muli c2_i32_120 arg1
  let c1_i32_121 : BitVec 32 := 1#32
  let v376 : BitVec 32 := Scalar.subi v375 c1_i32_121
  let c1_i32_122 : BitVec 32 := 1#32
  let v377 : BitVec 32 := Scalar.muli c1_i32_122 arg14
  let c0_i32_123 : BitVec 32 := 0#32
  let v378 : BitVec 32 := Scalar.addi v377 c0_i32_123
  let v379 : BitVec 32 := Scalar.subi v376 v378
  let c256_i32_124 : BitVec 32 := 256#32
  let v380 : BitVec 32 := Scalar.muli v379 c256_i32_124
  v380

def k0_off3 (i : grid0.Coords) (arg14 : BitVec 32) : Fin 2 → Nat :=
  let c2_i32_120 : BitVec 32 := 2#32
  let arg1 : BitVec 32 := BitVec.ofNat 32 (i 1).val
  let v375 : BitVec 32 := Scalar.muli c2_i32_120 arg1
  let c1_i32_121 : BitVec 32 := 1#32
  let v376 : BitVec 32 := Scalar.subi v375 c1_i32_121
  let c1_i32_122 : BitVec 32 := 1#32
  let v377 : BitVec 32 := Scalar.muli c1_i32_122 arg14
  let c0_i32_123 : BitVec 32 := 0#32
  let v378 : BitVec 32 := Scalar.addi v377 c0_i32_123
  let v379 : BitVec 32 := Scalar.subi v376 v378
  let c256_i32_124 : BitVec 32 := 256#32
  let v380 : BitVec 32 := Scalar.muli v379 c256_i32_124
  let v381 : BitVec 32 := v380
  let v382 : Index := Scalar.indexCast v381
  let c0_125 : Index := 0#32
  ![v382.toNat, 0]
def k0_mult5 (i : grid0.Coords) (arg14 : BitVec 32) : BitVec 32 :=
  let c2_i32_120 : BitVec 32 := 2#32
  let arg1 : BitVec 32 := BitVec.ofNat 32 (i 1).val
  let v375 : BitVec 32 := Scalar.muli c2_i32_120 arg1
  let c1_i32_121 : BitVec 32 := 1#32
  let v376 : BitVec 32 := Scalar.subi v375 c1_i32_121
  let c1_i32_122 : BitVec 32 := 1#32
  let v377 : BitVec 32 := Scalar.muli c1_i32_122 arg14
  let c0_i32_123 : BitVec 32 := 0#32
  let v378 : BitVec 32 := Scalar.addi v377 c0_i32_123
  let v379 : BitVec 32 := Scalar.subi v376 v378
  let c256_i32_134 : BitVec 32 := 256#32
  let v404 : BitVec 32 := Scalar.muli v379 c256_i32_134
  v404

def k0_chk1 (i : grid0.Coords) (arg14 : BitVec 32) : Prop :=
  (256 ∣ (k0_mult4 i arg14).toNat) ∧
  (∀ a, (k0_off3 i arg14) a + S256x128.size a ≤ S4096x128.size a) ∧
  (256 ∣ (k0_mult5 i arg14).toNat)
theorem k0_mult4_dvd : ∀ (i : grid0.Coords) (arg14 : BitVec 32) (k0_hw1 : k0_chk1 i arg14), 256 ∣ (k0_mult4 i arg14).toNat := fun i arg14 k0_hw1 => k0_hw1.1
theorem k0_off3_inb : ∀ (i : grid0.Coords) (arg14 : BitVec 32) (k0_hw1 : k0_chk1 i arg14), ∀ a, (k0_off3 i arg14) a + S256x128.size a ≤ S4096x128.size a := fun i arg14 k0_hw1 => k0_hw1.2.1
theorem k0_mult5_dvd : ∀ (i : grid0.Coords) (arg14 : BitVec 32) (k0_hw1 : k0_chk1 i arg14), 256 ∣ (k0_mult5 i arg14).toNat := fun i arg14 k0_hw1 => k0_hw1.2.2

@[reducible] def k0_t1_loop (i : grid0.Coords) (v123_0 : BitVec 32) : Scf.Loop 32 :=
  let c2_i32_44 : BitVec 32 := 2#32
  let arg1 : BitVec 32 := BitVec.ofNat 32 (i 1).val
  let v115 : BitVec 32 := Scalar.muli c2_i32_44 arg1
  let v126 : BitVec 32 := Scalar.subi v115 v123_0
  let v127 : BitVec 32 := Scalar.subi v115 v126
  let c1_i32_50 : BitVec 32 := 1#32
  let v129 : BitVec 32 := Scalar.divsi v127 c1_i32_50
  let v130 : BitVec 32 := Scalar.muli v129 c1_i32_50
  let v131 : BitVec 32 := Scalar.addi v126 v130
  let c1_i32_51 : BitVec 32 := 1#32
  ⟨v126, v131, c1_i32_51⟩

def k0_mult6 (i : grid0.Coords) (v123_0 : BitVec 32) (k0_t1 : Fin (k0_t1_loop i v123_0).trips) : BitVec 32 :=
  let c1_i32_120 : BitVec 32 := 1#32
  let c2_i32_44 : BitVec 32 := 2#32
  let arg1 : BitVec 32 := BitVec.ofNat 32 (i 1).val
  let v115 : BitVec 32 := Scalar.muli c2_i32_44 arg1
  let v126 : BitVec 32 := Scalar.subi v115 v123_0
  let c1_i32_51 : BitVec 32 := 1#32
  let arg14 : BitVec 32 := Scf.iv v126 c1_i32_51 k0_t1
  let v375 : BitVec 32 := Scalar.muli c1_i32_120 arg14
  let c0_i32_121 : BitVec 32 := 0#32
  let v376 : BitVec 32 := Scalar.addi v375 c0_i32_121
  let c256_i32_122 : BitVec 32 := 256#32
  let v377 : BitVec 32 := Scalar.muli v376 c256_i32_122
  v377
def k0_off4 (i : grid0.Coords) (v123_0 : BitVec 32) (k0_t1 : Fin (k0_t1_loop i v123_0).trips) : Fin 2 → Nat :=
  let c1_i32_120 : BitVec 32 := 1#32
  let c2_i32_44 : BitVec 32 := 2#32
  let arg1 : BitVec 32 := BitVec.ofNat 32 (i 1).val
  let v115 : BitVec 32 := Scalar.muli c2_i32_44 arg1
  let v126 : BitVec 32 := Scalar.subi v115 v123_0
  let c1_i32_51 : BitVec 32 := 1#32
  let arg14 : BitVec 32 := Scf.iv v126 c1_i32_51 k0_t1
  let v375 : BitVec 32 := Scalar.muli c1_i32_120 arg14
  let c0_i32_121 : BitVec 32 := 0#32
  let v376 : BitVec 32 := Scalar.addi v375 c0_i32_121
  let c256_i32_122 : BitVec 32 := 256#32
  let v377 : BitVec 32 := Scalar.muli v376 c256_i32_122
  let v378 : BitVec 32 := v377
  let v379 : Index := Scalar.indexCast v378
  let c0_123 : Index := 0#32
  ![v379.toNat, 0]
@[reducible] def k0_t2_loop (i : grid0.Coords) (v123_0 : BitVec 32) : Scf.Loop 32 :=
  let c2_i32_44 : BitVec 32 := 2#32
  let arg1 : BitVec 32 := BitVec.ofNat 32 (i 1).val
  let v115 : BitVec 32 := Scalar.muli c2_i32_44 arg1
  let v126 : BitVec 32 := Scalar.subi v115 v123_0
  let v127 : BitVec 32 := Scalar.subi v115 v126
  let c1_i32_50 : BitVec 32 := 1#32
  let v129 : BitVec 32 := Scalar.divsi v127 c1_i32_50
  let v130 : BitVec 32 := Scalar.muli v129 c1_i32_50
  let v131 : BitVec 32 := Scalar.addi v126 v130
  let v128 : BitVec 32 := Scalar.addi v126 v127
  let c1_i32_52 : BitVec 32 := 1#32
  ⟨v131, v128, c1_i32_52⟩
def k0_mult7 (i : grid0.Coords) (v123_0 : BitVec 32) (k0_t2 : Fin (k0_t2_loop i v123_0).trips) : BitVec 32 :=
  let c1_i32_120 : BitVec 32 := 1#32
  let c2_i32_44 : BitVec 32 := 2#32
  let arg1 : BitVec 32 := BitVec.ofNat 32 (i 1).val
  let v115 : BitVec 32 := Scalar.muli c2_i32_44 arg1
  let v126 : BitVec 32 := Scalar.subi v115 v123_0
  let v127 : BitVec 32 := Scalar.subi v115 v126
  let c1_i32_50 : BitVec 32 := 1#32
  let v129 : BitVec 32 := Scalar.divsi v127 c1_i32_50
  let v130 : BitVec 32 := Scalar.muli v129 c1_i32_50
  let v131 : BitVec 32 := Scalar.addi v126 v130
  let c1_i32_52 : BitVec 32 := 1#32
  let arg14 : BitVec 32 := Scf.iv v131 c1_i32_52 k0_t2
  let v375 : BitVec 32 := Scalar.muli c1_i32_120 arg14
  let c0_i32_121 : BitVec 32 := 0#32
  let v376 : BitVec 32 := Scalar.addi v375 c0_i32_121
  let c256_i32_122 : BitVec 32 := 256#32
  let v377 : BitVec 32 := Scalar.muli v376 c256_i32_122
  v377
def k0_off5 (i : grid0.Coords) (v123_0 : BitVec 32) (k0_t2 : Fin (k0_t2_loop i v123_0).trips) : Fin 2 → Nat :=
  let c1_i32_120 : BitVec 32 := 1#32
  let c2_i32_44 : BitVec 32 := 2#32
  let arg1 : BitVec 32 := BitVec.ofNat 32 (i 1).val
  let v115 : BitVec 32 := Scalar.muli c2_i32_44 arg1
  let v126 : BitVec 32 := Scalar.subi v115 v123_0
  let v127 : BitVec 32 := Scalar.subi v115 v126
  let c1_i32_50 : BitVec 32 := 1#32
  let v129 : BitVec 32 := Scalar.divsi v127 c1_i32_50
  let v130 : BitVec 32 := Scalar.muli v129 c1_i32_50
  let v131 : BitVec 32 := Scalar.addi v126 v130
  let c1_i32_52 : BitVec 32 := 1#32
  let arg14 : BitVec 32 := Scf.iv v131 c1_i32_52 k0_t2
  let v375 : BitVec 32 := Scalar.muli c1_i32_120 arg14
  let c0_i32_121 : BitVec 32 := 0#32
  let v376 : BitVec 32 := Scalar.addi v375 c0_i32_121
  let c256_i32_122 : BitVec 32 := 256#32
  let v377 : BitVec 32 := Scalar.muli v376 c256_i32_122
  let v378 : BitVec 32 := v377
  let v379 : Index := Scalar.indexCast v378
  let c0_123 : Index := 0#32
  ![v379.toNat, 0]

def k0_chk2 (i : grid0.Coords) (v123_0 : BitVec 32) : Prop :=
  ((k0_t1_loop i v123_0).OK) ∧
  (∀ k0_t1 : Fin (k0_t1_loop i v123_0).trips, 256 ∣ (k0_mult6 i v123_0 k0_t1).toNat) ∧
  (∀ k0_t1 : Fin (k0_t1_loop i v123_0).trips, ∀ a, (k0_off4 i v123_0 k0_t1) a + S256x128.size a ≤ S4096x128.size a) ∧
  ((k0_t2_loop i v123_0).OK) ∧
  (∀ k0_t2 : Fin (k0_t2_loop i v123_0).trips, 256 ∣ (k0_mult7 i v123_0 k0_t2).toNat) ∧
  (∀ k0_t2 : Fin (k0_t2_loop i v123_0).trips, ∀ a, (k0_off5 i v123_0 k0_t2) a + S256x128.size a ≤ S4096x128.size a)
theorem k0_t1_ok : ∀ (i : grid0.Coords) (v123_0 : BitVec 32) (k0_hw2 : k0_chk2 i v123_0), (k0_t1_loop i v123_0).OK := fun i v123_0 k0_hw2 => k0_hw2.1
theorem k0_mult6_dvd : ∀ (i : grid0.Coords) (v123_0 : BitVec 32) (k0_hw2 : k0_chk2 i v123_0) (k0_t1 : Fin (k0_t1_loop i v123_0).trips), 256 ∣ (k0_mult6 i v123_0 k0_t1).toNat := fun i v123_0 k0_hw2 k0_t1 => k0_hw2.2.1 k0_t1
theorem k0_off4_inb : ∀ (i : grid0.Coords) (v123_0 : BitVec 32) (k0_hw2 : k0_chk2 i v123_0) (k0_t1 : Fin (k0_t1_loop i v123_0).trips), ∀ a, (k0_off4 i v123_0 k0_t1) a + S256x128.size a ≤ S4096x128.size a := fun i v123_0 k0_hw2 k0_t1 => k0_hw2.2.2.1 k0_t1
theorem k0_t2_ok : ∀ (i : grid0.Coords) (v123_0 : BitVec 32) (k0_hw2 : k0_chk2 i v123_0), (k0_t2_loop i v123_0).OK := fun i v123_0 k0_hw2 => k0_hw2.2.2.2.1
theorem k0_mult7_dvd : ∀ (i : grid0.Coords) (v123_0 : BitVec 32) (k0_hw2 : k0_chk2 i v123_0) (k0_t2 : Fin (k0_t2_loop i v123_0).trips), 256 ∣ (k0_mult7 i v123_0 k0_t2).toNat := fun i v123_0 k0_hw2 k0_t2 => k0_hw2.2.2.2.2.1 k0_t2
theorem k0_off5_inb : ∀ (i : grid0.Coords) (v123_0 : BitVec 32) (k0_hw2 : k0_chk2 i v123_0) (k0_t2 : Fin (k0_t2_loop i v123_0).trips), ∀ a, (k0_off5 i v123_0 k0_t2) a + S256x128.size a ≤ S4096x128.size a := fun i v123_0 k0_hw2 k0_t2 => k0_hw2.2.2.2.2.2 k0_t2

def k0_mult8 (i : grid0.Coords) : BitVec 32 :=
  let c2_i32_53 : BitVec 32 := 2#32
  let arg1 : BitVec 32 := BitVec.ofNat 32 (i 1).val
  let v134 : BitVec 32 := Scalar.muli c2_i32_53 arg1
  let c256_i32_54 : BitVec 32 := 256#32
  let v135 : BitVec 32 := Scalar.muli v134 c256_i32_54
  v135
def k0_off6 (i : grid0.Coords) : Fin 2 → Nat :=
  let c2_i32_53 : BitVec 32 := 2#32
  let arg1 : BitVec 32 := BitVec.ofNat 32 (i 1).val
  let v134 : BitVec 32 := Scalar.muli c2_i32_53 arg1
  let c256_i32_54 : BitVec 32 := 256#32
  let v135 : BitVec 32 := Scalar.muli v134 c256_i32_54
  let v136 : BitVec 32 := v135
  let v137 : Index := Scalar.indexCast v136
  let c0_55 : Index := 0#32
  ![v137.toNat, 0]
def k0_mult9 (i : grid0.Coords) : BitVec 32 :=
  let c2_i32_91 : BitVec 32 := 2#32
  let arg1 : BitVec 32 := BitVec.ofNat 32 (i 1).val
  let v282 : BitVec 32 := Scalar.muli c2_i32_91 arg1
  let c1_i32_92 : BitVec 32 := 1#32
  let v283 : BitVec 32 := Scalar.addi v282 c1_i32_92
  let c256_i32_93 : BitVec 32 := 256#32
  let v284 : BitVec 32 := Scalar.muli v283 c256_i32_93
  v284
def k0_off7 (i : grid0.Coords) : Fin 2 → Nat :=
  let c2_i32_91 : BitVec 32 := 2#32
  let arg1 : BitVec 32 := BitVec.ofNat 32 (i 1).val
  let v282 : BitVec 32 := Scalar.muli c2_i32_91 arg1
  let c1_i32_92 : BitVec 32 := 1#32
  let v283 : BitVec 32 := Scalar.addi v282 c1_i32_92
  let c256_i32_93 : BitVec 32 := 256#32
  let v284 : BitVec 32 := Scalar.muli v283 c256_i32_93
  let v285 : BitVec 32 := v284
  let v286 : Index := Scalar.indexCast v285
  let c0_94 : Index := 0#32
  ![v286.toNat, 0]
def k0_cond2 (i : grid0.Coords) : BitVec 1 :=
  let arg1 : BitVec 32 := BitVec.ofNat 32 (i 1).val
  let c7_i32 : BitVec 32 := 7#32
  let v372 : BitVec 1 := Scalar.cmpi .eq arg1 c7_i32
  let v373 : BitVec 32 := Scalar.extui v372
  let c0_i32_119 : BitVec 32 := 0#32
  let v374 : BitVec 1 := Scalar.cmpi .ne v373 c0_i32_119
  v374

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4096x12288 : Shape := ⟨2, ![4096, 12288]⟩
abbrev S4096x4096 : Shape := ⟨2, ![4096, 4096]⟩
abbrev S4096x32x128 : Shape := ⟨3, ![4096, 32, 128]⟩
abbrev S32x4096x4096 : Shape := ⟨3, ![32, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S32x128x4096 : Shape := ⟨3, ![32, 128, 4096]⟩
abbrev S32x4096x128 : Shape := ⟨3, ![32, 4096, 128]⟩

abbrev nBuf : Space → Nat
  | .hbm => 200
  | .vmem => 0
  | .smem => 0
  | _ => 0

abbrev hbmTy0_0 (i : Nat) : BufTy := match i % 128 with
  | 0 => ⟨S4096x12288, .bf16⟩
  | 1 => ⟨S4096x4096, .f32⟩
  | 2 => ⟨S4096x4096, .f32⟩
  | 3 => ⟨S4096x12288, .f32⟩
  | 4 => ⟨S4096x4096, .f32⟩
  | 5 => ⟨S4096x4096, .f32⟩
  | 6 => ⟨S4096x4096, .f32⟩
  | 7 => ⟨S4096x32x128, .f32⟩
  | 8 => ⟨S4096x32x128, .f32⟩
  | 9 => ⟨S4096x32x128, .f32⟩
  | 10 => ⟨S32x4096x4096, .f32⟩
  | 11 => ⟨S_, .f32⟩
  | 12 => ⟨S32x4096x4096, .f32⟩
  | 13 => ⟨S32x4096x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i1⟩
  | 21 => ⟨S32x4096x4096, .f32⟩
  | 22 => ⟨S_, .f32⟩
  | 23 => ⟨S32x4096x4096, .f32⟩
  | 24 => ⟨S32x4096x4096, .f32⟩
  | 25 => ⟨S32x4096x4096, .f32⟩
  | 26 => ⟨S32x4096x4096, .f32⟩
  | 27 => ⟨S32x4096x4096, .i1⟩
  | 28 => ⟨S32x4096x4096, .f32⟩
  | 29 => ⟨S32x4096x4096, .f32⟩
  | 30 => ⟨S32x4096x4096, .f32⟩
  | 31 => ⟨S32x4096x4096, .f32⟩
  | 32 => ⟨S32x4096x4096, .f32⟩
  | 33 => ⟨S32x4096x4096, .f32⟩
  | 34 => ⟨S32x4096x4096, .f32⟩
  | 35 => ⟨S32x4096x4096, .f32⟩
  | 36 => ⟨S_, .f32⟩
  | 37 => ⟨S32x4096x4096, .f32⟩
  | 38 => ⟨S32x4096x4096, .i1⟩
  | 39 => ⟨S_, .f32⟩
  | 40 => ⟨S32x4096x4096, .f32⟩
  | 41 => ⟨S32x4096x4096, .f32⟩
  | 42 => ⟨S_, .f32⟩
  | 43 => ⟨S32x4096x4096, .f32⟩
  | 44 => ⟨S32x4096x4096, .i1⟩
  | 45 => ⟨S_, .f32⟩
  | 46 => ⟨S32x4096x4096, .f32⟩
  | 47 => ⟨S32x4096x4096, .f32⟩
  | 48 => ⟨S32x4096x4096, .f32⟩
  | 49 => ⟨S32x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S32x4096x4096, .f32⟩
  | 58 => ⟨S32x4096x4096, .i1⟩
  | 59 => ⟨S_, .f32⟩
  | 60 => ⟨S32x4096x4096, .f32⟩
  | 61 => ⟨S32x4096x4096, .f32⟩
  | 62 => ⟨S32x4096x4096, .f32⟩
  | 63 => ⟨S32x4096x4096, .f32⟩
  | 64 => ⟨S32x4096x4096, .f32⟩
  | 65 => ⟨S_, .f32⟩
  | 66 => ⟨S32x4096x4096, .f32⟩
  | 67 => ⟨S32x4096x4096, .f32⟩
  | 68 => ⟨S32x4096x4096, .f32⟩
  | 69 => ⟨S32x4096x4096, .f32⟩
  | 70 => ⟨S32x4096x4096, .f32⟩
  | 71 => ⟨S_, .f32⟩
  | 72 => ⟨S32x4096x4096, .f32⟩
  | 73 => ⟨S32x4096x4096, .f32⟩
  | 74 => ⟨S32x4096x4096, .f32⟩
  | 75 => ⟨S32x4096x4096, .f32⟩
  | 76 => ⟨S32x4096x4096, .i1⟩
  | 77 => ⟨S32x4096x4096, .f32⟩
  | 78 => ⟨S32x4096x4096, .f32⟩
  | 79 => ⟨S32x4096x4096, .f32⟩
  | 80 => ⟨S32x4096x4096, .f32⟩
  | 81 => ⟨S32x4096x4096, .f32⟩
  | 82 => ⟨S32x4096x4096, .f32⟩
  | 83 => ⟨S32x4096x4096, .f32⟩
  | 84 => ⟨S32x4096x4096, .f32⟩
  | 85 => ⟨S_, .f32⟩
  | 86 => ⟨S32x4096x4096, .f32⟩
  | 87 => ⟨S32x4096x4096, .i1⟩
  | 88 => ⟨S_, .f32⟩
  | 89 => ⟨S32x4096x4096, .f32⟩
  | 90 => ⟨S32x4096x4096, .f32⟩
  | 91 => ⟨S_, .f32⟩
  | 92 => ⟨S32x4096x4096, .f32⟩
  | 93 => ⟨S32x4096x4096, .i1⟩
  | 94 => ⟨S_, .f32⟩
  | 95 => ⟨S32x4096x4096, .f32⟩
  | 96 => ⟨S32x4096x4096, .f32⟩
  | 97 => ⟨S32x4096x4096, .f32⟩
  | 98 => ⟨S32x4096x4096, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S32x4096x4096, .f32⟩
  | 107 => ⟨S32x4096x4096, .i1⟩
  | 108 => ⟨S_, .f32⟩
  | 109 => ⟨S32x4096x4096, .f32⟩
  | 110 => ⟨S32x4096x4096, .f32⟩
  | 111 => ⟨S32x4096x4096, .f32⟩
  | 112 => ⟨S32x4096x4096, .f32⟩
  | 113 => ⟨S32x4096x4096, .f32⟩
  | 114 => ⟨S_, .f32⟩
  | 115 => ⟨S32x4096x4096, .f32⟩
  | 116 => ⟨S32x4096x4096, .f32⟩
  | 117 => ⟨S32x4096x4096, .f32⟩
  | 118 => ⟨S_, .f32⟩
  | 119 => ⟨S_, .f32⟩
  | 120 => ⟨S32x4096x4096, .i1⟩
  | 121 => ⟨S32x4096x4096, .f32⟩
  | 122 => ⟨S32x4096x4096, .f32⟩
  | 123 => ⟨S_, .f32⟩
  | 124 => ⟨S32x4096x4096, .f32⟩
  | 125 => ⟨S_, .f32⟩
  | 126 => ⟨S_, .f32⟩
  | 127 => ⟨S32x4096x4096, .f32⟩
  | _ => ⟨S4096x12288, .bf16⟩

abbrev hbmTy0_1 (i : Nat) : BufTy := match i % 128 with
  | 0 => ⟨S32x4096x4096, .f32⟩
  | 1 => ⟨S32x4096x4096, .f32⟩
  | 2 => ⟨S32x4096x4096, .f32⟩
  | 3 => ⟨S_, .f32⟩
  | 4 => ⟨S_, .f32⟩
  | 5 => ⟨S32x4096x4096, .i1⟩
  | 6 => ⟨S32x4096x4096, .f32⟩
  | 7 => ⟨S32x4096x4096, .f32⟩
  | 8 => ⟨S_, .f32⟩
  | 9 => ⟨S32x4096x4096, .f32⟩
  | 10 => ⟨S32x128x4096, .f32⟩
  | 11 => ⟨S4096x32x128, .f32⟩
  | 12 => ⟨S4096x4096, .f32⟩
  | 13 => ⟨S4096x4096, .f32⟩
  | 14 => ⟨S4096x4096, .f32⟩
  | 15 => ⟨S_, .f32⟩
  | 16 => ⟨S4096x4096, .f32⟩
  | 17 => ⟨S4096x4096, .f32⟩
  | 18 => ⟨S_, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S4096x4096, .f32⟩
  | 29 => ⟨S4096x4096, .f32⟩
  | 30 => ⟨S4096x4096, .f32⟩
  | 31 => ⟨S4096x4096, .f32⟩
  | 32 => ⟨S4096x4096, .f32⟩
  | 33 => ⟨S4096x32x128, .f32⟩
  | 34 => ⟨S32x128x4096, .f32⟩
  | 35 => ⟨S32x4096x4096, .f32⟩
  | 36 => ⟨S32x128x4096, .f32⟩
  | 37 => ⟨S4096x32x128, .f32⟩
  | 38 => ⟨S_, .f32⟩
  | 39 => ⟨S32x4096x4096, .f32⟩
  | 40 => ⟨S32x4096x4096, .f32⟩
  | 41 => ⟨S32x4096x4096, .f32⟩
  | 42 => ⟨S32x4096x4096, .f32⟩
  | 43 => ⟨S_, .f32⟩
  | 44 => ⟨S_, .f32⟩
  | 45 => ⟨S32x4096x4096, .f32⟩
  | 46 => ⟨S32x4096x4096, .f32⟩
  | 47 => ⟨S_, .f32⟩
  | 48 => ⟨S32x4096x4096, .f32⟩
  | 49 => ⟨S32x4096x4096, .f32⟩
  | 50 => ⟨S32x4096x4096, .f32⟩
  | 51 => ⟨S32x4096x4096, .f32⟩
  | 52 => ⟨S32x4096x4096, .f32⟩
  | 53 => ⟨S32x4096x4096, .f32⟩
  | 54 => ⟨S32x4096x4096, .f32⟩
  | 55 => ⟨S32x4096x4096, .f32⟩
  | 56 => ⟨S32x4096x4096, .f32⟩
  | 57 => ⟨S32x4096x4096, .f32⟩
  | 58 => ⟨S_, .f32⟩
  | 59 => ⟨S32x4096x4096, .f32⟩
  | 60 => ⟨S32x4096x4096, .f32⟩
  | 61 => ⟨S32x4096x128, .f32⟩
  | 62 => ⟨S4096x32x128, .f32⟩
  | 63 => ⟨S32x4096x128, .f32⟩
  | 64 => ⟨S4096x32x128, .f32⟩
  | 65 => ⟨S4096x4096, .f32⟩
  | 66 => ⟨S4096x4096, .f32⟩
  | 67 => ⟨S4096x4096, .f32⟩
  | 68 => ⟨S4096x4096, .bf16⟩
  | 69 => ⟨S4096x4096, .bf16⟩
  | 70 => ⟨S4096x4096, .bf16⟩
  | 71 => ⟨S4096x4096, .bf16⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v17_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v17_2 : Ref sig .tc := ⟨.hbm, 67, rfl⟩
abbrev main_v17_0 : Ref sig .tc := ⟨.hbm, 68, rfl⟩
abbrev main_v18 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v19_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v19_2 : Ref sig .tc := ⟨.hbm, 116, rfl⟩
abbrev main_v19_0 : Ref sig .tc := ⟨.hbm, 117, rfl⟩
abbrev main_cst_0 : Ref sig .tc := ⟨.hbm, 118, rfl⟩
abbrev main_call2_v0 : Ref sig .tc := ⟨.hbm, 119, rfl⟩
abbrev main_v20_1 : Ref sig .tc := ⟨.hbm, 120, rfl⟩
abbrev main_call2_v2 : Ref sig .tc := ⟨.hbm, 121, rfl⟩
abbrev main_v20_0 : Ref sig .tc := ⟨.hbm, 122, rfl⟩
abbrev main_call2_cst : Ref sig .tc := ⟨.hbm, 123, rfl⟩
abbrev main_v20_2 : Ref sig .tc := ⟨.hbm, 124, rfl⟩
abbrev main_call3_cst : Ref sig .tc := ⟨.hbm, 125, rfl⟩
abbrev main_call3_v0 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_cst_1 : Ref sig .tc := ⟨.hbm, 131, rfl⟩
abbrev main_call4_v0 : Ref sig .tc := ⟨.hbm, 132, rfl⟩
abbrev main_v25_1 : Ref sig .tc := ⟨.hbm, 133, rfl⟩
abbrev main_call4_v2 : Ref sig .tc := ⟨.hbm, 134, rfl⟩
abbrev main_v25_0 : Ref sig .tc := ⟨.hbm, 135, rfl⟩
abbrev main_call4_cst : Ref sig .tc := ⟨.hbm, 136, rfl⟩
abbrev main_v25_2 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_v29_2 : Ref sig .tc := ⟨.hbm, 148, rfl⟩
abbrev main_call5_cst_1 : Ref sig .tc := ⟨.hbm, 149, rfl⟩
abbrev main_call5_v6 : Ref sig .tc := ⟨.hbm, 150, rfl⟩
abbrev main_call5_v7 : Ref sig .tc := ⟨.hbm, 151, rfl⟩
abbrev main_v29_1 : Ref sig .tc := ⟨.hbm, 152, rfl⟩
abbrev main_v29_0 : Ref sig .tc := ⟨.hbm, 153, rfl⟩
abbrev main_v30 : Ref sig .tc := ⟨.hbm, 154, rfl⟩
abbrev main_v31 : Ref sig .tc := ⟨.hbm, 155, rfl⟩
abbrev main_v32 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v33 : Ref sig .tc := ⟨.hbm, 160, rfl⟩
abbrev main_v34 : Ref sig .tc := ⟨.hbm, 161, rfl⟩
abbrev main_v35 : Ref sig .tc := ⟨.hbm, 162, rfl⟩
abbrev main_v36 : Ref sig .tc := ⟨.hbm, 163, rfl⟩
abbrev main_v37 : Ref sig .tc := ⟨.hbm, 164, rfl⟩
abbrev main_v38 : Ref sig .tc := ⟨.hbm, 165, rfl⟩
abbrev main_call7_cst : Ref sig .tc := ⟨.hbm, 166, rfl⟩
abbrev main_call7_v0 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_call8_cst : Ref sig .tc := ⟨.hbm, 171, rfl⟩
abbrev main_call8_v0 : Ref sig .tc := ⟨.hbm, 172, rfl⟩
abbrev main_v42 : Ref sig .tc := ⟨.hbm, 173, rfl⟩
abbrev main_v43 : Ref sig .tc := ⟨.hbm, 174, rfl⟩
abbrev main_call9_cst : Ref sig .tc := ⟨.hbm, 175, rfl⟩
abbrev main_call9_v0 : Ref sig .tc := ⟨.hbm, 176, rfl⟩
abbrev main_v44 : Ref sig .tc := ⟨.hbm, 177, rfl⟩
abbrev main_call10_v0 : Ref sig .tc := ⟨.hbm, 178, rfl⟩
abbrev main_call10_v1 : Ref sig .tc := ⟨.hbm, 179, rfl⟩
abbrev main_v45 : Ref sig .tc := ⟨.hbm, 180, rfl⟩
abbrev main_v46 : Ref sig .tc := ⟨.hbm, 181, rfl⟩
abbrev main_call11_v0 : Ref sig .tc := ⟨.hbm, 182, rfl⟩
abbrev main_call11_v1 : Ref sig .tc := ⟨.hbm, 183, rfl⟩
abbrev main_v47 : Ref sig .tc := ⟨.hbm, 184, rfl⟩
abbrev main_v48 : Ref sig .tc := ⟨.hbm, 185, rfl⟩
abbrev main_cst_2 : Ref sig .tc := ⟨.hbm, 186, rfl⟩
abbrev main_v49 : Ref sig .tc := ⟨.hbm, 187, rfl⟩
abbrev main_v50 : Ref sig .tc := ⟨.hbm, 188, rfl⟩
abbrev main_v51 : Ref sig .tc := ⟨.hbm, 189, rfl⟩
abbrev main_v52 : Ref sig .tc := ⟨.hbm, 190, rfl⟩
abbrev main_v53 : Ref sig .tc := ⟨.hbm, 191, rfl⟩
abbrev main_v54 : Ref sig .tc := ⟨.hbm, 192, rfl⟩
abbrev main_v55 : Ref sig .tc := ⟨.hbm, 193, rfl⟩
abbrev main_v56 : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_v60 : Ref sig .tc := ⟨.hbm, 198, rfl⟩
abbrev main_v61 : Ref sig .tc := ⟨.hbm, 199, rfl⟩

abbrev nD : Nat := 1
abbrev τ : Topo := Topo.v7x

variable {F : FTy → Type} [FloatOps F]
-- ==== GradH.lean ====
abbrev S4096x4096 : Shape := ⟨2, ![4096, 4096]⟩
abbrev S8x4096x2048 : Shape := ⟨3, ![8, 4096, 2048]⟩
abbrev S1024x1024 : Shape := ⟨2, ![1024, 1024]⟩
abbrev S1x1024x1024 : Shape := ⟨3, ![1, 1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S8x4096x2048, .bf16⟩
  | .hbm, ⟨5, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def k0_cond6 (i : grid0.Coords) : BitVec 1 :=
  let arg2 : BitVec 32 := BitVec.ofNat 32 (i 2).val
  let c15_i32 : BitVec 32 := 15#32
  let v32 : BitVec 1 := Scalar.cmpi .eq arg2 c15_i32
  let v33 : BitVec 32 := Scalar.extui v32
  let c0_i32_12 : BitVec 32 := 0#32
  let v34 : BitVec 1 := Scalar.cmpi .ne v33 c0_i32_12
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 1 := Scalar.cmpi .sge v0 c0_i32_1
  let c4_i32 : BitVec 32 := 4#32
  let v4 : BitVec 1 := Scalar.cmpi .slt v0 c4_i32
  let v5 : BitVec 1 := Scalar.andi v3 v4
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 1 := Scalar.cmpi .sge v0 c0_i32_0
  let c4_i32_1 : BitVec 32 := 4#32
  let v4 : BitVec 1 := Scalar.cmpi .slt v0 c4_i32_1
  let v5 : BitVec 1 := Scalar.andi v3 v4
  let c0_i32_2 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 1 := Scalar.cmpi .sge v0 c0_i32_0
  let c4_i32 : BitVec 32 := 4#32
  let v4 : BitVec 1 := Scalar.cmpi .slt v0 c4_i32
  let v5 : BitVec 1 := Scalar.andi v3 v4
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 1 := Scalar.cmpi .sge v0 c0_i32_0
  let c4_i32 : BitVec 32 := 4#32
  let v4 : BitVec 1 := Scalar.cmpi .slt v0 c4_i32
  let v5 : BitVec 1 := Scalar.andi v3 v4
  let c0_i32_1 : BitVec 32 := 0#32
  ![arg0.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c0_i32_6 : BitVec 32 := 0#32
  let v19 : BitVec 32 := Scalar.addi arg2 c0_i32_6
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v19 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v17.toNat, v18.toNat, v29.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GradHRefIdeal.lean ====
abbrev S4096x4096 : Shape := ⟨2, ![4096, 4096]⟩
abbrev S8x4096x2048 : Shape := ⟨3, ![8, 4096, 2048]⟩
abbrev S_ : Shape := ⟨0, ![]⟩
abbrev S4096x8x2048 : Shape := ⟨3, ![4096, 8, 2048]⟩
abbrev S4096x16384 : Shape := ⟨2, ![4096, 16384]⟩
abbrev S8x2048x4096 : Shape := ⟨3, ![8, 2048, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S8x4096x2048, .bf16⟩
  | .hbm, ⟨5, _⟩ => ⟨S_, .f32⟩
  | .hbm, ⟨6, _⟩ => ⟨S4096x4096, .f32⟩
  | .hbm, ⟨7, _⟩ => ⟨S8x4096x2048, .f32⟩
  | .hbm, ⟨8, _⟩ => ⟨S4096x8x2048, .f32⟩
  | .hbm, ⟨9, _⟩ => ⟨S4096x16384, .f32⟩
  | .hbm, ⟨10, _⟩ => ⟨S4096x16384, .bf16⟩
  | .hbm, ⟨11, _⟩ => ⟨S4096x16384, .f32⟩
  | .hbm, ⟨12, _⟩ => ⟨S4096x8x2048, .f32⟩
  | .hbm, ⟨13, _⟩ => ⟨S8x2048x4096, .f32⟩
  | .hbm, ⟨14, _⟩ => ⟨S8x4096x2048, .f32⟩
  | .hbm, ⟨15, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== GradW.lean ====
abbrev S4096x4096 : Shape := ⟨2, ![4096, 4096]⟩
abbrev S8x4096x2048 : Shape := ⟨3, ![8, 4096, 2048]⟩
abbrev S1024x1024 : Shape := ⟨2, ![1024, 1024]⟩
abbrev S1x1024x1024 : Shape := ⟨3, ![1, 1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x4096, .bf16⟩
  | .hbm, ⟨5, _⟩ => ⟨S8x4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def k0_cond6 (i : grid0.Coords) : BitVec 1 :=
  let arg2 : BitVec 32 := BitVec.ofNat 32 (i 2).val
  let c3_i32_12 : BitVec 32 := 3#32
  let v32 : BitVec 1 := Scalar.cmpi .eq arg2 c3_i32_12
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 1 := Scalar.cmpi .sge v0 c0_i32_1
  let c4_i32 : BitVec 32 := 4#32
  let v4 : BitVec 1 := Scalar.cmpi .slt v0 c4_i32
  let v5 : BitVec 1 := Scalar.andi v3 v4
  let c0_i32_2 : BitVec 32 := 0#32
  let v6 : BitVec 32 := Scalar.select v5 arg2 c0_i32_2
  let c0_i32_3 : BitVec 32 := 0#32
  ![v6.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 1 := Scalar.cmpi .sge v0 c0_i32_0
  let c4_i32_1 : BitVec 32 := 4#32
  let v4 : BitVec 1 := Scalar.cmpi .slt v0 c4_i32_1
  let v5 : BitVec 1 := Scalar.andi v3 v4
  let c0_i32_2 : BitVec 32 := 0#32
  let v6 : BitVec 32 := Scalar.select v5 arg2 c0_i32_2
  let c0_i32_3 : BitVec 32 := 0#32
  ![v6.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 1 := Scalar.cmpi .sge v0 c0_i32_0
  let c4_i32 : BitVec 32 := 4#32
  let v4 : BitVec 1 := Scalar.cmpi .slt v0 c4_i32
  let v5 : BitVec 1 := Scalar.andi v3 v4
  let c0_i32_1 : BitVec 32 := 0#32
  let v6 : BitVec 32 := Scalar.select v5 arg2 c0_i32_1
  let c0_i32_2 : BitVec 32 := 0#32
  ![v6.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 1 := Scalar.cmpi .sge v0 c0_i32_0
  let c4_i32 : BitVec 32 := 4#32
  let v4 : BitVec 1 := Scalar.cmpi .slt v0 c4_i32
  let v5 : BitVec 1 := Scalar.andi v3 v4
  let c0_i32_1 : BitVec 32 := 0#32
  let v6 : BitVec 32 := Scalar.select v5 arg2 c0_i32_1
  let c0_i32_2 : BitVec 32 := 0#32
  ![v6.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GradWRefIdeal.lean ====
abbrev S4096x4096 : Shape := ⟨2, ![4096, 4096]⟩
abbrev S_ : Shape := ⟨0, ![]⟩
abbrev S8x4096x2048 : Shape := ⟨3, ![8, 4096, 2048]⟩
abbrev S4096x8x2048 : Shape := ⟨3, ![4096, 8, 2048]⟩
abbrev S4096x16384 : Shape := ⟨2, ![4096, 16384]⟩
abbrev S8x2048x4096 : Shape := ⟨3, ![8, 2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x4096, .bf16⟩
  | .hbm, ⟨5, _⟩ => ⟨S_, .f32⟩
  | .hbm, ⟨6, _⟩ => ⟨S8x4096x2048, .f32⟩
  | .hbm, ⟨7, _⟩ => ⟨S4096x4096, .f32⟩
  | .hbm, ⟨8, _⟩ => ⟨S4096x8x2048, .f32⟩
  | .hbm, ⟨9, _⟩ => ⟨S4096x16384, .f32⟩
  | .hbm, ⟨10, _⟩ => ⟨S4096x16384, .bf16⟩
  | .hbm, ⟨11, _⟩ => ⟨S4096x16384, .f32⟩
  | .hbm, ⟨12, _⟩ => ⟨S4096x8x2048, .f32⟩
  | .hbm, ⟨13, _⟩ => ⟨S8x2048x4096, .f32⟩
  | .hbm, ⟨14, _⟩ => ⟨S8x4096x2048, .f32⟩
  | .hbm, ⟨15, _⟩ => ⟨S4096x4096, .f32⟩
  | .hbm, ⟨16, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== GradMixed.lean ====
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMixedRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradOut.lean ====
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutRefIdeal.lean ====
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Qkv.lean ====
abbrev S4096x4096 : Shape := ⟨2, ![4096, 4096]⟩
abbrev S8x4096x2048 : Shape := ⟨3, ![8, 4096, 2048]⟩
abbrev S4096x12288 : Shape := ⟨2, ![4096, 12288]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x12288, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg2 c0_i32_6
  let c0_i32_7 : BitVec 32 := 0#32
  let v19 : BitVec 32 := Scalar.addi arg1 c0_i32_7
  let c1_i32_8 : BitVec 32 := 1#32
  let c0_i32_9 : BitVec 32 := 0#32
  let v20 : BitVec 1 := Scalar.cmpi .eq c1_i32_8 c0_i32_9
  let c1_i32_10 : BitVec 32 := 1#32
  let v21 : BitVec 32 := Scalar.select v20 c1_i32_10 c1_i32_8
  let v22 : BitVec 32 := Scalar.remsi v19 v21
  let c0_i32_11 : BitVec 32 := 0#32
  let v23 : BitVec 1 := Scalar.cmpi .ne v22 c0_i32_11
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let v27 : BitVec 1 := Scalar.andi v26 v23
  let v28 : BitVec 32 := Scalar.addi v22 v21
  let v29 : BitVec 32 := Scalar.select v27 v28 v22
  let c0_i32_14 : BitVec 32 := 0#32
  ![v17.toNat, v18.toNat, v29.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x4096 : Shape := ⟨2, ![4096, 4096]⟩
abbrev S8x4096x2048 : Shape := ⟨3, ![8, 4096, 2048]⟩
abbrev S4096x8x2048 : Shape := ⟨3, ![4096, 8, 2048]⟩
abbrev S4096x16384 : Shape := ⟨2, ![4096, 16384]⟩
abbrev S4096x12288 : Shape := ⟨2, ![4096, 12288]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x4096, .f32⟩
  | .hbm, ⟨3, _⟩ => ⟨S8x4096x2048, .f32⟩
  | .hbm, ⟨4, _⟩ => ⟨S4096x8x2048, .f32⟩
  | .hbm, ⟨5, _⟩ => ⟨S4096x16384, .f32⟩
  | .hbm, ⟨6, _⟩ => ⟨S4096x12288, .f32⟩
  | .hbm, ⟨7, _⟩ => ⟨S4096x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Gate.lean ====
abbrev S4096x4096 : Shape := ⟨2, ![4096, 4096]⟩
abbrev S8x4096x2048 : Shape := ⟨3, ![8, 4096, 2048]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let v18 : BitVec 32 := Scalar.addi arg2 c0_i32_5
  let c6_i32_6 : BitVec 32 := 6#32
  let v19 : BitVec 32 := Scalar.addi arg1 c6_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v19 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v17.toNat, v18.toNat, v29.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x4096 : Shape := ⟨2, ![4096, 4096]⟩
abbrev S8x4096x2048 : Shape := ⟨3, ![8, 4096, 2048]⟩
abbrev S4096x8x2048 : Shape := ⟨3, ![4096, 8, 2048]⟩
abbrev S4096x16384 : Shape := ⟨2, ![4096, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x4096, .f32⟩
  | .hbm, ⟨3, _⟩ => ⟨S8x4096x2048, .f32⟩
  | .hbm, ⟨4, _⟩ => ⟨S4096x8x2048, .f32⟩
  | .hbm, ⟨5, _⟩ => ⟨S4096x16384, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProjE.lean ====
abbrev S4096x2048 : Shape := ⟨2, ![4096, 2048]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .bf16⟩
  | .hbm, ⟨3, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond4 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 1 := Scalar.cmpi .sge v0 c0_i32_1
  let c2_i32 : BitVec 32 := 2#32
  let v4 : BitVec 1 := Scalar.cmpi .slt v0 c2_i32
  let v5 : BitVec 1 := Scalar.andi v3 v4
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 1 := Scalar.cmpi .sge v0 c0_i32_0
  let c2_i32_1 : BitVec 32 := 2#32
  let v4 : BitVec 1 := Scalar.cmpi .slt v0 c2_i32_1
  let v5 : BitVec 1 := Scalar.andi v3 v4
  let c0_i32_2 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjERefIdeal.lean ====
abbrev S4096x2048 : Shape := ⟨2, ![4096, 2048]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .bf16⟩
  | .hbm, ⟨3, _⟩ => ⟨S4096x4096, .bf16⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradOutE.lean ====
abbrev S4096x2048 : Shape := ⟨2, ![4096, 2048]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond4 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 1 := Scalar.cmpi .sge v0 c0_i32_1
  let c2_i32 : BitVec 32 := 2#32
  let v4 : BitVec 1 := Scalar.cmpi .slt v0 c2_i32
  let v5 : BitVec 1 := Scalar.andi v3 v4
  let c0_i32_2 : BitVec 32 := 0#32
  let v6 : BitVec 32 := Scalar.select v5 arg2 c0_i32_2
  let c0_i32_3 : BitVec 32 := 0#32
  ![v6.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 1 := Scalar.cmpi .sge v0 c0_i32_0
  let c2_i32_1 : BitVec 32 := 2#32
  let v4 : BitVec 1 := Scalar.cmpi .slt v0 c2_i32_1
  let v5 : BitVec 1 := Scalar.andi v3 v4
  let c0_i32_2 : BitVec 32 := 0#32
  let v6 : BitVec 32 := Scalar.select v5 arg2 c0_i32_2
  let c0_i32_3 : BitVec 32 := 0#32
  ![v6.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradOutERefIdeal.lean ====
abbrev S4096x2048 : Shape := ⟨2, ![4096, 2048]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .bf16⟩
  | .hbm, ⟨3, _⟩ => ⟨S_, .f32⟩
  | .hbm, ⟨4, _⟩ => ⟨S4096x4096, .f32⟩
  | .hbm, ⟨5, _⟩ => ⟨S4096x4096, .bf16⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GateA.lean ====
abbrev S4096x4096 : Shape := ⟨2, ![4096, 4096]⟩
abbrev S4096x16400 : Shape := ⟨2, ![4096, 16400]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16400, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c3_i32 : BitVec 32 := 3#32
  let v1 : BitVec 32 := Scalar.addi arg1 c3_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateARefIdeal.lean ====
abbrev S4096x4096 : Shape := ⟨2, ![4096, 4096]⟩
abbrev S4096x16400 : Shape := ⟨2, ![4096, 16400]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16400, .bf16⟩
  | .hbm, ⟨2, _⟩ => ⟨S4096x4096, .f32⟩
  | .hbm, ⟨3, _⟩ => ⟨S4096x16400, .f32⟩
  | .hbm, ⟨4, _⟩ => ⟨S4096x16400, .f32⟩
  | .hbm, ⟨5, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QkvB.lean ====
abbrev S4096x4096 : Shape := ⟨2, ![4096, 4096]⟩
abbrev S4096x16400 : Shape := ⟨2, ![4096, 16400]⟩
abbrev S4096x6144 : Shape := ⟨2, ![4096, 6144]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16400, .bf16⟩
  | .hbm, ⟨2, _⟩ => ⟨S4096x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c4_i32 : BitVec 32 := 4#32
  let v1 : BitVec 32 := Scalar.addi arg1 c4_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvBRefIdeal.lean ====
abbrev S4096x4096 : Shape := ⟨2, ![4096, 4096]⟩
abbrev S4096x16400 : Shape := ⟨2, ![4096, 16400]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16400, .bf16⟩
  | .hbm, ⟨2, _⟩ => ⟨S4096x4096, .f32⟩
  | .hbm, ⟨3, _⟩ => ⟨S4096x16400, .f32⟩
  | .hbm, ⟨4, _⟩ => ⟨S4096x16400, .f32⟩
  | .hbm, ⟨5, _⟩ => ⟨S4096x6144, .f32⟩
  | .hbm, ⟨6, _⟩ => ⟨S4096x6144, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GateB.lean ====
abbrev S4096x4096 : Shape := ⟨2, ![4096, 4096]⟩
abbrev S4096x16400 : Shape := ⟨2, ![4096, 16400]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x16400, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c7_i32 : BitVec 32 := 7#32
  let v1 : BitVec 32 := Scalar.addi arg1 c7_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateBRefIdeal.lean ====
abbrev S4096x4096 : Shape := ⟨2, ![4096, 4096]⟩
abbrev S4096x16400 : Shape := ⟨2, ![4096, 16400]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16400, .bf16⟩
  | .hbm, ⟨2, _⟩ => ⟨S4096x4096, .f32⟩
  | .hbm, ⟨3, _⟩ => ⟨S4096x16400, .f32⟩
  | .hbm, ⟨4, _⟩ => ⟨S4096x16400, .f32⟩
  | .hbm, ⟨5, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PostBwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .bf16⟩
  | .hbm, ⟨4, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .bf16⟩
  | .local _ .vmem, ⟨6, _⟩ => ⟨S128x4096, .bf16⟩
  | .local _ .vmem, ⟨7, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostBwdRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .bf16⟩
  | .hbm, ⟨50, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== PreBwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreBwdRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== PreNorm.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PostNorm.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostNormRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Loss.lean ====
abbrev S4096x4096 : Shape := ⟨2, ![4096, 4096]⟩
abbrev S1x1 : Shape := ⟨2, ![1, 1]⟩
abbrev S128x4096 : Shape := ⟨2, ![128, 4096]⟩
abbrev S128 : Shape := ⟨1, ![128]⟩
abbrev S128x1 : Shape := ⟨2, ![128, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x1, .f32⟩
  | .hbm, ⟨3, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x1, .f32⟩
  | .local _ .vmem, ⟨5, _⟩ => ⟨S128x4096, .f32⟩
  | .local _ .vmem, ⟨6, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x4096 : Shape := ⟨2, ![4096, 4096]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x4096, .f32⟩
  | .hbm, ⟨24, _⟩ => ⟨S4096x4096, .f32⟩
  | .hbm, ⟨25, _⟩ => ⟨S1x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamIn.lean ====
abbrev S4x4096x2048 : Shape := ⟨3, ![4, 4096, 2048]⟩
abbrev S4096x2048 : Shape := ⟨2, ![4096, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamInRefIdeal.lean ====
abbrev S4x4096x2048 : Shape := ⟨3, ![4, 4096, 2048]⟩
abbrev S4096x2048 : Shape := ⟨2, ![4096, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4x4096x2048, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x512x4096 : Shape := ⟨3, ![8, 512, 4096]⟩
abbrev S512x4096 : Shape := ⟨2, ![512, 4096]⟩
abbrev S8x64x4096 : Shape := ⟨3, ![8, 64, 4096]⟩
abbrev S64x4096 : Shape := ⟨2, ![64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S8x64x4096, .bf16⟩
  | .local _ .vmem, ⟨1, _⟩ => ⟨S8x64x4096, .bf16⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamOutRefIdeal.lean ====
abbrev S8x512x4096 : Shape := ⟨3, ![8, 512, 4096]⟩
abbrev S512x4096 : Shape := ⟨2, ![512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S8x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamInE.lean ====
abbrev S4x4096x2050 : Shape := ⟨3, ![4, 4096, 2050]⟩
abbrev S4096x2050 : Shape := ⟨2, ![4096, 2050]⟩
abbrev S4x128x2050 : Shape := ⟨3, ![4, 128, 2050]⟩
abbrev S128x2050 : Shape := ⟨2, ![128, 2050]⟩
abbrev S1x128x2050 : Shape := ⟨3, ![1, 128, 2050]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x2050, .bf16⟩
  | .hbm, ⟨1, _⟩ => ⟨S4096x2050, .f32⟩
  | .hbm, ⟨2, _⟩ => ⟨S4096x2050, .f32⟩
  | .hbm, ⟨3, _⟩ => ⟨S4096x2050, .f32⟩
  | .hbm, ⟨4, _⟩ => ⟨S4096x2050, .f32⟩
  | .hbm, ⟨5, _⟩ => ⟨S4096x2050, .f32⟩
  | .hbm, ⟨6, _⟩ => ⟨S4096x2050, .f32⟩
  | .hbm, ⟨7, _⟩ => ⟨S4096x2050, .f32⟩
  | .local _ .vmem, ⟨0, _⟩ => ⟨S4x128x2050, .bf16⟩
  | .local _ .vmem, ⟨1, _⟩ => ⟨S4x128x2050, .bf16⟩
  | .local _ .vmem, ⟨2, _⟩ => ⟨S128x2050, .f32⟩
  | .local _ .vmem, ⟨3, _⟩ => ⟨S128x2050, .f32⟩
  | .local _ .vmem, ⟨4, _⟩ => ⟨S128x2050, .f32⟩
  | .local _ .vmem, ⟨5, _⟩ => ⟨S128x2050, .f32⟩
  | .local _ .vmem, ⟨6, _⟩ => ⟨S128x2050, .f32⟩
  | .local _ .vmem, ⟨7, _⟩ => ⟨S128x2050, .f32⟩
  | .local _ .vmem, ⟨8, _⟩ => ⟨S128x2050, .f32⟩
  | .local _ .vmem, ⟨9, _⟩ => ⟨S128x2050, .f32⟩
  | .local _ .vmem, ⟨10, _⟩ => ⟨S128x2050, .f32⟩
  | .local _ .vmem, ⟨11, _⟩ => ⟨S128x2050, .f32⟩
  | .local _ .vmem, ⟨12, _⟩ => ⟨S128x2050, .f32⟩
  | .local _ .vmem, ⟨13, _⟩ => ⟨S128x2050, .f32⟩
  | .local _ .vmem, ⟨14, _⟩ => ⟨S128x2050, .f32⟩
  | .local _ .vmem, ⟨15, _⟩ => ⟨S128x2050, .f32⟩
  | _, _ => ⟨S4x4096x2050, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2050 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2050 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2050 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2050 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2050 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2050 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2050 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2050 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInEIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamInERefIdeal.lean ====
abbrev S4x4096x2050 : Shape := ⟨3, ![4, 4096, 2050]⟩
abbrev S4096x2050 : Shape := ⟨2, ![4096, 2050]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2050, .bf16⟩
  | .hbm, ⟨1, _⟩ => ⟨S4096x2050, .f32⟩
  | .hbm, ⟨2, _⟩ => ⟨S4096x2050, .f32⟩
  | .hbm, ⟨3, _⟩ => ⟨S4096x2050, .f32⟩
  | .hbm, ⟨4, _⟩ => ⟨S4x4096x2050, .f32⟩
  | .hbm, ⟨5, _⟩ => ⟨S_, .f32⟩
  | .hbm, ⟨6, _⟩ => ⟨S4096x2050, .f32⟩
  | .hbm, ⟨7, _⟩ => ⟨S_, .f32⟩
  | .hbm, ⟨8, _⟩ => ⟨S4096x2050, .f32⟩
  | .hbm, ⟨9, _⟩ => ⟨S4096x2050, .f32⟩
  | .hbm, ⟨10, _⟩ => ⟨S_, .f32⟩
  | .hbm, ⟨11, _⟩ => ⟨S4096x2050, .f32⟩
  | .hbm, ⟨12, _⟩ => ⟨S4096x2050, .f32⟩
  | .hbm, ⟨13, _⟩ => ⟨S4096x2050, .f32⟩
  | .hbm, ⟨14, _⟩ => ⟨S_, .f32⟩
  | .hbm, ⟨15, _⟩ => ⟨S4096x2050, .f32⟩
  | .hbm, ⟨16, _⟩ => ⟨S4096x2050, .f32⟩
  | .hbm, ⟨17, _⟩ => ⟨S4096x2050, .f32⟩
  | .hbm, ⟨18, _⟩ => ⟨S_, .f32⟩
  | .hbm, ⟨19, _⟩ => ⟨S4096x2050, .f32⟩
  | .hbm, ⟨20, _⟩ => ⟨S4096x2050, .f32⟩
  | .hbm, ⟨21, _⟩ => ⟨S4096x2050, .f32⟩
  | .hbm, ⟨22, _⟩ => ⟨S_, .f32⟩
  | .hbm, ⟨23, _⟩ => ⟨S4096x2050, .f32⟩
  | .hbm, ⟨24, _⟩ => ⟨S4096x2050, .f32⟩
  | .hbm, ⟨25, _⟩ => ⟨S_, .f32⟩
  | .hbm, ⟨26, _⟩ => ⟨S4096x2050, .f32⟩
  | .hbm, ⟨27, _⟩ => ⟨S4096x2050, .f32⟩
  | .hbm, ⟨28, _⟩ => ⟨S4096x2050, .f32⟩
  | .hbm, ⟨29, _⟩ => ⟨S_, .f32⟩
  | .hbm, ⟨30, _⟩ => ⟨S4096x2050, .f32⟩
  | .hbm, ⟨31, _⟩ => ⟨S4096x2050, .f32⟩
  | .hbm, ⟨32, _⟩ => ⟨S4096x2050, .f32⟩
  | .hbm, ⟨33, _⟩ => ⟨S_, .f32⟩
  | .hbm, ⟨34, _⟩ => ⟨S4096x2050, .f32⟩
  | .hbm, ⟨35, _⟩ => ⟨S4096x2050, .f32⟩
  | .hbm, ⟨36, _⟩ => ⟨S4096x2050, .f32⟩
  | .hbm, ⟨37, _⟩ => ⟨S_, .f32⟩
  | .hbm, ⟨38, _⟩ => ⟨S4096x2050, .f32⟩
  | .hbm, ⟨39, _⟩ => ⟨S4096x2050, .f32⟩
  | _, _ => ⟨S4x4096x2050, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOutE.lean ====
abbrev S8x512x4096 : Shape := ⟨3, ![8, 512, 4096]⟩
abbrev S512x4096 : Shape := ⟨2, ![512, 4096]⟩
abbrev S8x64x4096 : Shape := ⟨3, ![8, 64, 4096]⟩
abbrev S64x4096 : Shape := ⟨2, ![64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S8x64x4096, .bf16⟩
  | .local _ .vmem, ⟨1, _⟩ => ⟨S8x64x4096, .bf16⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutEIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamOutERefIdeal.lean ====
abbrev S8x512x4096 : Shape := ⟨3, ![8, 512, 4096]⟩
abbrev S512x4096 : Shape := ⟨2, ![512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S8x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x168x128 : Shape := ⟨3, ![8, 168, 128]⟩
abbrev S168x128 : Shape := ⟨2, ![168, 128]⟩
abbrev S1x168x128 : Shape := ⟨3, ![1, 168, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S168x128, .f32⟩
  | .hbm, ⟨5, _⟩ => ⟨S168x128, .f32⟩
  | .hbm, ⟨6, _⟩ => ⟨S168x128, .f32⟩
  | .hbm, ⟨7, _⟩ => ⟨S168x128, .f32⟩
  | .local _ .vmem, ⟨0, _⟩ => ⟨S8x168x128, .f32⟩
  | .local _ .vmem, ⟨1, _⟩ => ⟨S168x128, .f32⟩
  | .local _ .vmem, ⟨2, _⟩ => ⟨S168x128, .f32⟩
  | .local _ .vmem, ⟨3, _⟩ => ⟨S168x128, .f32⟩
  | .local _ .vmem, ⟨4, _⟩ => ⟨S168x128, .f32⟩
  | .local _ .vmem, ⟨5, _⟩ => ⟨S168x128, .f32⟩
  | .local _ .vmem, ⟨6, _⟩ => ⟨S168x128, .f32⟩
  | .local _ .vmem, ⟨7, _⟩ => ⟨S168x128, .f32⟩
  | _, _ => ⟨S8x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamSmallRefIdeal.lean ====
abbrev S8x168x128 : Shape := ⟨3, ![8, 168, 128]⟩
abbrev S168x128 : Shape := ⟨2, ![168, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S_, .f32⟩
  | .hbm, ⟨5, _⟩ => ⟨S168x128, .f32⟩
  | .hbm, ⟨6, _⟩ => ⟨S_, .f32⟩
  | .hbm, ⟨7, _⟩ => ⟨S168x128, .f32⟩
  | .hbm, ⟨8, _⟩ => ⟨S168x128, .f32⟩
  | .hbm, ⟨9, _⟩ => ⟨S_, .f32⟩
  | .hbm, ⟨10, _⟩ => ⟨S168x128, .f32⟩
  | .hbm, ⟨11, _⟩ => ⟨S168x128, .f32⟩
  | .hbm, ⟨12, _⟩ => ⟨S168x128, .f32⟩
  | .hbm, ⟨13, _⟩ => ⟨S_, .f32⟩
  | .hbm, ⟨14, _⟩ => ⟨S168x128, .f32⟩
  | .hbm, ⟨15, _⟩ => ⟨S168x128, .f32⟩
  | .hbm, ⟨16, _⟩ => ⟨S168x128, .f32⟩
  | .hbm, ⟨17, _⟩ => ⟨S_, .f32⟩
  | .hbm, ⟨18, _⟩ => ⟨S168x128, .f32⟩
  | .hbm, ⟨19, _⟩ => ⟨S168x128, .f32⟩
  | .hbm, ⟨20, _⟩ => ⟨S168x128, .f32⟩
  | .hbm, ⟨21, _⟩ => ⟨S_, .f32⟩
  | .hbm, ⟨22, _⟩ => ⟨S168x128, .f32⟩
  | .hbm, ⟨23, _⟩ => ⟨S168x128, .f32⟩
  | .hbm, ⟨24, _⟩ => ⟨S_, .f32⟩
  | .hbm, ⟨25, _⟩ => ⟨S168x128, .f32⟩
  | .hbm, ⟨26, _⟩ => ⟨S168x128, .f32⟩
  | .hbm, ⟨27, _⟩ => ⟨S168x128, .f32⟩
  | .hbm, ⟨28, _⟩ => ⟨S_, .f32⟩
  | .hbm, ⟨29, _⟩ => ⟨S168x128, .f32⟩
  | .hbm, ⟨30, _⟩ => ⟨S168x128, .f32⟩
  | .hbm, ⟨31, _⟩ => ⟨S168x128, .f32⟩
  | .hbm, ⟨32, _⟩ => ⟨S_, .f32⟩
  | .hbm, ⟨33, _⟩ => ⟨S168x128, .f32⟩
  | .hbm, ⟨34, _⟩ => ⟨S168x128, .f32⟩
  | .hbm, ⟨35, _⟩ => ⟨S168x128, .f32⟩
  | .hbm, ⟨36, _⟩ => ⟨S_, .f32⟩
  | .hbm, ⟨37, _⟩ => ⟨S168x128, .f32⟩
  | .hbm, ⟨38, _⟩ => ⟨S168x128, .f32⟩
  | _, _ => ⟨S8x168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== PreBwdE.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PreBwdERefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== PreNormE.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormERefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PostNormE.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostNormERefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== PostBwdE.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .bf16⟩
  | .hbm, ⟨4, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .bf16⟩
  | .local _ .vmem, ⟨6, _⟩ => ⟨S128x4096, .bf16⟩
  | .local _ .vmem, ⟨7, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostBwdERefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .bf16⟩
  | .hbm, ⟨50, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Forget.lean ====
abbrev S4096x4096 : Shape := ⟨2, ![4096, 4096]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ForgetRefIdeal.lean ====
abbrev S4096x4096 : Shape := ⟨2, ![4096, 4096]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x4096, .f32⟩
  | .hbm, ⟨3, _⟩ => ⟨S4096x128, .f32⟩
  | .hbm, ⟨4, _⟩ => ⟨S4096x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradForget.lean ====
abbrev S4096x4096 : Shape := ⟨2, ![4096, 4096]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradForgetRefIdeal.lean ====
abbrev S4096x4096 : Shape := ⟨2, ![4096, 4096]⟩
abbrev S4096x128 : Shape := ⟨2, ![4096, 128]⟩
abbrev S_ : Shape := ⟨0, ![]⟩
abbrev S128x4096 : Shape := ⟨2, ![128, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S_, .f32⟩
  | .hbm, ⟨3, _⟩ => ⟨S4096x128, .f32⟩
  | .hbm, ⟨4, _⟩ => ⟨S4096x4096, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S4096x128, .f32⟩
  | .hbm, ⟨9, _⟩ => ⟨S4096x4096, .f32⟩
  | .hbm, ⟨10, _⟩ => ⟨S4096x128, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradHForget.lean ====
abbrev S4096x128 : Shape := ⟨2, ![4096, 128]⟩
abbrev S4096x4096 : Shape := ⟨2, ![4096, 4096]⟩
abbrev S1024x128 : Shape := ⟨2, ![1024, 128]⟩
abbrev S2048x128 : Shape := ⟨2, ![2048, 128]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S4096x128, .bf16⟩
  | .hbm, ⟨2, _⟩ => ⟨S4096x4096, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradHForgetRefIdeal.lean ====
abbrev S4096x128 : Shape := ⟨2, ![4096, 128]⟩
abbrev S_ : Shape := ⟨0, ![]⟩
abbrev S4096x4096 : Shape := ⟨2, ![4096, 4096]⟩
abbrev S128x4096 : Shape := ⟨2, ![128, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x128, .bf16⟩
  | .hbm, ⟨2, _⟩ => ⟨S_, .f32⟩
  | .hbm, ⟨3, _⟩ => ⟨S4096x4096, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S4096x128, .f32⟩
  | .hbm, ⟨9, _⟩ => ⟨S4096x4096, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateSum.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateSumRefIdeal.lean ====
abbrev S4096x128 : Shape := ⟨2, ![4096, 128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .i1⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S_, .f32⟩
  | .hbm, ⟨22, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== Proof.Mm.GradH.lean ====
/-
  The gradient of the normalized rows: the blocks of the call's array are the sums of the sixteen partial products, four
  from each of the gradients of the queries, keys, values and gate, which is the product of the gradients, side by side,
  with the transposed weight groups.
-/
module

public import proofs.«01_k».proof.Defs
public import proofs.«01_k».proof.Proof.Gen.GradHIdeal.Frame
public import proofs.«01_k».proof.Proof.Gen.GradHRefIdeal.Run
public import Idealize.ShloMosaic.Lib.Pipeline.ValueKit
public import Idealize.ShloMosaic.Lib.Pipeline.ReadBack
public import Idealize.ShloMosaic.Lib.Pointwise

@[expose] public section

noncomputable section

namespace Cert.Proof.GradH

open Cert.GradHIdeal Cert.GradHIdeal.Gen
open Idealize.ShloMosaic
open Idealize.ShloMosaic.TcCoe
open Idealize.SL Idealize.SL.Sem

/-! ### Where each window stands; a piece's block is only read at its own four points -/

theorem idx_0 : ∀ t : Fin grid0.N, t.val % 16 ≤ 3 → win0_0.index t = ![t.val / 64, t.val % 16] := by decide +kernel
theorem idx_1 : ∀ t : Fin grid0.N, 4 ≤ t.val % 16 → t.val % 16 ≤ 7 → win0_1.index t = ![t.val / 64, t.val % 16 - 4] := by
  decide +kernel
theorem idx_2 : ∀ t : Fin grid0.N, 8 ≤ t.val % 16 → t.val % 16 ≤ 11 → win0_2.index t = ![t.val / 64, t.val % 16 - 8] := by
  decide +kernel
theorem idx_3 : ∀ t : Fin grid0.N, 12 ≤ t.val % 16 → win0_3.index t = ![t.val / 64, t.val % 16 - 12] := by decide +kernel
theorem idx_4 : ∀ t : Fin grid0.N, win0_4.index t = ![t.val % 16 / 2, t.val / 16 % 4, t.val % 2] := by decide +kernel
theorem idx_5 : ∀ t : Fin grid0.N, win0_5.index t = ![t.val / 64, t.val / 16 % 4] := by decide +kernel

/-! ### The products -/

/-- The product of a block of a gradient and a transposed block of a weight group. -/
def part (a : Vec Ideal S1024x1024 .bf16) (b : Vec Ideal S1x1024x1024 .bf16) (y : S1024x1024.Idx) : EReal :=
  ∑ k : Fin 1024, a (ix2 (y 0) k) * b (ix3 (0 : Fin 1) (y 1) k)

theorem pay_zero (y : S1024x1024.Idx) : k0_pay1 (F := Ideal) y = 0 := by
  pointwise [k0_pay1]

theorem pay_add_0 (x : Vec Ideal S1024x1024 .f32) (a : Vec Ideal S1024x1024 .bf16) (b : Vec Ideal S1x1024x1024 .bf16)
    (y : S1024x1024.Idx) : k0_pay2 (F := Ideal) x a b y = x y + part a b y := by
  pointwise [k0_pay2, part]

theorem pay_add_1 (x : Vec Ideal S1024x1024 .f32) (a : Vec Ideal S1024x1024 .bf16) (b : Vec Ideal S1x1024x1024 .bf16)
    (y : S1024x1024.Idx) : k0_pay3 (F := Ideal) x a b y = x y + part a b y := by
  pointwise [k0_pay3, part]

theorem pay_add_2 (x : Vec Ideal S1024x1024 .f32) (a : Vec Ideal S1024x1024 .bf16) (b : Vec Ideal S1x1024x1024 .bf16)
    (y : S1024x1024.Idx) : k0_pay4 (F := Ideal) x a b y = x y + part a b y := by
  pointwise [k0_pay4, part]

theorem pay_add_3 (x : Vec Ideal S1024x1024 .f32) (a : Vec Ideal S1024x1024 .bf16) (b : Vec Ideal S1x1024x1024 .bf16)
    (y : S1024x1024.Idx) : k0_pay5 (F := Ideal) x a b y = x y + part a b y := by
  pointwise [k0_pay5, part]

/-- The four gradients side by side, at a row and a column. -/
def side (p0 p1 p2 p3 : S4096x4096.Idx → EReal) (r : Fin 4096) (k : Fin 16384) : EReal :=
  if h0 : k.val < 4096 then p0 (ix2 r (⟨k.val, h0⟩ : Fin 4096))
  else if h1 : k.val - 4096 < 4096 then p1 (ix2 r (⟨k.val - 4096, h1⟩ : Fin 4096))
  else if h2 : k.val - 4096 - 4096 < 4096 then p2 (ix2 r (⟨k.val - 4096 - 4096, h2⟩ : Fin 4096))
  else p3 (ix2 r (⟨k.val - 4096 - 4096 - 4096, by omega⟩ : Fin 4096))

/-- The weight group a column belongs to. -/
def groupOf (k : Fin 16384) : Fin 8 := ⟨k.val / 2048, by omega⟩

/-- A column's place in its weight group. -/
def laneOf (k : Fin 16384) : Fin 2048 := ⟨k.val % 2048, by omega⟩

/-- The product of the gradients, side by side, with the transposed weight groups. -/
def product (p0 p1 p2 p3 : S4096x4096.Idx → EReal) (w : S8x4096x2048.Idx → EReal) (i : S4096x4096.Idx) : EReal :=
  ∑ k : Fin 16384, side p0 p1 p2 p3 (i 0) k * w (ix3 (groupOf k) (i 1) (laneOf k))

/-! ### The accumulator -/

variable (m : (ℓ : Loc nD τ sig) → Buf (Elt Ideal) ℓ) (c : Dev nD)

/-- The gradient's block of a point: a block of the piece whose turn it is. -/
def cell (t : Fin cfg0.N) : Vec Ideal S1024x1024 .bf16 :=
  if t.val % 16 ≤ 3 then iblk m c 0 t
  else if t.val % 16 ≤ 7 then iblk m c 1 t
  else if t.val % 16 ≤ 11 then iblk m c 2 t
  else iblk m c 3 t

/-- At the last of a block's sixteen points the accumulator holds the sum of the sixteen partial products. -/
theorem acc_eq (t : Fin cfg0.N) (h : t.val % 16 = 16 - 1) (y : S1024x1024.Idx) :
    (outsAt0 m c t.val t.isLt).2 y
      = ∑ s : Fin 16, part (cell m c ⟨16 * (t.val / 16) + s.val, Pipeline.run_point_lt_of_flush t h s⟩)
          (iblk m c 4 ⟨16 * (t.val / 16) + s.val, Pipeline.run_point_lt_of_flush t h s⟩) y := by
  rw [Pipeline.eq_sum_fin_of_reset_step_apply_of_flush (fun n h => (outsAt0 m c n h).2) 16 (fun _ => (0 : EReal))
    (fun t y => part (cell m c t) (iblk m c 4 t) y)
    (fun t h y => by
      rw [outsAt0_A m c t h (by omega) (by omega) (by omega) (by omega) (by omega)]
      frame_out
      rw [pay_add_0, pay_zero, cell, if_pos (by omega)])
    (fun t h y => by
      by_cases c0 : t.val % 16 ≤ 3
      · rw [outsAt0_B m c t h c0 (by omega) (by omega) (by omega) (by omega)]
        frame_out
        rw [pay_add_0, cell, if_pos c0]
        simp only [read_unread_whole]
      by_cases c1 : t.val % 16 ≤ 7
      · rw [outsAt0_C m c t h c0 (by omega) (by omega) (by omega) (by omega)]
        frame_out
        rw [pay_add_1, cell, if_neg c0, if_pos c1]
        simp only [read_unread_whole]
      by_cases c2 : t.val % 16 ≤ 11
      · rw [outsAt0_D m c t h c0 (by omega) (by omega) (by omega) (by omega)]
        frame_out
        rw [pay_add_2, cell, if_neg c0, if_neg c1, if_pos c2]
        simp only [read_unread_whole]
      by_cases c3 : t.val % 16 = 15
      · rw [outsAt0_F m c t h c0 (by omega) (by omega) (by omega) c3]
        frame_out
        rw [pay_add_3, cell, if_neg c0, if_neg c1, if_neg c2]
        simp only [read_unread_whole]
      · rw [outsAt0_E m c t h c0 (by omega) (by omega) (by omega) c3]
        frame_out
        rw [pay_add_3, cell, if_neg c0, if_neg c1, if_neg c2]
        simp only [read_unread_whole]) t h y, zero_add]

theorem out_eq (t : Fin cfg0.N) (h : t.val % 16 = 15) :
    (outsAt0 m c t.val t.isLt).1 = (outsAt0 m c t.val t.isLt).2 := by
  rw [outsAt0_F m c t (by omega) (by omega) (by omega) (by omega) (by omega) h]
  frame_out

/-- A point's gradient block holds the piece of the gradients, side by side, that the point's columns name. -/
theorem cell_eq (t : Fin cfg0.N) (y : S1024x1024.Idx) (r : Fin 4096) (k : Fin 16384)
    (hr : r.val = 1024 * (t.val / 64) + (y 0).val) (hk : k.val = 1024 * (t.val % 16) + (y 1).val) :
    cell m c t y = side (m (c.tc.loc main_arg0)) (m (c.tc.loc main_arg1)) (m (c.tc.loc main_arg2)) (m (c.tc.loc main_arg3)) r k := by
  have hy : (y 1).val < 1024 := (y 1).isLt
  unfold cell side
  by_cases c0 : t.val % 16 ≤ 3
  · rw [if_pos c0, dif_pos (by omega)]
    blk_ext [iblk, idx_0 t c0]
  by_cases c1 : t.val % 16 ≤ 7
  · rw [if_neg c0, if_pos c1, dif_neg (by omega), dif_pos (by omega)]
    blk_ext [iblk, idx_1 t (by omega) c1]
  by_cases c2 : t.val % 16 ≤ 11
  · rw [if_neg c0, if_neg c1, if_pos c2, dif_neg (by omega), dif_neg (by omega), dif_pos (by omega)]
    blk_ext [iblk, idx_2 t (by omega) c2]
  · rw [if_neg c0, if_neg c1, if_neg c2, dif_neg (by omega), dif_neg (by omega), dif_neg (by omega)]
    blk_ext [iblk, idx_3 t (by omega)]

theorem arr_eq : (dats m 0 c).arrAt 5 cfg0.N = product (m (c.tc.loc main_arg0)) (m (c.tc.loc main_arg1))
    (m (c.tc.loc main_arg2)) (m (c.tc.loc main_arg3)) (m (c.tc.loc main_arg4)) := by
  refine (dats m 0 c).arrAt_eq_of_covers 5 _ (by decide +kernel) fun t hf y => ?_
  have h3 := (flush0_5 t).mp hf
  blk_simp
  rw [after0_5, out_eq m c t h3]
  refine (acc_eq m c t h3 _).trans ?_
  unfold part product
  refine Fin.sum_mul_add_congr fun s k hl => ?_
  congr 1
  · refine cell_eq m c _ _ _ _ ?_ ?_
    · blk_simp [idx_5]
      show t.val / 64 * 1024 + (y 0).val = 1024 * ((16 * (t.val / 16) + s.val) / 64) + (y 0).val
      omega
    · show s.val * 1024 + k.val = 1024 * ((16 * (t.val / 16) + s.val) % 16) + k.val
      omega
  · blk_ext [iblk, idx_4, idx_5, groupOf, laneOf]

/-! ### The reference -/

theorem ref_eq (p0 p1 p2 p3 : S4096x4096.Idx → EReal) (w : S8x4096x2048.Idx → EReal) :
    (Host.dotGeneral (F := Ideal) (φ₁ := .f32) (φ₂ := .f32) GradHRefIdeal.dot_S4096x8x2048_S8x4096x2048_S4096x4096_12_02_0_1_n_n none
      (shapeCast (α := Ideal .f32) GradHRefIdeal.S4096x8x2048
        (extf (F := Ideal) (φ := .bf16) .f32
          (concatenate (α := Ideal .bf16) GradHRefIdeal.S4096x16384 1
            [⟨S4096x4096, p0⟩, ⟨S4096x4096, p1⟩, ⟨S4096x4096, p2⟩, ⟨S4096x4096, p3⟩]
            GradHRefIdeal.Gen.concatenates_S4096x4096_S4096x4096_S4096x4096_S4096x4096_S4096x16384_d1)
          GradHRefIdeal.Gen.bitsLt_bf16_f32)
        GradHRefIdeal.Gen.shapeCasts_S4096x16384_S4096x8x2048)
      (extf (F := Ideal) (φ := .bf16) .f32 w GradHRefIdeal.Gen.bitsLt_bf16_f32) : S4096x4096.Idx → EReal)
      = product p0 p1 p2 p3 w := by
  funext i
  pointwise [product]
  refine Fin.sum_mul_add_congr fun g e hl => ?_
  have hg : groupOf ⟨g.val * 2048 + e.val, hl⟩ = g := by
    simp only [groupOf, Fin.ext_iff]
    omega
  have he : laneOf ⟨g.val * 2048 + e.val, hl⟩ = e := by
    simp only [laneOf, Fin.ext_iff]
    omega
  rw [hg, he]
  rfl

theorem algebraic : Cert.algebraic_GradHIdeal_GradHRefIdeal := by
  intro m g m' g' _ hagree
  refine ⟨fun c => product (m (c.tc.loc main_arg0)) (m (c.tc.loc main_arg1)) (m (c.tc.loc main_arg2))
    (m (c.tc.loc main_arg3)) (m (c.tc.loc main_arg4)), ?_, ?_⟩
  · refine (θ_run defs _ _).mono (fun r h c => ?_) (run_main m g)
    exact ⟨((h c).1 5).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩
  · refine (θ_run GradHRefIdeal.defs _ _).mono (fun r h c => ?_) (GradHRefIdeal.Value.run (F := Ideal) m' g')
    obtain ⟨h0, h1, h2, h3, h4, h5⟩ := h c
    refine ⟨h0.trans ?_, h1, h2, h3, h4, h5⟩
    obtain ⟨e0, e1, e2, e3, e4⟩ := hagree c
    rw [e0, e1, e2, e3, e4]
    exact ref_eq _ _ _ _ _

end Cert.Proof.GradH

end
-- ==== Proof.Mm.GradW.lean ====
/-
  The gradient of the input weights: the blocks of the call's array are the sums of the four partial products, each block
  against one of the gradients of the queries, keys, values and gate, which is the product of the transposed normalized
  rows with the gradients, side by side, laid out by weight group.
-/
module

public import proofs.«01_k».proof.Defs
public import proofs.«01_k».proof.Proof.Gen.GradWIdeal.Frame
public import proofs.«01_k».proof.Proof.Gen.GradWRefIdeal.Run
public import Idealize.ShloMosaic.Lib.Pipeline.ValueKit
public import Idealize.ShloMosaic.Lib.Pipeline.ReadBack
public import Idealize.ShloMosaic.Lib.Pointwise

@[expose] public section

noncomputable section

namespace Cert.Proof.GradW

open Cert.GradWIdeal Cert.GradWIdeal.Gen
open Idealize.ShloMosaic
open Idealize.ShloMosaic.TcCoe
open Idealize.SL Idealize.SL.Sem

/-! ### Where each window stands; a piece's block is only read at its own columns -/

theorem idx_0 : ∀ t : Fin grid0.N, win0_0.index t = ![t.val % 4, t.val / 64] := by decide +kernel
theorem idx_1 : ∀ t : Fin grid0.N, t.val / 4 % 16 ≤ 3 → win0_1.index t = ![t.val % 4, t.val / 4 % 16] := by decide +kernel
theorem idx_2 : ∀ t : Fin grid0.N, 4 ≤ t.val / 4 % 16 → t.val / 4 % 16 ≤ 7 →
    win0_2.index t = ![t.val % 4, t.val / 4 % 16 - 4] := by decide +kernel
theorem idx_3 : ∀ t : Fin grid0.N, 8 ≤ t.val / 4 % 16 → t.val / 4 % 16 ≤ 11 →
    win0_3.index t = ![t.val % 4, t.val / 4 % 16 - 8] := by decide +kernel
theorem idx_4 : ∀ t : Fin grid0.N, 12 ≤ t.val / 4 % 16 → win0_4.index t = ![t.val % 4, t.val / 4 % 16 - 12] := by
  decide +kernel
theorem idx_5 : ∀ t : Fin grid0.N, win0_5.index t = ![t.val / 4 % 16 / 2, t.val / 64, t.val / 4 % 2] := by decide +kernel

/-! ### The products -/

/-- The product of a transposed block of rows and a block of a gradient. -/
def part (a b : Vec Ideal S1024x1024 .bf16) (y : S1024x1024.Idx) : EReal :=
  ∑ k : Fin 1024, a (ix2 k (y 0)) * b (ix2 k (y 1))

theorem pay_out (x : Vec Ideal S1024x1024 .f32) (y : S1x1024x1024.Idx) :
    k0_pay1 (F := Ideal) x y = x (ix2 (y 1) (y 2)) := by
  pointwise [k0_pay1]

theorem pay_zero (y : S1024x1024.Idx) : k0_pay2 (F := Ideal) y = 0 := by
  pointwise [k0_pay2]

theorem pay_add_0 (x : Vec Ideal S1024x1024 .f32) (a b : Vec Ideal S1024x1024 .bf16)
    (y : S1024x1024.Idx) : k0_pay3 (F := Ideal) x a b y = x y + part a b y := by
  pointwise [k0_pay3, part]

theorem pay_add_1 (x : Vec Ideal S1024x1024 .f32) (a b : Vec Ideal S1024x1024 .bf16)
    (y : S1024x1024.Idx) : k0_pay4 (F := Ideal) x a b y = x y + part a b y := by
  pointwise [k0_pay4, part]

theorem pay_add_2 (x : Vec Ideal S1024x1024 .f32) (a b : Vec Ideal S1024x1024 .bf16)
    (y : S1024x1024.Idx) : k0_pay5 (F := Ideal) x a b y = x y + part a b y := by
  pointwise [k0_pay5, part]

theorem pay_add_3 (x : Vec Ideal S1024x1024 .f32) (a b : Vec Ideal S1024x1024 .bf16)
    (y : S1024x1024.Idx) : k0_pay6 (F := Ideal) x a b y = x y + part a b y := by
  pointwise [k0_pay6, part]

/-- The four gradients side by side, at a row and a column. -/
def side (p0 p1 p2 p3 : S4096x4096.Idx → EReal) (r : Fin 4096) (k : Fin 16384) : EReal :=
  if h0 : k.val < 4096 then p0 (ix2 r (⟨k.val, h0⟩ : Fin 4096))
  else if h1 : k.val - 4096 < 4096 then p1 (ix2 r (⟨k.val - 4096, h1⟩ : Fin 4096))
  else if h2 : k.val - 4096 - 4096 < 4096 then p2 (ix2 r (⟨k.val - 4096 - 4096, h2⟩ : Fin 4096))
  else p3 (ix2 r (⟨k.val - 4096 - 4096 - 4096, by omega⟩ : Fin 4096))

/-- The column of a place in a weight group. -/
def colOf (g : Fin 8) (e : Fin 2048) : Fin 16384 := ⟨g.val * 2048 + e.val, by omega⟩

/-- The product of the transposed rows with the gradients, side by side, laid out by weight group. -/
def product (h p0 p1 p2 p3 : S4096x4096.Idx → EReal) (i : S8x4096x2048.Idx) : EReal :=
  ∑ k : Fin 4096, h (ix2 k (i 1)) * side p0 p1 p2 p3 k (colOf (i 0) (i 2))

/-! ### The accumulator -/

variable (m : (ℓ : Loc nD τ sig) → Buf (Elt Ideal) ℓ) (c : Dev nD)

/-- The gradient's block of a point: a block of the piece its columns fall in. -/
def cell (t : Fin cfg0.N) : Vec Ideal S1024x1024 .bf16 :=
  if t.val / 4 % 16 ≤ 3 then iblk m c 1 t
  else if t.val / 4 % 16 ≤ 7 then iblk m c 2 t
  else if t.val / 4 % 16 ≤ 11 then iblk m c 3 t
  else iblk m c 4 t

/-- At the last of a block's four points the accumulator holds the sum of the four partial products. -/
theorem acc_eq (t : Fin cfg0.N) (h : t.val % 4 = 4 - 1) (y : S1024x1024.Idx) :
    (outsAt0 m c t.val t.isLt).2 y
      = ∑ s : Fin 4, part (iblk m c 0 ⟨4 * (t.val / 4) + s.val, Pipeline.run_point_lt_of_flush t h s⟩)
          (cell m c ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (cell m c t) y)
    (fun t h y => by
      by_cases c0 : t.val / 4 % 16 ≤ 3
      · rw [outsAt0_A m c t h c0 (by omega) (by omega) (by omega) (by omega)]
        frame_out
        rw [pay_add_0, pay_zero, cell, if_pos c0]
      by_cases c1 : t.val / 4 % 16 ≤ 7
      · rw [outsAt0_D m c t h c0 (by omega) (by omega) (by omega) (by omega)]
        frame_out
        rw [pay_add_1, pay_zero, cell, if_neg c0, if_pos c1]
      by_cases c2 : t.val / 4 % 16 ≤ 11
      · rw [outsAt0_G m c t h c0 (by omega) (by omega) (by omega) (by omega)]
        frame_out
        rw [pay_add_2, pay_zero, cell, if_neg c0, if_neg c1, if_pos c2]
      · rw [outsAt0_J m c t h c0 (by omega) (by omega) (by omega) (by omega)]
        frame_out
        rw [pay_add_3, pay_zero, cell, if_neg c0, if_neg c1, if_neg c2])
    (fun t h y => by
      by_cases c0 : t.val / 4 % 16 ≤ 3
      · by_cases c3 : t.val % 4 = 3
        · rw [outsAt0_C m c t h c0 (by omega) (by omega) (by omega) c3]
          frame_out
          rw [pay_add_0, cell, if_pos c0]
          simp only [read_unread_whole]
        · rw [outsAt0_B m c t h c0 (by omega) (by omega) (by omega) c3]
          frame_out
          rw [pay_add_0, cell, if_pos c0]
          simp only [read_unread_whole]
      by_cases c1 : t.val / 4 % 16 ≤ 7
      · by_cases c3 : t.val % 4 = 3
        · rw [outsAt0_F m c t h c0 (by omega) (by omega) (by omega) c3]
          frame_out
          rw [pay_add_1, cell, if_neg c0, if_pos c1]
          simp only [read_unread_whole]
        · rw [outsAt0_E m c t h c0 (by omega) (by omega) (by omega) c3]
          frame_out
          rw [pay_add_1, cell, if_neg c0, if_pos c1]
          simp only [read_unread_whole]
      by_cases c2 : t.val / 4 % 16 ≤ 11
      · by_cases c3 : t.val % 4 = 3
        · rw [outsAt0_I m c t h c0 (by omega) (by omega) (by omega) c3]
          frame_out
          rw [pay_add_2, cell, if_neg c0, if_neg c1, if_pos c2]
          simp only [read_unread_whole]
        · rw [outsAt0_H m c t h c0 (by omega) (by omega) (by omega) c3]
          frame_out
          rw [pay_add_2, cell, if_neg c0, if_neg c1, if_pos c2]
          simp only [read_unread_whole]
      · by_cases c3 : t.val % 4 = 3
        · rw [outsAt0_L m c t h c0 (by omega) (by omega) (by omega) c3]
          frame_out
          rw [pay_add_3, cell, if_neg c0, if_neg c1, if_neg c2]
          simp only [read_unread_whole]
        · rw [outsAt0_K m c t h c0 (by omega) (by omega) (by omega) c3]
          frame_out
          rw [pay_add_3, cell, if_neg c0, if_neg c1, if_neg c2]
          simp only [read_unread_whole]) t h y, zero_add]

theorem out_eq (t : Fin cfg0.N) (h : t.val % 4 = 3) :
    (outsAt0 m c t.val t.isLt).1 = k0_pay1 (F := Ideal) (outsAt0 m c t.val t.isLt).2 := by
  by_cases c0 : t.val / 4 % 16 ≤ 3
  · rw [outsAt0_C m c t (by omega) c0 (by omega) (by omega) (by omega) h]
    frame_out
  by_cases c1 : t.val / 4 % 16 ≤ 7
  · rw [outsAt0_F m c t (by omega) c0 (by omega) (by omega) (by omega) h]
    frame_out
  by_cases c2 : t.val / 4 % 16 ≤ 11
  · rw [outsAt0_I m c t (by omega) c0 (by omega) (by omega) (by omega) h]
    frame_out
  · rw [outsAt0_L m c t (by omega) c0 (by omega) (by omega) (by omega) h]
    frame_out

/-- A point's gradient block holds the piece of the gradients, side by side, that the point's columns name. -/
theorem cell_eq (t : Fin cfg0.N) (y : S1024x1024.Idx) (r : Fin 4096) (k : Fin 16384)
    (hr : r.val = 1024 * (t.val % 4) + (y 0).val) (hk : k.val = 1024 * (t.val / 4 % 16) + (y 1).val) :
    cell m c t y = side (m (c.tc.loc main_arg1)) (m (c.tc.loc main_arg2)) (m (c.tc.loc main_arg3)) (m (c.tc.loc main_arg4)) r k := by
  have hy : (y 1).val < 1024 := (y 1).isLt
  unfold cell side
  by_cases c0 : t.val / 4 % 16 ≤ 3
  · rw [if_pos c0, dif_pos (by omega)]
    blk_ext [iblk, idx_1 t c0]
  by_cases c1 : t.val / 4 % 16 ≤ 7
  · rw [if_neg c0, if_pos c1, dif_neg (by omega), dif_pos (by omega)]
    blk_ext [iblk, idx_2 t (by omega) c1]
  by_cases c2 : t.val / 4 % 16 ≤ 11
  · rw [if_neg c0, if_neg c1, if_pos c2, dif_neg (by omega), dif_neg (by omega), dif_pos (by omega)]
    blk_ext [iblk, idx_3 t (by omega) c2]
  · rw [if_neg c0, if_neg c1, if_neg c2, dif_neg (by omega), dif_neg (by omega), dif_neg (by omega)]
    blk_ext [iblk, idx_4 t (by omega)]

theorem arr_eq : (dats m 0 c).arrAt 5 cfg0.N = product (m (c.tc.loc main_arg0)) (m (c.tc.loc main_arg1))
    (m (c.tc.loc main_arg2)) (m (c.tc.loc main_arg3)) (m (c.tc.loc main_arg4)) := by
  refine (dats m 0 c).arrAt_eq_of_covers 5 _ (by decide +kernel) fun t hf y => ?_
  have h3 := (flush0_5 t).mp hf
  blk_simp
  rw [after0_5, out_eq m c t h3]
  refine ((pay_out _ _).trans (acc_eq m c t h3 _)).trans ?_
  unfold part product
  refine Fin.sum_mul_add_congr fun s k hl => ?_
  congr 1
  · blk_ext [iblk, idx_0, idx_5]
  · refine cell_eq m c _ _ _ _ ?_ ?_
    · show s.val * 1024 + k.val = 1024 * ((4 * (t.val / 4) + s.val) % 4) + k.val
      omega
    · blk_simp [idx_5, colOf]
      show (t.val / 4 % 16 / 2) * 2048 + (t.val / 4 % 2 * 1024 + (y 2).val)
        = 1024 * ((4 * (t.val / 4) + s.val) / 4 % 16) + (y 2).val
      omega

/-! ### The reference -/

theorem ref_eq (h p0 p1 p2 p3 : S4096x4096.Idx → EReal) :
    (truncf (F := Ideal) (φ := .f32) .bf16
      (transpose (α := Ideal .f32) S8x4096x2048 [0, 2, 1]
        (Host.dotGeneral (F := Ideal) (φ₁ := .f32) (φ₂ := .f32) GradWRefIdeal.dot_S4096x8x2048_S4096x4096_S8x2048x4096_0_0_12_1_n_n none
          (shapeCast (α := Ideal .f32) GradWRefIdeal.S4096x8x2048
            (extf (F := Ideal) (φ := .bf16) .f32
              (concatenate (α := Ideal .bf16) GradWRefIdeal.S4096x16384 1
                [⟨S4096x4096, p0⟩, ⟨S4096x4096, p1⟩, ⟨S4096x4096, p2⟩, ⟨S4096x4096, p3⟩]
                GradWRefIdeal.Gen.concatenates_S4096x4096_S4096x4096_S4096x4096_S4096x4096_S4096x16384_d1)
              GradWRefIdeal.Gen.bitsLt_bf16_f32)
            GradWRefIdeal.Gen.shapeCasts_S4096x16384_S4096x8x2048)
          (extf (F := Ideal) (φ := .bf16) .f32 h GradWRefIdeal.Gen.bitsLt_bf16_f32))
        GradWRefIdeal.Gen.transposes_S8x2048x4096_S8x4096x2048_0_2_1)
      GradWRefIdeal.Gen.bitsLt_bf16_f32 : S8x4096x2048.Idx → EReal)
      = product h p0 p1 p2 p3 := by
  funext i
  pointwise [product, side, colOf]
  exact Finset.sum_congr rfl fun k _ => mul_comm _ _

theorem algebraic : Cert.algebraic_GradWIdeal_GradWRefIdeal := by
  intro m g m' g' _ hagree
  refine ⟨fun c => product (m (c.tc.loc main_arg0)) (m (c.tc.loc main_arg1)) (m (c.tc.loc main_arg2))
    (m (c.tc.loc main_arg3)) (m (c.tc.loc main_arg4)), ?_, ?_⟩
  · refine (θ_run defs _ _).mono (fun r h c => ?_) (run_main m g)
    exact ⟨((h c).1 5).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩
  · refine (θ_run GradWRefIdeal.defs _ _).mono (fun r h c => ?_) (GradWRefIdeal.Value.run (F := Ideal) m' g')
    obtain ⟨h0, h1, h2, h3, h4, h5⟩ := h c
    refine ⟨h0.trans ?_, h1, h2, h3, h4, h5⟩
    obtain ⟨e0, e1, e2, e3, e4⟩ := hagree c
    rw [e0, e1, e2, e3, e4]
    exact ref_eq _ _ _ _ _

end Cert.Proof.GradW

end
-- ==== Proof.Mm.GradMixed.lean ====
/-
  The gradient of the mixed rows: the blocks of the call's array are the sums of the four partial products, which is the
  product of the rows' gradient with the transposed weights.
-/
module

public import proofs.«01_k».proof.Defs
public import proofs.«01_k».proof.Proof.Gen.GradMixedIdeal.Frame
public import proofs.«01_k».proof.Proof.Gen.GradMixedRefIdeal.Run
public import Idealize.ShloMosaic.Lib.Pipeline.ValueKit
public import Idealize.ShloMosaic.Lib.Pipeline.ReadBack
public import Idealize.ShloMosaic.Lib.Pointwise

@[expose] public section

noncomputable section

namespace Cert.Proof.GradMixed

open Cert.GradMixedIdeal Cert.GradMixedIdeal.Gen
open Idealize.ShloMosaic
open Idealize.ShloMosaic.TcCoe
open Idealize.SL Idealize.SL.Sem

theorem idx_0 : ∀ t : Fin grid0.N, win0_0.index t = ![t.val / 8, t.val % 4] := by decide +kernel
theorem idx_1 : ∀ t : Fin grid0.N, win0_1.index t = ![t.val / 4 % 2, t.val % 4] := by decide +kernel
theorem idx_2 : ∀ t : Fin grid0.N, win0_2.index t = ![t.val / 8, t.val / 4 % 2] := by decide +kernel

/-- The product of a block of the left matrix and a transposed block of the right one. -/
def part (a : Vec Ideal S1024x1024 .bf16) (b : Vec Ideal S2048x1024 .bf16) (y : S1024x2048.Idx) : EReal :=
  ∑ k : Fin 1024, a (ix2 (y 0) k) * b (ix2 (y 1) k)

theorem pay_zero (y : S1024x2048.Idx) : k0_pay1 (F := Ideal) y = 0 := by
  pointwise [k0_pay1]

theorem pay_add (x : Vec Ideal S1024x2048 .f32) (a : Vec Ideal S1024x1024 .bf16) (b : Vec Ideal S2048x1024 .bf16)
    (y : S1024x2048.Idx) : k0_pay2 (F := Ideal) x a b y = x y + part a b y := by
  pointwise [k0_pay2, part]

/-- The product of a matrix and a transposed matrix. -/
def product (a b : S4096x4096.Idx → EReal) (i : S4096x4096.Idx) : EReal :=
  ∑ k : Fin 4096, a (ix2 (i 0) k) * b (ix2 (i 1) k)

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (iblk m c 1 t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · blk_ext [iblk, idx_1, idx_2]

/-! ### The reference -/

theorem ref_eq (a b : S4096x4096.Idx → EReal) :
    (Host.dotGeneral (F := Ideal) (φ₁ := .f32) (φ₂ := .f32) GradMixedRefIdeal.dot_S4096x4096_S4096x4096_S4096x4096_1_1_0_0_n_n none
      (extf (F := Ideal) (φ := .bf16) .f32 a GradMixedRefIdeal.Gen.bitsLt_bf16_f32) (extf (F := Ideal) (φ := .bf16) .f32 b GradMixedRefIdeal.Gen.bitsLt_bf16_f32) :
        S4096x4096.Idx → EReal) = product a b := by
  funext i
  pointwise [product]

theorem algebraic : Cert.algebraic_GradMixedIdeal_GradMixedRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run GradMixedRefIdeal.defs _ _).mono (fun r h c => ?_) (GradMixedRefIdeal.Value.run (F := Ideal) m' g')
    obtain ⟨h0, h1, h2⟩ := h c
    refine ⟨h0.trans ?_, h1, h2⟩
    rw [(hagree c).1, (hagree c).2]
    exact ref_eq _ _

end Cert.Proof.GradMixed

end
-- ==== Proof.Mm.GradOut.lean ====
/-
  The gradient of the output weights: the blocks of the call's array are the sums of the four partial products, which is
  the product of the transposed mixed rows with the rows' gradient.
-/
module

public import proofs.«01_k».proof.Defs
public import proofs.«01_k».proof.Proof.Gen.GradOutIdeal.Frame
public import proofs.«01_k».proof.Proof.Gen.GradOutRefIdeal.Run
public import Idealize.ShloMosaic.Lib.Pipeline.ValueKit
public import Idealize.ShloMosaic.Lib.Pipeline.ReadBack
public import Idealize.ShloMosaic.Lib.Pointwise

@[expose] public section

noncomputable section

namespace Cert.Proof.GradOut

open Cert.GradOutIdeal Cert.GradOutIdeal.Gen
open Idealize.ShloMosaic
open Idealize.ShloMosaic.TcCoe
open Idealize.SL Idealize.SL.Sem

theorem idx_0 : ∀ t : Fin grid0.N, win0_0.index t = ![t.val % 4, t.val / 8] := by decide +kernel
theorem idx_1 : ∀ t : Fin grid0.N, win0_1.index t = ![t.val % 4, t.val / 4 % 2] := by decide +kernel
theorem idx_2 : ∀ t : Fin grid0.N, win0_2.index t = ![t.val / 8, t.val / 4 % 2] := by decide +kernel

/-- The product of a transposed block of the left matrix and a block of the right one. -/
def part (a : Vec Ideal S1024x1024 .bf16) (b : Vec Ideal S1024x2048 .bf16) (y : S1024x2048.Idx) : EReal :=
  ∑ k : Fin 1024, a (ix2 k (y 0)) * b (ix2 k (y 1))

theorem pay_zero (y : S1024x2048.Idx) : k0_pay1 (F := Ideal) y = 0 := by
  pointwise [k0_pay1]

theorem pay_add (x : Vec Ideal S1024x2048 .f32) (a : Vec Ideal S1024x1024 .bf16) (b : Vec Ideal S1024x2048 .bf16)
    (y : S1024x2048.Idx) : k0_pay2 (F := Ideal) x a b y = x y + part a b y := by
  pointwise [k0_pay2, part]

theorem pay_out (x : Vec Ideal S1024x2048 .f32) : k0_pay3 (F := Ideal) x = x := by
  funext y
  pointwise [k0_pay3]

/-- The product of a transposed matrix and a matrix. -/
def product (a b : S4096x4096.Idx → EReal) (i : S4096x4096.Idx) : EReal :=
  ∑ k : Fin 4096, a (ix2 k (i 0)) * b (ix2 k (i 1))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (iblk m c 1 t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out
  exact pay_out _

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · blk_ext [iblk, idx_1, idx_2]

/-! ### The reference -/

theorem ref_eq (a b : S4096x4096.Idx → EReal) :
    (truncf (F := Ideal) (φ := .f32) .bf16 (transpose (α := Ideal .f32) S4096x4096 [1, 0] ((Host.dotGeneral (F := Ideal) (φ₁ := .f32) (φ₂ := .f32) GradOutRefIdeal.dot_S4096x4096_S4096x4096_S4096x4096_0_0_1_1_n_n none
      (extf (F := Ideal) (φ := .bf16) .f32 b GradOutRefIdeal.Gen.bitsLt_bf16_f32) (extf (F := Ideal) (φ := .bf16) .f32 a GradOutRefIdeal.Gen.bitsLt_bf16_f32))) GradOutRefIdeal.Gen.transposes_S4096x4096_S4096x4096_1_0) GradOutRefIdeal.Gen.bitsLt_bf16_f32 :
        S4096x4096.Idx → EReal) = product a b := by
  funext i
  pointwise [product]
  exact Finset.sum_congr rfl fun k _ => mul_comm _ _

theorem algebraic : Cert.algebraic_GradOutIdeal_GradOutRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run GradOutRefIdeal.defs _ _).mono (fun r h c => ?_) (GradOutRefIdeal.Value.run (F := Ideal) m' g')
    obtain ⟨h0, h1, h2⟩ := h c
    refine ⟨h0.trans ?_, h1, h2⟩
    rw [(hagree c).1, (hagree c).2]
    exact ref_eq _ _

end Cert.Proof.GradOut

end
-- ==== Proof.Mm.Qkv.lean ====
/-
  The projections to queries, keys and values: the blocks of the call's array are the sums of the four partial products, which is
  the product of the rows with the weight groups.
-/
module

public import proofs.«01_k».proof.Defs
public import proofs.«01_k».proof.Proof.Gen.QkvIdeal.Frame
public import proofs.«01_k».proof.Proof.Gen.QkvRefIdeal.Run
public import Idealize.ShloMosaic.Lib.Pipeline.ValueKit
public import Idealize.ShloMosaic.Lib.Pipeline.ReadBack
public import Idealize.ShloMosaic.Lib.Pointwise

@[expose] public section

noncomputable section

namespace Cert.Proof.Qkv

open Cert.QkvIdeal Cert.QkvIdeal.Gen
open Idealize.ShloMosaic
open Idealize.ShloMosaic.TcCoe
open Idealize.SL Idealize.SL.Sem

theorem idx_0 : ∀ t : Fin grid0.N, win0_0.index t = ![t.val / 24, t.val % 4] := by decide +kernel
theorem idx_1 : ∀ t : Fin grid0.N, win0_1.index t = ![t.val / 4 % 6, t.val % 4, 0] := by decide +kernel
theorem idx_2 : ∀ t : Fin grid0.N, win0_2.index t = ![t.val / 24, t.val / 4 % 6] := by decide +kernel

/-- The product of a block of the left matrix and a block of the right one. -/
def part (a : Vec Ideal S1024x1024 .bf16) (b : Vec Ideal S1x1024x2048 .bf16) (y : S1024x2048.Idx) : EReal :=
  ∑ k : Fin 1024, a (ix2 (y 0) k) * b (ix3 (0 : Fin 1) k (y 1))

theorem pay_zero (y : S1024x2048.Idx) : k0_pay1 (F := Ideal) y = 0 := by
  pointwise [k0_pay1]

theorem pay_add (x : Vec Ideal S1024x2048 .f32) (a : Vec Ideal S1024x1024 .bf16) (b : Vec Ideal S1x1024x2048 .bf16)
    (y : S1024x2048.Idx) : k0_pay2 (F := Ideal) x a b y = x y + part a b y := by
  pointwise [k0_pay2, part]

theorem pay_out (x : Vec Ideal S1024x2048 .f32) : k0_pay3 (F := Ideal) x = x := by
  funext y
  pointwise [k0_pay3]

/-- The weight group a column belongs to. -/
def groupOf (j : Fin 12288) : Fin 8 := ⟨j.val / 2048, by omega⟩

/-- A column's place in its weight group. -/
def laneOf (j : Fin 12288) : Fin 2048 := ⟨j.val % 2048, by omega⟩

/-- The product of the rows with the weight groups. -/
def product (a : S4096x4096.Idx → EReal) (b : S8x4096x2048.Idx → EReal) (i : S4096x12288.Idx) : EReal :=
  ∑ k : Fin 4096, a (ix2 (i 0) k) * b (ix3 (groupOf (i 1)) k (laneOf (i 1)))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (iblk m c 1 t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out
  exact pay_out _

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · blk_ext [iblk, idx_1, idx_2, groupOf, laneOf]

/-! ### The reference -/

theorem ref_eq (a : S4096x4096.Idx → EReal) (b : S8x4096x2048.Idx → EReal) :
    ((truncf (F := Ideal) (φ := .f32) .bf16 (extractStridedSlice (α := Ideal .f32) S4096x12288 ![0, 0] (shapeCast (α := Ideal .f32) QkvRefIdeal.S4096x16384 ((Host.dotGeneral (F := Ideal) (φ₁ := .f32) (φ₂ := .f32) QkvRefIdeal.dot_S4096x4096_S8x4096x2048_S4096x8x2048_1_1_0_02_n_n none
      (extf (F := Ideal) (φ := .bf16) .f32 a QkvRefIdeal.Gen.bitsLt_bf16_f32) (extf (F := Ideal) (φ := .bf16) .f32 b QkvRefIdeal.Gen.bitsLt_bf16_f32))) QkvRefIdeal.Gen.shapeCasts_S4096x8x2048_S4096x16384) QkvRefIdeal.Gen.slices_S4096x16384_S4096x12288_0_0) QkvRefIdeal.Gen.bitsLt_bf16_f32) :
        S4096x12288.Idx → EReal) = product a b := by
  funext i
  pointwise [product, groupOf, laneOf]

theorem algebraic : Cert.algebraic_QkvIdeal_QkvRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run QkvRefIdeal.defs _ _).mono (fun r h c => ?_) (QkvRefIdeal.Value.run (F := Ideal) m' g')
    obtain ⟨h0, h1, h2⟩ := h c
    refine ⟨h0.trans ?_, h1, h2⟩
    rw [(hagree c).1, (hagree c).2]
    exact ref_eq _ _

end Cert.Proof.Qkv

end
-- ==== Proof.Mm.Gate.lean ====
/-
  The projection to the gate: the blocks of the call's array are the sums of the four partial products, which is
  the product of the rows with the weight groups.
-/
module

public import proofs.«01_k».proof.Defs
public import proofs.«01_k».proof.Proof.Gen.GateIdeal.Frame
public import proofs.«01_k».proof.Proof.Gen.GateRefIdeal.Run
public import Idealize.ShloMosaic.Lib.Pipeline.ValueKit
public import Idealize.ShloMosaic.Lib.Pipeline.ReadBack
public import Idealize.ShloMosaic.Lib.Pointwise

@[expose] public section

noncomputable section

namespace Cert.Proof.Gate

open Cert.GateIdeal Cert.GateIdeal.Gen
open Idealize.ShloMosaic
open Idealize.ShloMosaic.TcCoe
open Idealize.SL Idealize.SL.Sem

theorem idx_0 : ∀ t : Fin grid0.N, win0_0.index t = ![t.val / 8, t.val % 4] := by decide +kernel
theorem idx_1 : ∀ t : Fin grid0.N, win0_1.index t = ![t.val / 4 % 2 + 6, t.val % 4, 0] := by decide +kernel
theorem idx_2 : ∀ t : Fin grid0.N, win0_2.index t = ![t.val / 8, t.val / 4 % 2] := by decide +kernel

/-- The product of a block of the left matrix and a block of the right one. -/
def part (a : Vec Ideal S1024x1024 .bf16) (b : Vec Ideal S1x1024x2048 .bf16) (y : S1024x2048.Idx) : EReal :=
  ∑ k : Fin 1024, a (ix2 (y 0) k) * b (ix3 (0 : Fin 1) k (y 1))

theorem pay_zero (y : S1024x2048.Idx) : k0_pay1 (F := Ideal) y = 0 := by
  pointwise [k0_pay1]

theorem pay_add (x : Vec Ideal S1024x2048 .f32) (a : Vec Ideal S1024x1024 .bf16) (b : Vec Ideal S1x1024x2048 .bf16)
    (y : S1024x2048.Idx) : k0_pay2 (F := Ideal) x a b y = x y + part a b y := by
  pointwise [k0_pay2, part]

/-- The weight group a column belongs to. -/
def groupOf (j : Fin 4096) : Fin 8 := ⟨(12288 + j.val) / 2048, by omega⟩

/-- A column's place in its weight group. -/
def laneOf (j : Fin 4096) : Fin 2048 := ⟨(12288 + j.val) % 2048, by omega⟩

/-- The product of the rows with the weight groups. -/
def product (a : S4096x4096.Idx → EReal) (b : S8x4096x2048.Idx → EReal) (i : S4096x4096.Idx) : EReal :=
  ∑ k : Fin 4096, a (ix2 (i 0) k) * b (ix3 (groupOf (i 1)) k (laneOf (i 1)))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (iblk m c 1 t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · blk_ext [iblk, idx_1, idx_2, groupOf, laneOf]

/-! ### The reference -/

theorem ref_eq (a : S4096x4096.Idx → EReal) (b : S8x4096x2048.Idx → EReal) :
    ((extractStridedSlice (α := Ideal .f32) S4096x4096 ![0, 12288] (shapeCast (α := Ideal .f32) GateRefIdeal.S4096x16384 ((Host.dotGeneral (F := Ideal) (φ₁ := .f32) (φ₂ := .f32) GateRefIdeal.dot_S4096x4096_S8x4096x2048_S4096x8x2048_1_1_0_02_n_n none
      (extf (F := Ideal) (φ := .bf16) .f32 a GateRefIdeal.Gen.bitsLt_bf16_f32) (extf (F := Ideal) (φ := .bf16) .f32 b GateRefIdeal.Gen.bitsLt_bf16_f32))) GateRefIdeal.Gen.shapeCasts_S4096x8x2048_S4096x16384) GateRefIdeal.Gen.slices_S4096x16384_S4096x4096_0_12288) :
        S4096x4096.Idx → EReal) = product a b := by
  funext i
  pointwise [product, groupOf, laneOf]

theorem algebraic : Cert.algebraic_GateIdeal_GateRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run GateRefIdeal.defs _ _).mono (fun r h c => ?_) (GateRefIdeal.Value.run (F := Ideal) m' g')
    obtain ⟨h0, h1, h2⟩ := h c
    refine ⟨h0.trans ?_, h1, h2⟩
    rw [(hagree c).1, (hagree c).2]
    exact ref_eq _ _

end Cert.Proof.Gate

end
-- ==== Proof.Mm.OutProj.lean ====
/-
  The output projection: the blocks of the call's array are the sums of the four partial products, which is the product
  of the two matrices.
-/
module

public import proofs.«01_k».proof.Defs
public import proofs.«01_k».proof.Proof.Gen.OutProjIdeal.Frame
public import proofs.«01_k».proof.Proof.Gen.OutProjRefIdeal.Run
public import Idealize.ShloMosaic.Lib.Pipeline.ValueKit
public import Idealize.ShloMosaic.Lib.Pipeline.ReadBack
public import Idealize.ShloMosaic.Lib.Pointwise

@[expose] public section

noncomputable section

namespace Cert.Proof.OutProj

open Cert.OutProjIdeal Cert.OutProjIdeal.Gen
open Idealize.ShloMosaic
open Idealize.ShloMosaic.TcCoe
open Idealize.SL Idealize.SL.Sem

theorem idx_0 : ∀ t : Fin grid0.N, win0_0.index t = ![t.val / 8, t.val % 4] := by decide +kernel
theorem idx_1 : ∀ t : Fin grid0.N, win0_1.index t = ![t.val % 4, t.val / 4 % 2] := by decide +kernel
theorem idx_2 : ∀ t : Fin grid0.N, win0_2.index t = ![t.val / 8, t.val / 4 % 2] := by decide +kernel

/-- The product of a block of the left matrix and a block of the right one. -/
def part (a : Vec Ideal S1024x1024 .bf16) (b : Vec Ideal S1024x2048 .bf16) (y : S1024x2048.Idx) : EReal :=
  ∑ k : Fin 1024, a (ix2 (y 0) k) * b (ix2 k (y 1))

theorem pay_zero (y : S1024x2048.Idx) : k0_pay1 (F := Ideal) y = 0 := by
  pointwise [k0_pay1]

theorem pay_add (x : Vec Ideal S1024x2048 .f32) (a : Vec Ideal S1024x1024 .bf16) (b : Vec Ideal S1024x2048 .bf16)
    (y : S1024x2048.Idx) : k0_pay2 (F := Ideal) x a b y = x y + part a b y := by
  pointwise [k0_pay2, part]

/-- The product of the two matrices. -/
def product (a b : S4096x4096.Idx → EReal) (i : S4096x4096.Idx) : EReal :=
  ∑ k : Fin 4096, a (ix2 (i 0) k) * b (ix2 k (i 1))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (iblk m c 1 t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · blk_ext [iblk, idx_1, idx_2]

/-! ### The reference -/

theorem ref_eq (a b : S4096x4096.Idx → EReal) :
    (Host.dotGeneral (F := Ideal) (φ₁ := .f32) (φ₂ := .f32) OutProjRefIdeal.dot_S4096x4096_S4096x4096_S4096x4096_1_0_0_1_n_n none
      (extf (F := Ideal) (φ := .bf16) .f32 a OutProjRefIdeal.Gen.bitsLt_bf16_f32) (extf (F := Ideal) (φ := .bf16) .f32 b OutProjRefIdeal.Gen.bitsLt_bf16_f32) :
        S4096x4096.Idx → EReal) = product a b := by
  funext i
  pointwise [product]

theorem algebraic : Cert.algebraic_OutProjIdeal_OutProjRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run OutProjRefIdeal.defs _ _).mono (fun r h c => ?_) (OutProjRefIdeal.Value.run (F := Ideal) m' g')
    obtain ⟨h0, h1, h2⟩ := h c
    refine ⟨h0.trans ?_, h1, h2⟩
    rw [(hagree c).1, (hagree c).2]
    exact ref_eq _ _

end Cert.Proof.OutProj

end
-- ==== Proof.Mm.OutProjE.lean ====
/-
  The even layer's output projection: the blocks of the call's array are the sums of the four partial products, two from
  each of the two mixed halves, which is the product of the halves, side by side, with the weights.
-/
module

public import proofs.«01_k».proof.Defs
public import proofs.«01_k».proof.Proof.Gen.OutProjEIdeal.Frame
public import proofs.«01_k».proof.Proof.Gen.OutProjERefIdeal.Run
public import Idealize.ShloMosaic.Lib.Pipeline.ValueKit
public import Idealize.ShloMosaic.Lib.Pipeline.ReadBack
public import Idealize.ShloMosaic.Lib.Pointwise

@[expose] public section

noncomputable section

namespace Cert.Proof.OutProjE

open Cert.OutProjEIdeal Cert.OutProjEIdeal.Gen
open Idealize.ShloMosaic
open Idealize.ShloMosaic.TcCoe
open Idealize.SL Idealize.SL.Sem

/-! ### Where each window stands; a half's block is only read at its own points -/

theorem idx_0 : ∀ t : Fin grid0.N, t.val % 4 ≤ 1 → win0_0.index t = ![t.val / 8, t.val % 4] := by decide +kernel
theorem idx_1 : ∀ t : Fin grid0.N, 2 ≤ t.val % 4 → win0_1.index t = ![t.val / 8, t.val % 4 - 2] := by decide +kernel
theorem idx_2 : ∀ t : Fin grid0.N, win0_2.index t = ![t.val % 4, t.val / 4 % 2] := by decide +kernel
theorem idx_3 : ∀ t : Fin grid0.N, win0_3.index t = ![t.val / 8, t.val / 4 % 2] := by decide +kernel

/-! ### The products -/

/-- The product of a block of the left matrix and a block of the right one. -/
def part (a : Vec Ideal S1024x1024 .bf16) (b : Vec Ideal S1024x2048 .bf16) (y : S1024x2048.Idx) : EReal :=
  ∑ k : Fin 1024, a (ix2 (y 0) k) * b (ix2 k (y 1))

theorem pay_zero (y : S1024x2048.Idx) : k0_pay1 (F := Ideal) y = 0 := by
  pointwise [k0_pay1]

theorem pay_add_0 (x : Vec Ideal S1024x2048 .f32) (a : Vec Ideal S1024x1024 .bf16) (b : Vec Ideal S1024x2048 .bf16)
    (y : S1024x2048.Idx) : k0_pay2 (F := Ideal) x a b y = x y + part a b y := by
  pointwise [k0_pay2, part]

theorem pay_add_1 (x : Vec Ideal S1024x2048 .f32) (a : Vec Ideal S1024x1024 .bf16) (b : Vec Ideal S1024x2048 .bf16)
    (y : S1024x2048.Idx) : k0_pay3 (F := Ideal) x a b y = x y + part a b y := by
  pointwise [k0_pay3, part]

/-- The two matrices side by side, at a row and a column. -/
def side (p0 p1 : S4096x2048.Idx → EReal) (r k : Fin 4096) : EReal :=
  if h0 : k.val < 2048 then p0 (ix2 r (⟨k.val, h0⟩ : Fin 2048)) else p1 (ix2 r (⟨k.val - 2048, by omega⟩ : Fin 2048))

/-- The product of the two left matrices, side by side, with the right one. -/
def product (p0 p1 : S4096x2048.Idx → EReal) (w : S4096x4096.Idx → EReal) (i : S4096x4096.Idx) : EReal :=
  ∑ k : Fin 4096, side p0 p1 (i 0) k * w (ix2 k (i 1))

/-! ### The accumulator -/

variable (m : (ℓ : Loc nD τ sig) → Buf (Elt Ideal) ℓ) (c : Dev nD)

/-- The left block of a point: a block of the matrix whose turn it is. -/
def cell (t : Fin cfg0.N) : Vec Ideal S1024x1024 .bf16 :=
  if t.val % 4 ≤ 1 then iblk m c 0 t else iblk m c 1 t

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (cell m c ⟨4 * (t.val / 4) + s.val, Pipeline.run_point_lt_of_flush t h s⟩)
          (iblk m c 2 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (cell m c t) (iblk m c 2 t) y)
    (fun t h y => by
      rw [outsAt0_A m c t h (by omega) (by omega) (by omega)]
      frame_out
      rw [pay_add_0, pay_zero, cell, if_pos (by omega)])
    (fun t h y => by
      by_cases c0 : t.val % 4 ≤ 1
      · rw [outsAt0_B m c t h c0 (by omega) (by omega)]
        frame_out
        rw [pay_add_0, cell, if_pos c0]
        simp only [read_unread_whole]
      by_cases c1 : t.val % 4 = 3
      · rw [outsAt0_D m c t h c0 (by omega) c1]
        frame_out
        rw [pay_add_1, cell, if_neg c0]
        simp only [read_unread_whole]
      · rw [outsAt0_C m c t h c0 (by omega) c1]
        frame_out
        rw [pay_add_1, cell, if_neg c0]
        simp only [read_unread_whole]) t h y, zero_add]

theorem out_eq (t : Fin cfg0.N) (h : t.val % 4 = 3) :
    (outsAt0 m c t.val t.isLt).1 = (outsAt0 m c t.val t.isLt).2 := by
  rw [outsAt0_D m c t (by omega) (by omega) (by omega) h]
  frame_out

/-- A point's left block holds the piece of the two matrices, side by side, that the point's columns name. -/
theorem cell_eq (t : Fin cfg0.N) (y : S1024x1024.Idx) (r k : Fin 4096)
    (hr : r.val = 1024 * (t.val / 8) + (y 0).val) (hk : k.val = 1024 * (t.val % 4) + (y 1).val) :
    cell m c t y = side (m (c.tc.loc main_arg0)) (m (c.tc.loc main_arg1)) r k := by
  have hy : (y 1).val < 1024 := (y 1).isLt
  unfold cell side
  by_cases c0 : t.val % 4 ≤ 1
  · rw [if_pos c0, dif_pos (by omega)]
    blk_ext [iblk, idx_0 t c0]
  · rw [if_neg c0, dif_neg (by omega)]
    blk_ext [iblk, idx_1 t (by omega)]

theorem arr_eq : (dats m 0 c).arrAt 3 cfg0.N = product (m (c.tc.loc main_arg0)) (m (c.tc.loc main_arg1))
    (m (c.tc.loc main_arg2)) := by
  refine (dats m 0 c).arrAt_eq_of_covers 3 _ (by decide +kernel) fun t hf y => ?_
  have h3 := (flush0_3 t).mp hf
  blk_simp
  rw [after0_3, out_eq m c t h3]
  refine (acc_eq m c t h3 _).trans ?_
  unfold part product
  refine Fin.sum_mul_add_congr fun s k hl => ?_
  congr 1
  · refine cell_eq m c _ _ _ _ ?_ ?_
    · blk_simp [idx_3]
      show t.val / 8 * 1024 + (y 0).val = 1024 * ((4 * (t.val / 4) + s.val) / 8) + (y 0).val
      omega
    · show s.val * 1024 + k.val = 1024 * ((4 * (t.val / 4) + s.val) % 4) + k.val
      omega
  · blk_ext [iblk, idx_2, idx_3]

/-! ### The reference -/

theorem ref_eq (p0 p1 : S4096x2048.Idx → EReal) (w : S4096x4096.Idx → EReal) :
    (Host.dotGeneral (F := Ideal) (φ₁ := .f32) (φ₂ := .f32) OutProjERefIdeal.dot_S4096x4096_S4096x4096_S4096x4096_1_0_0_1_n_n none
      (extf (F := Ideal) (φ := .bf16) .f32
        (concatenate (α := Ideal .bf16) OutProjERefIdeal.S4096x4096 1 [⟨S4096x2048, p0⟩, ⟨S4096x2048, p1⟩]
          OutProjERefIdeal.Gen.concatenates_S4096x2048_S4096x2048_S4096x4096_d1) OutProjERefIdeal.Gen.bitsLt_bf16_f32)
      (extf (F := Ideal) (φ := .bf16) .f32 w OutProjERefIdeal.Gen.bitsLt_bf16_f32) : S4096x4096.Idx → EReal) = product p0 p1 w := by
  funext i
  pointwise [product, side]

theorem algebraic : Cert.algebraic_OutProjEIdeal_OutProjERefIdeal := by
  intro m g m' g' _ hagree
  refine ⟨fun c => product (m (c.tc.loc main_arg0)) (m (c.tc.loc main_arg1)) (m (c.tc.loc main_arg2)), ?_, ?_⟩
  · refine (θ_run defs _ _).mono (fun r h c => ?_) (run_main m g)
    exact ⟨((h c).1 3).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩
  · refine (θ_run OutProjERefIdeal.defs _ _).mono (fun r h c => ?_) (OutProjERefIdeal.Value.run (F := Ideal) m' g')
    obtain ⟨h0, h1, h2, h3⟩ := h c
    refine ⟨h0.trans ?_, h1, h2, h3⟩
    obtain ⟨e0, e1, e2⟩ := hagree c
    rw [e0, e1, e2]
    exact ref_eq _ _ _

end Cert.Proof.OutProjE

end
-- ==== Proof.Mm.GradOutE.lean ====
/-
  The gradient of the even layer's output weights: the blocks of the call's array are the sums of the four partial products,
  each block from one of the two mixed halves, which is the product of the transposed halves, side by side, with the rows'
  gradient.
-/
module

public import proofs.«01_k».proof.Defs
public import proofs.«01_k».proof.Proof.Gen.GradOutEIdeal.Frame
public import proofs.«01_k».proof.Proof.Gen.GradOutERefIdeal.Run
public import Idealize.ShloMosaic.Lib.Pipeline.ValueKit
public import Idealize.ShloMosaic.Lib.Pipeline.ReadBack
public import Idealize.ShloMosaic.Lib.Pointwise

@[expose] public section

noncomputable section

namespace Cert.Proof.GradOutE

open Cert.GradOutEIdeal Cert.GradOutEIdeal.Gen
open Idealize.ShloMosaic
open Idealize.ShloMosaic.TcCoe
open Idealize.SL Idealize.SL.Sem

/-! ### Where each window stands; a half's block is only read at its own points -/

theorem idx_0 : ∀ t : Fin grid0.N, t.val < 16 → win0_0.index t = ![t.val % 4, t.val / 8] := by decide +kernel
theorem idx_1 : ∀ t : Fin grid0.N, 16 ≤ t.val → win0_1.index t = ![t.val % 4, t.val / 8 - 2] := by decide +kernel
theorem idx_2 : ∀ t : Fin grid0.N, win0_2.index t = ![t.val % 4, t.val / 4 % 2] := by decide +kernel
theorem idx_3 : ∀ t : Fin grid0.N, win0_3.index t = ![t.val / 8, t.val / 4 % 2] := by decide +kernel

/-! ### The products -/

/-- The product of a transposed block of the left matrix and a block of the right one. -/
def part (a : Vec Ideal S1024x1024 .bf16) (b : Vec Ideal S1024x2048 .bf16) (y : S1024x2048.Idx) : EReal :=
  ∑ k : Fin 1024, a (ix2 k (y 0)) * b (ix2 k (y 1))

theorem pay_zero (y : S1024x2048.Idx) : k0_pay1 (F := Ideal) y = 0 := by
  pointwise [k0_pay1]

theorem pay_add_0 (x : Vec Ideal S1024x2048 .f32) (a : Vec Ideal S1024x1024 .bf16) (b : Vec Ideal S1024x2048 .bf16)
    (y : S1024x2048.Idx) : k0_pay2 (F := Ideal) x a b y = x y + part a b y := by
  pointwise [k0_pay2, part]

theorem pay_add_1 (x : Vec Ideal S1024x2048 .f32) (a : Vec Ideal S1024x1024 .bf16) (b : Vec Ideal S1024x2048 .bf16)
    (y : S1024x2048.Idx) : k0_pay3 (F := Ideal) x a b y = x y + part a b y := by
  pointwise [k0_pay3, part]

theorem pay_out (x : Vec Ideal S1024x2048 .f32) : k0_pay4 (F := Ideal) x = x := by
  funext y
  pointwise [k0_pay4]

/-- The two matrices side by side, at a row and a column. -/
def side (p0 p1 : S4096x2048.Idx → EReal) (r k : Fin 4096) : EReal :=
  if h0 : k.val < 2048 then p0 (ix2 r (⟨k.val, h0⟩ : Fin 2048)) else p1 (ix2 r (⟨k.val - 2048, by omega⟩ : Fin 2048))

/-- The product of the transpose of the two left matrices, side by side, with the right one. -/
def product (p0 p1 : S4096x2048.Idx → EReal) (w : S4096x4096.Idx → EReal) (i : S4096x4096.Idx) : EReal :=
  ∑ k : Fin 4096, side p0 p1 k (i 0) * w (ix2 k (i 1))

/-! ### The accumulator -/

variable (m : (ℓ : Loc nD τ sig) → Buf (Elt Ideal) ℓ) (c : Dev nD)

/-- The left block of a point: a block of the matrix whose turn it is. -/
def cell (t : Fin cfg0.N) : Vec Ideal S1024x1024 .bf16 :=
  if t.val < 16 then iblk m c 0 t else iblk m c 1 t

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (cell m c ⟨4 * (t.val / 4) + s.val, Pipeline.run_point_lt_of_flush t h s⟩)
          (iblk m c 2 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (cell m c t) (iblk m c 2 t) y)
    (fun t h y => by
      by_cases c0 : t.val < 16
      · rw [outsAt0_A m c t h c0 (by omega) (by omega)]
        frame_out
        rw [pay_add_0, pay_zero, cell, if_pos c0]
      · rw [outsAt0_D m c t h c0 (by omega) (by omega)]
        frame_out
        rw [pay_add_1, pay_zero, cell, if_neg c0])
    (fun t h y => by
      by_cases c0 : t.val < 16
      · by_cases c1 : t.val % 4 = 3
        · rw [outsAt0_C m c t h c0 (by omega) c1]
          frame_out
          rw [pay_add_0, cell, if_pos c0]
          simp only [read_unread_whole]
        · rw [outsAt0_B m c t h c0 (by omega) c1]
          frame_out
          rw [pay_add_0, cell, if_pos c0]
          simp only [read_unread_whole]
      · by_cases c1 : t.val % 4 = 3
        · rw [outsAt0_F m c t h c0 (by omega) c1]
          frame_out
          rw [pay_add_1, cell, if_neg c0]
          simp only [read_unread_whole]
        · rw [outsAt0_E m c t h c0 (by omega) c1]
          frame_out
          rw [pay_add_1, cell, if_neg c0]
          simp only [read_unread_whole]) t h y, zero_add]

theorem out_eq (t : Fin cfg0.N) (h : t.val % 4 = 3) :
    (outsAt0 m c t.val t.isLt).1 = (outsAt0 m c t.val t.isLt).2 := by
  by_cases c0 : t.val < 16
  · rw [outsAt0_C m c t (by omega) c0 (by omega) h]
    frame_out
    exact pay_out _
  · rw [outsAt0_F m c t (by omega) c0 (by omega) h]
    frame_out
    exact pay_out _

/-- A point's left block holds the piece of the two matrices, side by side, that the point's columns name. -/
theorem cell_eq (t : Fin cfg0.N) (y : S1024x1024.Idx) (r k : Fin 4096)
    (hr : r.val = 1024 * (t.val % 4) + (y 0).val) (hk : k.val = 1024 * (t.val / 8) + (y 1).val) :
    cell m c t y = side (m (c.tc.loc main_arg0)) (m (c.tc.loc main_arg1)) r k := by
  have hy : (y 1).val < 1024 := (y 1).isLt
  unfold cell side
  by_cases c0 : t.val < 16
  · rw [if_pos c0, dif_pos (by omega)]
    blk_ext [iblk, idx_0 t c0]
  · rw [if_neg c0, dif_neg (by omega)]
    blk_ext [iblk, idx_1 t (by omega)]

theorem arr_eq : (dats m 0 c).arrAt 3 cfg0.N = product (m (c.tc.loc main_arg0)) (m (c.tc.loc main_arg1))
    (m (c.tc.loc main_arg2)) := by
  refine (dats m 0 c).arrAt_eq_of_covers 3 _ (by decide +kernel) fun t hf y => ?_
  have h3 := (flush0_3 t).mp hf
  blk_simp
  rw [after0_3, out_eq m c t h3]
  refine (acc_eq m c t h3 _).trans ?_
  unfold part product
  refine Fin.sum_mul_add_congr fun s k hl => ?_
  congr 1
  · refine cell_eq m c _ _ _ _ ?_ ?_
    · show s.val * 1024 + k.val = 1024 * ((4 * (t.val / 4) + s.val) % 4) + k.val
      omega
    · blk_simp [idx_3]
      show t.val / 8 * 1024 + (y 0).val = 1024 * ((4 * (t.val / 4) + s.val) / 8) + (y 0).val
      omega
  · blk_ext [iblk, idx_2, idx_3]

/-! ### The reference -/

theorem ref_eq (p0 p1 : S4096x2048.Idx → EReal) (w : S4096x4096.Idx → EReal) :
    (truncf (F := Ideal) (φ := .f32) .bf16 (transpose (α := Ideal .f32) S4096x4096 [1, 0]
      (Host.dotGeneral (F := Ideal) (φ₁ := .f32) (φ₂ := .f32) GradOutERefIdeal.dot_S4096x4096_S4096x4096_S4096x4096_0_0_1_1_n_n none
      (extf (F := Ideal) (φ := .bf16) .f32 w GradOutERefIdeal.Gen.bitsLt_bf16_f32)
      (extf (F := Ideal) (φ := .bf16) .f32
        (concatenate (α := Ideal .bf16) GradOutERefIdeal.S4096x4096 1 [⟨S4096x2048, p0⟩, ⟨S4096x2048, p1⟩]
          GradOutERefIdeal.Gen.concatenates_S4096x2048_S4096x2048_S4096x4096_d1) GradOutERefIdeal.Gen.bitsLt_bf16_f32))
      GradOutERefIdeal.Gen.transposes_S4096x4096_S4096x4096_1_0) GradOutERefIdeal.Gen.bitsLt_bf16_f32 : S4096x4096.Idx → EReal) = product p0 p1 w := by
  funext i
  pointwise [product, side]
  exact Finset.sum_congr rfl fun k _ => mul_comm _ _

theorem algebraic : Cert.algebraic_GradOutEIdeal_GradOutERefIdeal := by
  intro m g m' g' _ hagree
  refine ⟨fun c => product (m (c.tc.loc main_arg0)) (m (c.tc.loc main_arg1)) (m (c.tc.loc main_arg2)), ?_, ?_⟩
  · refine (θ_run defs _ _).mono (fun r h c => ?_) (run_main m g)
    exact ⟨((h c).1 3).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩
  · refine (θ_run GradOutERefIdeal.defs _ _).mono (fun r h c => ?_) (GradOutERefIdeal.Value.run (F := Ideal) m' g')
    obtain ⟨h0, h1, h2, h3⟩ := h c
    refine ⟨h0.trans ?_, h1, h2, h3⟩
    obtain ⟨e0, e1, e2⟩ := hagree c
    rw [e0, e1, e2]
    exact ref_eq _ _ _

end Cert.Proof.GradOutE

end
-- ==== Proof.Mm.GateA.lean ====
/-
  The projection to the forgetting attention's gate: the blocks of the call's array are the sums of the four partial products, which is
  the product of the rows with the weights, cut to its columns.
-/
module

public import proofs.«01_k».proof.Defs
public import proofs.«01_k».proof.Proof.Gen.GateAIdeal.Frame
public import proofs.«01_k».proof.Proof.Gen.GateARefIdeal.Run
public import Idealize.ShloMosaic.Lib.Pipeline.ValueKit
public import Idealize.ShloMosaic.Lib.Pipeline.ReadBack
public import Idealize.ShloMosaic.Lib.Pointwise

@[expose] public section

noncomputable section

namespace Cert.Proof.GateA

open Cert.GateAIdeal Cert.GateAIdeal.Gen
open Idealize.ShloMosaic
open Idealize.ShloMosaic.TcCoe
open Idealize.SL Idealize.SL.Sem

theorem idx_0 : ∀ t : Fin grid0.N, win0_0.index t = ![t.val / 4, t.val % 4] := by decide +kernel
theorem idx_1 : ∀ t : Fin grid0.N, win0_1.index t = ![t.val % 4, 3] := by decide +kernel
theorem idx_2 : ∀ t : Fin grid0.N, win0_2.index t = ![t.val / 4, 0] := by decide +kernel

/-- The product of a block of the left matrix and a block of the right one. -/
def part (a : Vec Ideal S1024x1024 .bf16) (b : Vec Ideal S1024x2048 .bf16) (y : S1024x2048.Idx) : EReal :=
  ∑ k : Fin 1024, a (ix2 (y 0) k) * b (ix2 k (y 1))

theorem pay_zero (y : S1024x2048.Idx) : k0_pay1 (F := Ideal) y = 0 := by
  pointwise [k0_pay1]

theorem pay_add (x : Vec Ideal S1024x2048 .f32) (a : Vec Ideal S1024x1024 .bf16) (b : Vec Ideal S1024x2048 .bf16)
    (y : S1024x2048.Idx) : k0_pay2 (F := Ideal) x a b y = x y + part a b y := by
  pointwise [k0_pay2, part]

/-- A result's column among all columns of the weights. -/
def colOf (j : Fin 2048) : Fin 16400 := ⟨6144 + j.val, by omega⟩

/-- The product of the rows with the weights, at the result's columns. -/
def product (a : S4096x4096.Idx → EReal) (b : S4096x16400.Idx → EReal) (i : S4096x2048.Idx) : EReal :=
  ∑ k : Fin 4096, a (ix2 (i 0) k) * b (ix2 k (colOf (i 1)))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (iblk m c 0 ⟨4 * (t.val / 4) + s.val, Pipeline.run_point_lt_of_flush t h s⟩)
          (X0_1 m c ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (X0_1 m c t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · rw [X0_1, Pipeline.Window.fill, dif_pos (moved0_1 _ _)]
    blk_ext [iblk, idx_1, idx_2, colOf]

/-! ### The reference -/

theorem ref_eq (a : S4096x4096.Idx → EReal) (b : S4096x16400.Idx → EReal) :
    ((extractStridedSlice (α := Ideal .f32) S4096x2048 ![0, 6144] (Host.dotGeneral (F := Ideal) (φ₁ := .f32) (φ₂ := .f32) GateARefIdeal.dot_S4096x4096_S4096x16400_S4096x16400_1_0_0_1_n_n none
      (extf (F := Ideal) (φ := .bf16) .f32 a GateARefIdeal.Gen.bitsLt_bf16_f32) (extf (F := Ideal) (φ := .bf16) .f32 b GateARefIdeal.Gen.bitsLt_bf16_f32)) GateARefIdeal.Gen.slices_S4096x16400_S4096x2048_0_6144) :
        S4096x2048.Idx → EReal) = product a b := by
  funext i
  pointwise [product, colOf]

theorem algebraic : Cert.algebraic_GateAIdeal_GateARefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run GateARefIdeal.defs _ _).mono (fun r h c => ?_) (GateARefIdeal.Value.run (F := Ideal) m' g')
    obtain ⟨h0, h1, h2⟩ := h c
    refine ⟨h0.trans ?_, h1, h2⟩
    rw [(hagree c).1, (hagree c).2]
    exact ref_eq _ _

end Cert.Proof.GateA

end
-- ==== Proof.Mm.QkvB.lean ====
/-
  The projections to the chunked attention's queries, keys and values: the blocks of the call's array are the sums of the four partial products, which is
  the product of the rows with the weights, cut to its columns.
-/
module

public import proofs.«01_k».proof.Defs
public import proofs.«01_k».proof.Proof.Gen.QkvBIdeal.Frame
public import proofs.«01_k».proof.Proof.Gen.QkvBRefIdeal.Run
public import Idealize.ShloMosaic.Lib.Pipeline.ValueKit
public import Idealize.ShloMosaic.Lib.Pipeline.ReadBack
public import Idealize.ShloMosaic.Lib.Pointwise

@[expose] public section

noncomputable section

namespace Cert.Proof.QkvB

open Cert.QkvBIdeal Cert.QkvBIdeal.Gen
open Idealize.ShloMosaic
open Idealize.ShloMosaic.TcCoe
open Idealize.SL Idealize.SL.Sem

theorem idx_0 : ∀ t : Fin grid0.N, win0_0.index t = ![t.val / 12, t.val % 4] := by decide +kernel
theorem idx_1 : ∀ t : Fin grid0.N, win0_1.index t = ![t.val % 4, 4 + t.val / 4 % 3] := by decide +kernel
theorem idx_2 : ∀ t : Fin grid0.N, win0_2.index t = ![t.val / 12, t.val / 4 % 3] := by decide +kernel

/-- The product of a block of the left matrix and a block of the right one. -/
def part (a : Vec Ideal S1024x1024 .bf16) (b : Vec Ideal S1024x2048 .bf16) (y : S1024x2048.Idx) : EReal :=
  ∑ k : Fin 1024, a (ix2 (y 0) k) * b (ix2 k (y 1))

theorem pay_zero (y : S1024x2048.Idx) : k0_pay1 (F := Ideal) y = 0 := by
  pointwise [k0_pay1]

theorem pay_add (x : Vec Ideal S1024x2048 .f32) (a : Vec Ideal S1024x1024 .bf16) (b : Vec Ideal S1024x2048 .bf16)
    (y : S1024x2048.Idx) : k0_pay2 (F := Ideal) x a b y = x y + part a b y := by
  pointwise [k0_pay2, part]

theorem pay_out (x : Vec Ideal S1024x2048 .f32) : k0_pay3 (F := Ideal) x = x := by
  funext y
  pointwise [k0_pay3]

/-- A result's column among all columns of the weights. -/
def colOf (j : Fin 6144) : Fin 16400 := ⟨8192 + j.val, by omega⟩

/-- The product of the rows with the weights, at the result's columns. -/
def product (a : S4096x4096.Idx → EReal) (b : S4096x16400.Idx → EReal) (i : S4096x6144.Idx) : EReal :=
  ∑ k : Fin 4096, a (ix2 (i 0) k) * b (ix2 k (colOf (i 1)))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (iblk m c 0 ⟨4 * (t.val / 4) + s.val, Pipeline.run_point_lt_of_flush t h s⟩)
          (X0_1 m c ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (X0_1 m c t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out
  exact pay_out _

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · rw [X0_1, Pipeline.Window.fill, dif_pos (moved0_1 _ _)]
    blk_ext [iblk, idx_1, idx_2, colOf]

/-! ### The reference -/

theorem ref_eq (a : S4096x4096.Idx → EReal) (b : S4096x16400.Idx → EReal) :
    ((truncf (F := Ideal) (φ := .f32) .bf16 (extractStridedSlice (α := Ideal .f32) S4096x6144 ![0, 8192] (Host.dotGeneral (F := Ideal) (φ₁ := .f32) (φ₂ := .f32) QkvBRefIdeal.dot_S4096x4096_S4096x16400_S4096x16400_1_0_0_1_n_n none
      (extf (F := Ideal) (φ := .bf16) .f32 a QkvBRefIdeal.Gen.bitsLt_bf16_f32) (extf (F := Ideal) (φ := .bf16) .f32 b QkvBRefIdeal.Gen.bitsLt_bf16_f32)) QkvBRefIdeal.Gen.slices_S4096x16400_S4096x6144_0_8192) QkvBRefIdeal.Gen.bitsLt_bf16_f32) :
        S4096x6144.Idx → EReal) = product a b := by
  funext i
  pointwise [product, colOf]

theorem algebraic : Cert.algebraic_QkvBIdeal_QkvBRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run QkvBRefIdeal.defs _ _).mono (fun r h c => ?_) (QkvBRefIdeal.Value.run (F := Ideal) m' g')
    obtain ⟨h0, h1, h2⟩ := h c
    refine ⟨h0.trans ?_, h1, h2⟩
    rw [(hagree c).1, (hagree c).2]
    exact ref_eq _ _

end Cert.Proof.QkvB

end
-- ==== Proof.Mm.GateB.lean ====
/-
  The projection to the chunked attention's gate: the blocks of the call's array are the sums of the four partial products, which is
  the product of the rows with the weights, cut to its columns.
-/
module

public import proofs.«01_k».proof.Defs
public import proofs.«01_k».proof.Proof.Gen.GateBIdeal.Frame
public import proofs.«01_k».proof.Proof.Gen.GateBRefIdeal.Run
public import Idealize.ShloMosaic.Lib.Pipeline.ValueKit
public import Idealize.ShloMosaic.Lib.Pipeline.ReadBack
public import Idealize.ShloMosaic.Lib.Pointwise

@[expose] public section

noncomputable section

namespace Cert.Proof.GateB

open Cert.GateBIdeal Cert.GateBIdeal.Gen
open Idealize.ShloMosaic
open Idealize.ShloMosaic.TcCoe
open Idealize.SL Idealize.SL.Sem

theorem idx_0 : ∀ t : Fin grid0.N, win0_0.index t = ![t.val / 4, t.val % 4] := by decide +kernel
theorem idx_1 : ∀ t : Fin grid0.N, win0_1.index t = ![t.val % 4, 7] := by decide +kernel
theorem idx_2 : ∀ t : Fin grid0.N, win0_2.index t = ![t.val / 4, 0] := by decide +kernel

/-- The product of a block of the left matrix and a block of the right one. -/
def part (a : Vec Ideal S1024x1024 .bf16) (b : Vec Ideal S1024x2048 .bf16) (y : S1024x2048.Idx) : EReal :=
  ∑ k : Fin 1024, a (ix2 (y 0) k) * b (ix2 k (y 1))

theorem pay_zero (y : S1024x2048.Idx) : k0_pay1 (F := Ideal) y = 0 := by
  pointwise [k0_pay1]

theorem pay_add (x : Vec Ideal S1024x2048 .f32) (a : Vec Ideal S1024x1024 .bf16) (b : Vec Ideal S1024x2048 .bf16)
    (y : S1024x2048.Idx) : k0_pay2 (F := Ideal) x a b y = x y + part a b y := by
  pointwise [k0_pay2, part]

/-- A result's column among all columns of the weights. -/
def colOf (j : Fin 2048) : Fin 16400 := ⟨14336 + j.val, by omega⟩

/-- The product of the rows with the weights, at the result's columns. -/
def product (a : S4096x4096.Idx → EReal) (b : S4096x16400.Idx → EReal) (i : S4096x2048.Idx) : EReal :=
  ∑ k : Fin 4096, a (ix2 (i 0) k) * b (ix2 k (colOf (i 1)))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x2048.Idx) :
    (outsAt0 m c t.val t.isLt).2 y
      = ∑ s : Fin 4, part (iblk m c 0 ⟨4 * (t.val / 4) + s.val, Pipeline.run_point_lt_of_flush t h s⟩)
          (X0_1 m c ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (X0_1 m c t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · rw [X0_1, Pipeline.Window.fill, dif_pos (moved0_1 _ _)]
    blk_ext [iblk, idx_1, idx_2, colOf]

/-! ### The reference -/

theorem ref_eq (a : S4096x4096.Idx → EReal) (b : S4096x16400.Idx → EReal) :
    ((extractStridedSlice (α := Ideal .f32) S4096x2048 ![0, 14336] (Host.dotGeneral (F := Ideal) (φ₁ := .f32) (φ₂ := .f32) GateBRefIdeal.dot_S4096x4096_S4096x16400_S4096x16400_1_0_0_1_n_n none
      (extf (F := Ideal) (φ := .bf16) .f32 a GateBRefIdeal.Gen.bitsLt_bf16_f32) (extf (F := Ideal) (φ := .bf16) .f32 b GateBRefIdeal.Gen.bitsLt_bf16_f32)) GateBRefIdeal.Gen.slices_S4096x16400_S4096x2048_0_14336) :
        S4096x2048.Idx → EReal) = product a b := by
  funext i
  pointwise [product, colOf]

theorem algebraic : Cert.algebraic_GateBIdeal_GateBRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run GateBRefIdeal.defs _ _).mono (fun r h c => ?_) (GateBRefIdeal.Value.run (F := Ideal) m' g')
    obtain ⟨h0, h1, h2⟩ := h c
    refine ⟨h0.trans ?_, h1, h2⟩
    rw [(hagree c).1, (hagree c).2]
    exact ref_eq _ _

end Cert.Proof.GateB

end
-- ==== Proof.Norm.Law.lean ====
/-
  The root mean square of a row of extended reals and the gradient of the normalized row. The mean of the squares plus the
  positive constant is positive: either it is infinite and its reciprocal root is 0, or it is a positive real number and its
  reciprocal root is a positive real number, which distributes over every sum.
-/
module

public import proofs.«01_k».proof.Defs
public import Idealize.ShloMosaic.Lib.Pointwise

@[expose] public section

noncomputable section

namespace Cert.Proof.Norm

open Idealize.ShloMosaic

/-- The number of columns, as the programs write it. -/
abbrev cols : EReal := Ideal.ofBits .f32 0x45800000#32
/-- The constant under the root. -/
abbrev eps : EReal := Ideal.ofBits .f32 0x358637BD#32
/-- Minus one half. -/
abbrev negHalf : EReal := Ideal.ofBits .f32 0xBF000000#32

theorem cols_eq : cols = ((4096 : ℝ) : EReal) := by
  simp [cols, Ideal.ofBits, Ideal.ieee]
  rw [← EReal.coe_mul]
  norm_num

theorem negHalf_eq : negHalf = ((-(1 / 2) : ℝ) : EReal) := by
  simp [negHalf, Ideal.ofBits, Ideal.ieee]
  rw [← EReal.coe_mul]
  norm_num

theorem eps_eq : ∃ e : ℝ, 0 < e ∧ eps = (e : EReal) := by
  refine ⟨_, ?_, by simp only [eps, Ideal.ofBits, Ideal.ieee]; simp; rfl⟩
  norm_num

/-- The mean of a row's squares, plus the constant. -/
def square (x : Fin 4096 → EReal) : EReal := Ideal.div (∑ k, x k * x k) cols + eps

/-- One over the row's root mean square. -/
def scale (x : Fin 4096 → EReal) : EReal := Ideal.rsqrt (square x)

theorem mul_self_nonneg' (a : EReal) : 0 ≤ a * a := by
  induction a with
  | bot => simp
  | top => simp
  | coe r => exact_mod_cast mul_self_nonneg r

theorem sum_squares_nonneg (x : Fin 4096 → EReal) : 0 ≤ ∑ k, x k * x k :=
  Finset.sum_nonneg fun k _ => mul_self_nonneg' (x k)

theorem square_cases (x : Fin 4096 → EReal) : square x = ⊤ ∨ ∃ v : ℝ, 0 < v ∧ square x = (v : EReal) := by
  obtain ⟨e, he, hee⟩ := eps_eq
  have hs := sum_squares_nonneg x
  unfold square
  rw [cols_eq, Ideal.div_coe (by norm_num), hee]
  generalize (∑ k, x k * x k) = S at hs ⊢
  induction S with
  | bot => simp at hs
  | top =>
    left
    rw [EReal.top_mul_coe_of_pos (by norm_num)]
    rfl
  | coe s =>
    right
    have hs' : 0 ≤ s := by exact_mod_cast hs
    exact ⟨s * (1 / 4096) + e, by positivity, by push_cast; rfl⟩

/-- One over the root mean square is 0 or a positive real number, and so is what the gradient divides. -/
theorem scale_cases (x : Fin 4096 → EReal) :
    (scale x = 0 ∧ Ideal.div (scale x) (square x) = 0)
      ∨ ∃ r : ℝ, 0 < r ∧ scale x = (r : EReal) ∧ Ideal.div (scale x) (square x) = ((r * r * r : ℝ) : EReal) := by
  rcases square_cases x with h | ⟨v, hv, h⟩
  · left
    have ht : Ideal.rsqrt ⊤ = 0 := rfl
    rw [scale, h, ht]
    simp [Ideal.div]
  · right
    have hr : 0 < (√v)⁻¹ := inv_pos.mpr (Real.sqrt_pos.mpr hv)
    refine ⟨(√v)⁻¹, hr, ?_, ?_⟩
    · rw [scale, h, Ideal.rsqrt_coe, if_neg (not_lt.mpr hv.le), if_neg hv.ne']
    · rw [scale, h, Ideal.rsqrt_coe, if_neg (not_lt.mpr hv.le), if_neg hv.ne', Ideal.div_coe hv.ne', ← EReal.coe_mul]
      congr 1
      have h2 : (√v)⁻¹ * (√v)⁻¹ = 1 / v := by
        rw [← mul_inv, Real.mul_self_sqrt hv.le, one_div]
      rw [mul_assoc, h2]

theorem sum_mul_real {n : Nat} (f : Fin n → EReal) {r : ℝ} (hr : 0 ≤ r) : ∑ k, f k * (r : EReal) = (∑ k, f k) * (r : EReal) := by
  have hd : ∀ s : Finset (Fin n), ∑ k ∈ s, f k * (r : EReal) = (∑ k ∈ s, f k) * (r : EReal) := fun s => by
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact hd _

theorem add_self (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul]; congr 1; ring

/-- What the row's root mean square passes on of a gradient `d` of the normalized row. -/
def through (x d : Fin 4096 → EReal) : EReal :=
  Ideal.div ((∑ k, x k * d k) * (negHalf * Ideal.div (scale x) (square x))) cols

/-- The gradient of the normalized row, in one bracket. -/
theorem bracket (x d : Fin 4096 → EReal) (j : Fin 4096) :
    scale x * (d j - x j * scale x * Ideal.div (∑ k, d k * (x k * scale x)) cols)
      = d j * scale x + x j * through x d + through x d * x j := by
  unfold through
  rcases scale_cases x with ⟨h, hd⟩ | ⟨r, hr, h, hd⟩
  · have hc : cols ≠ 0 := by
      rw [cols_eq]
      exact_mod_cast (by norm_num : (4096 : ℝ) ≠ 0)
    rw [hd, h]
    simp [Ideal.div, hc]
  · have hT : ∑ k, d k * (x k * (r : EReal)) = (∑ k, x k * d k) * (r : EReal) := by
      rw [← sum_mul_real _ hr.le]
      exact Finset.sum_congr rfl fun k _ => by rw [← mul_assoc, mul_comm (d k)]
    rw [hd, h, hT, cols_eq, negHalf_eq, Ideal.div_coe (by norm_num), Ideal.div_coe (by norm_num), sub_eq_add_neg,
      EReal.left_distrib_of_nonneg_of_ne_top (by exact_mod_cast hr.le) (EReal.coe_ne_top r), add_assoc,
      mul_comm _ (x j), add_self, mul_comm (d j)]
    congr 1
    generalize (∑ k, x k * d k) = T
    rw [show (((-(1 / 2) : ℝ) : EReal) * ((r * r * r : ℝ) : EReal)) = ((-(1 / 2) * (r * r * r) : ℝ) : EReal) from
      (EReal.coe_mul _ _).symm]
    rw [mul_neg]
    have e1 : (r : EReal) * (x j * (r : EReal) * (T * (r : EReal) * ((1 / 4096 : ℝ) : EReal)))
        = x j * T * ((r * r * r * (1 / 4096) : ℝ) : EReal) := by
      push_cast
      ac_rfl
    have e2 : ((2 : ℝ) : EReal) * (x j * (T * ((-(1 / 2) * (r * r * r) : ℝ) : EReal) * ((1 / 4096 : ℝ) : EReal)))
        = x j * T * ((2 * (-(1 / 2) * (r * r * r)) * (1 / 4096) : ℝ) : EReal) := by
      rw [EReal.coe_mul (2 * (-(1 / 2) * (r * r * r))), EReal.coe_mul 2]
      ac_rfl
    rw [e1, e2, ← mul_neg, ← EReal.coe_neg]
    congr 2
    ring

/-! ### The gradients of the whole array -/

/-- The shape of the rows. -/
abbrev Sq : Shape := ⟨2, ![4096, 4096]⟩
/-- The shape of the gain. -/
abbrev Ln : Shape := ⟨2, ![1, 4096]⟩

/-- A row of the array. -/
def line (x : Sq.Idx → EReal) (i : Fin 4096) (k : Fin 4096) : EReal := x (ix2 i k)

/-- A row of the gradient against the gain. -/
def gained (d : Sq.Idx → EReal) (g : Ln.Idx → EReal) (i : Fin 4096) (k : Fin 4096) : EReal :=
  d (ix2 i k) * g (ix2 0 k)

/-- The gradient of the rows, at a row and a column. -/
def rowsAt (d x : Sq.Idx → EReal) (g : Ln.Idx → EReal) (r j : Fin 4096) : EReal :=
  gained d g r j * scale (line x r) + line x r j * through (line x r) (gained d g r)
    + through (line x r) (gained d g r) * line x r j

/-- The gradient of the rows. -/
def rows (d x : Sq.Idx → EReal) (g : Ln.Idx → EReal) (i : Sq.Idx) : EReal :=
  rowsAt d x g (i 0) (i 1)

/-- The gradient of the gain. -/
def gain (d x : Sq.Idx → EReal) (i : Ln.Idx) : EReal :=
  ∑ k : Fin 4096, d (ix2 k (i 1)) * (x (ix2 k (i 1)) * scale (line x k))

/-- Two arrays of rows are equal when they agree at every row and column. -/
theorem ext_rows {f g : Sq.Idx → EReal} (h : ∀ a b : Fin 4096, f (ix2 a b) = g (ix2 a b)) : f = g := by
  funext i
  have hi : i = ix2 (i 0) (i 1) := by
    funext a
    match a with
    | 0 => rfl
    | 1 => rfl
  exact (congrArg f hi).trans ((h (i 0) (i 1)).trans (congrArg g hi).symm)

end Cert.Proof.Norm

end
-- ==== Proof.Norm.PostBwd.lean ====
/-
  The gradients of a norm whose output is added to the stream: the call's blocks are the gradient of the rows, in one bracket,
  and the sums over the rows of the gradient against the normalized rows, accumulated over the 32 blocks of rows.
-/
module

public import proofs.«01_k».proof.Defs
public import proofs.«01_k».proof.Proof.Gen.PostBwdIdeal.Frame
public import proofs.«01_k».proof.Proof.Gen.PostBwdRefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

/-! ### The reference -/

namespace Cert.Proof.PostBwd

section Reference

open Cert.PostBwdRefIdeal Cert.PostBwdRefIdeal.Gen
open Idealize.ShloMosaic
open Idealize.ShloMosaic.TcCoe
open Idealize.SL Idealize.SL.Sem
open Cert.Proof.Norm

/-- The reference's column of mean squares. -/
def refSquare (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32))

theorem refSquare_apply (x : FVec Ideal S4096x4096 .f32) (i : Fin 4096) (z : Fin 1) :
    refSquare x (ix2 i z) = square (line x i) := by
  pointwise [refSquare, square, line]

/-- The reference's gradient against the gain. -/
def refGained (d : FVec Ideal S4096x4096 .f32) (g : FVec Ideal S1x4096 .f32) : FVec Ideal S4096x4096 .f32 :=
  mulf d (broadcastInDim S4096x4096 ![0, 1] bcast_S1x4096_S4096x4096_0_1 (broadcastInDim S1x4096 ![1] bcast_S4096_S1x4096_1 (shapeCast _ g shapeCasts_S1x4096_S4096)))

theorem refGained_apply (d : FVec Ideal S4096x4096 .f32) (g : FVec Ideal S1x4096 .f32) (i k : Fin 4096) :
    refGained d g (ix2 i k) = gained d g i k := by
  pointwise [refGained, gained]

variable (m : (ℓ : Loc nD τ sig) → Buf (Elt Ideal) ℓ) (c : Dev nD)

theorem ref_rows : Cert.PostBwdRefIdeal.Value.res_main_v37 (F := Ideal) m c
    = rows (m (c.tc.loc main_arg0)) (m (c.tc.loc main_arg1)) (m (c.tc.loc main_arg2)) := by
  have h1 := refSquare_apply (m (c.tc.loc main_arg1))
  have h2 := refGained_apply (m (c.tc.loc main_arg0)) (m (c.tc.loc main_arg2))
  unfold Cert.PostBwdRefIdeal.Value.res_main_v37
  rw [← refSquare.eq_1 (m (c.tc.loc main_arg1)), ← refGained.eq_1 (m (c.tc.loc main_arg0)) (m (c.tc.loc main_arg2))]
  generalize refSquare _ = q at h1 ⊢
  generalize refGained _ _ = d at h2 ⊢
  funext i
  have hi : i = ix2 (i 0) (i 1) := by
    funext a
    match a with
    | 0 => rfl
    | 1 => rfl
  have hd : d i = gained (m (c.tc.loc main_arg0)) (m (c.tc.loc main_arg2)) (i 0) (i 1) := (congrArg d hi).trans (h2 _ _)
  have hx : m (c.tc.loc main_arg1) i = line (m (c.tc.loc main_arg1)) (i 0) (i 1) := congrArg (m (c.tc.loc main_arg1)) hi
  unfold rows rowsAt through
  pointwise [h1, h2]
  rw [hd, hx]
  simp only [Fin.sum_univ_one]
  rfl

end Reference

end Cert.Proof.PostBwd

namespace Cert.Proof.PostBwd

open Cert.PostBwdIdeal Cert.PostBwdIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel
theorem idx_4 : ∀ t : Fin grid0.N, win0_4.index t = ![0, 0] := by decide +kernel

/-! ### A block of rows -/

/-- A row of a block. -/
def row (x : Vec Ideal S128x4096 .f32) (i : Fin 128) (k : Fin 4096) : EReal := x (ix2 i k)

theorem pay_scale (x : Vec Ideal S128x4096 .f32) (i : Fin 128) (z : Fin 1) :
    k0_pay2 (F := Ideal) x (ix2 i z) = scale (row x i) := by
  pointwise [k0_pay2, scale, square, row]

theorem pay_zero (y : S1x4096.Idx) : k0_pay1 (F := Ideal) y = 0 := by
  pointwise [k0_pay1]

theorem pay_nrm (x : Vec Ideal S128x4096 .f32) (y : S128x4096.Idx) :
    k0_pay3 (F := Ideal) x y = x y * scale (row x (y 0)) := by
  rw [← pay_scale x (y 0) 0]
  pointwise [k0_pay3]

/-- A block's share of the gain's gradient. -/
def share (x d : Vec Ideal S128x4096 .f32) (y : S1x4096.Idx) : EReal :=
  ∑ i : Fin 128, d (ix2 i (y 1)) * (x (ix2 i (y 1)) * scale (row x i))

theorem pay_share (x d : Vec Ideal S128x4096 .f32) (a : Vec Ideal S1x4096 .f32) (y : S1x4096.Idx) :
    k0_pay4 (F := Ideal) x d a y = a y + share x d y := by
  have h : ∀ z, k0_pay3 (F := Ideal) x z = x z * scale (row x (z 0)) := pay_nrm x
  pointwise [k0_pay4, share, h]

theorem pay_rows (x d : Vec Ideal S128x4096 .f32) (g : Vec Ideal S1x4096 .f32) (y : S128x4096.Idx) :
    k0_pay5 (F := Ideal) x d g y
      = scale (row x (y 0)) * (d y * g (ix2 0 (y 1)) - x y * scale (row x (y 0))
          * Ideal.div (∑ k, d (ix2 (y 0) k) * g (ix2 0 k) * (x (ix2 (y 0) k) * scale (row x (y 0)))) cols) := by
  have h : ∀ z, k0_pay3 (F := Ideal) x z = x z * scale (row x (z 0)) := pay_nrm x
  have h2 : ∀ i z, k0_pay2 (F := Ideal) x (ix2 i z) = scale (row x i) := pay_scale x
  pointwise [k0_pay5, h, h2]

/-! ### The gradients -/

/-- A block of the rows' gradient is the gradient at the block's rows. -/
theorem pay_rows_eq (x d : Vec Ideal S128x4096 .f32) (g : Vec Ideal S1x4096 .f32) (x' d' : S4096x4096.Idx → EReal)
    (g' : S1x4096.Idx → EReal) (y : S128x4096.Idx) (r : Fin 4096) (hx : row x (y 0) = line x' r)
    (hd : ∀ k, d (ix2 (y 0) k) = d' (ix2 r k)) (hg : ∀ k, g (ix2 0 k) = g' (ix2 0 k)) :
    k0_pay5 (F := Ideal) x d g y = rowsAt d' x' g' r (y 1) := by
  have hx' : ∀ k, x (ix2 (y 0) k) = line x' r k := fun k => congrFun hx k
  have hy : y = ix2 (y 0) (y 1) := by
    funext a
    match a with
    | 0 => rfl
    | 1 => rfl
  have hxy : x y = line x' r (y 1) := (congrArg x hy).trans (hx' (y 1))
  have hdy : d y = d' (ix2 r (y 1)) := (congrArg d hy).trans (hd (y 1))
  rw [pay_rows, hx, hxy, hdy, hg (y 1)]
  simp only [hx', hd, hg]
  exact bracket (line x' r) (gained d' g' r) (y 1)

/-! ### The call's arrays -/

variable (m : (ℓ : Loc nD τ sig) → Buf (Elt Ideal) ℓ) (c : Dev nD)

theorem row_eq (t : Fin cfg0.N) (i : Fin 128) (r : Fin 4096) (hr : r.val = t.val * 128 + i.val) :
    row (iblk m c 1 t) i = line (m (c.tc.loc main_arg1)) r := by
  funext k
  unfold row line
  blk_ext [iblk, idx_1, hr]

theorem rows_out (t : Fin cfg0.N) (y : S128x4096.Idx) :
    (outsAt0 m c t.val t.isLt).1 y = k0_pay5 (F := Ideal) (iblk m c 1 t) (iblk m c 0 t) (iblk m c 2 t) y := by
  by_cases h : t.val % 32 = 0
  · rw [outsAt0_A m c t h]
    frame_out
  · rw [outsAt0_B m c t h]
    frame_out

theorem gain_out (t : Fin cfg0.N) (h : t.val % 32 = 32 - 1) (y : S1x4096.Idx) :
    (outsAt0 m c t.val t.isLt).2 y
      = ∑ s : Fin 32, share (iblk m c 1 ⟨32 * (t.val / 32) + s.val, Pipeline.run_point_lt_of_flush t h s⟩)
          (iblk m c 0 ⟨32 * (t.val / 32) + s.val, Pipeline.run_point_lt_of_flush t h s⟩) y := by
  rw [Pipeline.eq_sum_fin_of_reset_step_apply_of_flush (fun n h => (outsAt0 m c n h).2) 32 (fun _ => (0 : EReal))
    (fun t y => share (iblk m c 1 t) (iblk m c 0 t) y)
    (fun t h y => by
      rw [outsAt0_A m c t h]
      frame_out
      rw [pay_share, pay_zero])
    (fun t h y => by
      rw [outsAt0_B m c t h]
      frame_out
      rw [pay_share]) t h y, zero_add]

theorem arr_rows : (dats m 0 c).arrAt 3 cfg0.N
    = rows (m (c.tc.loc main_arg0)) (m (c.tc.loc main_arg1)) (m (c.tc.loc main_arg2)) := by
  refine (dats m 0 c).arrAt_eq_of_covers 3 _ (by decide +kernel) fun t hf y => ?_
  blk_simp
  rw [after0_3, rows_out]
  have hy : (y 0).val < 128 := (y 0).isLt
  have ht : t.val < 32 := t.isLt
  obtain ⟨r, hr⟩ : ∃ r : Fin 4096, r.val = t.val * 128 + (y 0).val := ⟨⟨_, by omega⟩, rfl⟩
  refine (pay_rows_eq _ _ _ _ (m (c.tc.loc main_arg0)) (m (c.tc.loc main_arg2)) y r (row_eq m c t (y 0) r hr)
    (fun k => by blk_ext [iblk, idx_0, hr]) (fun k => by blk_ext [iblk, idx_2])).trans ?_
  have h0 : ((win0_3.blk t).view.emb y) 0 = r := Fin.ext (by
    blk_simp [idx_3]
    show t.val * 128 + (y 0).val = r.val
    omega)
  have h1 : ((win0_3.blk t).view.emb y) 1 = y 1 := Fin.ext (by blk_simp [idx_3])
  unfold rows
  rw [h0, h1]

theorem arr_gain : (dats m 0 c).arrAt 4 cfg0.N = gain (m (c.tc.loc main_arg0)) (m (c.tc.loc main_arg1)) := by
  refine (dats m 0 c).arrAt_eq_of_covers 4 _ (by decide +kernel) fun t hf y => ?_
  have h3 := (flush0_4 t).mp hf
  blk_simp
  rw [after0_4]
  refine (gain_out m c t h3 _).trans ?_
  unfold share gain
  refine Fin.sum_mul_add_congr fun s k hl => ?_
  rw [row_eq m c _ k ⟨s.val * 128 + k.val, hl⟩ (by
    have ht : t.val < 32 := t.isLt
    show s.val * 128 + k.val = (32 * (t.val / 32) + s.val) * 128 + k.val
    omega)]
  congr 1
  · blk_ext [iblk, idx_0, idx_4]
  congr 1
  · blk_ext [iblk, idx_1, idx_4]

theorem algebraic : Cert.algebraic_PostBwdIdeal_PostBwdRefIdeal := by
  intro m g m' g' _ hagree
  refine ⟨fun c => rows (m (c.tc.loc main_arg0)) (m (c.tc.loc main_arg1)) (m (c.tc.loc main_arg2)), fun c => gain (m (c.tc.loc main_arg0)) (m (c.tc.loc main_arg1)), ?_, ?_⟩
  · refine (θ_run defs _ _).mono (fun r h c => ?_) (run_main m g)
    exact ⟨((h c).1 3).trans (arr_rows m c), ((h c).1 4).trans (arr_gain m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩
  · refine (θ_run PostBwdRefIdeal.defs _ _).mono (fun r h c => ?_) (PostBwdRefIdeal.Value.run (F := Ideal) m' g')
    obtain ⟨h0, h1, h2⟩ := h c
    obtain ⟨e0, e1, e2⟩ := hagree c
    refine ⟨h0.trans ((ref_rows m' c).trans (by rw [e0, e1, e2])), h1.trans ?_, h2⟩
    rw [e0, e1]
    funext i
    pointwise [gain, line, scale, square]
    rw [Fin.sum_univ_one]
    exact Finset.sum_congr rfl fun k _ => mul_comm _ _

end Cert.Proof.PostBwd

end
-- ==== Proof.Norm.PreBwd.lean ====
/-
  The gradients of a norm of the stream: the call's blocks are the stream's own gradient plus that of the rows, in one bracket,
  and the sums over the rows of the gradient against the normalized rows, accumulated over the 32 blocks of rows.
-/
module

public import proofs.«01_k».proof.Defs
public import proofs.«01_k».proof.Proof.Gen.PreBwdIdeal.Frame
public import proofs.«01_k».proof.Proof.Gen.PreBwdRefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

/-! ### The reference -/

namespace Cert.Proof.PreBwd

section Reference

open Cert.PreBwdRefIdeal Cert.PreBwdRefIdeal.Gen
open Idealize.ShloMosaic
open Idealize.ShloMosaic.TcCoe
open Idealize.SL Idealize.SL.Sem
open Cert.Proof.Norm

/-- The stream's own gradient plus that of the rows. -/
def joined (d x : Sq.Idx → EReal) (g : Ln.Idx → EReal) (e : Sq.Idx → EReal) (i : Sq.Idx) : EReal := e i + rows d x g i

/-- The reference's column of mean squares. -/
def refSquare (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32))

theorem refSquare_apply (x : FVec Ideal S4096x4096 .f32) (i : Fin 4096) (z : Fin 1) :
    refSquare x (ix2 i z) = square (line x i) := by
  pointwise [refSquare, square, line]

/-- The reference's gradient against the gain. -/
def refGained (d : FVec Ideal S4096x4096 .f32) (g : FVec Ideal S1x4096 .f32) : FVec Ideal S4096x4096 .f32 :=
  mulf d (broadcastInDim S4096x4096 ![0, 1] bcast_S1x4096_S4096x4096_0_1 (broadcastInDim S1x4096 ![1] bcast_S4096_S1x4096_1 (shapeCast _ g shapeCasts_S1x4096_S4096)))

theorem refGained_apply (d : FVec Ideal S4096x4096 .f32) (g : FVec Ideal S1x4096 .f32) (i k : Fin 4096) :
    refGained d g (ix2 i k) = gained d g i k := by
  pointwise [refGained, gained]

variable (m : (ℓ : Loc nD τ sig) → Buf (Elt Ideal) ℓ) (c : Dev nD)

theorem ref_rows : Cert.PreBwdRefIdeal.Value.res_main_v37 (F := Ideal) m c
    = joined (m (c.tc.loc main_arg0)) (m (c.tc.loc main_arg1)) (m (c.tc.loc main_arg2)) (m (c.tc.loc main_arg3)) := by
  have h1 := refSquare_apply (m (c.tc.loc main_arg1))
  have h2 := refGained_apply (m (c.tc.loc main_arg0)) (m (c.tc.loc main_arg2))
  unfold Cert.PreBwdRefIdeal.Value.res_main_v37
  rw [← refSquare.eq_1 (m (c.tc.loc main_arg1)), ← refGained.eq_1 (m (c.tc.loc main_arg0)) (m (c.tc.loc main_arg2))]
  generalize refSquare _ = q at h1 ⊢
  generalize refGained _ _ = d at h2 ⊢
  funext i
  have hi : i = ix2 (i 0) (i 1) := by
    funext a
    match a with
    | 0 => rfl
    | 1 => rfl
  have hd : d i = gained (m (c.tc.loc main_arg0)) (m (c.tc.loc main_arg2)) (i 0) (i 1) := (congrArg d hi).trans (h2 _ _)
  have hx : m (c.tc.loc main_arg1) i = line (m (c.tc.loc main_arg1)) (i 0) (i 1) := congrArg (m (c.tc.loc main_arg1)) hi
  unfold joined rows rowsAt through
  pointwise [h1, h2]
  rw [hd, hx]
  simp only [Fin.sum_univ_one]
  rw [add_assoc (_ + _), add_assoc, ← add_assoc (_ * _)]
  rfl

end Reference

end Cert.Proof.PreBwd

namespace Cert.Proof.PreBwd

open Cert.PreBwdIdeal Cert.PreBwdIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![0, 0] := by decide +kernel

/-! ### A block of rows -/

/-- A row of a block. -/
def row (x : Vec Ideal S128x4096 .f32) (i : Fin 128) (k : Fin 4096) : EReal := x (ix2 i k)

theorem pay_scale (x : Vec Ideal S128x4096 .f32) (i : Fin 128) (z : Fin 1) :
    k0_pay2 (F := Ideal) x (ix2 i z) = scale (row x i) := by
  pointwise [k0_pay2, scale, square, row]

theorem pay_zero (y : S1x4096.Idx) : k0_pay1 (F := Ideal) y = 0 := by
  pointwise [k0_pay1]

theorem pay_nrm (x : Vec Ideal S128x4096 .f32) (y : S128x4096.Idx) :
    k0_pay3 (F := Ideal) x y = x y * scale (row x (y 0)) := by
  rw [← pay_scale x (y 0) 0]
  pointwise [k0_pay3]

/-- A block's share of the gain's gradient. -/
def share (x d : Vec Ideal S128x4096 .f32) (y : S1x4096.Idx) : EReal :=
  ∑ i : Fin 128, d (ix2 i (y 1)) * (x (ix2 i (y 1)) * scale (row x i))

theorem pay_share (x d : Vec Ideal S128x4096 .f32) (a : Vec Ideal S1x4096 .f32) (y : S1x4096.Idx) :
    k0_pay4 (F := Ideal) x d a y = a y + share x d y := by
  have h : ∀ z, k0_pay3 (F := Ideal) x z = x z * scale (row x (z 0)) := pay_nrm x
  pointwise [k0_pay4, share, h]

theorem pay_rows (x d : Vec Ideal S128x4096 .f32) (g : Vec Ideal S1x4096 .f32) (e : Vec Ideal S128x4096 .f32)
    (y : S128x4096.Idx) : k0_pay5 (F := Ideal) x d g e y
      = e y + scale (row x (y 0)) * (d y * g (ix2 0 (y 1)) - x y * scale (row x (y 0))
          * Ideal.div (∑ k, d (ix2 (y 0) k) * g (ix2 0 k) * (x (ix2 (y 0) k) * scale (row x (y 0)))) cols) := by
  have h : ∀ z, k0_pay3 (F := Ideal) x z = x z * scale (row x (z 0)) := pay_nrm x
  have h2 : ∀ i z, k0_pay2 (F := Ideal) x (ix2 i z) = scale (row x i) := pay_scale x
  pointwise [k0_pay5, h, h2]

/-! ### The gradients -/

/-- A block of the rows' gradient is the gradient at the block's rows. -/
theorem pay_rows_eq (x d : Vec Ideal S128x4096 .f32) (g : Vec Ideal S1x4096 .f32) (e : Vec Ideal S128x4096 .f32) (x' d' : S4096x4096.Idx → EReal)
    (g' : S1x4096.Idx → EReal) (y : S128x4096.Idx) (r : Fin 4096) (hx : row x (y 0) = line x' r)
    (hd : ∀ k, d (ix2 (y 0) k) = d' (ix2 r k)) (hg : ∀ k, g (ix2 0 k) = g' (ix2 0 k)) :
    k0_pay5 (F := Ideal) x d g e y = e y + rowsAt d' x' g' r (y 1) := by
  have hx' : ∀ k, x (ix2 (y 0) k) = line x' r k := fun k => congrFun hx k
  have hy : y = ix2 (y 0) (y 1) := by
    funext a
    match a with
    | 0 => rfl
    | 1 => rfl
  have hxy : x y = line x' r (y 1) := (congrArg x hy).trans (hx' (y 1))
  have hdy : d y = d' (ix2 r (y 1)) := (congrArg d hy).trans (hd (y 1))
  rw [pay_rows, hx, hxy, hdy, hg (y 1)]
  simp only [hx', hd, hg]
  exact congrArg (e y + ·) <| bracket (line x' r) (gained d' g' r) (y 1)

/-! ### The call's arrays -/

variable (m : (ℓ : Loc nD τ sig) → Buf (Elt Ideal) ℓ) (c : Dev nD)

theorem row_eq (t : Fin cfg0.N) (i : Fin 128) (r : Fin 4096) (hr : r.val = t.val * 128 + i.val) :
    row (iblk m c 1 t) i = line (m (c.tc.loc main_arg1)) r := by
  funext k
  unfold row line
  blk_ext [iblk, idx_1, hr]

theorem rows_out (t : Fin cfg0.N) (y : S128x4096.Idx) :
    (outsAt0 m c t.val t.isLt).1 y = k0_pay5 (F := Ideal) (iblk m c 1 t) (iblk m c 0 t) (iblk m c 2 t) (iblk m c 3 t) y := by
  by_cases h : t.val % 32 = 0
  · rw [outsAt0_A m c t h]
    frame_out
  · rw [outsAt0_B m c t h]
    frame_out

theorem gain_out (t : Fin cfg0.N) (h : t.val % 32 = 32 - 1) (y : S1x4096.Idx) :
    (outsAt0 m c t.val t.isLt).2 y
      = ∑ s : Fin 32, share (iblk m c 1 ⟨32 * (t.val / 32) + s.val, Pipeline.run_point_lt_of_flush t h s⟩)
          (iblk m c 0 ⟨32 * (t.val / 32) + s.val, Pipeline.run_point_lt_of_flush t h s⟩) y := by
  rw [Pipeline.eq_sum_fin_of_reset_step_apply_of_flush (fun n h => (outsAt0 m c n h).2) 32 (fun _ => (0 : EReal))
    (fun t y => share (iblk m c 1 t) (iblk m c 0 t) y)
    (fun t h y => by
      rw [outsAt0_A m c t h]
      frame_out
      rw [pay_share, pay_zero])
    (fun t h y => by
      rw [outsAt0_B m c t h]
      frame_out
      rw [pay_share]) t h y, zero_add]

theorem arr_rows : (dats m 0 c).arrAt 4 cfg0.N
    = joined (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4, rows_out]
  have hy : (y 0).val < 128 := (y 0).isLt
  have ht : t.val < 32 := t.isLt
  obtain ⟨r, hr⟩ : ∃ r : Fin 4096, r.val = t.val * 128 + (y 0).val := ⟨⟨_, by omega⟩, rfl⟩
  refine (pay_rows_eq _ _ _ _ _ (m (c.tc.loc main_arg0)) (m (c.tc.loc main_arg2)) y r (row_eq m c t (y 0) r hr)
    (fun k => by blk_ext [iblk, idx_0, hr]) (fun k => by blk_ext [iblk, idx_2])).trans ?_
  have h0 : ((win0_4.blk t).view.emb y) 0 = r := Fin.ext (by
    blk_simp [idx_4]
    show t.val * 128 + (y 0).val = r.val
    omega)
  have h1 : ((win0_4.blk t).view.emb y) 1 = y 1 := Fin.ext (by blk_simp [idx_4])
  unfold joined rows
  rw [h0, h1]
  congr 1
  blk_ext [iblk, idx_3, idx_4]

theorem arr_gain : (dats m 0 c).arrAt 5 cfg0.N = gain (m (c.tc.loc main_arg0)) (m (c.tc.loc main_arg1)) := by
  refine (dats m 0 c).arrAt_eq_of_covers 5 _ (by decide +kernel) fun t hf y => ?_
  have h3 := (flush0_5 t).mp hf
  blk_simp
  rw [after0_5]
  refine (gain_out m c t h3 _).trans ?_
  unfold share gain
  refine Fin.sum_mul_add_congr fun s k hl => ?_
  rw [row_eq m c _ k ⟨s.val * 128 + k.val, hl⟩ (by
    have ht : t.val < 32 := t.isLt
    show s.val * 128 + k.val = (32 * (t.val / 32) + s.val) * 128 + k.val
    omega)]
  congr 1
  · blk_ext [iblk, idx_0, idx_5]
  congr 1
  · blk_ext [iblk, idx_1, idx_5]

theorem algebraic : Cert.algebraic_PreBwdIdeal_PreBwdRefIdeal := by
  intro m g m' g' _ hagree
  refine ⟨fun c => joined (m (c.tc.loc main_arg0)) (m (c.tc.loc main_arg1)) (m (c.tc.loc main_arg2)) (m (c.tc.loc main_arg3)), fun c => gain (m (c.tc.loc main_arg0)) (m (c.tc.loc main_arg1)), ?_, ?_⟩
  · refine (θ_run defs _ _).mono (fun r h c => ?_) (run_main m g)
    exact ⟨((h c).1 4).trans (arr_rows m c), ((h c).1 5).trans (arr_gain m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩
  · refine (θ_run PreBwdRefIdeal.defs _ _).mono (fun r h c => ?_) (PreBwdRefIdeal.Value.run (F := Ideal) m' g')
    obtain ⟨h0, h1, h2⟩ := h c
    obtain ⟨e0, e1, e2, e3⟩ := hagree c
    refine ⟨h0.trans ((ref_rows m' c).trans (by rw [e0, e1, e2, e3])), h1.trans ?_, h2⟩
    rw [e0, e1]
    funext i
    pointwise [gain, line, scale, square]
    rw [Fin.sum_univ_one]
    exact Finset.sum_congr rfl fun k _ => mul_comm _ _

end Cert.Proof.PreBwd

end
-- ==== Proof.Norm.PreNorm.lean ====
/-
  The norm of the rows: every block of the call's array is the rows of its block over their root mean square, times the gain.
-/
module

public import proofs.«01_k».proof.Defs
public import proofs.«01_k».proof.Proof.Gen.PreNormIdeal.Frame
public import proofs.«01_k».proof.Proof.Gen.PreNormRefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

/-! ### The reference -/

namespace Cert.Proof.PreNorm

section Reference

open Cert.PreNormRefIdeal Cert.PreNormRefIdeal.Gen
open Idealize.ShloMosaic
open Idealize.ShloMosaic.TcCoe
open Idealize.SL Idealize.SL.Sem
open Cert.Proof.Norm

/-- The reference's column of mean squares. -/
def refSquare (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32))

theorem refSquare_apply (x : FVec Ideal S4096x4096 .f32) (i : Fin 4096) (z : Fin 1) :
    refSquare x (ix2 i z) = square (line x i) := by
  pointwise [refSquare, square, line]

/-- The reference's gain, at every row. -/
def refGain (g : FVec Ideal S1x4096 .f32) : FVec Ideal S4096x4096 .f32 :=
  broadcastInDim S4096x4096 ![0, 1] bcast_S1x4096_S4096x4096_0_1 (broadcastInDim S1x4096 ![1] bcast_S4096_S1x4096_1 (shapeCast _ g shapeCasts_S1x4096_S4096))

theorem refGain_apply (g : FVec Ideal S1x4096 .f32) (i k : Fin 4096) : refGain g (ix2 i k) = g (ix2 0 k) := by
  pointwise [refGain]

end Reference

end Cert.Proof.PreNorm

namespace Cert.Proof.PreNorm

open Cert.PreNormIdeal Cert.PreNormIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel

/-- A row of a block. -/
def row (x : Vec Ideal S128x4096 .f32) (i : Fin 128) (k : Fin 4096) : EReal := x (ix2 i k)

theorem pay (x : Vec Ideal S128x4096 .f32) (g : Vec Ideal S1x4096 .f32) (y : S128x4096.Idx) :
    k0_pay1 (F := Ideal) x g y = x y * scale (row x (y 0)) * g (ix2 0 (y 1)) := by
  pointwise [k0_pay1, scale, square, row]

/-- The rows over their root mean square, times the gain. -/
def norm (x : Sq.Idx → EReal) (g : Ln.Idx → EReal) (i : Sq.Idx) : EReal :=
  x i * scale (line x (i 0)) * g (ix2 0 (i 1))

variable (m : (ℓ : Loc nD τ sig) → Buf (Elt Ideal) ℓ) (c : Dev nD)

theorem row_eq (t : Fin cfg0.N) (i : Fin 128) (r : Fin 4096) (hr : r.val = t.val * 128 + i.val) :
    row (iblk m c 0 t) i = line (m (c.tc.loc main_arg0)) r := by
  funext k
  unfold row line
  blk_ext [iblk, idx_0, hr]

theorem arr_eq : (dats m 0 c).arrAt 2 cfg0.N = norm (m (c.tc.loc main_arg0)) (m (c.tc.loc main_arg1)) := by
  refine (dats m 0 c).arrAt_eq_of_covers 2 _ (by decide +kernel) fun t hf y => ?_
  blk_simp
  rw [after0_2]
  have hy : (y 0).val < 128 := (y 0).isLt
  have ht : t.val < 32 := t.isLt
  obtain ⟨r, hr⟩ : ∃ r : Fin 4096, r.val = t.val * 128 + (y 0).val := ⟨⟨_, by omega⟩, rfl⟩
  have h0 : ((win0_2.blk t).view.emb y) 0 = r := Fin.ext (by
    blk_simp [idx_2]
    show t.val * 128 + (y 0).val = r.val
    omega)
  have hp := pay (iblk m c 0 t) (iblk m c 1 t) y
  rw [row_eq m c t (y 0) r hr] at hp
  unfold norm
  rw [h0]
  frame_out
  refine hp.trans ?_
  congr 1
  blk_ext [iblk, idx_1, idx_2]

theorem algebraic : Cert.algebraic_PreNormIdeal_PreNormRefIdeal := by
  intro m g m' g' _ hagree
  refine ⟨fun c => norm (m (c.tc.loc main_arg0)) (m (c.tc.loc main_arg1)), ?_, ?_⟩
  · refine (θ_run defs _ _).mono (fun r h c => ?_) (run_main m g)
    exact ⟨((h c).1 2).trans (arr_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run PreNormRefIdeal.defs _ _).mono (fun r h c => ?_) (PreNormRefIdeal.Value.run (F := Ideal) m' g')
    obtain ⟨h0, h1⟩ := h c
    obtain ⟨e0, e1⟩ := hagree c
    refine ⟨h0.trans ?_, h1⟩
    rw [e0, e1]
    have hq := refSquare_apply (m (c.tc.loc main_arg0))
    rw [← refSquare.eq_1 (m (c.tc.loc main_arg0))]
    generalize refSquare _ = q at hq ⊢
    have hg := refGain_apply (m (c.tc.loc main_arg1))
    rw [← refGain.eq_1 (m (c.tc.loc main_arg1))]
    generalize refGain _ = w at hg ⊢
    refine ext_rows fun a b => ?_
    pointwise [norm, scale, hq, hg]

end Cert.Proof.PreNorm

end
-- ==== Proof.Norm.PostNorm.lean ====
/-
  The norm of the rows, added to the stream: every block of the call's array is the stream's block plus the rows of the
  block over their root mean square, times the gain.
-/
module

public import proofs.«01_k».proof.Defs
public import proofs.«01_k».proof.Proof.Gen.PostNormIdeal.Frame
public import proofs.«01_k».proof.Proof.Gen.PostNormRefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

/-! ### The reference -/

namespace Cert.Proof.PostNorm

section Reference

open Cert.PostNormRefIdeal Cert.PostNormRefIdeal.Gen
open Idealize.ShloMosaic
open Idealize.ShloMosaic.TcCoe
open Idealize.SL Idealize.SL.Sem
open Cert.Proof.Norm

/-- The reference's column of mean squares. -/
def refSquare (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32))

theorem refSquare_apply (x : FVec Ideal S4096x4096 .f32) (i : Fin 4096) (z : Fin 1) :
    refSquare x (ix2 i z) = square (line x i) := by
  pointwise [refSquare, square, line]

/-- The reference's gain, at every row. -/
def refGain (g : FVec Ideal S1x4096 .f32) : FVec Ideal S4096x4096 .f32 :=
  broadcastInDim S4096x4096 ![0, 1] bcast_S1x4096_S4096x4096_0_1 (broadcastInDim S1x4096 ![1] bcast_S4096_S1x4096_1 (shapeCast _ g shapeCasts_S1x4096_S4096))

theorem refGain_apply (g : FVec Ideal S1x4096 .f32) (i k : Fin 4096) : refGain g (ix2 i k) = g (ix2 0 k) := by
  pointwise [refGain]

end Reference

end Cert.Proof.PostNorm

namespace Cert.Proof.PostNorm

open Cert.PostNormIdeal Cert.PostNormIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel

/-- A row of a block. -/
def row (x : Vec Ideal S128x4096 .f32) (i : Fin 128) (k : Fin 4096) : EReal := x (ix2 i k)

theorem pay (x e : Vec Ideal S128x4096 .f32) (g : Vec Ideal S1x4096 .f32) (y : S128x4096.Idx) :
    k0_pay1 (F := Ideal) x e g y = e y + x y * scale (row x (y 0)) * g (ix2 0 (y 1)) := by
  pointwise [k0_pay1, scale, square, row]

/-- The stream plus the rows over their root mean square, times the gain. -/
def norm (e x : Sq.Idx → EReal) (g : Ln.Idx → EReal) (i : Sq.Idx) : EReal :=
  e i + x i * scale (line x (i 0)) * g (ix2 0 (i 1))

variable (m : (ℓ : Loc nD τ sig) → Buf (Elt Ideal) ℓ) (c : Dev nD)

theorem row_eq (t : Fin cfg0.N) (i : Fin 128) (r : Fin 4096) (hr : r.val = t.val * 128 + i.val) :
    row (iblk m c 1 t) i = line (m (c.tc.loc main_arg1)) r := by
  funext k
  unfold row line
  blk_ext [iblk, idx_1, hr]

theorem arr_eq : (dats m 0 c).arrAt 3 cfg0.N = norm (m (c.tc.loc main_arg0)) (m (c.tc.loc main_arg1)) (m (c.tc.loc main_arg2)) := by
  refine (dats m 0 c).arrAt_eq_of_covers 3 _ (by decide +kernel) fun t hf y => ?_
  blk_simp
  rw [after0_3]
  have hy : (y 0).val < 128 := (y 0).isLt
  have ht : t.val < 32 := t.isLt
  obtain ⟨r, hr⟩ : ∃ r : Fin 4096, r.val = t.val * 128 + (y 0).val := ⟨⟨_, by omega⟩, rfl⟩
  have h0 : ((win0_3.blk t).view.emb y) 0 = r := Fin.ext (by
    blk_simp [idx_3]
    show t.val * 128 + (y 0).val = r.val
    omega)
  have hp := pay (iblk m c 1 t) (iblk m c 0 t) (iblk m c 2 t) y
  rw [row_eq m c t (y 0) r hr] at hp
  unfold norm
  rw [h0]
  frame_out
  refine hp.trans ?_
  congr 1
  congr 1
  blk_ext [iblk, idx_2, idx_3]

theorem algebraic : Cert.algebraic_PostNormIdeal_PostNormRefIdeal := by
  intro m g m' g' _ hagree
  refine ⟨fun c => norm (m (c.tc.loc main_arg0)) (m (c.tc.loc main_arg1)) (m (c.tc.loc main_arg2)), ?_, ?_⟩
  · refine (θ_run defs _ _).mono (fun r h c => ?_) (run_main m g)
    exact ⟨((h c).1 3).trans (arr_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩
  · refine (θ_run PostNormRefIdeal.defs _ _).mono (fun r h c => ?_) (PostNormRefIdeal.Value.run (F := Ideal) m' g')
    obtain ⟨h0, h1⟩ := h c
    obtain ⟨e0, e1, e2⟩ := hagree c
    refine ⟨h0.trans ?_, h1⟩
    rw [e0, e1, e2]
    have hq := refSquare_apply (m (c.tc.loc main_arg1))
    rw [← refSquare.eq_1 (m (c.tc.loc main_arg1))]
    generalize refSquare _ = q at hq ⊢
    have hg := refGain_apply (m (c.tc.loc main_arg2))
    rw [← refGain.eq_1 (m (c.tc.loc main_arg2))]
    generalize refGain _ = w at hg ⊢
    refine ext_rows fun a b => ?_
    pointwise [norm, scale, hq, hg]

end Cert.Proof.PostNorm

end
-- ==== Proof.Norm.Loss.lean ====
/-
  The loss and its gradient: each block's rows add half the mean of their squared differences to the one cell of the loss,
  over the 32 blocks of rows, and leave the differences over the number of columns as the gradient.
-/
module

public import proofs.«01_k».proof.Defs
public import proofs.«01_k».proof.Proof.Gen.LossIdeal.Frame
public import proofs.«01_k».proof.Proof.Gen.LossRefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

namespace Cert.Proof.Loss

open Cert.LossIdeal Cert.LossIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel

/-! ### The constants -/

/-- One half. -/
abbrev half : EReal := Ideal.ofBits .f32 0x3F000000#32
/-- One over the number of columns. -/
abbrev inv : EReal := Ideal.ofBits .f32 0x39800000#32

theorem half_eq : half = ((1 / 2 : ℝ) : EReal) := by
  simp [half, Ideal.ofBits, Ideal.ieee]
  rw [← EReal.coe_mul]
  norm_num

theorem inv_eq : inv = ((1 / 4096 : ℝ) : EReal) := by
  simp [inv, Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem half_mul_sum {n : Nat} (f : Fin n → EReal) : half * ∑ k, f k = ∑ k, half * f k := by
  rw [half_eq, mul_comm, ← sum_mul_real f (by norm_num)]
  exact Finset.sum_congr rfl fun k _ => mul_comm _ _

/-- Half of the sums of blocks is half of the whole sum. -/
theorem half_sum (f : Fin 32 → Fin 128 → EReal) (g : Fin 4096 → EReal)
    (h : ∀ (s : Fin 32) (k : Fin 128) (hl : s.val * 128 + k.val < 4096), f s k = g ⟨s.val * 128 + k.val, hl⟩) :
    ∑ s, half * ∑ k, f s k = half * ∑ i, g i := by
  rw [← half_mul_sum]
  refine congrArg (half * ·) ?_
  exact Fin.sum_mul_add_congr fun s k hl => h s k hl

/-! ### A block -/

/-- The mean of the squared differences of two rows. -/
def mean (x u : Fin 4096 → EReal) : EReal := Ideal.div (∑ k, (x k - u k) * (x k - u k)) cols

/-- A row of a block. -/
def row (x : Vec Ideal S128x4096 .f32) (i : Fin 128) (k : Fin 4096) : EReal := x (ix2 i k)

theorem pay_zero (y : S1x1.Idx) : k0_pay1 (F := Ideal) y = 0 := by
  pointwise [k0_pay1]

theorem pay_grad (x u : Vec Ideal S128x4096 .f32) (y : S128x4096.Idx) :
    k0_pay3 (F := Ideal) x u y = (x y - u y) * inv := by
  pointwise [k0_pay3, k0_pay2]

theorem pay_loss (x u : Vec Ideal S128x4096 .f32) (a : Vec Ideal S1x1 .f32) (y : S1x1.Idx) :
    k0_pay4 (F := Ideal) x u a y = a y + half * ∑ i : Fin 128, mean (row x i) (row u i) := by
  pointwise [k0_pay4, k0_pay2, mean, row]

/-- Half the sum over the rows of the mean of their squared differences. -/
def loss (x u : Sq.Idx → EReal) : EReal := half * ∑ i : Fin 4096, mean (line x i) (line u i)

/-- The gradient of the loss. -/
def grad (x u : Sq.Idx → EReal) (i : Sq.Idx) : EReal := (x i - u i) * inv

variable (m : (ℓ : Loc nD τ sig) → Buf (Elt Ideal) ℓ) (c : Dev nD)

theorem row_eq_0 (t : Fin cfg0.N) (i : Fin 128) (r : Fin 4096) (hr : r.val = t.val * 128 + i.val) :
    row (iblk m c 0 t) i = line (m (c.tc.loc main_arg0)) r := by
  funext k
  unfold row line
  blk_ext [iblk, idx_0, hr]

theorem row_eq_1 (t : Fin cfg0.N) (i : Fin 128) (r : Fin 4096) (hr : r.val = t.val * 128 + i.val) :
    row (iblk m c 1 t) i = line (m (c.tc.loc main_arg1)) r := by
  funext k
  unfold row line
  blk_ext [iblk, idx_1, hr]

theorem grad_out (t : Fin cfg0.N) (y : S128x4096.Idx) :
    (outsAt0 m c t.val t.isLt).2 y = k0_pay3 (F := Ideal) (iblk m c 0 t) (iblk m c 1 t) y := by
  by_cases h : t.val % 32 = 0
  · rw [outsAt0_A m c t h]
    frame_out
  · rw [outsAt0_B m c t h]
    frame_out

theorem loss_out (t : Fin cfg0.N) (h : t.val % 32 = 32 - 1) (y : S1x1.Idx) :
    (outsAt0 m c t.val t.isLt).1 y
      = ∑ s : Fin 32, half * ∑ i : Fin 128,
          mean (row (iblk m c 0 ⟨32 * (t.val / 32) + s.val, Pipeline.run_point_lt_of_flush t h s⟩) i)
            (row (iblk m c 1 ⟨32 * (t.val / 32) + s.val, Pipeline.run_point_lt_of_flush t h s⟩) i) := by
  rw [Pipeline.eq_sum_fin_of_reset_step_apply_of_flush (fun n h => (outsAt0 m c n h).1) 32 (fun _ => (0 : EReal))
    (fun t _ => half * ∑ i : Fin 128, mean (row (iblk m c 0 t) i) (row (iblk m c 1 t) i))
    (fun t h y => by
      rw [outsAt0_A m c t h]
      frame_out
      rw [pay_loss, pay_zero])
    (fun t h y => by
      rw [outsAt0_B m c t h]
      frame_out
      rw [pay_loss]) t h y, zero_add]

theorem arr_grad : (dats m 0 c).arrAt 3 cfg0.N = grad (m (c.tc.loc main_arg0)) (m (c.tc.loc main_arg1)) := by
  refine (dats m 0 c).arrAt_eq_of_covers 3 _ (by decide +kernel) fun t hf y => ?_
  blk_simp
  rw [after0_3, grad_out, pay_grad]
  rfl

theorem arr_loss : (dats m 0 c).arrAt 2 cfg0.N = fun _ => loss (m (c.tc.loc main_arg0)) (m (c.tc.loc main_arg1)) := by
  refine (dats m 0 c).arrAt_eq_of_covers 2 _ (by decide +kernel) fun t hf y => ?_
  have h3 := (flush0_2 t).mp hf
  blk_simp
  rw [after0_2]
  refine (loss_out m c t h3 _).trans ?_
  have ht : t.val < 32 := t.isLt
  refine half_sum _ _ fun s k hl => ?_
  have hv : s.val * 128 + k.val = (32 * (t.val / 32) + s.val) * 128 + k.val := by omega
  exact congrArg₂ mean (row_eq_0 m c _ k ⟨s.val * 128 + k.val, hl⟩ hv) (row_eq_1 m c _ k ⟨s.val * 128 + k.val, hl⟩ hv)

theorem grad_const (a : EReal) : Ideal.div half cols * (Ideal.ofBits .f32 0x40000000#32 * a)
    = a * inv := by
  rw [half_eq, two_eq, inv_eq, cols_eq, Ideal.div_coe (by norm_num), ← EReal.coe_mul,
    ← mul_assoc, ← EReal.coe_mul, mul_comm]
  congr 2
  norm_num

theorem algebraic : Cert.algebraic_LossIdeal_LossRefIdeal := by
  intro m g m' g' _ hagree
  refine ⟨fun c => fun _ => loss (m (c.tc.loc main_arg0)) (m (c.tc.loc main_arg1)), fun c => grad (m (c.tc.loc main_arg0)) (m (c.tc.loc main_arg1)), ?_, ?_⟩
  · refine (θ_run defs _ _).mono (fun r h c => ?_) (run_main m g)
    exact ⟨((h c).1 2).trans (arr_loss m c), ((h c).1 3).trans (arr_grad m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run LossRefIdeal.defs _ _).mono (fun r h c => ?_) (LossRefIdeal.Value.run (F := Ideal) m' g')
    obtain ⟨h0, h1, h2⟩ := h c
    obtain ⟨e0, e1⟩ := hagree c
    refine ⟨h0.trans ?_, h1.trans ?_, h2⟩
    · rw [e0, e1]
      funext i
      pointwise [loss, mean, line]
    · rw [e0, e1]
      funext i
      pointwise [grad]
      exact grad_const _

end Cert.Proof.Loss

end
-- ==== Proof.Norm.Debias.lean ====
/-
  The optimiser's two divisors, the float words of `1 - b^10`: dividing by one is multiplying by its reciprocal.
-/
module

public import Idealize.ShloMosaic.PureOps.Ideal

@[expose] public section

noncomputable section

namespace Cert.Proof.Debias

open Idealize.ShloMosaic

theorem first_word : Ideal.ofBits .f32 0x3F26BD02#32 = ((5463681 / 8388608 : ℝ) : EReal) := by
  simp [Ideal.ofBits, Ideal.ieee]
  rw [← EReal.coe_mul]
  norm_num

theorem second_word : Ideal.ofBits .f32 0x3C231ACC#32 = ((2672307 / 268435456 : ℝ) : EReal) := by
  simp [Ideal.ofBits, Ideal.ieee]
  rw [← EReal.coe_mul]
  norm_num

theorem first_div (x : EReal) :
    Ideal.div x (Ideal.ofBits .f32 0x3F26BD02#32) = x * ((8388608 / 5463681 : ℝ) : EReal) := by
  rw [first_word, Ideal.div_coe (by norm_num)]
  norm_num

theorem second_div (x : EReal) :
    Ideal.div x (Ideal.ofBits .f32 0x3C231ACC#32) = x * ((268435456 / 2672307 : ℝ) : EReal) := by
  rw [second_word, Ideal.div_coe (by norm_num)]
  norm_num

end Cert.Proof.Debias

end
-- ==== Proof.Norm.AdamIn.lean ====
/-
  The optimiser's step of a weight: the gradient is the sum of the 4 partial gradients, the two moments are moving averages
  of it and of its square, and the weight's change is read off these, cell by cell.
-/
module

public import proofs.«01_k».proof.Defs
public import proofs.«01_k».proof.Proof.Gen.AdamInIdeal.Frame
public import proofs.«01_k».proof.Proof.Gen.AdamInRefIdeal.Run
public import proofs.«01_k».proof.Proof.Norm.Debias
public import Idealize.ShloMosaic.Lib.Pipeline.ValueKit
public import Idealize.ShloMosaic.Lib.Pipeline.ReadBack
public import Idealize.ShloMosaic.Lib.Pointwise

@[expose] public section

noncomputable section

namespace Cert.Proof.AdamIn

open Cert.AdamInIdeal Cert.AdamInIdeal.Gen
open Idealize.ShloMosaic
open Idealize.ShloMosaic.TcCoe
open Idealize.SL Idealize.SL.Sem

theorem idx_0 : ∀ t : Fin grid0.N, win0_0.index t = ![0, t.val, 0] := by decide +kernel
theorem idx_1 : ∀ t : Fin grid0.N, win0_1.index t = ![t.val, 0] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![t.val, 0] := by decide +kernel
theorem idx_7 : ∀ t : Fin grid0.N, win0_7.index t = ![t.val, 0] := by decide +kernel

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem preserves : Cert.preserves_AdamIn_AdamInIdeal :=
  ⟨IdealRules.named_const.statement _ "c1" .f32 _ _ rfl, IdealRules.named_const.statement _ "c2" .f32 _ _ rfl⟩

/-- The sum of the partial gradients. -/
def grad (p : S4x4096x2048.Idx → EReal) (i : S4096x2048.Idx) : EReal := ∑ k : Fin 4, p (ix3 k (i 0) (i 1))

/-- The moving average of the gradient. -/
def first (p : S4x4096x2048.Idx → EReal) (a : S4096x2048.Idx → EReal) (i : S4096x2048.Idx) : EReal :=
  Ideal.ofBits .f32 0x3F666666#32 * a i + Ideal.ofBits .f32 0x3DCCCCCD#32 * grad p i

/-- The moving average of the squared gradient. -/
def second (p : S4x4096x2048.Idx → EReal) (a : S4096x2048.Idx → EReal) (i : S4096x2048.Idx) : EReal :=
  Ideal.ofBits .f32 0x3F7FBE77#32 * a i + Ideal.ofBits .f32 0x3A83126F#32 * (grad p i * grad p i)

/-- The weight's change. -/
def change (p : S4x4096x2048.Idx → EReal) (w a b : S4096x2048.Idx → EReal) (i : S4096x2048.Idx) : EReal :=
  Ideal.ofBits .f32 0xBA83126F#32
    * (Ideal.div (first p a i * ((8388608 / 5463681 : ℝ) : EReal))
        (Ideal.sqrt (second p b i * ((268435456 / 2672307 : ℝ) : EReal)) + Ideal.ofBits .f32 0x322BCC77#32)
      + Ideal.ofBits .f32 0x3C23D70A#32 * w i)

variable (m : (ℓ : Loc nD τ sig) → Buf (Elt Ideal) ℓ) (c : Dev nD)

theorem cell_4 (t : Fin cfg0.N) (y : ((cfg0.win 4).xblock (cfg0.grid.coords t)).Idx) (k : Fin 4) :
    iblk m c 0 t (ix3 k (y 0) (y 1))
      = m (c.tc.loc main_arg0) (ix3 k ((win0_4.blk t).view.emb y 0) ((win0_4.blk t).view.emb y 1)) := by
  blk_ext [iblk, idx_0, idx_4]

theorem cell_5 (t : Fin cfg0.N) (y : ((cfg0.win 5).xblock (cfg0.grid.coords t)).Idx) (k : Fin 4) :
    iblk m c 0 t (ix3 k (y 0) (y 1))
      = m (c.tc.loc main_arg0) (ix3 k ((win0_5.blk t).view.emb y 0) ((win0_5.blk t).view.emb y 1)) := by
  blk_ext [iblk, idx_0, idx_5]

theorem cell_6 (t : Fin cfg0.N) (y : ((cfg0.win 6).xblock (cfg0.grid.coords t)).Idx) (k : Fin 4) :
    iblk m c 0 t (ix3 k (y 0) (y 1))
      = m (c.tc.loc main_arg0) (ix3 k ((win0_6.blk t).view.emb y 0) ((win0_6.blk t).view.emb y 1)) := by
  blk_ext [iblk, idx_0, idx_6]

theorem cell_7 (t : Fin cfg0.N) (y : ((cfg0.win 7).xblock (cfg0.grid.coords t)).Idx) (k : Fin 4) :
    iblk m c 0 t (ix3 k (y 0) (y 1))
      = m (c.tc.loc main_arg0) (ix3 k ((win0_7.blk t).view.emb y 0) ((win0_7.blk t).view.emb y 1)) := by
  blk_ext [iblk, idx_0, idx_7]

theorem arr_grad : (dats m 0 c).arrAt 4 cfg0.N = grad (m (c.tc.loc main_arg0)) := by
  refine (dats m 0 c).arrAt_eq_of_covers 4 _ (by decide +kernel) fun t hf y => ?_
  have hc := cell_4 m c t y
  blk_simp
  rw [after0_4]
  frame_out
  unfold grad
  simp only [Fin.sum_univ_four]
  pointwise [k0_pay2]
  exact (congrArg₂ (· + ·) (congrArg₂ (· + ·) (congrArg₂ (· + ·) (hc 0) (hc 1)) (hc 2)) (hc 3))

theorem arr_change : (dats m 0 c).arrAt 5 cfg0.N = change (m (c.tc.loc main_arg0)) (m (c.tc.loc main_arg1)) (m (c.tc.loc main_arg2)) (m (c.tc.loc main_arg3)) := by
  refine (dats m 0 c).arrAt_eq_of_covers 5 _ (by decide +kernel) fun t hf y => ?_
  have hc := cell_5 m c t y
  blk_simp
  rw [after0_5]
  frame_out
  unfold k0_pay5
  unfold change first second grad
  simp only [Fin.sum_univ_four]
  pointwise [k0_pay1, k0_pay3, k0_pay4, k0_pay2, c1, c2]
  exact congrArg (_ * ·) (congrArg₂ (· + ·) (congrArg₂ Ideal.div (congrArg (· * _) (congrArg₂ (· + ·) rfl (congrArg (_ * ·) (congrArg₂ (· + ·) (congrArg₂ (· + ·) (congrArg₂ (· + ·) (hc 0) (hc 1)) (hc 2)) (hc 3)))))
    (congrArg (· + _) (congrArg Ideal.sqrt (congrArg (· * _) (congrArg₂ (· + ·) rfl (congrArg (_ * ·) (congrArg₂ (· * ·) (congrArg₂ (· + ·) (congrArg₂ (· + ·) (congrArg₂ (· + ·) (hc 0) (hc 1)) (hc 2)) (hc 3)) (congrArg₂ (· + ·) (congrArg₂ (· + ·) (congrArg₂ (· + ·) (hc 0) (hc 1)) (hc 2)) (hc 3))))))))) rfl)

theorem arr_first : (dats m 0 c).arrAt 6 cfg0.N = first (m (c.tc.loc main_arg0)) (m (c.tc.loc main_arg2)) := by
  refine (dats m 0 c).arrAt_eq_of_covers 6 _ (by decide +kernel) fun t hf y => ?_
  have hc := cell_6 m c t y
  blk_simp
  rw [after0_6]
  frame_out
  unfold first grad
  simp only [Fin.sum_univ_four]
  pointwise [k0_pay3, k0_pay2]
  exact (congrArg₂ (· + ·) rfl (congrArg (_ * ·) (congrArg₂ (· + ·) (congrArg₂ (· + ·) (congrArg₂ (· + ·) (hc 0) (hc 1)) (hc 2)) (hc 3))))

theorem arr_second : (dats m 0 c).arrAt 7 cfg0.N = second (m (c.tc.loc main_arg0)) (m (c.tc.loc main_arg3)) := by
  refine (dats m 0 c).arrAt_eq_of_covers 7 _ (by decide +kernel) fun t hf y => ?_
  have hc := cell_7 m c t y
  blk_simp
  rw [after0_7]
  frame_out
  unfold k0_pay5
  unfold second grad
  simp only [Fin.sum_univ_four]
  pointwise [k0_pay4, k0_pay2]
  exact (congrArg₂ (· + ·) rfl (congrArg (_ * ·) (congrArg₂ (· * ·) (congrArg₂ (· + ·) (congrArg₂ (· + ·) (congrArg₂ (· + ·) (hc 0) (hc 1)) (hc 2)) (hc 3)) (congrArg₂ (· + ·) (congrArg₂ (· + ·) (congrArg₂ (· + ·) (hc 0) (hc 1)) (hc 2)) (hc 3)))))

theorem algebraic : Cert.algebraic_AdamInIdeal_AdamInRefIdeal := by
  intro m g m' g' _ hagree
  refine ⟨fun c => grad (m (c.tc.loc main_arg0)), fun c => change (m (c.tc.loc main_arg0)) (m (c.tc.loc main_arg1)) (m (c.tc.loc main_arg2)) (m (c.tc.loc main_arg3)),
    fun c => first (m (c.tc.loc main_arg0)) (m (c.tc.loc main_arg2)), fun c => second (m (c.tc.loc main_arg0)) (m (c.tc.loc main_arg3)), ?_, ?_⟩
  · refine (θ_run defs _ _).mono (fun r h c => ?_) (run_main m g)
    exact ⟨((h c).1 4).trans (arr_grad m c), ((h c).1 5).trans (arr_change m c),
      ((h c).1 6).trans (arr_first m c), ((h c).1 7).trans (arr_second m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩
  · refine (θ_run AdamInRefIdeal.defs _ _).mono (fun r h c => ?_) (AdamInRefIdeal.Value.run (F := Ideal) m' g')
    obtain ⟨h0, h1, h2, h3, h4⟩ := h c
    obtain ⟨e0, e1, e2, e3⟩ := hagree c
    refine ⟨h0.trans ?_, h1.trans ?_, h2.trans ?_, h3.trans ?_, h4⟩
    · rw [e0]
      funext i
      pointwise [grad]
    · rw [e0, e1, e2, e3]
      funext i
      pointwise [change, first, second, grad, Debias.first_div, Debias.second_div]
    · rw [e0, e2]
      funext i
      pointwise [first, grad]
    · rw [e0, e3]
      funext i
      pointwise [second, grad]

end Cert.Proof.AdamIn

end
-- ==== Proof.Norm.AdamOut.lean ====
/-
  The optimiser's step of a weight: the gradient is the sum of the 8 partial gradients, the two moments are moving averages
  of it and of its square, and the weight's change is read off these, cell by cell.
-/
module

public import proofs.«01_k».proof.Defs
public import proofs.«01_k».proof.Proof.Gen.AdamOutIdeal.Frame
public import proofs.«01_k».proof.Proof.Gen.AdamOutRefIdeal.Run
public import proofs.«01_k».proof.Proof.Norm.Debias
public import Idealize.ShloMosaic.Lib.Pipeline.ValueKit
public import Idealize.ShloMosaic.Lib.Pipeline.ReadBack
public import Idealize.ShloMosaic.Lib.Pointwise

@[expose] public section

noncomputable section

namespace Cert.Proof.AdamOut

open Cert.AdamOutIdeal Cert.AdamOutIdeal.Gen
open Idealize.ShloMosaic
open Idealize.ShloMosaic.TcCoe
open Idealize.SL Idealize.SL.Sem

theorem idx_0 : ∀ t : Fin grid0.N, win0_0.index t = ![0, t.val, 0] := by decide +kernel
theorem idx_1 : ∀ t : Fin grid0.N, win0_1.index t = ![t.val, 0] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![t.val, 0] := by decide +kernel
theorem idx_7 : ∀ t : Fin grid0.N, win0_7.index t = ![t.val, 0] := by decide +kernel

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem preserves : Cert.preserves_AdamOut_AdamOutIdeal :=
  ⟨IdealRules.named_const.statement _ "c1" .f32 _ _ rfl, IdealRules.named_const.statement _ "c2" .f32 _ _ rfl⟩

/-- The sum of the partial gradients. -/
def grad (p : S8x512x4096.Idx → EReal) (i : S512x4096.Idx) : EReal := ∑ k : Fin 8, p (ix3 k (i 0) (i 1))

/-- The moving average of the gradient. -/
def first (p : S8x512x4096.Idx → EReal) (a : S512x4096.Idx → EReal) (i : S512x4096.Idx) : EReal :=
  Ideal.ofBits .f32 0x3F666666#32 * a i + Ideal.ofBits .f32 0x3DCCCCCD#32 * grad p i

/-- The moving average of the squared gradient. -/
def second (p : S8x512x4096.Idx → EReal) (a : S512x4096.Idx → EReal) (i : S512x4096.Idx) : EReal :=
  Ideal.ofBits .f32 0x3F7FBE77#32 * a i + Ideal.ofBits .f32 0x3A83126F#32 * (grad p i * grad p i)

/-- The weight's change. -/
def change (p : S8x512x4096.Idx → EReal) (w a b : S512x4096.Idx → EReal) (i : S512x4096.Idx) : EReal :=
  Ideal.ofBits .f32 0xBA83126F#32
    * (Ideal.div (first p a i * ((8388608 / 5463681 : ℝ) : EReal))
        (Ideal.sqrt (second p b i * ((268435456 / 2672307 : ℝ) : EReal)) + Ideal.ofBits .f32 0x322BCC77#32)
      + Ideal.ofBits .f32 0x3C23D70A#32 * w i)

variable (m : (ℓ : Loc nD τ sig) → Buf (Elt Ideal) ℓ) (c : Dev nD)

theorem cell_4 (t : Fin cfg0.N) (y : ((cfg0.win 4).xblock (cfg0.grid.coords t)).Idx) (k : Fin 8) :
    iblk m c 0 t (ix3 k (y 0) (y 1))
      = m (c.tc.loc main_arg0) (ix3 k ((win0_4.blk t).view.emb y 0) ((win0_4.blk t).view.emb y 1)) := by
  blk_ext [iblk, idx_0, idx_4]

theorem cell_5 (t : Fin cfg0.N) (y : ((cfg0.win 5).xblock (cfg0.grid.coords t)).Idx) (k : Fin 8) :
    iblk m c 0 t (ix3 k (y 0) (y 1))
      = m (c.tc.loc main_arg0) (ix3 k ((win0_5.blk t).view.emb y 0) ((win0_5.blk t).view.emb y 1)) := by
  blk_ext [iblk, idx_0, idx_5]

theorem cell_6 (t : Fin cfg0.N) (y : ((cfg0.win 6).xblock (cfg0.grid.coords t)).Idx) (k : Fin 8) :
    iblk m c 0 t (ix3 k (y 0) (y 1))
      = m (c.tc.loc main_arg0) (ix3 k ((win0_6.blk t).view.emb y 0) ((win0_6.blk t).view.emb y 1)) := by
  blk_ext [iblk, idx_0, idx_6]

theorem cell_7 (t : Fin cfg0.N) (y : ((cfg0.win 7).xblock (cfg0.grid.coords t)).Idx) (k : Fin 8) :
    iblk m c 0 t (ix3 k (y 0) (y 1))
      = m (c.tc.loc main_arg0) (ix3 k ((win0_7.blk t).view.emb y 0) ((win0_7.blk t).view.emb y 1)) := by
  blk_ext [iblk, idx_0, idx_7]

theorem arr_grad : (dats m 0 c).arrAt 4 cfg0.N = grad (m (c.tc.loc main_arg0)) := by
  refine (dats m 0 c).arrAt_eq_of_covers 4 _ (by decide +kernel) fun t hf y => ?_
  have hc := cell_4 m c t y
  blk_simp
  rw [after0_4]
  frame_out
  unfold k0_pay5
  unfold grad
  simp only [Fin.sum_univ_eight]
  pointwise [k0_pay4]
  exact (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))

theorem arr_change : (dats m 0 c).arrAt 5 cfg0.N = change (m (c.tc.loc main_arg0)) (m (c.tc.loc main_arg1)) (m (c.tc.loc main_arg2)) (m (c.tc.loc main_arg3)) := by
  refine (dats m 0 c).arrAt_eq_of_covers 5 _ (by decide +kernel) fun t hf y => ?_
  have hc := cell_5 m c t y
  blk_simp
  rw [after0_5]
  frame_out
  unfold k0_pay5
  unfold change first second grad
  simp only [Fin.sum_univ_eight]
  pointwise [k0_pay3, k0_pay1, k0_pay2, k0_pay4, c1, c2]
  exact congrArg (_ * ·) (congrArg₂ (· + ·) (congrArg₂ Ideal.div (congrArg (· * _) (congrArg₂ (· + ·) rfl (congrArg (_ * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)))))
    (congrArg (· + _) (congrArg Ideal.sqrt (congrArg (· * _) (congrArg₂ (· + ·) rfl (congrArg (_ * ·) (congrArg₂ (· * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))))))))) rfl)

theorem arr_first : (dats m 0 c).arrAt 6 cfg0.N = first (m (c.tc.loc main_arg0)) (m (c.tc.loc main_arg2)) := by
  refine (dats m 0 c).arrAt_eq_of_covers 6 _ (by decide +kernel) fun t hf y => ?_
  have hc := cell_6 m c t y
  blk_simp
  rw [after0_6]
  frame_out
  unfold k0_pay5
  unfold first grad
  simp only [Fin.sum_univ_eight]
  pointwise [k0_pay1, k0_pay4]
  exact (congrArg₂ (· + ·) rfl (congrArg (_ * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))))

theorem arr_second : (dats m 0 c).arrAt 7 cfg0.N = second (m (c.tc.loc main_arg0)) (m (c.tc.loc main_arg3)) := by
  refine (dats m 0 c).arrAt_eq_of_covers 7 _ (by decide +kernel) fun t hf y => ?_
  have hc := cell_7 m c t y
  blk_simp
  rw [after0_7]
  frame_out
  unfold k0_pay5
  unfold second grad
  simp only [Fin.sum_univ_eight]
  pointwise [k0_pay2, k0_pay4]
  exact (congrArg₂ (· + ·) rfl (congrArg (_ * ·) (congrArg₂ (· * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)))))

theorem algebraic : Cert.algebraic_AdamOutIdeal_AdamOutRefIdeal := by
  intro m g m' g' _ hagree
  refine ⟨fun c => grad (m (c.tc.loc main_arg0)), fun c => change (m (c.tc.loc main_arg0)) (m (c.tc.loc main_arg1)) (m (c.tc.loc main_arg2)) (m (c.tc.loc main_arg3)),
    fun c => first (m (c.tc.loc main_arg0)) (m (c.tc.loc main_arg2)), fun c => second (m (c.tc.loc main_arg0)) (m (c.tc.loc main_arg3)), ?_, ?_⟩
  · refine (θ_run defs _ _).mono (fun r h c => ?_) (run_main m g)
    exact ⟨((h c).1 4).trans (arr_grad m c), ((h c).1 5).trans (arr_change m c),
      ((h c).1 6).trans (arr_first m c), ((h c).1 7).trans (arr_second m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩
  · refine (θ_run AdamOutRefIdeal.defs _ _).mono (fun r h c => ?_) (AdamOutRefIdeal.Value.run (F := Ideal) m' g')
    obtain ⟨h0, h1, h2, h3, h4⟩ := h c
    obtain ⟨e0, e1, e2, e3⟩ := hagree c
    refine ⟨h0.trans ?_, h1.trans ?_, h2.trans ?_, h3.trans ?_, h4⟩
    · rw [e0]
      funext i
      pointwise [grad]
    · rw [e0, e1, e2, e3]
      funext i
      pointwise [change, first, second, grad, Debias.first_div, Debias.second_div]
    · rw [e0, e2]
      funext i
      pointwise [first, grad]
    · rw [e0, e3]
      funext i
      pointwise [second, grad]

end Cert.Proof.AdamOut

end
-- ==== Proof.Norm.AdamInE.lean ====
/-
  The optimiser's step of a weight: the gradient is the sum of the 4 partial gradients, the two moments are moving averages
  of it and of its square, and the weight's change is read off these, cell by cell.
-/
module

public import proofs.«01_k».proof.Defs
public import proofs.«01_k».proof.Proof.Gen.AdamInEIdeal.Frame
public import proofs.«01_k».proof.Proof.Gen.AdamInERefIdeal.Run
public import proofs.«01_k».proof.Proof.Norm.Debias
public import Idealize.ShloMosaic.Lib.Pipeline.ValueKit
public import Idealize.ShloMosaic.Lib.Pipeline.ReadBack
public import Idealize.ShloMosaic.Lib.Pointwise

@[expose] public section

noncomputable section

namespace Cert.Proof.AdamInE

open Cert.AdamInEIdeal Cert.AdamInEIdeal.Gen
open Idealize.ShloMosaic
open Idealize.ShloMosaic.TcCoe
open Idealize.SL Idealize.SL.Sem

theorem idx_0 : ∀ t : Fin grid0.N, win0_0.index t = ![0, t.val, 0] := by decide +kernel
theorem idx_1 : ∀ t : Fin grid0.N, win0_1.index t = ![t.val, 0] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![t.val, 0] := by decide +kernel
theorem idx_7 : ∀ t : Fin grid0.N, win0_7.index t = ![t.val, 0] := by decide +kernel

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem preserves : Cert.preserves_AdamInE_AdamInEIdeal :=
  ⟨IdealRules.named_const.statement _ "c1" .f32 _ _ rfl, IdealRules.named_const.statement _ "c2" .f32 _ _ rfl⟩

/-- The sum of the partial gradients. -/
def grad (p : S4x4096x2050.Idx → EReal) (i : S4096x2050.Idx) : EReal := ∑ k : Fin 4, p (ix3 k (i 0) (i 1))

/-- The moving average of the gradient. -/
def first (p : S4x4096x2050.Idx → EReal) (a : S4096x2050.Idx → EReal) (i : S4096x2050.Idx) : EReal :=
  Ideal.ofBits .f32 0x3F666666#32 * a i + Ideal.ofBits .f32 0x3DCCCCCD#32 * grad p i

/-- The moving average of the squared gradient. -/
def second (p : S4x4096x2050.Idx → EReal) (a : S4096x2050.Idx → EReal) (i : S4096x2050.Idx) : EReal :=
  Ideal.ofBits .f32 0x3F7FBE77#32 * a i + Ideal.ofBits .f32 0x3A83126F#32 * (grad p i * grad p i)

/-- The weight's change. -/
def change (p : S4x4096x2050.Idx → EReal) (w a b : S4096x2050.Idx → EReal) (i : S4096x2050.Idx) : EReal :=
  Ideal.ofBits .f32 0xBA83126F#32
    * (Ideal.div (first p a i * ((8388608 / 5463681 : ℝ) : EReal))
        (Ideal.sqrt (second p b i * ((268435456 / 2672307 : ℝ) : EReal)) + Ideal.ofBits .f32 0x322BCC77#32)
      + Ideal.ofBits .f32 0x3C23D70A#32 * w i)

variable (m : (ℓ : Loc nD τ sig) → Buf (Elt Ideal) ℓ) (c : Dev nD)

theorem cell_4 (t : Fin cfg0.N) (y : ((cfg0.win 4).xblock (cfg0.grid.coords t)).Idx) (k : Fin 4) :
    iblk m c 0 t (ix3 k (y 0) (y 1))
      = m (c.tc.loc main_arg0) (ix3 k ((win0_4.blk t).view.emb y 0) ((win0_4.blk t).view.emb y 1)) := by
  blk_ext [iblk, idx_0, idx_4]

theorem cell_5 (t : Fin cfg0.N) (y : ((cfg0.win 5).xblock (cfg0.grid.coords t)).Idx) (k : Fin 4) :
    iblk m c 0 t (ix3 k (y 0) (y 1))
      = m (c.tc.loc main_arg0) (ix3 k ((win0_5.blk t).view.emb y 0) ((win0_5.blk t).view.emb y 1)) := by
  blk_ext [iblk, idx_0, idx_5]

theorem cell_6 (t : Fin cfg0.N) (y : ((cfg0.win 6).xblock (cfg0.grid.coords t)).Idx) (k : Fin 4) :
    iblk m c 0 t (ix3 k (y 0) (y 1))
      = m (c.tc.loc main_arg0) (ix3 k ((win0_6.blk t).view.emb y 0) ((win0_6.blk t).view.emb y 1)) := by
  blk_ext [iblk, idx_0, idx_6]

theorem cell_7 (t : Fin cfg0.N) (y : ((cfg0.win 7).xblock (cfg0.grid.coords t)).Idx) (k : Fin 4) :
    iblk m c 0 t (ix3 k (y 0) (y 1))
      = m (c.tc.loc main_arg0) (ix3 k ((win0_7.blk t).view.emb y 0) ((win0_7.blk t).view.emb y 1)) := by
  blk_ext [iblk, idx_0, idx_7]

theorem arr_grad : (dats m 0 c).arrAt 4 cfg0.N = grad (m (c.tc.loc main_arg0)) := by
  refine (dats m 0 c).arrAt_eq_of_covers 4 _ (by decide +kernel) fun t hf y => ?_
  have hc := cell_4 m c t y
  blk_simp
  rw [after0_4]
  frame_out
  unfold grad
  simp only [Fin.sum_univ_four]
  pointwise [k0_pay2]
  exact (congrArg₂ (· + ·) (congrArg₂ (· + ·) (congrArg₂ (· + ·) (hc 0) (hc 1)) (hc 2)) (hc 3))

theorem arr_change : (dats m 0 c).arrAt 5 cfg0.N = change (m (c.tc.loc main_arg0)) (m (c.tc.loc main_arg1)) (m (c.tc.loc main_arg2)) (m (c.tc.loc main_arg3)) := by
  refine (dats m 0 c).arrAt_eq_of_covers 5 _ (by decide +kernel) fun t hf y => ?_
  have hc := cell_5 m c t y
  blk_simp
  rw [after0_5]
  frame_out
  unfold k0_pay5
  unfold change first second grad
  simp only [Fin.sum_univ_four]
  pointwise [k0_pay1, k0_pay3, k0_pay4, k0_pay2, c1, c2]
  exact congrArg (_ * ·) (congrArg₂ (· + ·) (congrArg₂ Ideal.div (congrArg (· * _) (congrArg₂ (· + ·) rfl (congrArg (_ * ·) (congrArg₂ (· + ·) (congrArg₂ (· + ·) (congrArg₂ (· + ·) (hc 0) (hc 1)) (hc 2)) (hc 3)))))
    (congrArg (· + _) (congrArg Ideal.sqrt (congrArg (· * _) (congrArg₂ (· + ·) rfl (congrArg (_ * ·) (congrArg₂ (· * ·) (congrArg₂ (· + ·) (congrArg₂ (· + ·) (congrArg₂ (· + ·) (hc 0) (hc 1)) (hc 2)) (hc 3)) (congrArg₂ (· + ·) (congrArg₂ (· + ·) (congrArg₂ (· + ·) (hc 0) (hc 1)) (hc 2)) (hc 3))))))))) rfl)

theorem arr_first : (dats m 0 c).arrAt 6 cfg0.N = first (m (c.tc.loc main_arg0)) (m (c.tc.loc main_arg2)) := by
  refine (dats m 0 c).arrAt_eq_of_covers 6 _ (by decide +kernel) fun t hf y => ?_
  have hc := cell_6 m c t y
  blk_simp
  rw [after0_6]
  frame_out
  unfold first grad
  simp only [Fin.sum_univ_four]
  pointwise [k0_pay3, k0_pay2]
  exact (congrArg₂ (· + ·) rfl (congrArg (_ * ·) (congrArg₂ (· + ·) (congrArg₂ (· + ·) (congrArg₂ (· + ·) (hc 0) (hc 1)) (hc 2)) (hc 3))))

theorem arr_second : (dats m 0 c).arrAt 7 cfg0.N = second (m (c.tc.loc main_arg0)) (m (c.tc.loc main_arg3)) := by
  refine (dats m 0 c).arrAt_eq_of_covers 7 _ (by decide +kernel) fun t hf y => ?_
  have hc := cell_7 m c t y
  blk_simp
  rw [after0_7]
  frame_out
  unfold k0_pay5
  unfold second grad
  simp only [Fin.sum_univ_four]
  pointwise [k0_pay4, k0_pay2]
  exact (congrArg₂ (· + ·) rfl (congrArg (_ * ·) (congrArg₂ (· * ·) (congrArg₂ (· + ·) (congrArg₂ (· + ·) (congrArg₂ (· + ·) (hc 0) (hc 1)) (hc 2)) (hc 3)) (congrArg₂ (· + ·) (congrArg₂ (· + ·) (congrArg₂ (· + ·) (hc 0) (hc 1)) (hc 2)) (hc 3)))))

theorem algebraic : Cert.algebraic_AdamInEIdeal_AdamInERefIdeal := by
  intro m g m' g' _ hagree
  refine ⟨fun c => grad (m (c.tc.loc main_arg0)), fun c => change (m (c.tc.loc main_arg0)) (m (c.tc.loc main_arg1)) (m (c.tc.loc main_arg2)) (m (c.tc.loc main_arg3)),
    fun c => first (m (c.tc.loc main_arg0)) (m (c.tc.loc main_arg2)), fun c => second (m (c.tc.loc main_arg0)) (m (c.tc.loc main_arg3)), ?_, ?_⟩
  · refine (θ_run defs _ _).mono (fun r h c => ?_) (run_main m g)
    exact ⟨((h c).1 4).trans (arr_grad m c), ((h c).1 5).trans (arr_change m c),
      ((h c).1 6).trans (arr_first m c), ((h c).1 7).trans (arr_second m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩
  · refine (θ_run AdamInERefIdeal.defs _ _).mono (fun r h c => ?_) (AdamInERefIdeal.Value.run (F := Ideal) m' g')
    obtain ⟨h0, h1, h2, h3, h4⟩ := h c
    obtain ⟨e0, e1, e2, e3⟩ := hagree c
    refine ⟨h0.trans ?_, h1.trans ?_, h2.trans ?_, h3.trans ?_, h4⟩
    · rw [e0]
      funext i
      pointwise [grad]
    · rw [e0, e1, e2, e3]
      funext i
      pointwise [change, first, second, grad, Debias.first_div, Debias.second_div]
    · rw [e0, e2]
      funext i
      pointwise [first, grad]
    · rw [e0, e3]
      funext i
      pointwise [second, grad]

end Cert.Proof.AdamInE

end
-- ==== Proof.Norm.AdamOutE.lean ====
/-
  The optimiser's step of a weight: the gradient is the sum of the 8 partial gradients, the two moments are moving averages
  of it and of its square, and the weight's change is read off these, cell by cell.
-/
module

public import proofs.«01_k».proof.Defs
public import proofs.«01_k».proof.Proof.Gen.AdamOutEIdeal.Frame
public import proofs.«01_k».proof.Proof.Gen.AdamOutERefIdeal.Run
public import proofs.«01_k».proof.Proof.Norm.Debias
public import Idealize.ShloMosaic.Lib.Pipeline.ValueKit
public import Idealize.ShloMosaic.Lib.Pipeline.ReadBack
public import Idealize.ShloMosaic.Lib.Pointwise

@[expose] public section

noncomputable section

namespace Cert.Proof.AdamOutE

open Cert.AdamOutEIdeal Cert.AdamOutEIdeal.Gen
open Idealize.ShloMosaic
open Idealize.ShloMosaic.TcCoe
open Idealize.SL Idealize.SL.Sem

theorem idx_0 : ∀ t : Fin grid0.N, win0_0.index t = ![0, t.val, 0] := by decide +kernel
theorem idx_1 : ∀ t : Fin grid0.N, win0_1.index t = ![t.val, 0] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![t.val, 0] := by decide +kernel
theorem idx_7 : ∀ t : Fin grid0.N, win0_7.index t = ![t.val, 0] := by decide +kernel

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem preserves : Cert.preserves_AdamOutE_AdamOutEIdeal :=
  ⟨IdealRules.named_const.statement _ "c1" .f32 _ _ rfl, IdealRules.named_const.statement _ "c2" .f32 _ _ rfl⟩

/-- The sum of the partial gradients. -/
def grad (p : S8x512x4096.Idx → EReal) (i : S512x4096.Idx) : EReal := ∑ k : Fin 8, p (ix3 k (i 0) (i 1))

/-- The moving average of the gradient. -/
def first (p : S8x512x4096.Idx → EReal) (a : S512x4096.Idx → EReal) (i : S512x4096.Idx) : EReal :=
  Ideal.ofBits .f32 0x3F666666#32 * a i + Ideal.ofBits .f32 0x3DCCCCCD#32 * grad p i

/-- The moving average of the squared gradient. -/
def second (p : S8x512x4096.Idx → EReal) (a : S512x4096.Idx → EReal) (i : S512x4096.Idx) : EReal :=
  Ideal.ofBits .f32 0x3F7FBE77#32 * a i + Ideal.ofBits .f32 0x3A83126F#32 * (grad p i * grad p i)

/-- The weight's change. -/
def change (p : S8x512x4096.Idx → EReal) (w a b : S512x4096.Idx → EReal) (i : S512x4096.Idx) : EReal :=
  Ideal.ofBits .f32 0xBA83126F#32
    * (Ideal.div (first p a i * ((8388608 / 5463681 : ℝ) : EReal))
        (Ideal.sqrt (second p b i * ((268435456 / 2672307 : ℝ) : EReal)) + Ideal.ofBits .f32 0x322BCC77#32)
      + Ideal.ofBits .f32 0x3C23D70A#32 * w i)

variable (m : (ℓ : Loc nD τ sig) → Buf (Elt Ideal) ℓ) (c : Dev nD)

theorem cell_4 (t : Fin cfg0.N) (y : ((cfg0.win 4).xblock (cfg0.grid.coords t)).Idx) (k : Fin 8) :
    iblk m c 0 t (ix3 k (y 0) (y 1))
      = m (c.tc.loc main_arg0) (ix3 k ((win0_4.blk t).view.emb y 0) ((win0_4.blk t).view.emb y 1)) := by
  blk_ext [iblk, idx_0, idx_4]

theorem cell_5 (t : Fin cfg0.N) (y : ((cfg0.win 5).xblock (cfg0.grid.coords t)).Idx) (k : Fin 8) :
    iblk m c 0 t (ix3 k (y 0) (y 1))
      = m (c.tc.loc main_arg0) (ix3 k ((win0_5.blk t).view.emb y 0) ((win0_5.blk t).view.emb y 1)) := by
  blk_ext [iblk, idx_0, idx_5]

theorem cell_6 (t : Fin cfg0.N) (y : ((cfg0.win 6).xblock (cfg0.grid.coords t)).Idx) (k : Fin 8) :
    iblk m c 0 t (ix3 k (y 0) (y 1))
      = m (c.tc.loc main_arg0) (ix3 k ((win0_6.blk t).view.emb y 0) ((win0_6.blk t).view.emb y 1)) := by
  blk_ext [iblk, idx_0, idx_6]

theorem cell_7 (t : Fin cfg0.N) (y : ((cfg0.win 7).xblock (cfg0.grid.coords t)).Idx) (k : Fin 8) :
    iblk m c 0 t (ix3 k (y 0) (y 1))
      = m (c.tc.loc main_arg0) (ix3 k ((win0_7.blk t).view.emb y 0) ((win0_7.blk t).view.emb y 1)) := by
  blk_ext [iblk, idx_0, idx_7]

theorem arr_grad : (dats m 0 c).arrAt 4 cfg0.N = grad (m (c.tc.loc main_arg0)) := by
  refine (dats m 0 c).arrAt_eq_of_covers 4 _ (by decide +kernel) fun t hf y => ?_
  have hc := cell_4 m c t y
  blk_simp
  rw [after0_4]
  frame_out
  unfold k0_pay5
  unfold grad
  simp only [Fin.sum_univ_eight]
  pointwise [k0_pay4]
  exact (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))

theorem arr_change : (dats m 0 c).arrAt 5 cfg0.N = change (m (c.tc.loc main_arg0)) (m (c.tc.loc main_arg1)) (m (c.tc.loc main_arg2)) (m (c.tc.loc main_arg3)) := by
  refine (dats m 0 c).arrAt_eq_of_covers 5 _ (by decide +kernel) fun t hf y => ?_
  have hc := cell_5 m c t y
  blk_simp
  rw [after0_5]
  frame_out
  unfold k0_pay5
  unfold change first second grad
  simp only [Fin.sum_univ_eight]
  pointwise [k0_pay3, k0_pay1, k0_pay2, k0_pay4, c1, c2]
  exact congrArg (_ * ·) (congrArg₂ (· + ·) (congrArg₂ Ideal.div (congrArg (· * _) (congrArg₂ (· + ·) rfl (congrArg (_ * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)))))
    (congrArg (· + _) (congrArg Ideal.sqrt (congrArg (· * _) (congrArg₂ (· + ·) rfl (congrArg (_ * ·) (congrArg₂ (· * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))))))))) rfl)

theorem arr_first : (dats m 0 c).arrAt 6 cfg0.N = first (m (c.tc.loc main_arg0)) (m (c.tc.loc main_arg2)) := by
  refine (dats m 0 c).arrAt_eq_of_covers 6 _ (by decide +kernel) fun t hf y => ?_
  have hc := cell_6 m c t y
  blk_simp
  rw [after0_6]
  frame_out
  unfold k0_pay5
  unfold first grad
  simp only [Fin.sum_univ_eight]
  pointwise [k0_pay1, k0_pay4]
  exact (congrArg₂ (· + ·) rfl (congrArg (_ * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))))

theorem arr_second : (dats m 0 c).arrAt 7 cfg0.N = second (m (c.tc.loc main_arg0)) (m (c.tc.loc main_arg3)) := by
  refine (dats m 0 c).arrAt_eq_of_covers 7 _ (by decide +kernel) fun t hf y => ?_
  have hc := cell_7 m c t y
  blk_simp
  rw [after0_7]
  frame_out
  unfold k0_pay5
  unfold second grad
  simp only [Fin.sum_univ_eight]
  pointwise [k0_pay2, k0_pay4]
  exact (congrArg₂ (· + ·) rfl (congrArg (_ * ·) (congrArg₂ (· * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)))))

theorem algebraic : Cert.algebraic_AdamOutEIdeal_AdamOutERefIdeal := by
  intro m g m' g' _ hagree
  refine ⟨fun c => grad (m (c.tc.loc main_arg0)), fun c => change (m (c.tc.loc main_arg0)) (m (c.tc.loc main_arg1)) (m (c.tc.loc main_arg2)) (m (c.tc.loc main_arg3)),
    fun c => first (m (c.tc.loc main_arg0)) (m (c.tc.loc main_arg2)), fun c => second (m (c.tc.loc main_arg0)) (m (c.tc.loc main_arg3)), ?_, ?_⟩
  · refine (θ_run defs _ _).mono (fun r h c => ?_) (run_main m g)
    exact ⟨((h c).1 4).trans (arr_grad m c), ((h c).1 5).trans (arr_change m c),
      ((h c).1 6).trans (arr_first m c), ((h c).1 7).trans (arr_second m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩
  · refine (θ_run AdamOutERefIdeal.defs _ _).mono (fun r h c => ?_) (AdamOutERefIdeal.Value.run (F := Ideal) m' g')
    obtain ⟨h0, h1, h2, h3, h4⟩ := h c
    obtain ⟨e0, e1, e2, e3⟩ := hagree c
    refine ⟨h0.trans ?_, h1.trans ?_, h2.trans ?_, h3.trans ?_, h4⟩
    · rw [e0]
      funext i
      pointwise [grad]
    · rw [e0, e1, e2, e3]
      funext i
      pointwise [change, first, second, grad, Debias.first_div, Debias.second_div]
    · rw [e0, e2]
      funext i
      pointwise [first, grad]
    · rw [e0, e3]
      funext i
      pointwise [second, grad]

end Cert.Proof.AdamOutE

end
-- ==== Proof.Norm.AdamSmall.lean ====
/-
  The optimiser's step of a weight: the gradient is the sum of the 8 partial gradients, the two moments are moving averages
  of it and of its square, and the weight's change is read off these, cell by cell.
-/
module

public import proofs.«01_k».proof.Defs
public import proofs.«01_k».proof.Proof.Gen.AdamSmallIdeal.Frame
public import proofs.«01_k».proof.Proof.Gen.AdamSmallRefIdeal.Run
public import proofs.«01_k».proof.Proof.Norm.Debias
public import Idealize.ShloMosaic.Lib.Pipeline.ValueKit
public import Idealize.ShloMosaic.Lib.Pipeline.ReadBack
public import Idealize.ShloMosaic.Lib.Pointwise

@[expose] public section

noncomputable section

namespace Cert.Proof.AdamSmall

open Cert.AdamSmallIdeal Cert.AdamSmallIdeal.Gen
open Idealize.ShloMosaic
open Idealize.ShloMosaic.TcCoe
open Idealize.SL Idealize.SL.Sem

theorem idx_0 : ∀ t : Fin grid0.N, win0_0.index t = ![0, t.val, 0] := by decide +kernel
theorem idx_1 : ∀ t : Fin grid0.N, win0_1.index t = ![t.val, 0] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![t.val, 0] := by decide +kernel
theorem idx_7 : ∀ t : Fin grid0.N, win0_7.index t = ![t.val, 0] := by decide +kernel

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

theorem preserves : Cert.preserves_AdamSmall_AdamSmallIdeal :=
  ⟨IdealRules.named_const.statement _ "c1" .f32 _ _ rfl, IdealRules.named_const.statement _ "c2" .f32 _ _ rfl⟩

/-- The sum of the partial gradients. -/
def grad (p : S8x168x128.Idx → EReal) (i : S168x128.Idx) : EReal := ∑ k : Fin 8, p (ix3 k (i 0) (i 1))

/-- The moving average of the gradient. -/
def first (p : S8x168x128.Idx → EReal) (a : S168x128.Idx → EReal) (i : S168x128.Idx) : EReal :=
  Ideal.ofBits .f32 0x3F666666#32 * a i + Ideal.ofBits .f32 0x3DCCCCCD#32 * grad p i

/-- The moving average of the squared gradient. -/
def second (p : S8x168x128.Idx → EReal) (a : S168x128.Idx → EReal) (i : S168x128.Idx) : EReal :=
  Ideal.ofBits .f32 0x3F7FBE77#32 * a i + Ideal.ofBits .f32 0x3A83126F#32 * (grad p i * grad p i)

/-- The weight's change. -/
def change (p : S8x168x128.Idx → EReal) (w a b : S168x128.Idx → EReal) (i : S168x128.Idx) : EReal :=
  Ideal.ofBits .f32 0xBA83126F#32
    * (Ideal.div (first p a i * ((8388608 / 5463681 : ℝ) : EReal))
        (Ideal.sqrt (second p b i * ((268435456 / 2672307 : ℝ) : EReal)) + Ideal.ofBits .f32 0x322BCC77#32)
      + Ideal.ofBits .f32 0x3C23D70A#32 * w i)

variable (m : (ℓ : Loc nD τ sig) → Buf (Elt Ideal) ℓ) (c : Dev nD)

theorem cell_4 (t : Fin cfg0.N) (y : ((cfg0.win 4).xblock (cfg0.grid.coords t)).Idx) (k : Fin 8) :
    iblk m c 0 t (ix3 k (y 0) (y 1))
      = m (c.tc.loc main_arg0) (ix3 k ((win0_4.blk t).view.emb y 0) ((win0_4.blk t).view.emb y 1)) := by
  blk_ext [iblk, idx_0, idx_4]

theorem cell_5 (t : Fin cfg0.N) (y : ((cfg0.win 5).xblock (cfg0.grid.coords t)).Idx) (k : Fin 8) :
    iblk m c 0 t (ix3 k (y 0) (y 1))
      = m (c.tc.loc main_arg0) (ix3 k ((win0_5.blk t).view.emb y 0) ((win0_5.blk t).view.emb y 1)) := by
  blk_ext [iblk, idx_0, idx_5]

theorem cell_6 (t : Fin cfg0.N) (y : ((cfg0.win 6).xblock (cfg0.grid.coords t)).Idx) (k : Fin 8) :
    iblk m c 0 t (ix3 k (y 0) (y 1))
      = m (c.tc.loc main_arg0) (ix3 k ((win0_6.blk t).view.emb y 0) ((win0_6.blk t).view.emb y 1)) := by
  blk_ext [iblk, idx_0, idx_6]

theorem cell_7 (t : Fin cfg0.N) (y : ((cfg0.win 7).xblock (cfg0.grid.coords t)).Idx) (k : Fin 8) :
    iblk m c 0 t (ix3 k (y 0) (y 1))
      = m (c.tc.loc main_arg0) (ix3 k ((win0_7.blk t).view.emb y 0) ((win0_7.blk t).view.emb y 1)) := by
  blk_ext [iblk, idx_0, idx_7]

theorem arr_grad : (dats m 0 c).arrAt 4 cfg0.N = grad (m (c.tc.loc main_arg0)) := by
  refine (dats m 0 c).arrAt_eq_of_covers 4 _ (by decide +kernel) fun t hf y => ?_
  have hc := cell_4 m c t y
  blk_simp
  rw [after0_4]
  frame_out
  unfold k0_pay5
  unfold grad
  simp only [Fin.sum_univ_eight]
  pointwise [k0_pay3]
  exact (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))

theorem arr_change : (dats m 0 c).arrAt 5 cfg0.N = change (m (c.tc.loc main_arg0)) (m (c.tc.loc main_arg1)) (m (c.tc.loc main_arg2)) (m (c.tc.loc main_arg3)) := by
  refine (dats m 0 c).arrAt_eq_of_covers 5 _ (by decide +kernel) fun t hf y => ?_
  have hc := cell_5 m c t y
  blk_simp
  rw [after0_5]
  frame_out
  unfold k0_pay5 k0_pay6
  unfold change first second grad
  simp only [Fin.sum_univ_eight]
  pointwise [k0_pay2, k0_pay4, k0_pay1, k0_pay3, c1, c2]
  exact congrArg (_ * ·) (congrArg₂ (· + ·) (congrArg₂ Ideal.div (congrArg (· * _) (congrArg₂ (· + ·) rfl (congrArg (_ * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)))))
    (congrArg (· + _) (congrArg Ideal.sqrt (congrArg (· * _) (congrArg₂ (· + ·) rfl (congrArg (_ * ·) (congrArg₂ (· * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))))))))) rfl)

theorem arr_first : (dats m 0 c).arrAt 6 cfg0.N = first (m (c.tc.loc main_arg0)) (m (c.tc.loc main_arg2)) := by
  refine (dats m 0 c).arrAt_eq_of_covers 6 _ (by decide +kernel) fun t hf y => ?_
  have hc := cell_6 m c t y
  blk_simp
  rw [after0_6]
  frame_out
  unfold k0_pay6
  unfold first grad
  simp only [Fin.sum_univ_eight]
  pointwise [k0_pay4, k0_pay3]
  exact (congrArg₂ (· + ·) rfl (congrArg (_ * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7))))

theorem arr_second : (dats m 0 c).arrAt 7 cfg0.N = second (m (c.tc.loc main_arg0)) (m (c.tc.loc main_arg3)) := by
  refine (dats m 0 c).arrAt_eq_of_covers 7 _ (by decide +kernel) fun t hf y => ?_
  have hc := cell_7 m c t y
  blk_simp
  rw [after0_7]
  frame_out
  unfold k0_pay5
  unfold second grad
  simp only [Fin.sum_univ_eight]
  pointwise [k0_pay1, k0_pay3]
  exact (congrArg₂ (· + ·) rfl (congrArg (_ * ·) (congrArg₂ (· * ·) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)) (congrArg₂ (· + ·) (congrArg₂ (· + ·) (congrArg₂ (· + ·) (congrArg₂ (· + ·) (congrArg₂ (· + ·) (congrArg₂ (· + ·) (congrArg₂ (· + ·) (hc 0) (hc 1)) (hc 2)) (hc 3)) (hc 4)) (hc 5)) (hc 6)) (hc 7)))))

theorem algebraic : Cert.algebraic_AdamSmallIdeal_AdamSmallRefIdeal := by
  intro m g m' g' _ hagree
  refine ⟨fun c => grad (m (c.tc.loc main_arg0)), fun c => change (m (c.tc.loc main_arg0)) (m (c.tc.loc main_arg1)) (m (c.tc.loc main_arg2)) (m (c.tc.loc main_arg3)),
    fun c => first (m (c.tc.loc main_arg0)) (m (c.tc.loc main_arg2)), fun c => second (m (c.tc.loc main_arg0)) (m (c.tc.loc main_arg3)), ?_, ?_⟩
  · refine (θ_run defs _ _).mono (fun r h c => ?_) (run_main m g)
    exact ⟨((h c).1 4).trans (arr_grad m c), ((h c).1 5).trans (arr_change m c),
      ((h c).1 6).trans (arr_first m c), ((h c).1 7).trans (arr_second m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩
  · refine (θ_run AdamSmallRefIdeal.defs _ _).mono (fun r h c => ?_) (AdamSmallRefIdeal.Value.run (F := Ideal) m' g')
    obtain ⟨h0, h1, h2, h3, h4⟩ := h c
    obtain ⟨e0, e1, e2, e3⟩ := hagree c
    refine ⟨h0.trans ?_, h1.trans ?_, h2.trans ?_, h3.trans ?_, h4⟩
    · rw [e0]
      funext i
      pointwise [grad]
    · rw [e0, e1, e2, e3]
      funext i
      pointwise [change, first, second, grad, Debias.first_div, Debias.second_div]
    · rw [e0, e2]
      funext i
      pointwise [first, grad]
    · rw [e0, e3]
      funext i
      pointwise [second, grad]

end Cert.Proof.AdamSmall

end
-- ==== Proof.Norm.PreBwdE.lean ====
/-
  The gradients of a norm of the stream whose rows' gradient comes as two summands: the call's blocks are the stream's own
  gradient plus that of the rows, in one bracket, and the sums over the rows of the gradient against the normalized rows, accumulated over the 32 blocks of rows.
-/
module

public import proofs.«01_k».proof.Defs
public import proofs.«01_k».proof.Proof.Gen.PreBwdEIdeal.Frame
public import proofs.«01_k».proof.Proof.Gen.PreBwdERefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

/-! ### The reference -/

namespace Cert.Proof.PreBwdE

section Reference

open Cert.PreBwdERefIdeal Cert.PreBwdERefIdeal.Gen
open Idealize.ShloMosaic
open Idealize.ShloMosaic.TcCoe
open Idealize.SL Idealize.SL.Sem
open Cert.Proof.Norm

/-- The sum of the two gradients of the rows. -/
def both (a b : Sq.Idx → EReal) (i : Sq.Idx) : EReal := a i + b i

/-- The stream's own gradient plus that of the rows. -/
def joined (d x : Sq.Idx → EReal) (g : Ln.Idx → EReal) (e : Sq.Idx → EReal) (i : Sq.Idx) : EReal := e i + rows d x g i

/-- The reference's column of mean squares. -/
def refSquare (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32))

theorem refSquare_apply (x : FVec Ideal S4096x4096 .f32) (i : Fin 4096) (z : Fin 1) :
    refSquare x (ix2 i z) = square (line x i) := by
  pointwise [refSquare, square, line]

/-- The reference's gradient against the gain. -/
def refGained (d : FVec Ideal S4096x4096 .f32) (g : FVec Ideal S1x4096 .f32) : FVec Ideal S4096x4096 .f32 :=
  mulf d (broadcastInDim S4096x4096 ![0, 1] bcast_S1x4096_S4096x4096_0_1 (broadcastInDim S1x4096 ![1] bcast_S4096_S1x4096_1 (shapeCast _ g shapeCasts_S1x4096_S4096)))

theorem refGained_apply (d : FVec Ideal S4096x4096 .f32) (g : FVec Ideal S1x4096 .f32) (i k : Fin 4096) :
    refGained d g (ix2 i k) = gained d g i k := by
  pointwise [refGained, gained]

variable (m : (ℓ : Loc nD τ sig) → Buf (Elt Ideal) ℓ) (c : Dev nD)

theorem ref_rows : Cert.PreBwdERefIdeal.Value.res_main_v38 (F := Ideal) m c
    = joined (both (m (c.tc.loc main_arg0)) (m (c.tc.loc main_arg1))) (m (c.tc.loc main_arg2)) (m (c.tc.loc main_arg3)) (m (c.tc.loc main_arg4)) := by
  have h1 := refSquare_apply (m (c.tc.loc main_arg2))
  have h2 := refGained_apply (addf (m (c.tc.loc main_arg0)) (m (c.tc.loc main_arg1))) (m (c.tc.loc main_arg3))
  unfold Cert.PreBwdERefIdeal.Value.res_main_v38
  rw [← refSquare.eq_1 (m (c.tc.loc main_arg2)), ← refGained.eq_1 (addf (m (c.tc.loc main_arg0)) (m (c.tc.loc main_arg1))) (m (c.tc.loc main_arg3))]
  generalize refSquare _ = q at h1 ⊢
  generalize refGained _ _ = d at h2 ⊢
  funext i
  have hi : i = ix2 (i 0) (i 1) := by
    funext a
    match a with
    | 0 => rfl
    | 1 => rfl
  have hd : d i = gained (both (m (c.tc.loc main_arg0)) (m (c.tc.loc main_arg1))) (m (c.tc.loc main_arg3)) (i 0) (i 1) := (congrArg d hi).trans (h2 _ _)
  have hx : m (c.tc.loc main_arg2) i = line (m (c.tc.loc main_arg2)) (i 0) (i 1) := congrArg (m (c.tc.loc main_arg2)) hi
  unfold joined rows rowsAt through
  pointwise [h1, h2]
  rw [hd, hx]
  simp only [Fin.sum_univ_one]
  rw [add_assoc (_ + _), add_assoc, ← add_assoc (_ * _)]
  rfl

end Reference

end Cert.Proof.PreBwdE

namespace Cert.Proof.PreBwdE

open Cert.PreBwdEIdeal Cert.PreBwdEIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![t.val, 0] := by decide +kernel
theorem idx_3 : ∀ t : Fin grid0.N, win0_3.index t = ![0, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![0, 0] := by decide +kernel

/-! ### A block of rows -/

/-- A row of a block. -/
def row (x : Vec Ideal S128x4096 .f32) (i : Fin 128) (k : Fin 4096) : EReal := x (ix2 i k)

theorem pay_scale (x : Vec Ideal S128x4096 .f32) (i : Fin 128) (z : Fin 1) :
    k0_pay4 (F := Ideal) x (ix2 i z) = scale (row x i) := by
  pointwise [k0_pay4, scale, square, row]

theorem pay_zero (y : S1x4096.Idx) : k0_pay2 (F := Ideal) y = 0 := by
  pointwise [k0_pay2]

theorem pay_sum (a b : Vec Ideal S128x4096 .f32) (y : S128x4096.Idx) : k0_pay3 (F := Ideal) a b y = a y + b y := by
  pointwise [k0_pay3]

theorem pay_nrm (x : Vec Ideal S128x4096 .f32) (y : S128x4096.Idx) :
    k0_pay5 (F := Ideal) x y = x y * scale (row x (y 0)) := by
  rw [← pay_scale x (y 0) 0]
  pointwise [k0_pay5]

/-- A block's share of the gain's gradient. -/
def share (x d : Vec Ideal S128x4096 .f32) (y : S1x4096.Idx) : EReal :=
  ∑ i : Fin 128, d (ix2 i (y 1)) * (x (ix2 i (y 1)) * scale (row x i))

theorem pay_share (x a b : Vec Ideal S128x4096 .f32) (s : Vec Ideal S1x4096 .f32) (y : S1x4096.Idx) :
    k0_pay6 (F := Ideal) x a b s y = s y + share x (k0_pay3 a b) y := by
  have h : ∀ z, k0_pay5 (F := Ideal) x z = x z * scale (row x (z 0)) := pay_nrm x
  pointwise [k0_pay6, share, h]

/-- A block of the rows' gradient. -/
def whole (x a b : Vec Ideal S128x4096 .f32) (g : Vec Ideal S1x4096 .f32) (e : Vec Ideal S128x4096 .f32) :
    Vec Ideal S128x4096 .f32 :=
  k0_pay1 (F := Ideal) (k0_pay4 x) (k0_pay7 a b g) e (k0_pay8 x a b g)

theorem pay_rows (x a b : Vec Ideal S128x4096 .f32) (g : Vec Ideal S1x4096 .f32) (e : Vec Ideal S128x4096 .f32)
    (y : S128x4096.Idx) : whole x a b g e y
      = e y + scale (row x (y 0)) * (k0_pay3 (F := Ideal) a b y * g (ix2 0 (y 1)) - x y * scale (row x (y 0))
          * Ideal.div (∑ k, k0_pay3 (F := Ideal) a b (ix2 (y 0) k) * g (ix2 0 k)
              * (x (ix2 (y 0) k) * scale (row x (y 0)))) cols) := by
  have h : ∀ z, k0_pay5 (F := Ideal) x z = x z * scale (row x (z 0)) := pay_nrm x
  have h2 : ∀ i z, k0_pay4 (F := Ideal) x (ix2 i z) = scale (row x i) := pay_scale x
  pointwise [whole, k0_pay1, k0_pay7, k0_pay8, h, h2]

/-! ### The gradients -/

/-- A block of the rows' gradient is the gradient at the block's rows. -/
theorem pay_rows_eq (x a b : Vec Ideal S128x4096 .f32) (g : Vec Ideal S1x4096 .f32) (e : Vec Ideal S128x4096 .f32) (x' d' : S4096x4096.Idx → EReal)
    (g' : S1x4096.Idx → EReal) (y : S128x4096.Idx) (r : Fin 4096) (hx : row x (y 0) = line x' r)
    (hd : ∀ k, k0_pay3 (F := Ideal) a b (ix2 (y 0) k) = d' (ix2 r k)) (hg : ∀ k, g (ix2 0 k) = g' (ix2 0 k)) :
    whole x a b g e y = e y + rowsAt d' x' g' r (y 1) := by
  have hx' : ∀ k, x (ix2 (y 0) k) = line x' r k := fun k => congrFun hx k
  have hy : y = ix2 (y 0) (y 1) := by
    funext a
    match a with
    | 0 => rfl
    | 1 => rfl
  have hxy : x y = line x' r (y 1) := (congrArg x hy).trans (hx' (y 1))
  have hdy : k0_pay3 (F := Ideal) a b y = d' (ix2 r (y 1)) := (congrArg (k0_pay3 (F := Ideal) a b) hy).trans (hd (y 1))
  rw [pay_rows, hx, hxy, hdy, hg (y 1)]
  simp only [hx', hd, hg]
  exact congrArg (e y + ·) <| bracket (line x' r) (gained d' g' r) (y 1)

/-! ### The call's arrays -/

variable (m : (ℓ : Loc nD τ sig) → Buf (Elt Ideal) ℓ) (c : Dev nD)

theorem row_eq (t : Fin cfg0.N) (i : Fin 128) (r : Fin 4096) (hr : r.val = t.val * 128 + i.val) :
    row (iblk m c 2 t) i = line (m (c.tc.loc main_arg2)) r := by
  funext k
  unfold row line
  blk_ext [iblk, idx_2, hr]

theorem cell_0 (t : Fin cfg0.N) (i : Fin 128) (r : Fin 4096) (hr : r.val = t.val * 128 + i.val) (k : Fin 4096) :
    iblk m c 0 t (ix2 i k) = m (c.tc.loc main_arg0) (ix2 r k) := by
  blk_ext [iblk, idx_0, hr]

theorem cell_1 (t : Fin cfg0.N) (i : Fin 128) (r : Fin 4096) (hr : r.val = t.val * 128 + i.val) (k : Fin 4096) :
    iblk m c 1 t (ix2 i k) = m (c.tc.loc main_arg1) (ix2 r k) := by
  blk_ext [iblk, idx_1, hr]

theorem rows_out (t : Fin cfg0.N) (y : S128x4096.Idx) :
    (outsAt0 m c t.val t.isLt).1 y = whole (iblk m c 2 t) (iblk m c 0 t) (iblk m c 1 t) (iblk m c 3 t) (iblk m c 4 t) y := by
  by_cases h : t.val % 32 = 0
  · rw [outsAt0_A m c t h]
    frame_out
    rfl
  · rw [outsAt0_B m c t h]
    frame_out
    rfl

theorem gain_out (t : Fin cfg0.N) (h : t.val % 32 = 32 - 1) (y : S1x4096.Idx) :
    (outsAt0 m c t.val t.isLt).2 y
      = ∑ s : Fin 32, share (iblk m c 2 ⟨32 * (t.val / 32) + s.val, Pipeline.run_point_lt_of_flush t h s⟩)
          (k0_pay3 (F := Ideal) (iblk m c 0 ⟨32 * (t.val / 32) + s.val, Pipeline.run_point_lt_of_flush t h s⟩)
            (iblk m c 1 ⟨32 * (t.val / 32) + s.val, Pipeline.run_point_lt_of_flush t h s⟩)) y := by
  rw [Pipeline.eq_sum_fin_of_reset_step_apply_of_flush (fun n h => (outsAt0 m c n h).2) 32 (fun _ => (0 : EReal))
    (fun t y => share (iblk m c 2 t) (k0_pay3 (F := Ideal) (iblk m c 0 t) (iblk m c 1 t)) y)
    (fun t h y => by
      rw [outsAt0_A m c t h]
      frame_out
      rw [pay_share, pay_zero])
    (fun t h y => by
      rw [outsAt0_B m c t h]
      frame_out
      rw [pay_share]) t h y, zero_add]

theorem arr_rows : (dats m 0 c).arrAt 5 cfg0.N
    = joined (both (m (c.tc.loc main_arg0)) (m (c.tc.loc main_arg1))) (m (c.tc.loc main_arg2)) (m (c.tc.loc main_arg3)) (m (c.tc.loc main_arg4)) := by
  refine (dats m 0 c).arrAt_eq_of_covers 5 _ (by decide +kernel) fun t hf y => ?_
  blk_simp
  rw [after0_5, rows_out]
  have hy : (y 0).val < 128 := (y 0).isLt
  have ht : t.val < 32 := t.isLt
  obtain ⟨r, hr⟩ : ∃ r : Fin 4096, r.val = t.val * 128 + (y 0).val := ⟨⟨_, by omega⟩, rfl⟩
  refine (pay_rows_eq _ _ _ _ _ _ (both (m (c.tc.loc main_arg0)) (m (c.tc.loc main_arg1))) (m (c.tc.loc main_arg3)) y r (row_eq m c t (y 0) r hr)
    (fun k => congrArg₂ (· + ·) (cell_0 m c t (y 0) r hr k) (cell_1 m c t (y 0) r hr k)) (fun k => by blk_ext [iblk, idx_3])).trans ?_
  have h0 : ((win0_5.blk t).view.emb y) 0 = r := Fin.ext (by
    blk_simp [idx_5]
    show t.val * 128 + (y 0).val = r.val
    omega)
  have h1 : ((win0_5.blk t).view.emb y) 1 = y 1 := Fin.ext (by blk_simp [idx_5])
  unfold joined rows
  rw [h0, h1]
  congr 1
  blk_ext [iblk, idx_4, idx_5]

theorem arr_gain : (dats m 0 c).arrAt 6 cfg0.N = gain (both (m (c.tc.loc main_arg0)) (m (c.tc.loc main_arg1))) (m (c.tc.loc main_arg2)) := by
  refine (dats m 0 c).arrAt_eq_of_covers 6 _ (by decide +kernel) fun t hf y => ?_
  have h3 := (flush0_6 t).mp hf
  blk_simp
  rw [after0_6]
  refine (gain_out m c t h3 _).trans ?_
  unfold share gain
  refine Fin.sum_mul_add_congr fun s k hl => ?_
  rw [row_eq m c _ k ⟨s.val * 128 + k.val, hl⟩ (by
    have ht : t.val < 32 := t.isLt
    show s.val * 128 + k.val = (32 * (t.val / 32) + s.val) * 128 + k.val
    omega), pay_sum]
  unfold both
  congr 1
  · congr 1
    · blk_ext [iblk, idx_0, idx_6]
    · blk_ext [iblk, idx_1, idx_6]
  congr 1
  · blk_ext [iblk, idx_2, idx_6]

theorem algebraic : Cert.algebraic_PreBwdEIdeal_PreBwdERefIdeal := by
  intro m g m' g' _ hagree
  refine ⟨fun c => joined (both (m (c.tc.loc main_arg0)) (m (c.tc.loc main_arg1))) (m (c.tc.loc main_arg2)) (m (c.tc.loc main_arg3)) (m (c.tc.loc main_arg4)), fun c => gain (both (m (c.tc.loc main_arg0)) (m (c.tc.loc main_arg1))) (m (c.tc.loc main_arg2)), ?_, ?_⟩
  · refine (θ_run defs _ _).mono (fun r h c => ?_) (run_main m g)
    exact ⟨((h c).1 5).trans (arr_rows m c), ((h c).1 6).trans (arr_gain m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩
  · refine (θ_run PreBwdERefIdeal.defs _ _).mono (fun r h c => ?_) (PreBwdERefIdeal.Value.run (F := Ideal) m' g')
    obtain ⟨h0, h1, h2⟩ := h c
    obtain ⟨e0, e1, e2, e3, e4⟩ := hagree c
    refine ⟨h0.trans ((ref_rows m' c).trans (by rw [e0, e1, e2, e3, e4])), h1.trans ?_, h2⟩
    rw [e0, e1, e2]
    funext i
    pointwise [gain, both, line, scale, square]
    rw [Fin.sum_univ_one]
    exact Finset.sum_congr rfl fun k _ => mul_comm _ _

end Cert.Proof.PreBwdE

end
-- ==== Proof.Norm.PreNormE.lean ====
/-
  The even layer's norm of the rows: every block of the call's array is the rows of its block over their root mean square, times the gain.
-/
module

public import proofs.«01_k».proof.Defs
public import proofs.«01_k».proof.Proof.Gen.PreNormEIdeal.Frame
public import proofs.«01_k».proof.Proof.Gen.PreNormERefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

/-! ### The reference -/

namespace Cert.Proof.PreNormE

section Reference

open Cert.PreNormERefIdeal Cert.PreNormERefIdeal.Gen
open Idealize.ShloMosaic
open Idealize.ShloMosaic.TcCoe
open Idealize.SL Idealize.SL.Sem
open Cert.Proof.Norm

/-- The reference's column of mean squares. -/
def refSquare (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32))

theorem refSquare_apply (x : FVec Ideal S4096x4096 .f32) (i : Fin 4096) (z : Fin 1) :
    refSquare x (ix2 i z) = square (line x i) := by
  pointwise [refSquare, square, line]

/-- The reference's gain, at every row. -/
def refGain (g : FVec Ideal S1x4096 .f32) : FVec Ideal S4096x4096 .f32 :=
  broadcastInDim S4096x4096 ![0, 1] bcast_S1x4096_S4096x4096_0_1 (broadcastInDim S1x4096 ![1] bcast_S4096_S1x4096_1 (shapeCast _ g shapeCasts_S1x4096_S4096))

theorem refGain_apply (g : FVec Ideal S1x4096 .f32) (i k : Fin 4096) : refGain g (ix2 i k) = g (ix2 0 k) := by
  pointwise [refGain]

end Reference

end Cert.Proof.PreNormE

namespace Cert.Proof.PreNormE

open Cert.PreNormEIdeal Cert.PreNormEIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel

/-- A row of a block. -/
def row (x : Vec Ideal S128x4096 .f32) (i : Fin 128) (k : Fin 4096) : EReal := x (ix2 i k)

theorem pay (x : Vec Ideal S128x4096 .f32) (g : Vec Ideal S1x4096 .f32) (y : S128x4096.Idx) :
    k0_pay1 (F := Ideal) x g y = x y * scale (row x (y 0)) * g (ix2 0 (y 1)) := by
  pointwise [k0_pay1, scale, square, row]

/-- The rows over their root mean square, times the gain. -/
def norm (x : Sq.Idx → EReal) (g : Ln.Idx → EReal) (i : Sq.Idx) : EReal :=
  x i * scale (line x (i 0)) * g (ix2 0 (i 1))

variable (m : (ℓ : Loc nD τ sig) → Buf (Elt Ideal) ℓ) (c : Dev nD)

theorem row_eq (t : Fin cfg0.N) (i : Fin 128) (r : Fin 4096) (hr : r.val = t.val * 128 + i.val) :
    row (iblk m c 0 t) i = line (m (c.tc.loc main_arg0)) r := by
  funext k
  unfold row line
  blk_ext [iblk, idx_0, hr]

theorem arr_eq : (dats m 0 c).arrAt 2 cfg0.N = norm (m (c.tc.loc main_arg0)) (m (c.tc.loc main_arg1)) := by
  refine (dats m 0 c).arrAt_eq_of_covers 2 _ (by decide +kernel) fun t hf y => ?_
  blk_simp
  rw [after0_2]
  have hy : (y 0).val < 128 := (y 0).isLt
  have ht : t.val < 32 := t.isLt
  obtain ⟨r, hr⟩ : ∃ r : Fin 4096, r.val = t.val * 128 + (y 0).val := ⟨⟨_, by omega⟩, rfl⟩
  have h0 : ((win0_2.blk t).view.emb y) 0 = r := Fin.ext (by
    blk_simp [idx_2]
    show t.val * 128 + (y 0).val = r.val
    omega)
  have hp := pay (iblk m c 0 t) (iblk m c 1 t) y
  rw [row_eq m c t (y 0) r hr] at hp
  unfold norm
  rw [h0]
  frame_out
  refine hp.trans ?_
  congr 1
  blk_ext [iblk, idx_1, idx_2]

theorem algebraic : Cert.algebraic_PreNormEIdeal_PreNormERefIdeal := by
  intro m g m' g' _ hagree
  refine ⟨fun c => norm (m (c.tc.loc main_arg0)) (m (c.tc.loc main_arg1)), ?_, ?_⟩
  · refine (θ_run defs _ _).mono (fun r h c => ?_) (run_main m g)
    exact ⟨((h c).1 2).trans (arr_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run PreNormERefIdeal.defs _ _).mono (fun r h c => ?_) (PreNormERefIdeal.Value.run (F := Ideal) m' g')
    obtain ⟨h0, h1⟩ := h c
    obtain ⟨e0, e1⟩ := hagree c
    refine ⟨h0.trans ?_, h1⟩
    rw [e0, e1]
    have hq := refSquare_apply (m (c.tc.loc main_arg0))
    rw [← refSquare.eq_1 (m (c.tc.loc main_arg0))]
    generalize refSquare _ = q at hq ⊢
    have hg := refGain_apply (m (c.tc.loc main_arg1))
    rw [← refGain.eq_1 (m (c.tc.loc main_arg1))]
    generalize refGain _ = w at hg ⊢
    refine ext_rows fun a b => ?_
    pointwise [norm, scale, hq, hg]

end Cert.Proof.PreNormE

end
-- ==== Proof.Norm.PostNormE.lean ====
/-
  The even layer's norm of the rows, added to the stream: every block of the call's array is the stream's block plus the rows of the
  block over their root mean square, times the gain.
-/
module

public import proofs.«01_k».proof.Defs
public import proofs.«01_k».proof.Proof.Gen.PostNormEIdeal.Frame
public import proofs.«01_k».proof.Proof.Gen.PostNormERefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

/-! ### The reference -/

namespace Cert.Proof.PostNormE

section Reference

open Cert.PostNormERefIdeal Cert.PostNormERefIdeal.Gen
open Idealize.ShloMosaic
open Idealize.ShloMosaic.TcCoe
open Idealize.SL Idealize.SL.Sem
open Cert.Proof.Norm

/-- The reference's column of mean squares. -/
def refSquare (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32))

theorem refSquare_apply (x : FVec Ideal S4096x4096 .f32) (i : Fin 4096) (z : Fin 1) :
    refSquare x (ix2 i z) = square (line x i) := by
  pointwise [refSquare, square, line]

/-- The reference's gain, at every row. -/
def refGain (g : FVec Ideal S1x4096 .f32) : FVec Ideal S4096x4096 .f32 :=
  broadcastInDim S4096x4096 ![0, 1] bcast_S1x4096_S4096x4096_0_1 (broadcastInDim S1x4096 ![1] bcast_S4096_S1x4096_1 (shapeCast _ g shapeCasts_S1x4096_S4096))

theorem refGain_apply (g : FVec Ideal S1x4096 .f32) (i k : Fin 4096) : refGain g (ix2 i k) = g (ix2 0 k) := by
  pointwise [refGain]

end Reference

end Cert.Proof.PostNormE

namespace Cert.Proof.PostNormE

open Cert.PostNormEIdeal Cert.PostNormEIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel

/-- A row of a block. -/
def row (x : Vec Ideal S128x4096 .f32) (i : Fin 128) (k : Fin 4096) : EReal := x (ix2 i k)

theorem pay (x e : Vec Ideal S128x4096 .f32) (g : Vec Ideal S1x4096 .f32) (y : S128x4096.Idx) :
    k0_pay1 (F := Ideal) x e g y = e y + x y * scale (row x (y 0)) * g (ix2 0 (y 1)) := by
  pointwise [k0_pay1, scale, square, row]

/-- The stream plus the rows over their root mean square, times the gain. -/
def norm (e x : Sq.Idx → EReal) (g : Ln.Idx → EReal) (i : Sq.Idx) : EReal :=
  e i + x i * scale (line x (i 0)) * g (ix2 0 (i 1))

variable (m : (ℓ : Loc nD τ sig) → Buf (Elt Ideal) ℓ) (c : Dev nD)

theorem row_eq (t : Fin cfg0.N) (i : Fin 128) (r : Fin 4096) (hr : r.val = t.val * 128 + i.val) :
    row (iblk m c 1 t) i = line (m (c.tc.loc main_arg1)) r := by
  funext k
  unfold row line
  blk_ext [iblk, idx_1, hr]

theorem arr_eq : (dats m 0 c).arrAt 3 cfg0.N = norm (m (c.tc.loc main_arg0)) (m (c.tc.loc main_arg1)) (m (c.tc.loc main_arg2)) := by
  refine (dats m 0 c).arrAt_eq_of_covers 3 _ (by decide +kernel) fun t hf y => ?_
  blk_simp
  rw [after0_3]
  have hy : (y 0).val < 128 := (y 0).isLt
  have ht : t.val < 32 := t.isLt
  obtain ⟨r, hr⟩ : ∃ r : Fin 4096, r.val = t.val * 128 + (y 0).val := ⟨⟨_, by omega⟩, rfl⟩
  have h0 : ((win0_3.blk t).view.emb y) 0 = r := Fin.ext (by
    blk_simp [idx_3]
    show t.val * 128 + (y 0).val = r.val
    omega)
  have hp := pay (iblk m c 1 t) (iblk m c 0 t) (iblk m c 2 t) y
  rw [row_eq m c t (y 0) r hr] at hp
  unfold norm
  rw [h0]
  frame_out
  refine hp.trans ?_
  congr 1
  congr 1
  blk_ext [iblk, idx_2, idx_3]

theorem algebraic : Cert.algebraic_PostNormEIdeal_PostNormERefIdeal := by
  intro m g m' g' _ hagree
  refine ⟨fun c => norm (m (c.tc.loc main_arg0)) (m (c.tc.loc main_arg1)) (m (c.tc.loc main_arg2)), ?_, ?_⟩
  · refine (θ_run defs _ _).mono (fun r h c => ?_) (run_main m g)
    exact ⟨((h c).1 3).trans (arr_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩
  · refine (θ_run PostNormERefIdeal.defs _ _).mono (fun r h c => ?_) (PostNormERefIdeal.Value.run (F := Ideal) m' g')
    obtain ⟨h0, h1⟩ := h c
    obtain ⟨e0, e1, e2⟩ := hagree c
    refine ⟨h0.trans ?_, h1⟩
    rw [e0, e1, e2]
    have hq := refSquare_apply (m (c.tc.loc main_arg1))
    rw [← refSquare.eq_1 (m (c.tc.loc main_arg1))]
    generalize refSquare _ = q at hq ⊢
    have hg := refGain_apply (m (c.tc.loc main_arg2))
    rw [← refGain.eq_1 (m (c.tc.loc main_arg2))]
    generalize refGain _ = w at hg ⊢
    refine ext_rows fun a b => ?_
    pointwise [norm, scale, hq, hg]

end Cert.Proof.PostNormE

end
-- ==== Proof.Norm.PostBwdE.lean ====
/-
  The gradients of the even layer's norm whose output is added to the stream: the call's blocks are the gradient of the rows, in one bracket,
  and the sums over the rows of the gradient against the normalized rows, accumulated over the 32 blocks of rows.
-/
module

public import proofs.«01_k».proof.Defs
public import proofs.«01_k».proof.Proof.Gen.PostBwdEIdeal.Frame
public import proofs.«01_k».proof.Proof.Gen.PostBwdERefIdeal.Run
public import proofs.«01_k».proof.Proof.Norm.Law
public import Idealize.ShloMosaic.Lib.Pipeline.ValueKit
public import Idealize.ShloMosaic.Lib.Pipeline.ReadBack
public import Idealize.ShloMosaic.Lib.Pointwise

@[expose] public section

noncomputable section

/-! ### The reference -/

namespace Cert.Proof.PostBwdE

section Reference

open Cert.PostBwdERefIdeal Cert.PostBwdERefIdeal.Gen
open Idealize.ShloMosaic
open Idealize.ShloMosaic.TcCoe
open Idealize.SL Idealize.SL.Sem
open Cert.Proof.Norm

/-- The reference's column of mean squares. -/
def refSquare (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32))

theorem refSquare_apply (x : FVec Ideal S4096x4096 .f32) (i : Fin 4096) (z : Fin 1) :
    refSquare x (ix2 i z) = square (line x i) := by
  pointwise [refSquare, square, line]

/-- The reference's gradient against the gain. -/
def refGained (d : FVec Ideal S4096x4096 .f32) (g : FVec Ideal S1x4096 .f32) : FVec Ideal S4096x4096 .f32 :=
  mulf d (broadcastInDim S4096x4096 ![0, 1] bcast_S1x4096_S4096x4096_0_1 (broadcastInDim S1x4096 ![1] bcast_S4096_S1x4096_1 (shapeCast _ g shapeCasts_S1x4096_S4096)))

theorem refGained_apply (d : FVec Ideal S4096x4096 .f32) (g : FVec Ideal S1x4096 .f32) (i k : Fin 4096) :
    refGained d g (ix2 i k) = gained d g i k := by
  pointwise [refGained, gained]

variable (m : (ℓ : Loc nD τ sig) → Buf (Elt Ideal) ℓ) (c : Dev nD)

theorem ref_rows : Cert.PostBwdERefIdeal.Value.res_main_v37 (F := Ideal) m c
    = rows (m (c.tc.loc main_arg0)) (m (c.tc.loc main_arg1)) (m (c.tc.loc main_arg2)) := by
  have h1 := refSquare_apply (m (c.tc.loc main_arg1))
  have h2 := refGained_apply (m (c.tc.loc main_arg0)) (m (c.tc.loc main_arg2))
  unfold Cert.PostBwdERefIdeal.Value.res_main_v37
  rw [← refSquare.eq_1 (m (c.tc.loc main_arg1)), ← refGained.eq_1 (m (c.tc.loc main_arg0)) (m (c.tc.loc main_arg2))]
  generalize refSquare _ = q at h1 ⊢
  generalize refGained _ _ = d at h2 ⊢
  funext i
  have hi : i = ix2 (i 0) (i 1) := by
    funext a
    match a with
    | 0 => rfl
    | 1 => rfl
  have hd : d i = gained (m (c.tc.loc main_arg0)) (m (c.tc.loc main_arg2)) (i 0) (i 1) := (congrArg d hi).trans (h2 _ _)
  have hx : m (c.tc.loc main_arg1) i = line (m (c.tc.loc main_arg1)) (i 0) (i 1) := congrArg (m (c.tc.loc main_arg1)) hi
  unfold rows rowsAt through
  pointwise [h1, h2]
  rw [hd, hx]
  simp only [Fin.sum_univ_one]
  rfl

end Reference

end Cert.Proof.PostBwdE

namespace Cert.Proof.PostBwdE

open Cert.PostBwdEIdeal Cert.PostBwdEIdeal.Gen
open Idealize.ShloMosaic
open Idealize.ShloMosaic.TcCoe
open Idealize.SL Idealize.SL.Sem
open Cert.Proof.Norm

theorem idx_0 : ∀ t : Fin grid0.N, win0_0.index t = ![t.val, 0] := by decide +kernel
theorem idx_1 : ∀ t : Fin grid0.N, win0_1.index t = ![t.val, 0] := by decide +kernel
theorem idx_2 : ∀ t : Fin grid0.N, win0_2.index t = ![0, 0] := by decide +kernel
theorem idx_3 : ∀ t : Fin grid0.N, win0_3.index t = ![t.val, 0] := by decide +kernel
theorem idx_4 : ∀ t : Fin grid0.N, win0_4.index t = ![0, 0] := by decide +kernel

/-! ### A block of rows -/

/-- A row of a block. -/
def row (x : Vec Ideal S128x4096 .f32) (i : Fin 128) (k : Fin 4096) : EReal := x (ix2 i k)

theorem pay_scale (x : Vec Ideal S128x4096 .f32) (i : Fin 128) (z : Fin 1) :
    k0_pay2 (F := Ideal) x (ix2 i z) = scale (row x i) := by
  pointwise [k0_pay2, scale, square, row]

theorem pay_zero (y : S1x4096.Idx) : k0_pay1 (F := Ideal) y = 0 := by
  pointwise [k0_pay1]

theorem pay_nrm (x : Vec Ideal S128x4096 .f32) (y : S128x4096.Idx) :
    k0_pay3 (F := Ideal) x y = x y * scale (row x (y 0)) := by
  rw [← pay_scale x (y 0) 0]
  pointwise [k0_pay3]

/-- A block's share of the gain's gradient. -/
def share (x d : Vec Ideal S128x4096 .f32) (y : S1x4096.Idx) : EReal :=
  ∑ i : Fin 128, d (ix2 i (y 1)) * (x (ix2 i (y 1)) * scale (row x i))

theorem pay_share (x d : Vec Ideal S128x4096 .f32) (a : Vec Ideal S1x4096 .f32) (y : S1x4096.Idx) :
    k0_pay4 (F := Ideal) x d a y = a y + share x d y := by
  have h : ∀ z, k0_pay3 (F := Ideal) x z = x z * scale (row x (z 0)) := pay_nrm x
  pointwise [k0_pay4, share, h]

theorem pay_rows (x d : Vec Ideal S128x4096 .f32) (g : Vec Ideal S1x4096 .f32) (y : S128x4096.Idx) :
    k0_pay5 (F := Ideal) x d g y
      = scale (row x (y 0)) * (d y * g (ix2 0 (y 1)) - x y * scale (row x (y 0))
          * Ideal.div (∑ k, d (ix2 (y 0) k) * g (ix2 0 k) * (x (ix2 (y 0) k) * scale (row x (y 0)))) cols) := by
  have h : ∀ z, k0_pay3 (F := Ideal) x z = x z * scale (row x (z 0)) := pay_nrm x
  have h2 : ∀ i z, k0_pay2 (F := Ideal) x (ix2 i z) = scale (row x i) := pay_scale x
  pointwise [k0_pay5, h, h2]

/-! ### The gradients -/

/-- A block of the rows' gradient is the gradient at the block's rows. -/
theorem pay_rows_eq (x d : Vec Ideal S128x4096 .f32) (g : Vec Ideal S1x4096 .f32) (x' d' : S4096x4096.Idx → EReal)
    (g' : S1x4096.Idx → EReal) (y : S128x4096.Idx) (r : Fin 4096) (hx : row x (y 0) = line x' r)
    (hd : ∀ k, d (ix2 (y 0) k) = d' (ix2 r k)) (hg : ∀ k, g (ix2 0 k) = g' (ix2 0 k)) :
    k0_pay5 (F := Ideal) x d g y = rowsAt d' x' g' r (y 1) := by
  have hx' : ∀ k, x (ix2 (y 0) k) = line x' r k := fun k => congrFun hx k
  have hy : y = ix2 (y 0) (y 1) := by
    funext a
    match a with
    | 0 => rfl
    | 1 => rfl
  have hxy : x y = line x' r (y 1) := (congrArg x hy).trans (hx' (y 1))
  have hdy : d y = d' (ix2 r (y 1)) := (congrArg d hy).trans (hd (y 1))
  rw [pay_rows, hx, hxy, hdy, hg (y 1)]
  simp only [hx', hd, hg]
  exact bracket (line x' r) (gained d' g' r) (y 1)

/-! ### The call's arrays -/

variable (m : (ℓ : Loc nD τ sig) → Buf (Elt Ideal) ℓ) (c : Dev nD)

theorem row_eq (t : Fin cfg0.N) (i : Fin 128) (r : Fin 4096) (hr : r.val = t.val * 128 + i.val) :
    row (iblk m c 1 t) i = line (m (c.tc.loc main_arg1)) r := by
  funext k
  unfold row line
  blk_ext [iblk, idx_1, hr]

theorem rows_out (t : Fin cfg0.N) (y : S128x4096.Idx) :
    (outsAt0 m c t.val t.isLt).1 y = k0_pay5 (F := Ideal) (iblk m c 1 t) (iblk m c 0 t) (iblk m c 2 t) y := by
  by_cases h : t.val % 32 = 0
  · rw [outsAt0_A m c t h]
    frame_out
  · rw [outsAt0_B m c t h]
    frame_out

theorem gain_out (t : Fin cfg0.N) (h : t.val % 32 = 32 - 1) (y : S1x4096.Idx) :
    (outsAt0 m c t.val t.isLt).2 y
      = ∑ s : Fin 32, share (iblk m c 1 ⟨32 * (t.val / 32) + s.val, Pipeline.run_point_lt_of_flush t h s⟩)
          (iblk m c 0 ⟨32 * (t.val / 32) + s.val, Pipeline.run_point_lt_of_flush t h s⟩) y := by
  rw [Pipeline.eq_sum_fin_of_reset_step_apply_of_flush (fun n h => (outsAt0 m c n h).2) 32 (fun _ => (0 : EReal))
    (fun t y => share (iblk m c 1 t) (iblk m c 0 t) y)
    (fun t h y => by
      rw [outsAt0_A m c t h]
      frame_out
      rw [pay_share, pay_zero])
    (fun t h y => by
      rw [outsAt0_B m c t h]
      frame_out
      rw [pay_share]) t h y, zero_add]

theorem arr_rows : (dats m 0 c).arrAt 3 cfg0.N
    = rows (m (c.tc.loc main_arg0)) (m (c.tc.loc main_arg1)) (m (c.tc.loc main_arg2)) := by
  refine (dats m 0 c).arrAt_eq_of_covers 3 _ (by decide +kernel) fun t hf y => ?_
  blk_simp
  rw [after0_3, rows_out]
  have hy : (y 0).val < 128 := (y 0).isLt
  have ht : t.val < 32 := t.isLt
  obtain ⟨r, hr⟩ : ∃ r : Fin 4096, r.val = t.val * 128 + (y 0).val := ⟨⟨_, by omega⟩, rfl⟩
  refine (pay_rows_eq _ _ _ _ (m (c.tc.loc main_arg0)) (m (c.tc.loc main_arg2)) y r (row_eq m c t (y 0) r hr)
    (fun k => by blk_ext [iblk, idx_0, hr]) (fun k => by blk_ext [iblk, idx_2])).trans ?_
  have h0 : ((win0_3.blk t).view.emb y) 0 = r := Fin.ext (by
    blk_simp [idx_3]
    show t.val * 128 + (y 0).val = r.val
    omega)
  have h1 : ((win0_3.blk t).view.emb y) 1 = y 1 := Fin.ext (by blk_simp [idx_3])
  unfold rows
  rw [h0, h1]

theorem arr_gain : (dats m 0 c).arrAt 4 cfg0.N = gain (m (c.tc.loc main_arg0)) (m (c.tc.loc main_arg1)) := by
  refine (dats m 0 c).arrAt_eq_of_covers 4 _ (by decide +kernel) fun t hf y => ?_
  have h3 := (flush0_4 t).mp hf
  blk_simp
  rw [after0_4]
  refine (gain_out m c t h3 _).trans ?_
  unfold share gain
  refine Fin.sum_mul_add_congr fun s k hl => ?_
  rw [row_eq m c _ k ⟨s.val * 128 + k.val, hl⟩ (by
    have ht : t.val < 32 := t.isLt
    show s.val * 128 + k.val = (32 * (t.val / 32) + s.val) * 128 + k.val
    omega)]
  congr 1
  · blk_ext [iblk, idx_0, idx_4]
  congr 1
  · blk_ext [iblk, idx_1, idx_4]

theorem algebraic : Cert.algebraic_PostBwdEIdeal_PostBwdERefIdeal := by
  intro m g m' g' _ hagree
  refine ⟨fun c => rows (m (c.tc.loc main_arg0)) (m (c.tc.loc main_arg1)) (m (c.tc.loc main_arg2)), fun c => gain (m (c.tc.loc main_arg0)) (m (c.tc.loc main_arg1)), ?_, ?_⟩
  · refine (θ_run defs _ _).mono (fun r h c => ?_) (run_main m g)
    exact ⟨((h c).1 3).trans (arr_rows m c), ((h c).1 4).trans (arr_gain m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩
  · refine (θ_run PostBwdERefIdeal.defs _ _).mono (fun r h c => ?_) (PostBwdERefIdeal.Value.run (F := Ideal) m' g')
    obtain ⟨h0, h1, h2⟩ := h c
    obtain ⟨e0, e1, e2⟩ := hagree c
    refine ⟨h0.trans ((ref_rows m' c).trans (by rw [e0, e1, e2])), h1.trans ?_, h2⟩
    rw [e0, e1]
    funext i
    pointwise [gain, line, scale, square]
    rw [Fin.sum_univ_one]
    exact Finset.sum_congr rfl fun k _ => mul_comm _ _

end Cert.Proof.PostBwdE

end
-- ==== Proof.Mm.Forget.lean ====
/-
  The projection to the forget gate: the blocks of the call's array are the sums of the four partial products, which is
  the product of the rows with the padded weights.
-/
module

public import proofs.«01_k».proof.Defs
public import proofs.«01_k».proof.Proof.Gen.ForgetIdeal.Frame
public import proofs.«01_k».proof.Proof.Gen.ForgetRefIdeal.Run
public import Idealize.ShloMosaic.Lib.Pipeline.ValueKit
public import Idealize.ShloMosaic.Lib.Pipeline.ReadBack
public import Idealize.ShloMosaic.Lib.Pointwise

@[expose] public section

noncomputable section

namespace Cert.Proof.Forget

open Cert.ForgetIdeal Cert.ForgetIdeal.Gen
open Idealize.ShloMosaic
open Idealize.ShloMosaic.TcCoe
open Idealize.SL Idealize.SL.Sem

theorem idx_0 : ∀ t : Fin grid0.N, win0_0.index t = ![t.val / 4, t.val % 4] := by decide +kernel
theorem idx_1 : ∀ t : Fin grid0.N, win0_1.index t = ![t.val % 4, 0] := by decide +kernel
theorem idx_2 : ∀ t : Fin grid0.N, win0_2.index t = ![t.val / 4, 0] := by decide +kernel

/-- The product of a block of the left matrix and a block of the right one. -/
def part (a : Vec Ideal S1024x1024 .bf16) (b : Vec Ideal S1024x128 .bf16) (y : S1024x128.Idx) : EReal :=
  ∑ k : Fin 1024, a (ix2 (y 0) k) * b (ix2 k (y 1))

theorem pay_zero (y : S1024x128.Idx) : k0_pay1 (F := Ideal) y = 0 := by
  pointwise [k0_pay1]

theorem pay_add (x : Vec Ideal S1024x128 .f32) (a : Vec Ideal S1024x1024 .bf16) (b : Vec Ideal S1024x128 .bf16)
    (y : S1024x128.Idx) : k0_pay2 (F := Ideal) x a b y = x y + part a b y := by
  pointwise [k0_pay2, part]

/-- The product of the rows with the weights. -/
def product (a : S4096x4096.Idx → EReal) (b : S4096x128.Idx → EReal) (i : S4096x128.Idx) : EReal :=
  ∑ k : Fin 4096, a (ix2 (i 0) k) * b (ix2 k (i 1))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x128.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (iblk m c 1 t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · blk_ext [iblk, idx_1, idx_2]

/-! ### The reference -/

theorem ref_eq (a : S4096x4096.Idx → EReal) (b : S4096x128.Idx → EReal) :
    (Host.dotGeneral (F := Ideal) (φ₁ := .f32) (φ₂ := .f32) ForgetRefIdeal.dot_S4096x4096_S4096x128_S4096x128_1_0_0_1_n_n none
      (extf (F := Ideal) (φ := .bf16) .f32 a ForgetRefIdeal.Gen.bitsLt_bf16_f32) (extf (F := Ideal) (φ := .bf16) .f32 b ForgetRefIdeal.Gen.bitsLt_bf16_f32) :
        S4096x128.Idx → EReal) = product a b := by
  funext i
  pointwise [product]

theorem algebraic : Cert.algebraic_ForgetIdeal_ForgetRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run ForgetRefIdeal.defs _ _).mono (fun r h c => ?_) (ForgetRefIdeal.Value.run (F := Ideal) m' g')
    obtain ⟨h0, h1, h2⟩ := h c
    refine ⟨h0.trans ?_, h1, h2⟩
    rw [(hagree c).1, (hagree c).2]
    exact ref_eq _ _

end Cert.Proof.Forget

end
-- ==== Proof.Mm.GradForget.lean ====
/-
  The gradient of the forget gate's weights: the blocks of the call's array are the sums of the four partial products,
  which is the product of the transposed rows with the gate's gradient.
-/
module

public import proofs.«01_k».proof.Defs
public import proofs.«01_k».proof.Proof.Gen.GradForgetIdeal.Frame
public import proofs.«01_k».proof.Proof.Gen.GradForgetRefIdeal.Run
public import Idealize.ShloMosaic.Lib.Pipeline.ValueKit
public import Idealize.ShloMosaic.Lib.Pipeline.ReadBack
public import Idealize.ShloMosaic.Lib.Pointwise

@[expose] public section

noncomputable section

namespace Cert.Proof.GradForget

open Cert.GradForgetIdeal Cert.GradForgetIdeal.Gen
open Idealize.ShloMosaic
open Idealize.ShloMosaic.TcCoe
open Idealize.SL Idealize.SL.Sem

theorem idx_0 : ∀ t : Fin grid0.N, win0_0.index t = ![t.val % 4, t.val / 4] := by decide +kernel
theorem idx_1 : ∀ t : Fin grid0.N, win0_1.index t = ![t.val % 4, 0] := by decide +kernel
theorem idx_2 : ∀ t : Fin grid0.N, win0_2.index t = ![t.val / 4, 0] := by decide +kernel

/-- The product of a transposed block of the left matrix and a block of the right one. -/
def part (a : Vec Ideal S1024x1024 .bf16) (b : Vec Ideal S1024x128 .bf16) (y : S1024x128.Idx) : EReal :=
  ∑ k : Fin 1024, a (ix2 k (y 0)) * b (ix2 k (y 1))

theorem pay_zero (y : S1024x128.Idx) : k0_pay1 (F := Ideal) y = 0 := by
  pointwise [k0_pay1]

theorem pay_add (x : Vec Ideal S1024x128 .f32) (a : Vec Ideal S1024x1024 .bf16) (b : Vec Ideal S1024x128 .bf16)
    (y : S1024x128.Idx) : k0_pay2 (F := Ideal) x a b y = x y + part a b y := by
  pointwise [k0_pay2, part]

theorem pay_out (x : Vec Ideal S1024x128 .f32) : k0_pay3 (F := Ideal) x = x := by
  funext y
  pointwise [k0_pay3]

/-- The product of a transposed matrix and a matrix. -/
def product (a : S4096x4096.Idx → EReal) (b : S4096x128.Idx → EReal) (i : S4096x128.Idx) : EReal :=
  ∑ k : Fin 4096, a (ix2 k (i 0)) * b (ix2 k (i 1))

variable (m : (ℓ : Loc nD τ sig) → Buf (Elt Ideal) ℓ) (c : Dev nD)

/-- At the last of a block's four points the accumulator holds the sum of the four partial products. -/
theorem acc_eq (t : Fin cfg0.N) (h : t.val % 4 = 4 - 1) (y : S1024x128.Idx) :
    (outsAt0 m c t.val t.isLt).2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2) 4 (fun _ => (0 : EReal))
    (fun t y => part (iblk m c 0 t) (iblk m c 1 t) y)
    (fun t h y => by
      rw [outsAt0_A m c t h (by omega)]
      frame_out
      rw [pay_add, pay_zero])
    (fun t h y => by
      by_cases h3 : t.val % 4 = 3
      · rw [outsAt0_C m c t h h3]
        frame_out
        rw [pay_add]
        simp only [read_unread_whole]
      · rw [outsAt0_B m c t h h3]
        frame_out
        rw [pay_add]
        simp only [read_unread_whole]) t h y, zero_add]

theorem out_eq (t : Fin cfg0.N) (h : t.val % 4 = 3) :
    (outsAt0 m c t.val t.isLt).1 = (outsAt0 m c t.val t.isLt).2 := by
  rw [outsAt0_C m c t (by omega) h]
  frame_out
  exact pay_out _

theorem arr_eq : (dats m 0 c).arrAt 2 cfg0.N = product (m (c.tc.loc main_arg0)) (m (c.tc.loc main_arg1)) := by
  refine (dats m 0 c).arrAt_eq_of_covers 2 _ (by decide +kernel) fun t hf y => ?_
  have h3 := (flush0_2 t).mp hf
  blk_simp
  rw [after0_2, out_eq m c t h3]
  refine (acc_eq m c t h3 _).trans ?_
  unfold part product
  refine Fin.sum_mul_add_congr fun s k hl => ?_
  congr 1
  · blk_ext [iblk, idx_0, idx_2]
  · blk_ext [iblk, idx_1, idx_2]

/-! ### The reference -/

theorem ref_eq (a : S4096x4096.Idx → EReal) (b : S4096x128.Idx → EReal) :
    (truncf (F := Ideal) (φ := .f32) .bf16 (transpose (α := Ideal .f32) S4096x128 [1, 0] ((Host.dotGeneral (F := Ideal) (φ₁ := .f32) (φ₂ := .f32) GradForgetRefIdeal.dot_S4096x128_S4096x4096_S128x4096_0_0_1_1_n_n none
      (extf (F := Ideal) (φ := .bf16) .f32 b GradForgetRefIdeal.Gen.bitsLt_bf16_f32) (extf (F := Ideal) (φ := .bf16) .f32 a GradForgetRefIdeal.Gen.bitsLt_bf16_f32))) GradForgetRefIdeal.Gen.transposes_S128x4096_S4096x128_1_0) GradForgetRefIdeal.Gen.bitsLt_bf16_f32 :
        S4096x128.Idx → EReal) = product a b := by
  funext i
  pointwise [product]
  exact Finset.sum_congr rfl fun k _ => mul_comm _ _

theorem algebraic : Cert.algebraic_GradForgetIdeal_GradForgetRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run GradForgetRefIdeal.defs _ _).mono (fun r h c => ?_) (GradForgetRefIdeal.Value.run (F := Ideal) m' g')
    obtain ⟨h0, h1, h2⟩ := h c
    refine ⟨h0.trans ?_, h1, h2⟩
    rw [(hagree c).1, (hagree c).2]
    exact ref_eq _ _

end Cert.Proof.GradForget

end
-- ==== Proof.Mm.GradHForget.lean ====
/-
  The forget gate's part of the gradient of the normalized rows: each block of the call's array is one product of a block of
  the gate's gradient with a transposed block of the padded weights.
-/
module

public import proofs.«01_k».proof.Defs
public import proofs.«01_k».proof.Proof.Gen.GradHForgetIdeal.Frame
public import proofs.«01_k».proof.Proof.Gen.GradHForgetRefIdeal.Run
public import Idealize.ShloMosaic.Lib.Pipeline.ValueKit
public import Idealize.ShloMosaic.Lib.Pipeline.ReadBack
public import Idealize.ShloMosaic.Lib.Pointwise

@[expose] public section

noncomputable section

namespace Cert.Proof.GradHForget

open Cert.GradHForgetIdeal Cert.GradHForgetIdeal.Gen
open Idealize.ShloMosaic
open Idealize.ShloMosaic.TcCoe
open Idealize.SL Idealize.SL.Sem

theorem idx_0 : ∀ t : Fin grid0.N, win0_0.index t = ![t.val / 2, 0] := by decide +kernel
theorem idx_1 : ∀ t : Fin grid0.N, win0_1.index t = ![t.val % 2, 0] := by decide +kernel
theorem idx_2 : ∀ t : Fin grid0.N, win0_2.index t = ![t.val / 2, t.val % 2] := by decide +kernel

/-- The product of a block of the left matrix and a transposed block of the right one. -/
def part (a : Vec Ideal S1024x128 .bf16) (b : Vec Ideal S2048x128 .bf16) (y : S1024x2048.Idx) : EReal :=
  ∑ k : Fin 128, a (ix2 (y 0) k) * b (ix2 (y 1) k)

theorem pay_zero (y : S1024x2048.Idx) : k0_pay1 (F := Ideal) y = 0 := by
  pointwise [k0_pay1]

theorem pay_add (x : Vec Ideal S1024x2048 .f32) (a : Vec Ideal S1024x128 .bf16) (b : Vec Ideal S2048x128 .bf16)
    (y : S1024x2048.Idx) : k0_pay2 (F := Ideal) x a b y = x y + part a b y := by
  pointwise [k0_pay2, part]

/-- The product of a matrix and a transposed matrix. -/
def product (a b : S4096x128.Idx → EReal) (i : S4096x4096.Idx) : EReal :=
  ∑ k : Fin 128, a (ix2 (i 0) k) * b (ix2 (i 1) k)

variable (m : (ℓ : Loc nD τ sig) → Buf (Elt Ideal) ℓ) (c : Dev nD)

theorem out_eq (t : Fin cfg0.N) (y : S1024x2048.Idx) :
    outsAt0 m c t y = part (iblk m c 0 t) (iblk m c 1 t) y := by
  unfold outsAt0
  frame_out
  rw [pay_add, pay_zero, zero_add]

theorem arr_eq : (dats m 0 c).arrAt 2 cfg0.N = product (m (c.tc.loc main_arg0)) (m (c.tc.loc main_arg1)) := by
  refine (dats m 0 c).arrAt_eq_of_covers 2 _ (by decide +kernel) fun t hf y => ?_
  blk_simp
  rw [after0_2]
  refine (out_eq m c t _).trans ?_
  unfold part product
  refine Finset.sum_congr rfl fun k _ => ?_
  congr 1
  · blk_ext [iblk, idx_0, idx_2]
  · blk_ext [iblk, idx_1, idx_2]

/-! ### The reference -/

theorem ref_eq (a b : S4096x128.Idx → EReal) :
    (Host.dotGeneral (F := Ideal) (φ₁ := .f32) (φ₂ := .f32) GradHForgetRefIdeal.dot_S4096x128_S4096x128_S4096x4096_1_1_0_0_n_n none
      (extf (F := Ideal) (φ := .bf16) .f32 a GradHForgetRefIdeal.Gen.bitsLt_bf16_f32) (extf (F := Ideal) (φ := .bf16) .f32 b GradHForgetRefIdeal.Gen.bitsLt_bf16_f32) :
        S4096x4096.Idx → EReal) = product a b := by
  funext i
  pointwise [product]

theorem algebraic : Cert.algebraic_GradHForgetIdeal_GradHForgetRefIdeal := by
  intro m g m' g' _ hagree
  refine ⟨fun c => product (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run GradHForgetRefIdeal.defs _ _).mono (fun r h c => ?_) (GradHForgetRefIdeal.Value.run (F := Ideal) m' g')
    obtain ⟨h0, h1, h2⟩ := h c
    refine ⟨h0.trans ?_, h1, h2⟩
    rw [(hagree c).1, (hagree c).2]
    exact ref_eq _ _

end Cert.Proof.GradHForget

end
-- ==== Proof.SB.Model.lean ====
/-
  The stick-breaking attention's backward pass over the real numbers, for one head: queries, keys, values and the
  gradient of the outputs are functions of a position and a feature. Everything the kernel and the reference compute is a
  coerced value of one of these functions; the sums over ranges of positions are what tiles cut.
-/
module

public import Idealize.ShloMosaic.Lib.Pointwise

@[expose] public section

noncomputable section

namespace Cert.Proof.SB

open Idealize.ShloMosaic

/-- A finite sum of coerced reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_max (x y : ℝ) : max (x : EReal) (y : EReal) = ((max x y : ℝ) : EReal) :=
  (EReal.coe_strictMono.monotone.map_max).symm

theorem coe_min (x y : ℝ) : min (x : EReal) (y : EReal) = ((min x y : ℝ) : EReal) :=
  (EReal.coe_strictMono.monotone.map_min).symm

theorem coe_abs (x : ℝ) : max (x : EReal) (-(x : EReal)) = ((|x| : ℝ) : EReal) := by
  rw [← EReal.coe_neg, coe_max]; rfl

theorem log_coe_pos {x : ℝ} (h : 0 < x) : Ideal.log (x : EReal) = ((Real.log x : ℝ) : EReal) := by
  rw [Ideal.log_coe, if_neg (not_le.2 h)]

theorem one_add_exp_pos (x : ℝ) : 0 < 1 + Real.exp x := by positivity

/-- The log of one and an exponential. -/
theorem log_one_add_exp (x : ℝ) : Ideal.log (1 + Ideal.exp (x : EReal)) = ((Real.log (1 + Real.exp x) : ℝ) : EReal) := by
  rw [Ideal.exp_coe, ← EReal.coe_one, ← EReal.coe_add, log_coe_pos (one_add_exp_pos x)]

/-- `softplus`: the log of `1 + exp x`, as both programs write it. -/
def sp (x : ℝ) : ℝ := max x 0 + Real.log (1 + Real.exp (-|x|))

theorem sp_neg (x : ℝ) : sp (-x) = sp x - x := by
  unfold sp
  rw [abs_neg]
  rcases le_total 0 x with h | h
  · rw [max_eq_right (by linarith), max_eq_left h]; ring
  · rw [max_eq_left (by linarith), max_eq_right h]; ring

theorem sp_nonneg (x : ℝ) : 0 ≤ sp x := by
  unfold sp
  have h1 : 0 ≤ max x 0 := le_max_right _ _
  have h2 : 0 ≤ Real.log (1 + Real.exp (-|x|)) := Real.log_nonneg (by have := Real.exp_pos (-|x|); linarith)
  linarith

theorem min_sub_log (x : ℝ) : min (-x) 0 - Real.log (1 + Real.exp (-|x|)) = -sp x := by
  unfold sp
  have : min (-x) 0 = -max x 0 := by
    rcases le_total 0 x with h | h
    · rw [max_eq_left h, min_eq_left (by linarith)]
    · rw [max_eq_right h, min_eq_right (by linarith), neg_zero]
  rw [this]; ring

/-! ## Sums over ranges -/

/-- The later positions of a range. -/
theorem sum_after (f : ℕ → ℝ) (n c b : ℕ) :
    ∑ x : Fin n, f (b + x.val) * (if c < x.val then 1 else 0) = ∑ i ∈ Finset.Ico (b + c + 1) (b + n), f i := by
  rw [Fin.sum_univ_eq_sum_range (fun x => f (b + x) * (if c < x then 1 else 0)) n]
  simp only [mul_ite, mul_one, mul_zero]
  rw [← Finset.sum_filter]
  rw [show (Finset.range n).filter (fun x => c < x) = Finset.Ico (c + 1) n by ext x; simp; omega]
  rw [Finset.sum_Ico_add f (c + 1) n b]
  congr 2 <;> omega

/-- The earlier positions of a range. -/
theorem sum_before (f : ℕ → ℝ) (n c b : ℕ) (hc : c ≤ n) :
    ∑ x : Fin n, f (b + x.val) * (if x.val < c then 1 else 0) = ∑ i ∈ Finset.Ico b (b + c), f i := by
  rw [Fin.sum_univ_eq_sum_range (fun x => f (b + x) * (if x < c then 1 else 0)) n]
  simp only [mul_ite, mul_one, mul_zero]
  rw [← Finset.sum_filter]
  rw [show (Finset.range n).filter (fun x => x < c) = Finset.Ico 0 c by ext x; simp; omega]
  rw [Finset.sum_Ico_add f 0 c b]
  congr 2 <;> omega

/-- A whole range, shifted. -/
theorem sum_whole (f : ℕ → ℝ) (n b : ℕ) : ∑ x : Fin n, f (b + x.val) = ∑ i ∈ Finset.Ico b (b + n), f i := by
  rw [Fin.sum_univ_eq_sum_range (fun x => f (b + x)) n, Finset.range_eq_Ico, Finset.sum_Ico_add f 0 n b]
  congr 2 <;> omega

/-! ## One head -/

/-- One head: the scale, the queries, the keys, the values and the gradient of the outputs. -/
structure Head where
  /-- the scale -/
  c : ℝ
  /-- the queries -/
  q : ℕ → Fin 128 → ℝ
  /-- the keys -/
  k : ℕ → Fin 128 → ℝ
  /-- the values -/
  v : ℕ → Fin 128 → ℝ
  /-- the gradient of the outputs -/
  g : ℕ → Fin 128 → ℝ

namespace Head

variable (H : Head)

/-- The scores. -/
def z (t s : ℕ) : ℝ := (∑ d, H.q t d * H.k s d) * H.c

/-- The log-misses: nothing at the query's own position or later. -/
def l (t s : ℕ) : ℝ := if s < t then -sp (H.z t s) else 0

theorem l_nonpos (t s : ℕ) : H.l t s ≤ 0 := by
  unfold l
  split
  · have := sp_nonneg (H.z t s); linarith
  · exact le_refl _

/-- The log-misses from position `n` on. -/
def suffix (t n : ℕ) : ℝ := ∑ i ∈ Finset.Ico n 4096, H.l t i

/-- The weights. -/
def a (t s : ℕ) : ℝ := if s < t then Real.exp (H.l t s + H.z t s + H.suffix t (s + 1)) else 0

/-- What a weight takes of the gradient of the outputs. -/
def take (t s : ℕ) : ℝ := (∑ d, H.g t d * H.v s d) * H.a t s

/-- What the weights left of position `n` take. -/
def left (t n : ℕ) : ℝ := ∑ i ∈ Finset.Ico 0 n, H.take t i

/-- The gradient of the scores. -/
def dz (t s : ℕ) : ℝ :=
  if s < t then H.take t s * Real.exp (H.l t s) - H.left t s * Real.exp (H.l t s + H.z t s) else 0

/-- The gradient of a query from the keys left of position `n`, -/
def dq (n t : ℕ) (d : Fin 128) : ℝ := ∑ s ∈ Finset.Ico 0 n, (H.dz t s * H.c) * H.k s d

/-- of a key from the queries before position `n`, -/
def dk (n s : ℕ) (d : Fin 128) : ℝ := ∑ t ∈ Finset.Ico 0 n, (H.dz t s * H.c) * H.q t d

/-- and of a value. -/
def dv (n s : ℕ) (d : Fin 128) : ℝ := ∑ t ∈ Finset.Ico 0 n, H.a t s * H.g t d

/-- The outputs. -/
def o (t : ℕ) (d : Fin 128) : ℝ := ∑ s ∈ Finset.Ico 0 4096, H.v s d * H.a t s

theorem suffix_split (t : ℕ) {m n : ℕ} (h : m ≤ n) (hn : n ≤ 4096) :
    ∑ i ∈ Finset.Ico m n, H.l t i + H.suffix t n = H.suffix t m := Finset.sum_Ico_consecutive _ h hn

theorem left_split (t : ℕ) {m n : ℕ} (h : m ≤ n) :
    H.left t m + ∑ i ∈ Finset.Ico m n, H.take t i = H.left t n := Finset.sum_Ico_consecutive _ (Nat.zero_le _) h

theorem dq_split (t : ℕ) (d : Fin 128) {m n : ℕ} (h : m ≤ n) :
    H.dq m t d + ∑ s ∈ Finset.Ico m n, (H.dz t s * H.c) * H.k s d = H.dq n t d :=
  Finset.sum_Ico_consecutive _ (Nat.zero_le _) h

theorem dk_split (s : ℕ) (d : Fin 128) {m n : ℕ} (h : m ≤ n) :
    H.dk m s d + ∑ t ∈ Finset.Ico m n, (H.dz t s * H.c) * H.q t d = H.dk n s d :=
  Finset.sum_Ico_consecutive _ (Nat.zero_le _) h

theorem dv_split (s : ℕ) (d : Fin 128) {m n : ℕ} (h : m ≤ n) :
    H.dv m s d + ∑ t ∈ Finset.Ico m n, H.a t s * H.g t d = H.dv n s d :=
  Finset.sum_Ico_consecutive _ (Nat.zero_le _) h

/-- No query before position `m` sees the keys from `m` on: the sums are empty there. -/
theorem dk_zero (s : ℕ) (d : Fin 128) {n : ℕ} (h : n ≤ s + 1) : H.dk n s d = 0 :=
  Finset.sum_eq_zero fun t ht => by
    rw [Finset.mem_Ico] at ht
    rw [dz, if_neg (by omega)]; ring

theorem dv_zero (s : ℕ) (d : Fin 128) {n : ℕ} (h : n ≤ s + 1) : H.dv n s d = 0 :=
  Finset.sum_eq_zero fun t ht => by
    rw [Finset.mem_Ico] at ht
    rw [a, if_neg (by omega)]; ring

/-- A query's gradient is complete at its own position. -/
theorem dq_all (t : ℕ) (d : Fin 128) {n : ℕ} (h : t ≤ n) (hn : n ≤ 4096) : H.dq n t d = H.dq 4096 t d := by
  rw [← H.dq_split t d hn, Finset.sum_eq_zero (s := Finset.Ico n 4096), add_zero]
  intro s hs
  rw [Finset.mem_Ico] at hs
  rw [dz, if_neg (by omega)]; ring

/-- A query's log-misses end at its own position. -/
theorem suffix_own (t : ℕ) {n : ℕ} (h : t ≤ n) : H.suffix t n = 0 :=
  Finset.sum_eq_zero fun s hs => by
    rw [Finset.mem_Ico] at hs
    rw [l, if_neg (by omega)]

theorem suffix_mono (t : ℕ) {m n : ℕ} (h : m ≤ n) (hn : n ≤ 4096) : H.suffix t m ≤ H.suffix t n := by
  rw [← H.suffix_split t h hn]
  have : ∑ i ∈ Finset.Ico m n, H.l t i ≤ 0 := Finset.sum_nonpos fun i _ => H.l_nonpos t i
  linarith

end Head

end Cert.Proof.SB

end
-- ==== Proof.SB.Scan.lean ====
/-
  The reference's running sums at the extended reals: a window as long as the axis, padded at one end, holds the sum of
  the entries up to the position, or from it on.
-/
module

public import proofs.«01_k».proof.Proof.SB.Model

@[expose] public section

noncomputable section

namespace Cert.Proof.SB

open Idealize.ShloMosaic

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A window along the last axis of three, read at an entry: the sum of its positions that are not padding. -/
theorem window_apply {A B N : ℕ} (L U : ℕ) (x : (⟨3, ![A, B, N]⟩ : Shape).Idx → EReal)
    (h : (⟨3, ![A, B, N]⟩ : Shape).ReduceWindows ![1, 1, N] ![1, 1, 1] ![0, 0, L] ![0, 0, U] ⟨3, ![A, B, N]⟩)
    (a : Fin A) (b : Fin B) (j : Fin N) (f : ℕ → ℝ) (hf : ∀ s : Fin N, x (ix3 a b s) = (f s.val : EReal)) :
    Ideal.hostReduceWindowAdd (s := ⟨3, ![A, B, N]⟩) ![1, 1, N] ![1, 1, 1] ![0, 0, L] ![0, 0, U] h x 0 (ix3 a b j)
      = ((∑ c : Fin N, if L ≤ j.val + c.val ∧ j.val + c.val - L < N then f (j.val + c.val - L) else 0 : ℝ) : EReal) := by
  unfold Ideal.hostReduceWindowAdd Host.reduceWindow
  dsimp only
  rw [foldl_add, zero_add, ← Fin.sum_univ_def]
  have key := Equiv.sum_comp (Shape.rowMajor (⟨3, ![1, 1, N]⟩ : Shape)).symm (fun i : (⟨3, ![1, 1, N]⟩ : Shape).Idx =>
    ((if L ≤ j.val + (i 2).val ∧ j.val + (i 2).val - L < N then f (j.val + (i 2).val - L) else 0 : ℝ) : EReal))
  refine (Finset.sum_congr rfl fun n _ => ?_).trans (key.trans ?_)
  · have h0 : ((Shape.rowMajor (⟨3, ![1, 1, N]⟩ : Shape)).symm n 0).val = 0 := Nat.lt_one_iff.1 ((Shape.rowMajor (⟨3, ![1, 1, N]⟩ : Shape)).symm n 0).isLt
    have h1 : ((Shape.rowMajor (⟨3, ![1, 1, N]⟩ : Shape)).symm n 1).val = 0 := Nat.lt_one_iff.1 ((Shape.rowMajor (⟨3, ![1, 1, N]⟩ : Shape)).symm n 1).isLt
    dsimp only
    by_cases hc : L ≤ j.val + ((Shape.rowMajor (⟨3, ![1, 1, N]⟩ : Shape)).symm n 2).val ∧ j.val + ((Shape.rowMajor (⟨3, ![1, 1, N]⟩ : Shape)).symm n 2).val - L < N
    · rw [if_pos hc, dif_pos]
      · rw [← hf ⟨j.val + ((Shape.rowMajor (⟨3, ![1, 1, N]⟩ : Shape)).symm n 2).val - L, hc.2⟩]
        congr 1
        funext e
        apply Fin.ext
        match e with
        | 0 => show a.val * 1 + ((Shape.rowMajor (⟨3, ![1, 1, N]⟩ : Shape)).symm n 0).val - 0 = a.val; omega
        | 1 => show b.val * 1 + ((Shape.rowMajor (⟨3, ![1, 1, N]⟩ : Shape)).symm n 1).val - 0 = b.val; omega
        | 2 => show j.val * 1 + ((Shape.rowMajor (⟨3, ![1, 1, N]⟩ : Shape)).symm n 2).val - L = j.val + ((Shape.rowMajor (⟨3, ![1, 1, N]⟩ : Shape)).symm n 2).val - L; omega
      · intro e
        match e with
        | 0 => show 0 ≤ a.val * 1 + ((Shape.rowMajor (⟨3, ![1, 1, N]⟩ : Shape)).symm n 0).val ∧ a.val * 1 + ((Shape.rowMajor (⟨3, ![1, 1, N]⟩ : Shape)).symm n 0).val - 0 < A; have := a.isLt; omega
        | 1 => show 0 ≤ b.val * 1 + ((Shape.rowMajor (⟨3, ![1, 1, N]⟩ : Shape)).symm n 1).val ∧ b.val * 1 + ((Shape.rowMajor (⟨3, ![1, 1, N]⟩ : Shape)).symm n 1).val - 0 < B; have := b.isLt; omega
        | 2 => show L ≤ j.val * 1 + ((Shape.rowMajor (⟨3, ![1, 1, N]⟩ : Shape)).symm n 2).val ∧ j.val * 1 + ((Shape.rowMajor (⟨3, ![1, 1, N]⟩ : Shape)).symm n 2).val - L < N; omega
    · rw [if_neg hc, dif_neg, EReal.coe_zero]
      intro hin
      have h2 := hin 2
      change L ≤ j.val * 1 + ((Shape.rowMajor (⟨3, ![1, 1, N]⟩ : Shape)).symm n 2).val ∧ j.val * 1 + ((Shape.rowMajor (⟨3, ![1, 1, N]⟩ : Shape)).symm n 2).val - L < N at h2
      omega
  · rw [sum_idx3, Fin.sum_univ_one, Fin.sum_univ_one, ← coe_sum]
    rfl

/-- The sum from a position on. -/
theorem sum_from (f : ℕ → ℝ) (N j : ℕ) (hj : j ≤ N) :
    (∑ c : Fin N, if 0 ≤ j + c.val ∧ j + c.val - 0 < N then f (j + c.val - 0) else 0) = ∑ i ∈ Finset.Ico j N, f i := by
  rw [Fin.sum_univ_eq_sum_range (fun c => if 0 ≤ j + c ∧ j + c - 0 < N then f (j + c - 0) else 0) N, ← Finset.sum_filter,
    Finset.sum_Ico_eq_sum_range]
  rw [show (Finset.range N).filter (fun c => 0 ≤ j + c ∧ j + c - 0 < N) = Finset.range (N - j) by ext c; simp; omega]
  rfl

/-- The sum up to a position. -/
theorem sum_upto (f : ℕ → ℝ) (L j : ℕ) (hj : j ≤ L) :
    (∑ c : Fin (L + 1), if L ≤ j + c.val ∧ j + c.val - L < L + 1 then f (j + c.val - L) else 0) = ∑ i ∈ Finset.Ico 0 (j + 1), f i := by
  rw [Fin.sum_univ_eq_sum_range (fun c => if L ≤ j + c ∧ j + c - L < L + 1 then f (j + c - L) else 0) (L + 1), ← Finset.sum_filter]
  rw [show (Finset.range (L + 1)).filter (fun c => L ≤ j + c ∧ j + c - L < L + 1) = Finset.Ico (L - j) (L + 1) by ext c; simp; omega]
  rw [Finset.sum_Ico_eq_sum_range, Finset.sum_Ico_eq_sum_range]
  refine Finset.sum_congr (by congr 1; omega) fun i hi => ?_
  congr 1; omega

end Cert.Proof.SB

end
-- ==== Proof.Mm.Running.lean ====
/-
  Running sums of logs of a gate over the extended reals: the log of the gate is never plus infinity, so splitting it into its
  rounding and the remainders and adding the pieces gives it back; a window as long as the axis, padded at its start, holds
  the sum of the entries up to the position.
-/
module

public import proofs.«01_k».proof.Proof.SB.Scan

@[expose] public section

noncomputable section

namespace Cert.Proof.Running

open Idealize.ShloMosaic Cert.Proof.SB

/-- The log of the logistic function. -/
def logGate (z : EReal) : EReal := min z 0 - Ideal.log (1 + Ideal.exp (0 - max z (-z)))

theorem log_one : Ideal.log 1 = 0 := by
  rw [← EReal.coe_one, log_coe_pos one_pos, Real.log_one, EReal.coe_zero]

theorem logGate_coe (x : ℝ) : logGate x = ((min x 0 - Real.log (1 + Real.exp (-|x|)) : ℝ) : EReal) := by
  unfold logGate
  rw [coe_abs, ← EReal.coe_zero, ← EReal.coe_sub, zero_sub, log_one_add_exp, coe_min, ← EReal.coe_sub]

theorem logGate_bot : logGate ⊥ = ⊥ := by
  unfold logGate
  simp [log_one]

theorem logGate_top : logGate ⊤ = 0 := by
  have h : (0 : EReal) - ⊤ = ⊥ := by simp
  unfold logGate
  rw [show max (⊤ : EReal) (-⊤) = ⊤ by simp, h, Ideal.exp_bot, add_zero, log_one]
  simp

theorem logGate_ne_top (z : EReal) : logGate z ≠ ⊤ := by
  induction z with
  | bot => rw [logGate_bot]; simp
  | top => rw [logGate_top]; simp
  | coe x => rw [logGate_coe]; exact EReal.coe_ne_top _

/-- The log of the logistic function as minus `softplus` of the negation. -/
theorem softplus_neg (z : EReal) : -(max (-z) 0 + Ideal.log1p (Ideal.exp (-max (-z) (- -z)))) = logGate z := by
  rw [neg_neg]
  unfold Ideal.log1p
  induction z with
  | bot =>
    rw [logGate_bot]
    simp [log_one]
  | top =>
    rw [logGate_top]
    simp [log_one]
  | coe x =>
    rw [logGate_coe, max_comm (-(x : EReal)) (x : EReal), coe_abs, ← EReal.coe_neg, ← EReal.coe_neg, log_one_add_exp, ← EReal.coe_zero, coe_max,
      ← EReal.coe_add, ← EReal.coe_neg]
    congr 1
    rcases le_total x 0 with h | h
    · rw [max_eq_left (by linarith), min_eq_left h]; ring
    · rw [max_eq_right (by linarith), min_eq_right h]; ring

/-- A number that is not plus infinity is the sum of itself and its remainders. -/
theorem split_sum (x : EReal) (h : x ≠ ⊤) : x + (x - x) + (x - x - (x - x)) = x := by
  induction x with
  | bot => simp
  | top => exact absurd rfl h
  | coe r => rw [← EReal.coe_sub, sub_self, EReal.coe_zero]; simp

/-- One entry of a triangle of ones, as a word's value. -/
theorem bit (p : Bool) :
    FloatOps.sitofp (F := Ideal) .f32 (BitVec.setWidth 32 (BitVec.ofBool p)) = if p then (1 : EReal) else 0 := by
  cases p
  · show (((BitVec.setWidth 32 (BitVec.ofBool false)).toInt : ℝ) : EReal) = _
    have : (BitVec.setWidth 32 (BitVec.ofBool false)).toInt = 0 := by decide
    rw [this]; simp
  · show (((BitVec.setWidth 32 (BitVec.ofBool true)).toInt : ℝ) : EReal) = _
    have : (BitVec.setWidth 32 (BitVec.ofBool true)).toInt = 1 := by decide
    rw [this]; simp

/-- The three products of a triangle of ones with a column's rounding and remainders, together. -/
theorem tri_sum {n : ℕ} (p : Fin n → Bool) (f : Fin n → EReal) (hf : ∀ k, f k ≠ ⊤) :
    (∑ k, (if p k then (1 : EReal) else 0) * f k) + (∑ k, (if p k then (1 : EReal) else 0) * (f k - f k))
      + (∑ k, (if p k then (1 : EReal) else 0) * (f k - f k - (f k - f k))) = ∑ k, if p k then f k else 0 := by
  rw [← Finset.sum_add_distrib, ← Finset.sum_add_distrib]
  refine Finset.sum_congr rfl fun k _ => ?_
  cases p k
  · simp
  · simp only [if_true, one_mul]
    exact split_sum _ (hf k)

/-- A window along the first axis of two, padded at its start, read at an entry. -/
theorem window_apply {B L : ℕ} (x : (⟨2, ![L + 1, B]⟩ : Shape).Idx → EReal)
    (h : (⟨2, ![L + 1, B]⟩ : Shape).ReduceWindows ![L + 1, 1] ![1, 1] ![L, 0] ![0, 0] ⟨2, ![L + 1, B]⟩)
    (j : Fin (L + 1)) (b : Fin B) (f : ℕ → EReal) (hf : ∀ s : Fin (L + 1), x (ix2 s b) = f s.val) :
    Ideal.hostReduceWindowAdd (s := ⟨2, ![L + 1, B]⟩) ![L + 1, 1] ![1, 1] ![L, 0] ![0, 0] h x 0 (ix2 j b)
      = ∑ c : Fin (L + 1), if L ≤ j.val + c.val ∧ j.val + c.val - L < L + 1 then f (j.val + c.val - L) else 0 := by
  unfold Ideal.hostReduceWindowAdd Host.reduceWindow
  dsimp only
  rw [foldl_add, zero_add, ← Fin.sum_univ_def]
  have key := Equiv.sum_comp (Shape.rowMajor (⟨2, ![L + 1, 1]⟩ : Shape)).symm (fun i : (⟨2, ![L + 1, 1]⟩ : Shape).Idx =>
    (if L ≤ j.val + (i 0).val ∧ j.val + (i 0).val - L < L + 1 then f (j.val + (i 0).val - L) else 0 : EReal))
  refine (Finset.sum_congr rfl fun n _ => ?_).trans (key.trans ?_)
  · have h1 : ((Shape.rowMajor (⟨2, ![L + 1, 1]⟩ : Shape)).symm n 1).val = 0 := Nat.lt_one_iff.1 ((Shape.rowMajor (⟨2, ![L + 1, 1]⟩ : Shape)).symm n 1).isLt
    dsimp only
    by_cases hc : L ≤ j.val + ((Shape.rowMajor (⟨2, ![L + 1, 1]⟩ : Shape)).symm n 0).val ∧ j.val + ((Shape.rowMajor (⟨2, ![L + 1, 1]⟩ : Shape)).symm n 0).val - L < L + 1
    · rw [if_pos hc, dif_pos]
      · rw [← hf ⟨j.val + ((Shape.rowMajor (⟨2, ![L + 1, 1]⟩ : Shape)).symm n 0).val - L, hc.2⟩]
        congr 1
        funext e
        apply Fin.ext
        match e with
        | 0 => show j.val * 1 + ((Shape.rowMajor (⟨2, ![L + 1, 1]⟩ : Shape)).symm n 0).val - L = j.val + ((Shape.rowMajor (⟨2, ![L + 1, 1]⟩ : Shape)).symm n 0).val - L; omega
        | 1 => show b.val * 1 + ((Shape.rowMajor (⟨2, ![L + 1, 1]⟩ : Shape)).symm n 1).val - 0 = b.val; omega
      · intro e
        match e with
        | 0 => show L ≤ j.val * 1 + ((Shape.rowMajor (⟨2, ![L + 1, 1]⟩ : Shape)).symm n 0).val ∧ j.val * 1 + ((Shape.rowMajor (⟨2, ![L + 1, 1]⟩ : Shape)).symm n 0).val - L < L + 1; omega
        | 1 => show 0 ≤ b.val * 1 + ((Shape.rowMajor (⟨2, ![L + 1, 1]⟩ : Shape)).symm n 1).val ∧ b.val * 1 + ((Shape.rowMajor (⟨2, ![L + 1, 1]⟩ : Shape)).symm n 1).val - 0 < B; have := b.isLt; omega
    · rw [if_neg hc, dif_neg]
      intro hin
      have h2 := hin 0
      change L ≤ j.val * 1 + ((Shape.rowMajor (⟨2, ![L + 1, 1]⟩ : Shape)).symm n 0).val ∧ j.val * 1 + ((Shape.rowMajor (⟨2, ![L + 1, 1]⟩ : Shape)).symm n 0).val - L < L + 1 at h2
      omega
  · rw [sum_idx2]
    exact Finset.sum_congr rfl fun a _ => Fin.sum_univ_one _

/-- The sum up to a position. -/
theorem sum_upto (f : ℕ → EReal) (L j : ℕ) (hj : j ≤ L) :
    (∑ c : Fin (L + 1), if L ≤ j + c.val ∧ j + c.val - L < L + 1 then f (j + c.val - L) else 0) = ∑ i ∈ Finset.range (j + 1), f i := by
  rw [Fin.sum_univ_eq_sum_range (fun c => if L ≤ j + c ∧ j + c - L < L + 1 then f (j + c - L) else 0) (L + 1), ← Finset.sum_filter]
  rw [show (Finset.range (L + 1)).filter (fun c => L ≤ j + c ∧ j + c - L < L + 1) = Finset.Ico (L - j) (L + 1) by ext c; simp; omega]
  rw [Finset.sum_Ico_eq_sum_range]
  refine Finset.sum_congr (by congr 1; omega) fun i hi => ?_
  congr 1; omega

/-- A triangle's row of a block is the sum up to the row. -/
theorem sum_row {n : ℕ} (f : ℕ → EReal) (r : Fin n) :
    (∑ k : Fin n, if decide (k.val ≤ r.val) then f k.val else 0) = ∑ k ∈ Finset.range (r.val + 1), f k := by
  rw [Fin.sum_univ_eq_sum_range (fun k => if decide (k ≤ r.val) then f k else 0) n]
  simp only [decide_eq_true_eq]
  rw [← Finset.sum_filter]
  have := r.isLt
  rw [show (Finset.range n).filter (fun k => k ≤ r.val) = Finset.range (r.val + 1) by ext k; simp; omega]

end Cert.Proof.Running

end
-- ==== Proof.Mm.GateSum.lean ====
/-
  The forget gate's cumulative log: at each of the sixteen blocks of rows the carried row holds the sum of the logs of the
  blocks before, and the block is the carried row plus the sums of its own logs up to each row.
-/
module

public import proofs.«01_k».proof.Defs
public import proofs.«01_k».proof.Proof.Gen.GateSumIdeal.Frame
public import proofs.«01_k».proof.Proof.Gen.GateSumRefIdeal.Run
public import proofs.«01_k».proof.Proof.Mm.Running
public import Idealize.ShloMosaic.Lib.Pipeline.ValueKit
public import Idealize.ShloMosaic.Lib.Pipeline.ReadBack
public import Idealize.ShloMosaic.Lib.Pointwise

@[expose] public section

noncomputable section

namespace Cert.Proof.GateSum

open Cert.GateSumIdeal Cert.GateSumIdeal.Gen
open Idealize.ShloMosaic
open Idealize.ShloMosaic.TcCoe
open Idealize.SL Idealize.SL.Sem
open Cert.Proof.Running

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel

/-- One log of a block. -/
def entry (a : Vec Ideal S256x128 .f32) (b : Vec Ideal S1x128 .f32) (k : Fin 256) (j : Fin 128) : EReal :=
  logGate (a (ix2 k j) + b (ix2 0 j))

theorem pay_log (a : Vec Ideal S256x128 .f32) (b : Vec Ideal S1x128 .f32) (k : Fin 256) (j : Fin 128) :
    k0_pay3 (F := Ideal) a b (ix2 k j) = entry a b k j := by
  pointwise [k0_pay3, logGate, entry]
  rfl

theorem pay_zero (j : Fin 128) : k0_pay2 (F := Ideal) (ix2 0 j) = 0 := by
  pointwise [k0_pay2]

theorem pay_carry (l : FVec Ideal S256x128 .f32) (x : Vec Ideal S1x128 .f32) (j : Fin 128) :
    k0_pay1 (F := Ideal) l x (ix2 0 j) = x (ix2 0 j) + ∑ k : Fin 256, l (ix2 k j) := by
  pointwise [k0_pay1]

theorem pay_out (a : Vec Ideal S256x128 .f32) (b x : Vec Ideal S1x128 .f32) (r : Fin 256) (j : Fin 128) :
    k0_pay4 (F := Ideal) a b x (ix2 r j) = (∑ k : Fin 256, if decide (k.val ≤ r.val) then entry a b k j else 0) + x (ix2 0 j) := by
  pointwise [k0_pay4]
  simp only [pay_log]
  have hs (k : Fin 256) : FloatOps.sitofp (F := Ideal) .f32 (BitVec.setWidth 32 (IntOp.cmpi .sle (BitVec.ofNat 32 k.val) (BitVec.ofNat 32 r.val)))
      = if decide (k.val ≤ r.val) then (1 : EReal) else 0 := by
    rw [WordCmp.cmpi_sle_ofNat (by omega) (by omega), bit]
  simp only [hs]
  rw [tri_sum (fun k => decide (k.val ≤ r.val)) (fun k => entry a b k j) fun k => logGate_ne_top _]

/-- The log of the gate at a row, by the row's number. -/
def logs (a : S4096x128.Idx → EReal) (b : S1x128.Idx → EReal) (j : Fin 128) (r : ℕ) : EReal :=
  if h : r < 4096 then logGate (a (ix2 ⟨r, h⟩ j) + b (ix2 0 j)) else 0

/-- The running sum of the logs. -/
def running (a : S4096x128.Idx → EReal) (b : S1x128.Idx → EReal) (i : S4096x128.Idx) : EReal :=
  ∑ r ∈ Finset.range ((i 0).val + 1), logs a b (i 1) r

variable (m : (ℓ : Loc nD τ sig) → Buf (Elt Ideal) ℓ) (c : Dev nD)

theorem blk_log (t : Fin cfg0.N) (k : Fin 256) (j : Fin 128) :
    entry (iblk m c 0 t) (iblk m c 1 t) k j
      = logs (m (c.tc.loc main_arg0)) (m (c.tc.loc main_arg1)) j (256 * t.val + k.val) := by
  have hk := k.isLt
  have ht : t.val < 16 := t.isLt
  unfold logs entry
  rw [dif_pos (by omega)]
  congr 2
  · blk_ext [iblk, idx_0]
  · blk_ext [iblk, idx_1]

/-- What a block adds to the carried row. -/
theorem blk_sum (t : Fin cfg0.N) (j : Fin 128) :
    (∑ k : Fin 256, entry (iblk m c 0 t) (iblk m c 1 t) k j)
      = ∑ k ∈ Finset.range 256, logs (m (c.tc.loc main_arg0)) (m (c.tc.loc main_arg1)) j (256 * t.val + k) := by
  simp only [blk_log]
  exact Fin.sum_univ_eq_sum_range (fun k => logs (m (c.tc.loc main_arg0)) (m (c.tc.loc main_arg1)) j (256 * t.val + k)) 256

/-- After a block the carried row holds the sums of all rows so far. -/
theorem carry_eq (j : Fin 128) (n : ℕ) : ∀ h : n < cfg0.N, (outsAt0 m c n h).2 (ix2 0 j)
    = ∑ r ∈ Finset.range (256 * n + 256), logs (m (c.tc.loc main_arg0)) (m (c.tc.loc main_arg1)) j r := by
  induction n with
  | zero =>
    intro h
    rw [outsAt0_A m c ⟨0, h⟩ rfl]
    frame_out
    rw [pay_carry, pay_zero, zero_add]
    simp only [pay_log]
    refine (blk_sum m c ⟨0, h⟩ j).trans ?_
    simp only [Nat.mul_zero, Nat.zero_add]
  | succ n ih =>
    intro h
    have hn : n + 1 < 16 := h
    rw [outsAt0_B m c ⟨n + 1, h⟩ (by show ¬ (n + 1) % 16 = 0; omega)]
    frame_out
    rw [pay_carry, read_unread_whole]
    simp only [pay_log]
    rw [Finset.sum_range_add _ (256 * (n + 1)) 256]
    exact congrArg₂ (· + ·) (ih (Nat.lt_of_succ_lt h)) (blk_sum m c ⟨n + 1, h⟩ j)

theorem out_eq (t : Fin cfg0.N) (r : Fin 256) (j : Fin 128) : (outsAt0 m c t.val t.isLt).1 (ix2 r j)
    = ∑ k ∈ Finset.range (256 * t.val + (r.val + 1)), logs (m (c.tc.loc main_arg0)) (m (c.tc.loc main_arg1)) j k := by
  have hrow : (∑ k : Fin 256, if decide (k.val ≤ r.val) then entry (iblk m c 0 t) (iblk m c 1 t) k j else 0)
      = ∑ k ∈ Finset.range (r.val + 1), logs (m (c.tc.loc main_arg0)) (m (c.tc.loc main_arg1)) j (256 * t.val + k) := by
    simp only [blk_log]
    exact sum_row (fun k => logs (m (c.tc.loc main_arg0)) (m (c.tc.loc main_arg1)) j (256 * t.val + k)) r
  rw [Finset.sum_range_add, ← hrow]
  have ht : t.val < 16 := t.isLt
  by_cases h0 : t.val % 16 = 0
  · rw [outsAt0_A m c t h0]
    frame_out
    rw [pay_out, pay_zero, show t.val = 0 by omega]
    simp
  · rw [outsAt0_B m c t h0]
    frame_out
    rw [pay_out, add_comm, read_unread_whole]
    refine congrArg (· + _) ((carry_eq m c j (t.val - 1) _).trans ?_)
    rw [show 256 * (t.val - 1) + 256 = 256 * t.val by omega]

theorem arr_eq : (dats m 0 c).arrAt 2 cfg0.N = running (m (c.tc.loc main_arg0)) (m (c.tc.loc main_arg1)) := by
  refine (dats m 0 c).arrAt_eq_of_covers 2 _ (by decide +kernel) fun t hf y => ?_
  blk_simp
  rw [after0_2]
  obtain ⟨r, j, rfl⟩ : ∃ (r : Fin 256) (j : Fin 128), y = ix2 r j := ⟨y 0, y 1, (ix2_eta y).symm⟩
  refine (out_eq m c t r j).trans ?_
  unfold running
  have h0 : ((win0_2.blk t).view.emb (ix2 r j) 0).val = 256 * t.val + r.val := by
    blk_simp [idx_2]
    omega
  have h1 : (win0_2.blk t).view.emb (ix2 r j) 1 = j := Fin.ext (by blk_simp [idx_2])
  rw [h0, h1]
  rfl

/-! ### The reference -/

theorem algebraic : Cert.algebraic_GateSumIdeal_GateSumRefIdeal := by
  intro m g m' g' _ hagree
  refine ⟨fun c => running (m (c.tc.loc main_arg0)) (m (c.tc.loc main_arg1)), ?_, ?_⟩
  · refine (θ_run defs _ _).mono (fun r h c => ?_) (run_main m g)
    exact ⟨((h c).1 2).trans (arr_eq m c), ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run GateSumRefIdeal.defs _ _).mono (fun r h c => ?_) (GateSumRefIdeal.Value.run (F := Ideal) m' g')
    obtain ⟨h0, h1, h2⟩ := h c
    refine ⟨h0.trans ?_, h1, h2⟩
    rw [(hagree c).1, (hagree c).2]
    funext i
    have hz : (broadcastInDim GateSumRefIdeal.S_ ![] GateSumRefIdeal.Gen.bcast_S_S_ (constant GateSumRefIdeal.S_ FTy.f32 0#32) : FVec Ideal GateSumRefIdeal.S_ .f32)
        (Shape.Idx.first GateSumRefIdeal.Gen.h_S_) = 0 := by
      pointwise
    unfold Host.reduceWindowAdd
    rw [hz]
    obtain ⟨r, j, rfl⟩ : ∃ (r : Fin 4096) (j : Fin 128), i = ix2 r j := ⟨i 0, i 1, (ix2_eta i).symm⟩
    refine (window_apply (L := 4095) _ _ r j (logs (m (c.tc.loc main_arg0)) (m (c.tc.loc main_arg1)) j) fun s => ?_).trans
      (sum_upto _ 4095 r.val (by omega))
    unfold logs
    rw [dif_pos s.isLt]
    pointwise
    rw [if_neg fun h => h rfl]
    exact softplus_neg _

end Cert.Proof.GateSum

end
-- ==== Proof.Mm.Frames.lean ====
/-
  The frames of the calls' references: each runs from any memory whose semaphore counters are zero, leaves its
  arguments as they were and its counters at zero.
-/
module

public import proofs.«01_k».proof.Defs
public import proofs.«01_k».proof.Proof.Gen.GradHRefIdeal.Run
public import proofs.«01_k».proof.Proof.Gen.GradWRefIdeal.Run
public import proofs.«01_k».proof.Proof.Gen.GradMixedRefIdeal.Run
public import proofs.«01_k».proof.Proof.Gen.GradOutRefIdeal.Run
public import proofs.«01_k».proof.Proof.Gen.QkvRefIdeal.Run
public import proofs.«01_k».proof.Proof.Gen.GateRefIdeal.Run
public import proofs.«01_k».proof.Proof.Gen.OutProjRefIdeal.Run
public import proofs.«01_k».proof.Proof.Gen.OutProjERefIdeal.Run
public import proofs.«01_k».proof.Proof.Gen.GradOutERefIdeal.Run
public import proofs.«01_k».proof.Proof.Gen.GateARefIdeal.Run
public import proofs.«01_k».proof.Proof.Gen.QkvBRefIdeal.Run
public import proofs.«01_k».proof.Proof.Gen.GateBRefIdeal.Run
public import proofs.«01_k».proof.Proof.Gen.PostBwdRefIdeal.Run
public import proofs.«01_k».proof.Proof.Gen.PreBwdRefIdeal.Run
public import proofs.«01_k».proof.Proof.Gen.PreNormRefIdeal.Run
public import proofs.«01_k».proof.Proof.Gen.PostNormRefIdeal.Run
public import proofs.«01_k».proof.Proof.Gen.LossRefIdeal.Run
public import proofs.«01_k».proof.Proof.Gen.AdamInRefIdeal.Run
public import proofs.«01_k».proof.Proof.Gen.AdamOutRefIdeal.Run
public import proofs.«01_k».proof.Proof.Gen.AdamInERefIdeal.Run
public import proofs.«01_k».proof.Proof.Gen.AdamOutERefIdeal.Run
public import proofs.«01_k».proof.Proof.Gen.AdamSmallRefIdeal.Run
public import proofs.«01_k».proof.Proof.Gen.PreBwdERefIdeal.Run
public import proofs.«01_k».proof.Proof.Gen.PreNormERefIdeal.Run
public import proofs.«01_k».proof.Proof.Gen.PostNormERefIdeal.Run
public import proofs.«01_k».proof.Proof.Gen.PostBwdERefIdeal.Run
public import proofs.«01_k».proof.Proof.Gen.ForgetRefIdeal.Run
public import proofs.«01_k».proof.Proof.Gen.GradForgetRefIdeal.Run
public import proofs.«01_k».proof.Proof.Gen.GradHForgetRefIdeal.Run
public import proofs.«01_k».proof.Proof.Gen.GateSumRefIdeal.Run
public import Idealize.ShloMosaic.Lib.Quiescent

@[expose] public section

noncomputable section

namespace Cert.Proof

open Idealize.ShloMosaic Idealize.ShloMosaic.TcCoe
open Idealize.SL.Sem

theorem GradH.frame_reference : Cert.quiescent_GradHRefIdeal (hGradHRefIdeal := Cert.GradHRefIdeal.Gen.facts) := fun m ρ _ =>
  (θ_run Cert.GradHRefIdeal.defs _ _).mono (fun r h => ⟨fun c => (h c).2, sem_eq_zero_of_no_sems (by decide) r.2⟩)
    (Cert.GradHRefIdeal.Value.run (F := Ideal) m ρ)

theorem GradW.frame_reference : Cert.quiescent_GradWRefIdeal (hGradWRefIdeal := Cert.GradWRefIdeal.Gen.facts) := fun m ρ _ =>
  (θ_run Cert.GradWRefIdeal.defs _ _).mono (fun r h => ⟨fun c => (h c).2, sem_eq_zero_of_no_sems (by decide) r.2⟩)
    (Cert.GradWRefIdeal.Value.run (F := Ideal) m ρ)

theorem GradMixed.frame_reference : Cert.quiescent_GradMixedRefIdeal (hGradMixedRefIdeal := Cert.GradMixedRefIdeal.Gen.facts) := fun m ρ _ =>
  (θ_run Cert.GradMixedRefIdeal.defs _ _).mono (fun r h => ⟨fun c => (h c).2, sem_eq_zero_of_no_sems (by decide) r.2⟩)
    (Cert.GradMixedRefIdeal.Value.run (F := Ideal) m ρ)

theorem GradOut.frame_reference : Cert.quiescent_GradOutRefIdeal (hGradOutRefIdeal := Cert.GradOutRefIdeal.Gen.facts) := fun m ρ _ =>
  (θ_run Cert.GradOutRefIdeal.defs _ _).mono (fun r h => ⟨fun c => (h c).2, sem_eq_zero_of_no_sems (by decide) r.2⟩)
    (Cert.GradOutRefIdeal.Value.run (F := Ideal) m ρ)

theorem Qkv.frame_reference : Cert.quiescent_QkvRefIdeal (hQkvRefIdeal := Cert.QkvRefIdeal.Gen.facts) := fun m ρ _ =>
  (θ_run Cert.QkvRefIdeal.defs _ _).mono (fun r h => ⟨fun c => (h c).2, sem_eq_zero_of_no_sems (by decide) r.2⟩)
    (Cert.QkvRefIdeal.Value.run (F := Ideal) m ρ)

theorem Gate.frame_reference : Cert.quiescent_GateRefIdeal (hGateRefIdeal := Cert.GateRefIdeal.Gen.facts) := fun m ρ _ =>
  (θ_run Cert.GateRefIdeal.defs _ _).mono (fun r h => ⟨fun c => (h c).2, sem_eq_zero_of_no_sems (by decide) r.2⟩)
    (Cert.GateRefIdeal.Value.run (F := Ideal) m ρ)

theorem OutProj.frame_reference : Cert.quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem OutProjE.frame_reference : Cert.quiescent_OutProjERefIdeal (hOutProjERefIdeal := Cert.OutProjERefIdeal.Gen.facts) := fun m ρ _ =>
  (θ_run Cert.OutProjERefIdeal.defs _ _).mono (fun r h => ⟨fun c => (h c).2, sem_eq_zero_of_no_sems (by decide) r.2⟩)
    (Cert.OutProjERefIdeal.Value.run (F := Ideal) m ρ)

theorem GradOutE.frame_reference : Cert.quiescent_GradOutERefIdeal (hGradOutERefIdeal := Cert.GradOutERefIdeal.Gen.facts) := fun m ρ _ =>
  (θ_run Cert.GradOutERefIdeal.defs _ _).mono (fun r h => ⟨fun c => (h c).2, sem_eq_zero_of_no_sems (by decide) r.2⟩)
    (Cert.GradOutERefIdeal.Value.run (F := Ideal) m ρ)

theorem GateA.frame_reference : Cert.quiescent_GateARefIdeal (hGateARefIdeal := Cert.GateARefIdeal.Gen.facts) := fun m ρ _ =>
  (θ_run Cert.GateARefIdeal.defs _ _).mono (fun r h => ⟨fun c => (h c).2, sem_eq_zero_of_no_sems (by decide) r.2⟩)
    (Cert.GateARefIdeal.Value.run (F := Ideal) m ρ)

theorem QkvB.frame_reference : Cert.quiescent_QkvBRefIdeal (hQkvBRefIdeal := Cert.QkvBRefIdeal.Gen.facts) := fun m ρ _ =>
  (θ_run Cert.QkvBRefIdeal.defs _ _).mono (fun r h => ⟨fun c => (h c).2, sem_eq_zero_of_no_sems (by decide) r.2⟩)
    (Cert.QkvBRefIdeal.Value.run (F := Ideal) m ρ)

theorem GateB.frame_reference : Cert.quiescent_GateBRefIdeal (hGateBRefIdeal := Cert.GateBRefIdeal.Gen.facts) := fun m ρ _ =>
  (θ_run Cert.GateBRefIdeal.defs _ _).mono (fun r h => ⟨fun c => (h c).2, sem_eq_zero_of_no_sems (by decide) r.2⟩)
    (Cert.GateBRefIdeal.Value.run (F := Ideal) m ρ)

theorem PostBwd.frame_reference : Cert.quiescent_PostBwdRefIdeal (hPostBwdRefIdeal := Cert.PostBwdRefIdeal.Gen.facts) := fun m ρ _ =>
  (θ_run Cert.PostBwdRefIdeal.defs _ _).mono (fun r h => ⟨fun c => (h c).2.2, sem_eq_zero_of_no_sems (by decide) r.2⟩)
    (Cert.PostBwdRefIdeal.Value.run (F := Ideal) m ρ)

theorem PreBwd.frame_reference : Cert.quiescent_PreBwdRefIdeal (hPreBwdRefIdeal := Cert.PreBwdRefIdeal.Gen.facts) := fun m ρ _ =>
  (θ_run Cert.PreBwdRefIdeal.defs _ _).mono (fun r h => ⟨fun c => (h c).2.2, sem_eq_zero_of_no_sems (by decide) r.2⟩)
    (Cert.PreBwdRefIdeal.Value.run (F := Ideal) m ρ)

theorem PreNorm.frame_reference : Cert.quiescent_PreNormRefIdeal (hPreNormRefIdeal := Cert.PreNormRefIdeal.Gen.facts) := fun m ρ _ =>
  (θ_run Cert.PreNormRefIdeal.defs _ _).mono (fun r h => ⟨fun c => (h c).2, sem_eq_zero_of_no_sems (by decide) r.2⟩)
    (Cert.PreNormRefIdeal.Value.run (F := Ideal) m ρ)

theorem PostNorm.frame_reference : Cert.quiescent_PostNormRefIdeal (hPostNormRefIdeal := Cert.PostNormRefIdeal.Gen.facts) := fun m ρ _ =>
  (θ_run Cert.PostNormRefIdeal.defs _ _).mono (fun r h => ⟨fun c => (h c).2, sem_eq_zero_of_no_sems (by decide) r.2⟩)
    (Cert.PostNormRefIdeal.Value.run (F := Ideal) m ρ)

theorem Loss.frame_reference : Cert.quiescent_LossRefIdeal (hLossRefIdeal := Cert.LossRefIdeal.Gen.facts) := fun m ρ _ =>
  (θ_run Cert.LossRefIdeal.defs _ _).mono (fun r h => ⟨fun c => (h c).2.2, sem_eq_zero_of_no_sems (by decide) r.2⟩)
    (Cert.LossRefIdeal.Value.run (F := Ideal) m ρ)

theorem AdamIn.frame_reference : Cert.quiescent_AdamInRefIdeal (hAdamInRefIdeal := Cert.AdamInRefIdeal.Gen.facts) := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

theorem AdamOut.frame_reference : Cert.quiescent_AdamOutRefIdeal (hAdamOutRefIdeal := Cert.AdamOutRefIdeal.Gen.facts) := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

theorem AdamInE.frame_reference : Cert.quiescent_AdamInERefIdeal (hAdamInERefIdeal := Cert.AdamInERefIdeal.Gen.facts) := fun m ρ _ =>
  (θ_run Cert.AdamInERefIdeal.defs _ _).mono (fun r h => ⟨fun c => (h c).2.2.2.2, sem_eq_zero_of_no_sems (by decide) r.2⟩)
    (Cert.AdamInERefIdeal.Value.run (F := Ideal) m ρ)

theorem AdamOutE.frame_reference : Cert.quiescent_AdamOutERefIdeal (hAdamOutERefIdeal := Cert.AdamOutERefIdeal.Gen.facts) := fun m ρ _ =>
  (θ_run Cert.AdamOutERefIdeal.defs _ _).mono (fun r h => ⟨fun c => (h c).2.2.2.2, sem_eq_zero_of_no_sems (by decide) r.2⟩)
    (Cert.AdamOutERefIdeal.Value.run (F := Ideal) m ρ)

theorem AdamSmall.frame_reference : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

theorem PreBwdE.frame_reference : Cert.quiescent_PreBwdERefIdeal (hPreBwdERefIdeal := Cert.PreBwdERefIdeal.Gen.facts) := fun m ρ _ =>
  (θ_run Cert.PreBwdERefIdeal.defs _ _).mono (fun r h => ⟨fun c => (h c).2.2, sem_eq_zero_of_no_sems (by decide) r.2⟩)
    (Cert.PreBwdERefIdeal.Value.run (F := Ideal) m ρ)

theorem PreNormE.frame_reference : Cert.quiescent_PreNormERefIdeal (hPreNormERefIdeal := Cert.PreNormERefIdeal.Gen.facts) := fun m ρ _ =>
  (θ_run Cert.PreNormERefIdeal.defs _ _).mono (fun r h => ⟨fun c => (h c).2, sem_eq_zero_of_no_sems (by decide) r.2⟩)
    (Cert.PreNormERefIdeal.Value.run (F := Ideal) m ρ)

theorem PostNormE.frame_reference : Cert.quiescent_PostNormERefIdeal (hPostNormERefIdeal := Cert.PostNormERefIdeal.Gen.facts) := fun m ρ _ =>
  (θ_run Cert.PostNormERefIdeal.defs _ _).mono (fun r h => ⟨fun c => (h c).2, sem_eq_zero_of_no_sems (by decide) r.2⟩)
    (Cert.PostNormERefIdeal.Value.run (F := Ideal) m ρ)

theorem PostBwdE.frame_reference : Cert.quiescent_PostBwdERefIdeal (hPostBwdERefIdeal := Cert.PostBwdERefIdeal.Gen.facts) := fun m ρ _ =>
  (θ_run Cert.PostBwdERefIdeal.defs _ _).mono (fun r h => ⟨fun c => (h c).2.2, sem_eq_zero_of_no_sems (by decide) r.2⟩)
    (Cert.PostBwdERefIdeal.Value.run (F := Ideal) m ρ)

theorem Forget.frame_reference : Cert.quiescent_ForgetRefIdeal (hForgetRefIdeal := Cert.ForgetRefIdeal.Gen.facts) := fun m ρ _ =>
  (θ_run Cert.ForgetRefIdeal.defs _ _).mono (fun r h => ⟨fun c => (h c).2, sem_eq_zero_of_no_sems (by decide) r.2⟩)
    (Cert.ForgetRefIdeal.Value.run (F := Ideal) m ρ)

theorem GradForget.frame_reference : Cert.quiescent_GradForgetRefIdeal (hGradForgetRefIdeal := Cert.GradForgetRefIdeal.Gen.facts) := fun m ρ _ =>
  (θ_run Cert.GradForgetRefIdeal.defs _ _).mono (fun r h => ⟨fun c => (h c).2, sem_eq_zero_of_no_sems (by decide) r.2⟩)
    (Cert.GradForgetRefIdeal.Value.run (F := Ideal) m ρ)

theorem GradHForget.frame_reference : Cert.quiescent_GradHForgetRefIdeal (hGradHForgetRefIdeal := Cert.GradHForgetRefIdeal.Gen.facts) := fun m ρ _ =>
  (θ_run Cert.GradHForgetRefIdeal.defs _ _).mono (fun r h => ⟨fun c => (h c).2, sem_eq_zero_of_no_sems (by decide) r.2⟩)
    (Cert.GradHForgetRefIdeal.Value.run (F := Ideal) m ρ)

theorem GateSum.frame_reference : Cert.quiescent_GateSumRefIdeal (hGateSumRefIdeal := Cert.GateSumRefIdeal.Gen.facts) := fun m ρ _ =>
  (θ_run Cert.GateSumRefIdeal.defs _ _).mono (fun r h => ⟨fun c => (h c).2, sem_eq_zero_of_no_sems (by decide) r.2⟩)
    (Cert.GateSumRefIdeal.Value.run (F := Ideal) m ρ)

end Cert.Proof

end
-- ==== Proof.SB.Tile.lean ====
/-
  What the kernel computes, as functions of the arrays it reads, at any float values: one tile of keys against one
  block of 256 queries, two such blocks sharing a tile, the walk that decides how many tiles are visited, and the whole
  of one grid point. The memory proof states every buffer's contents by these functions; the value proof reads them at
  the extended reals.
-/
module

public import proofs.«01_k».proof.Proof.Gen.KernelIdeal
public import proofs.«01_k».proof.Proof.Gen.KernelIdeal.Skeleton
public import Idealize.ShloMosaic.Lib.Memref

@[expose] public section

noncomputable section

namespace Cert.Proof.SB

open Cert.KernelIdeal Cert.KernelIdeal.Gen
open Idealize.ShloMosaic Idealize.SL.Sem

variable {F : FTy → Type} [FloatOps F]

/-! ## One tile -/

/-- The zero of a 256×256 tile. -/
def zeros : FVec F S256x256 .f32 := broadcast S256x256 (Scalar.ofBits .f32 0x00000000#32)

/-- The scale 1/√128 as the program writes it, on a 256×256 tile. -/
def scales : FVec F S256x256 .f32 := broadcast S256x256 (Scalar.ofBits .f32 0x3DB504F3#32)

/-- Rows of `x` against rows of `y`. -/
def rowsDot (x y : FVec F S256x128 .bf16) : FVec F S256x256 .f32 :=
  matmul dot_S256x128_S256x128_S256x256_1_1_0_0_n_n none x y (constant S256x256 .f32 0x00000000#32)

/-- The scaled scores of a block of queries against a tile of keys. -/
def scores (q k : FVec F S256x128 .bf16) : FVec F S256x256 .f32 := mulf (rowsDot q k) scales

/-- The log of `1 - σ(z)`. -/
def logMiss (z : FVec F S256x256 .f32) : FVec F S256x256 .f32 :=
  subf (minimumf (subf zeros z) zeros)
    (log (addf (broadcast S256x256 (Scalar.ofBits .f32 0x3F800000#32)) (exp (subf zeros (absf z)))))

/-- The sums of the rows. -/
def rowSum (x : FVec F S256x256 .f32) : FVec F S256x1 .f32 :=
  shapeCast S256x1 (multiReduction .add [1] S256 x 0x00000000#32 reduces_S256x256_S256 (.inl rfl) rfl) shapeCasts_S256_S256x1

/-- A column along every row. -/
def along (x : FVec F S256x1 .f32) : FVec F S256x256 .f32 := broadcastTo S256x256 x broadcasts_S256x1_S256x256

/-- The product with a triangle of ones, in two halves: the rounded value and what rounding left. -/
def sumsBy (tri : FVec F S256x256 .bf16) (x : FVec F S256x256 .f32) : FVec F S256x256 .f32 :=
  let y := matmul dot_S512x256_S256x256_S512x256_1_0_0_1_n_n none
    (concatenate S512x256 0
      [⟨S256x256, truncf .bf16 x bitsLt_bf16_f32⟩,
       ⟨S256x256, truncf .bf16 (subf x (extf .f32 (truncf .bf16 x bitsLt_bf16_f32) bitsLt_bf16_f32)) bitsLt_bf16_f32⟩]
      concatenates_S256x256_S256x256_S512x256_d0) tri (constant S512x256 .f32 0x00000000#32)
  addf (extractStridedSlice S256x256 ![0, 0] y slices_S512x256_o0_0_S256x256)
    (extractStridedSlice S256x256 ![256, 0] y slices_S512x256_o256_0_S256x256)

/-- The attention weights of a tile from its scores, its log-misses and the log-misses to its right. -/
def weights (tri : FVec F S256x256 .bf16) (z l : FVec F S256x256 .f32) (rem : FVec F S256x1 .f32) : FVec F S256x256 .f32 :=
  exp (addf (addf l z) (addf (sumsBy tri l) (along rem)))

/-- The gradient of a tile's scores, from what the tile's weights take and what lies to its left. -/
def scoreGrad (pre : FVec F S256x256 .bf16) (z l g : FVec F S256x256 .f32) (gpre : FVec F S256x1 .f32) : FVec F S256x256 .f32 :=
  subf (mulf g (exp l)) (mulf (addf (sumsBy pre g) (along gpre)) (exp (addf l z)))

/-- The strict lower triangle kept, zero elsewhere. -/
def lower (x : FVec F S256x256 .f32) : FVec F S256x256 .f32 := select (k0_pay61) x zeros

/-- What one block of queries carries from tile to tile: the log-misses still to the right, the sum of what the
    weights to the left took, and the gradient of the queries. -/
abbrev Carry (F : FTy → Type) [FloatOps F] := FVec F S256x1 .f32 × FVec F S256x1 .f32 × FVec F S256x128 .f32

/-- One block's queries and the gradient of its outputs. -/
abbrev Block (F : FTy → Type) [FloatOps F] := FVec F S256x128 .bf16 × FVec F S256x128 .bf16

/-- The log-misses of a tile; `m` keeps the visible entries. -/
def tileMiss (m : FVec F S256x256 .f32 → FVec F S256x256 .f32) (b : Block F) (k : FVec F S256x128 .bf16) : FVec F S256x256 .f32 :=
  m (logMiss (scores b.1 k))

/-- The weights of a tile. -/
def tileWeights (m : FVec F S256x256 .f32 → FVec F S256x256 .f32) (b : Block F) (k : FVec F S256x128 .bf16) (s : Carry F) :
    FVec F S256x256 .f32 :=
  m (weights k0_pay59 (scores b.1 k) (tileMiss m b k) (subf s.1 (rowSum (tileMiss m b k))))

/-- What the tile's weights take of the gradient of the outputs. -/
def tileTake (m : FVec F S256x256 .f32 → FVec F S256x256 .f32) (b : Block F) (k v : FVec F S256x128 .bf16) (s : Carry F) :
    FVec F S256x256 .f32 :=
  mulf (rowsDot b.2 v) (tileWeights m b k s)

/-- The gradient of the products `q·k` of a tile, rounded. -/
def tileGrad (m : FVec F S256x256 .f32 → FVec F S256x256 .f32) (b : Block F) (k v : FVec F S256x128 .bf16) (s : Carry F) :
    FVec F S256x256 .bf16 :=
  truncf .bf16 (mulf (m (scoreGrad k0_pay60 (scores b.1 k) (tileMiss m b k) (tileTake m b k v s) s.2.1)) scales) bitsLt_bf16_f32

/-- The carry after a tile. -/
def tileNext (m : FVec F S256x256 .f32 → FVec F S256x256 .f32) (b : Block F) (k v : FVec F S256x128 .bf16) (s : Carry F) : Carry F :=
  (subf s.1 (rowSum (tileMiss m b k)),
   addf s.2.1 (rowSum (tileTake m b k v s)),
   addf s.2.2 (matmul dot_S256x256_S256x128_S256x128_1_0_0_1_n_n none (tileGrad m b k v s) k (constant S256x128 .f32 0x00000000#32)))

/-- What 512 queries' gradients add to a tile of the keys' (or, of weights, to the values'). -/
def addRows (x y : FVec F S256x256 .bf16) (q : FVec F S512x128 .bf16) (old : FVec F S256x128 .f32) : FVec F S256x128 .f32 :=
  addf old (matmul dot_S512x256_S512x128_S256x128_0_0_1_1_n_n none
    (concatenate S512x256 0 [⟨S256x256, x⟩, ⟨S256x256, y⟩] concatenates_S256x256_S256x256_S512x256_d0) q
    (constant S256x128 .f32 0x00000000#32))

/-- What one block of 256 queries adds. -/
def addBlock (x : FVec F S256x256 .bf16) (q : FVec F S256x128 .bf16) (old : FVec F S256x128 .f32) : FVec F S256x128 .f32 :=
  addf old (matmul dot_S256x256_S256x128_S256x128_0_0_1_1_n_n none x q (constant S256x128 .f32 0x00000000#32))

/-! ## Tiles of an array -/

/-- Row tile `j` of a 4096×128 array lies inside it. -/
theorem tile_inb (j : ℕ) (hj : j < 16) : ∀ a : Fin 2, (![j * 256, 0] : Fin 2 → ℕ) a + S256x128.size a ≤ S4096x128.size a := by
  intro a
  match a with
  | 0 => show j * 256 + 256 ≤ 4096; omega
  | 1 => show 0 + 128 ≤ 128; omega

/-- The tile of a tile number below 16. -/
def tileRect (j : Fin 16) : Rect S4096x128 := Rect.unit (s := S4096x128) ![j.val * 256, 0] S256x128.size (tile_inb j.val j.isLt)

/-- What tile `j` of an array holds. -/
def tileOf {α : Type} (X : S4096x128.Idx → α) (j : Fin 16) : S256x128.Idx → α := fun x => X ((tileRect j).emb x)

/-- The array with tile `j` replaced. -/
def setTile {α : Type} (X : S4096x128.Idx → α) (j : Fin 16) (Y : S256x128.Idx → α) : S4096x128.Idx → α :=
  (tileRect j).overlay X Y

/-! ## One grid point -/

/-- What a grid point reads: its 512 queries, its head's keys and values, the gate, the outputs and the outputs' gradient. -/
structure Reads (F : FTy → Type) [FloatOps F] where
  /-- the queries -/
  q : FVec F S512x128 .bf16
  /-- the keys -/
  k : FVec F S4096x128 .bf16
  /-- the values -/
  v : FVec F S4096x128 .bf16
  /-- the gate -/
  g : FVec F S512x128 .f32
  /-- the attention's outputs -/
  o : FVec F S512x128 .f32
  /-- the gradient of the gated outputs -/
  dm : FVec F S512x128 .f32

namespace Reads

variable (R : Reads F)

/-- The gradient of the outputs. -/
def dout : FVec F S512x128 .bf16 := k0_pay58 R.g R.dm

/-- The first 256 queries -/
def blockA : Block F := (k0_pay62 R.q, k0_pay64 R.dout)
/-- and the last. -/
def blockB : Block F := (k0_pay63 R.q, k0_pay65 R.dout)

/-- The log-misses of the first block on its own tile, summed, -/
def massA (d : Fin 16) : FVec F S256x1 .f32 := rowSum (tileMiss lower R.blockA (tileOf R.k d))
/-- and of the second on the two tiles the first block's and its own queries own. -/
def massB (d e : Fin 16) : FVec F S256x1 .f32 :=
  addf (rowSum (tileMiss lower R.blockB (tileOf R.k e))) (rowSum (tileMiss id R.blockB (tileOf R.k d)))

end Reads

/-- The largest entry of two columns. -/
def most (x y : FVec F S256x1 .f32) : F .f32 :=
  extractAt ![0, 0, 0] (shapeCast S1x1x1 (multiReduction .maximumf [1, 2] S1
    (shapeCast S1x256x1 (maximumf x y) shapeCasts_S256x1_S1x256x1) 0xFF800000#32 reduces_S1x256x1_S1 (.inl rfl) rfl)
    shapeCasts_S1_S1x1x1) inpos_S1x1x1_p0_0_0

/-- Whether some row is still above the bound at which the walk stops. -/
def alive (x y : FVec F S256x1 .f32) : BitVec 32 :=
  Scalar.extui (Scalar.cmpf .ogt (most x y) (Scalar.ofBits .f32 0xC2DC0000#32))

/-- What the walk carries: the word saying some row is alive and the two blocks' log-misses so far. -/
abbrev Walk (F : FTy → Type) [FloatOps F] := BitVec 32 × FVec F S256x1 .f32 × FVec F S256x1 .f32

/-- One step of the walk, over tile `j`. -/
def Reads.step (R : Reads F) (j : Fin 16) (s : Walk F) : Walk F :=
  let ra := addf s.2.1 (rowSum (tileMiss id R.blockA (tileOf R.k j)))
  let rb := addf s.2.2 (rowSum (tileMiss id R.blockB (tileOf R.k j)))
  (alive ra rb, ra, rb)

/-- The walk leftwards over at most `j` tiles, from tile `j - 1` down: how many it visits and what it carries. -/
def Reads.walk (R : Reads F) : (j : ℕ) → j ≤ 16 → Walk F → ℕ × Walk F
  | 0, _, s => (0, s)
  | j + 1, hj, s =>
    if Scalar.cmpi .sgt s.1 0#32 = 1#1 then
      let r := R.walk j (by omega) (R.step ⟨j, by omega⟩ s)
      (r.1 + 1, r.2)
    else (0, s)

theorem Reads.walk_le (R : Reads F) : ∀ (j : ℕ) (hj : j ≤ 16) (s : Walk F), (R.walk j hj s).1 ≤ j
  | 0, _, _ => le_refl _
  | j + 1, hj, s => by
    unfold Reads.walk
    split
    · exact Nat.succ_le_succ (R.walk_le j _ _)
    · exact Nat.zero_le _

/-- What the pass over the tiles carries: both blocks' carries and the keys' and values' gradients so far. -/
structure Pass (F : FTy → Type) [FloatOps F] where
  /-- the first block's carry -/
  a : Carry F
  /-- the second block's -/
  b : Carry F
  /-- the gradient of the keys -/
  dk : FVec F S4096x128 .f32
  /-- the gradient of the values -/
  dv : FVec F S4096x128 .f32

/-- One tile that both blocks see whole (`m` for the first block's part: the whole tile, or its lower triangle). -/
def Reads.tile (R : Reads F) (m : FVec F S256x256 .f32 → FVec F S256x256 .f32) (j : Fin 16) (s : Pass F) : Pass F :=
  let k := tileOf R.k j
  let v := tileOf R.v j
  { a := tileNext m R.blockA k v s.a
    b := tileNext id R.blockB k v s.b
    dk := setTile s.dk j (addRows (tileGrad m R.blockA k v s.a) (tileGrad id R.blockB k v s.b) R.q (tileOf s.dk j))
    dv := setTile s.dv j (addRows (truncf .bf16 (tileWeights m R.blockA k s.a) bitsLt_bf16_f32)
      (truncf .bf16 (tileWeights id R.blockB k s.b) bitsLt_bf16_f32) R.dout (tileOf s.dv j)) }

/-- The tile only the second block sees. -/
def Reads.tail (R : Reads F) (j : Fin 16) (s : Pass F) : Pass F :=
  let k := tileOf R.k j
  let v := tileOf R.v j
  { a := s.a
    b := tileNext lower R.blockB k v s.b
    dk := setTile s.dk j (addBlock (tileGrad lower R.blockB k v s.b) R.blockB.1 (tileOf s.dk j))
    dv := setTile s.dv j (addBlock (truncf .bf16 (tileWeights lower R.blockB k s.b) bitsLt_bf16_f32) R.blockB.2 (tileOf s.dv j)) }

/-- The pass over `n` whole tiles from tile `j`. -/
def Reads.tiles (R : Reads F) (j : ℕ) : (n : ℕ) → j + n ≤ 16 → Pass F → Pass F
  | 0, _, s => s
  | n + 1, h, s => R.tile id ⟨j + n, by omega⟩ (R.tiles j n (by omega) s)

/-- The walk of grid point `i`: the tiles left of its own two. -/
def Reads.walked (R : Reads F) (i : Fin 8) : ℕ × Walk F :=
  let ra := R.massA ⟨2 * i.val, by omega⟩
  let rb := R.massB ⟨2 * i.val, by omega⟩ ⟨2 * i.val + 1, by omega⟩
  R.walk (2 * i.val) (by omega) (alive ra rb, ra, rb)

theorem Reads.walked_le (R : Reads F) (i : Fin 8) : (R.walked i).1 ≤ 2 * i.val := R.walk_le _ _ _

/-- What the pass starts from. -/
def Reads.start (R : Reads F) (i : Fin 8) (dk dv : FVec F S4096x128 .f32) : Pass F :=
  { a := ((R.walked i).2.2.1, k0_pay72, k0_pay73), b := ((R.walked i).2.2.2, k0_pay72, k0_pay73), dk := dk, dv := dv }

/-- The pass of grid point `i` from the keys' and values' gradients of the head's earlier points. -/
def Reads.pass (R : Reads F) (i : Fin 8) (dk dv : FVec F S4096x128 .f32) : Pass F :=
  R.tail ⟨2 * i.val + 1, by omega⟩ (R.tile lower ⟨2 * i.val, by omega⟩
    (R.tiles (2 * i.val - (R.walked i).1) (R.walked i).1 (by have := R.walked_le i; omega) (R.start i dk dv)))

/-- The queries' gradient a grid point writes, -/
def Reads.dq (R : Reads F) (i : Fin 8) : FVec F S512x128 .bf16 :=
  k0_pay3 (R.pass i k0_pay54 k0_pay55).a.2.2 (R.pass i k0_pay54 k0_pay55).b.2.2

/-- and the gate's. -/
def Reads.dg (R : Reads F) : FVec F S512x128 .bf16 := k0_pay57 R.g R.o R.dm

/-- The carries do not depend on the gradients carried beside them. -/
theorem Reads.tiles_indep (R : Reads F) (j n : ℕ) (h : j + n ≤ 16) (s s' : Pass F) (ha : s.a = s'.a) (hb : s.b = s'.b) :
    (R.tiles j n h s).a = (R.tiles j n h s').a ∧ (R.tiles j n h s).b = (R.tiles j n h s').b := by
  induction n with
  | zero => exact ⟨ha, hb⟩
  | succ n ih =>
    obtain ⟨h1, h2⟩ := ih (by omega)
    exact ⟨by simp only [Reads.tiles, Reads.tile, h1], by simp only [Reads.tiles, Reads.tile, h2]⟩

theorem Reads.pass_indep (R : Reads F) (i : Fin 8) (dk dv dk' dv' : FVec F S4096x128 .f32) :
    (R.pass i dk dv).a = (R.pass i dk' dv').a ∧ (R.pass i dk dv).b = (R.pass i dk' dv').b := by
  obtain ⟨h1, h2⟩ := R.tiles_indep (2 * i.val - (R.walked i).1) (R.walked i).1 (by have := R.walked_le i; omega)
    (R.start i dk dv) (R.start i dk' dv') rfl rfl
  exact ⟨by simp only [Reads.pass, Reads.tail, Reads.tile, h1], by simp only [Reads.pass, Reads.tail, Reads.tile, h2]⟩

end Cert.Proof.SB

end
-- ==== Proof.SB.Rules.lean ====
/-
  Loads and stores of a memref owned whole, by what it reads: a load of a tile reads the tile, a store replaces it.
  With the arithmetic of the program's tile numbers.
-/
module

public import proofs.«01_k».proof.Proof.SB.Tile
public import Idealize.ShloMosaic.Lib.Pipeline.Sound
public import Idealize.ShloMosaic.Lib.Memref

@[expose] public section

noncomputable section

namespace Cert.Proof.SB

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: the rounds library's over the machine's cells, duties named by `Unit`. -/
abbrev UR (nD : Nat) (τ : Topo) : Type := URounds (GSem nD τ sig) Unit

/-- The resources the proof is stated over. -/
abbrev Res (F : FTy → Type) [FloatOps F] := MT nD τ sig Unit (Elt F) ℕ (UR nD τ) ℕ

section Mem

variable (𝒱 : Variants) (c : Dev nD) (bd : Option 𝒱.V) (E : Set ℕ)
variable {α : Type} {s : Shape} {e : EltTy} {Q : α → sProp (Res F)}

/-- A load from a memref owned whole. -/
theorem wp_load_owns {m : Memref sig .tc .vmem s e} {r : LoadRect s} {hl : m.view.LoadsAt r}
    {k : (r.shape.Idx → Elt F e) → Prog (TpuEff nD τ sig (Elt F) (Λ₀ F) .tc) α} {q : PosShare TreeShare} {X : s.Idx → Elt F e} :
    (owns (c : Thread nD τ) m q X : sProp (Res F))
      ⊢ iprop((owns (c : Thread nD τ) m q X -∗ wp frame (wpE (defs₀ (F := F)) 𝒱 (c : Thread nD τ) bd) E (k (fun x => X (r.idx x))) Q)
        -∗ wp frame (wpE (defs₀ (F := F)) 𝒱 (c : Thread nD τ) bd) E (.op (.load m r hl) k) Q) := by
  unfold owns
  iintro ⟨%f, %hf, H⟩ HK
  iapply (wp_load 𝒱 (c : Thread nD τ) bd E (m := m) (r := r) (hl := hl) (k := k) (S := m.view.set) (q := q) (f := f)
    (Finset.map_subset_map.mpr (Finset.subset_univ _))) $$ H
  iintro H
  have hv : m.view.readAt (Elt F) r f = fun x => X (r.idx x) := by rw [← hf]; rfl
  rw [hv]
  iapply HK
  iexists f
  isplitr
  · ipureintro; exact hf
  · iexact H

/-- A store to a memref owned whole. -/
theorem wp_store_owns {m : Memref sig .tc .vmem s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) (Λ₀ F) .tc) α} {X : s.Idx → Elt F e} :
    (owns (c : Thread nD τ) m fullShare X : sProp (Res F))
      ⊢ iprop((owns (c : Thread nD τ) m fullShare (r.overlay X w) -∗ wp frame (wpE (defs₀ (F := F)) 𝒱 (c : Thread nD τ) bd) E (k ⟨⟩) Q)
        -∗ wp frame (wpE (defs₀ (F := F)) 𝒱 (c : Thread nD τ) bd) E (.op (.store m r w Finset.univ hx hm) k) Q) := by
  unfold owns
  iintro ⟨%f, %hf, H⟩ HK
  iapply (wp_store 𝒱 (c : Thread nD τ) bd E (m := m) (r := r) (w := w) (Mk := Finset.univ) (hx := hx) (hm := hm) (k := k)
    (S := m.view.set) (f := f) (by
      show (m.view.slice r).set ⊆ _
      rw [View.set_slice]; exact Finset.map_subset_map.mpr (Finset.subset_univ _))) $$ H
  iintro H
  iapply HK
  iexists _
  isplitr
  · ipureintro
    show m.view.read (Elt F) ((m.view.slice r).write (Elt F) f w Finset.univ) = _
    funext j
    by_cases hj : j ∈ r.set
    · obtain ⟨i, rfl⟩ := r.exists_idx_of_mem hj
      show m.view.read (Elt F) _ (r.emb i) = r.overlay X w (r.emb i)
      rw [Rect.overlay_emb, View.read_slice_write_emb _ _ _ (Finset.mem_univ i)]
    · rw [Rect.overlay_of_not_mem _ _ _ hj, View.read_slice_write_of_not_mem _ _ _ _ (by rw [Rect.map_emb_univ]; exact hj), hf]
  · iexact H

end Mem

/-! ## What a load reads and a store leaves -/

/-- The tile read at offsets that are tile `j`'s. -/
theorem read_tile {α : Type} (X : S4096x128.Idx → α) (j : Fin 16) {off : Fin 2 → ℕ}
    (inb : ∀ a, off a + S256x128.size a ≤ S4096x128.size a) (h : off = ![j.val * 256, 0]) :
    (fun x => X ((Rect.unit (s := S4096x128) off S256x128.size inb).toLoadRect.idx x)) = tileOf X j := by
  subst h; rfl

/-- The tile replaced at such offsets. -/
theorem write_tile {α : Type} (X : S4096x128.Idx → α) (j : Fin 16) {off : Fin 2 → ℕ}
    (inb : ∀ a, off a + S256x128.size a ≤ S4096x128.size a) (h : off = ![j.val * 256, 0]) (Y : S256x128.Idx → α) :
    (Rect.unit (s := S4096x128) off S256x128.size inb).overlay X Y = setTile X j Y := by
  subst h; rfl

/-- Reading a whole 512×128 array, -/
theorem read_whole512 {α : Type} (X : S512x128.Idx → α) (inb : ∀ a, (![0, 0] : Fin 2 → ℕ) a + S512x128.size a ≤ S512x128.size a) :
    (fun x => X ((Rect.unit (s := S512x128) ![0, 0] S512x128.size inb).toLoadRect.idx x)) = X := by
  funext x; congr 1; funext a
  apply Fin.ext
  match a with
  | 0 => show 0 + 1 * (x 0).val = (x 0).val; omega
  | 1 => show 0 + 1 * (x 1).val = (x 1).val; omega

/-- and a whole 4096×128 array; -/
theorem read_whole4096 {α : Type} (X : S4096x128.Idx → α) (inb : ∀ a, (![0, 0] : Fin 2 → ℕ) a + S4096x128.size a ≤ S4096x128.size a) :
    (fun x => X ((Rect.unit (s := S4096x128) ![0, 0] S4096x128.size inb).toLoadRect.idx x)) = X := by
  funext x; congr 1; funext a
  apply Fin.ext
  match a with
  | 0 => show 0 + 1 * (x 0).val = (x 0).val; omega
  | 1 => show 0 + 1 * (x 1).val = (x 1).val; omega

/-- replacing the whole of one. -/
theorem write_whole512 {α : Type} (X Y : S512x128.Idx → α) (inb : ∀ a, (![0, 0] : Fin 2 → ℕ) a + S512x128.size a ≤ S512x128.size a) :
    (Rect.unit (s := S512x128) ![0, 0] S512x128.size inb).overlay X Y = Y := by
  funext x
  have hx : (Rect.unit (s := S512x128) ![0, 0] S512x128.size inb).emb x = x := by
    funext a; apply Fin.ext
    match a with
    | 0 => show 0 + 1 * (x 0).val = (x 0).val; omega
    | 1 => show 0 + 1 * (x 1).val = (x 1).val; omega
  have := Rect.overlay_emb (Rect.unit (s := S512x128) ![0, 0] S512x128.size inb) X Y x
  rwa [hx] at this

theorem write_whole4096 {α : Type} (X Y : S4096x128.Idx → α) (inb : ∀ a, (![0, 0] : Fin 2 → ℕ) a + S4096x128.size a ≤ S4096x128.size a) :
    (Rect.unit (s := S4096x128) ![0, 0] S4096x128.size inb).overlay X Y = Y := by
  funext x
  have hx : (Rect.unit (s := S4096x128) ![0, 0] S4096x128.size inb).emb x = x := by
    funext a; apply Fin.ext
    match a with
    | 0 => show 0 + 1 * (x 0).val = (x 0).val; omega
    | 1 => show 0 + 1 * (x 1).val = (x 1).val; omega
  have := Rect.overlay_emb (Rect.unit (s := S4096x128) ![0, 0] S4096x128.size inb) X Y x
  rwa [hx] at this

/-! ## The program's tile numbers -/

/-- The number of a grid point within its head. -/
def pt (i : grid0.Coords) : Fin 8 := ⟨(i 1).val, (i 1).isLt⟩

/-- The two tiles a grid point owns. -/
def tileA (n : Fin 8) : Fin 16 := ⟨2 * n.val, by omega⟩
def tileB (n : Fin 8) : Fin 16 := ⟨2 * n.val + 1, by omega⟩

theorem off1_eq (i : grid0.Coords) : k0_off1 i = ![(tileB (pt i)).val * 256, 0] := by
  have h : ∀ n : Fin 8, (![(Scalar.indexCast (Scalar.muli (Scalar.addi (Scalar.muli 2#32 (BitVec.ofNat 32 n.val)) 1#32) 256#32) : Index).toNat, 0] : Fin 2 → ℕ)
      = ![(tileB n).val * 256, 0] := by decide
  exact h (pt i)

theorem off2_eq (i : grid0.Coords) : k0_off2 i = ![(tileA (pt i)).val * 256, 0] := by
  have h : ∀ n : Fin 8, (![(Scalar.indexCast (Scalar.muli (Scalar.muli 2#32 (BitVec.ofNat 32 n.val)) 256#32) : Index).toNat, 0] : Fin 2 → ℕ)
      = ![(tileA n).val * 256, 0] := by decide
  exact h (pt i)

theorem off6_eq (i : grid0.Coords) : k0_off6 i = ![(tileA (pt i)).val * 256, 0] := off2_eq i

theorem off7_eq (i : grid0.Coords) : k0_off7 i = ![(tileB (pt i)).val * 256, 0] := off1_eq i

/-- The tile the walk's step `n` looks at. -/
theorem off3_eq (i : grid0.Coords) (n : ℕ) (h : n < 2 * (pt i).val) :
    k0_off3 i (BitVec.ofNat 32 n) = ![(2 * (pt i).val - n - 1) * 256, 0] := by
  have h' : ∀ p : Fin 8, ∀ n < 2 * p.val, (![(Scalar.indexCast (Scalar.muli (Scalar.subi (Scalar.subi (Scalar.muli 2#32 (BitVec.ofNat 32 p.val)) 1#32)
      (Scalar.addi (Scalar.muli 1#32 (BitVec.ofNat 32 n)) 0#32)) 256#32) : Index).toNat, 0] : Fin 2 → ℕ)
      = ![(2 * p.val - n - 1) * 256, 0] := by decide
  exact h' (pt i) n h

theorem chk1_of (i : grid0.Coords) (n : ℕ) (h : n < 2 * (pt i).val) : k0_chk1 i (BitVec.ofNat 32 n) := by
  have h' : ∀ p : Fin 8, ∀ n < 2 * p.val, 256 ∣ (Scalar.muli (Scalar.subi (Scalar.subi (Scalar.muli 2#32 (BitVec.ofNat 32 p.val)) 1#32)
      (Scalar.addi (Scalar.muli 1#32 (BitVec.ofNat 32 n)) 0#32)) 256#32).toNat := by decide
  have hp := (pt i).isLt
  refine ⟨h' (pt i) n h, ?_, h' (pt i) n h⟩
  rw [off3_eq i n h]
  exact tile_inb (2 * (pt i).val - n - 1) (by omega)

/-- The loop over the tiles the walk visited: its bounds, -/
theorem t1_lb (i : grid0.Coords) (n : ℕ) (h : n ≤ 2 * (pt i).val) :
    (k0_t1_loop i (BitVec.ofNat 32 n)).lb = BitVec.ofNat 32 (2 * (pt i).val - n) := by
  have h' : ∀ p : Fin 8, ∀ n ≤ 2 * p.val, Scalar.subi (Scalar.muli 2#32 (BitVec.ofNat 32 p.val)) (BitVec.ofNat 32 n)
      = BitVec.ofNat 32 (2 * p.val - n) := by decide
  exact h' (pt i) n h

theorem t1_trips (i : grid0.Coords) (n : ℕ) (h : n ≤ 2 * (pt i).val) : (k0_t1_loop i (BitVec.ofNat 32 n)).trips = n := by
  have h' : ∀ p : Fin 8, ∀ n ≤ 2 * p.val, Scf.trips (Scalar.subi (Scalar.muli 2#32 (BitVec.ofNat 32 p.val)) (BitVec.ofNat 32 n))
      (Scalar.addi (Scalar.subi (Scalar.muli 2#32 (BitVec.ofNat 32 p.val)) (BitVec.ofNat 32 n))
        (Scalar.muli (Scalar.divsi (Scalar.subi (Scalar.muli 2#32 (BitVec.ofNat 32 p.val))
          (Scalar.subi (Scalar.muli 2#32 (BitVec.ofNat 32 p.val)) (BitVec.ofNat 32 n))) 1#32) 1#32)) 1#32 = n := by decide
  exact h' (pt i) n h

theorem t2_trips (i : grid0.Coords) (n : ℕ) (h : n ≤ 2 * (pt i).val) : (k0_t2_loop i (BitVec.ofNat 32 n)).trips = 0 := by
  revert n h
  generalize hp : pt i = p
  have hi : (i 1).val = p.val := by rw [← hp]; rfl
  simp only [k0_t2_loop, Scf.Loop.trips, hi]
  clear hi; clear hp; clear i; revert p; decide

theorem off4_eq (i : grid0.Coords) (n : ℕ) (h : n ≤ 2 * (pt i).val) (t : Fin (k0_t1_loop i (BitVec.ofNat 32 n)).trips) :
    k0_off4 i (BitVec.ofNat 32 n) t = ![(2 * (pt i).val - n + t.val) * 256, 0] := by
  have ht : t.val < n := lt_of_lt_of_eq t.isLt (t1_trips i n h)
  have h' : ∀ p : Fin 8, ∀ n ≤ 2 * p.val, ∀ t < n, (![(Scalar.indexCast (Scalar.muli (Scalar.addi (Scalar.muli 1#32
      (Scf.iv (Scalar.subi (Scalar.muli 2#32 (BitVec.ofNat 32 p.val)) (BitVec.ofNat 32 n)) 1#32 t)) 0#32) 256#32) : Index).toNat, 0] : Fin 2 → ℕ)
      = ![(2 * p.val - n + t) * 256, 0] := by decide
  exact h' (pt i) n h t.val ht

theorem chk2_of (i : grid0.Coords) (n : ℕ) (h : n ≤ 2 * (pt i).val) : k0_chk2 i (BitVec.ofNat 32 n) := by
  have h2 := t2_trips i n h
  refine ⟨?_, fun t => ?_, fun t => ?_, ?_, fun t => absurd t.isLt (by omega), fun t => absurd t.isLt (by omega)⟩
  · clear h2; revert n h
    generalize hp : pt i = p
    have hi : (i 1).val = p.val := by rw [← hp]; rfl
    simp only [k0_t1_loop, Scf.Loop.OK, Scf.OK, hi]
    clear hi; clear hp; clear i; revert p; decide
  · have ht : t.val < n := lt_of_lt_of_eq t.isLt (t1_trips i n h)
    have h' : ∀ p : Fin 8, ∀ n ≤ 2 * p.val, ∀ t < n, 256 ∣ (Scalar.muli (Scalar.addi (Scalar.muli 1#32
      (Scf.iv (Scalar.subi (Scalar.muli 2#32 (BitVec.ofNat 32 p.val)) (BitVec.ofNat 32 n)) 1#32 t)) 0#32) 256#32).toNat := by decide
    exact h' (pt i) n h t.val ht
  · have ht : t.val < n := lt_of_lt_of_eq t.isLt (t1_trips i n h)
    rw [off4_eq i n h t]
    exact tile_inb (2 * (pt i).val - n + t.val) (by have := (pt i).isLt; omega)
  · clear h2; revert n h
    generalize hp : pt i = p
    have hi : (i 1).val = p.val := by rw [← hp]; rfl
    simp only [k0_t2_loop, Scf.Loop.OK, Scf.OK, hi]
    clear hi; clear hp; clear i; revert p; decide

end Cert.Proof.SB

end
-- ==== Proof.SB.Walk.lean ====
/-
  The walk: the label of the kernel's while loop returns what `Reads.walk` says, by induction on the tiles left.
-/
module

public import proofs.«01_k».proof.Proof.SB.Rules

@[expose] public section

noncomputable section

namespace Cert.Proof.SB

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The variant of the while loop: the tiles left to walk. -/
abbrev 𝒱₀ : Variants := Variants.nat

section

variable (c : Dev nD) (i : grid0.Coords) (R : Reads F)
  (arg3 : Memref sig .tc .vmem S4096x128 .bf16) (harg3 : arg3.IsWhole)
  (arg4 : Memref sig .tc .vmem S4096x128 .bf16) (harg4 : arg4.IsWhole)

/-- The keys and the values, owned. -/
def heldKV : sProp (Res F) :=
  iprop(owns (c : Thread nD τ) arg3 fullShare R.k ∗ owns (c : Thread nD τ) arg4 fullShare R.v)

/-- What the label returns from `n` tiles walked and `j` left. -/
def walkOut (n j : ℕ) (hj : j ≤ 16) (s : Walk F) : BitVec 32 × BitVec 32 × FVec F S256x1 .f32 × FVec F S256x1 .f32 :=
  (BitVec.ofNat 32 (n + (R.walk j hj s).1), (R.walk j hj s).2.1, (R.walk j hj s).2.2.1, (R.walk j hj s).2.2.2)

/-- The label's specification: the keys and the values are held before and after, and the result is the walk's. -/
def walkSpec (n j : ℕ) (hj : j ≤ 16) (s : Walk F) : sWPT (Res F) (BitVec 32 × BitVec 32 × FVec F S256x1 .f32 × FVec F S256x1 .f32) := do
  sWPT.consume (heldKV c R arg3 arg4)
  sWPT.produce (heldKV c R arg3 arg4)
  pure (walkOut R n j hj s)

theorem walkSpec_apply (n j : ℕ) (hj : j ≤ 16) (s : Walk F) (K : BitVec 32 × BitVec 32 × FVec F S256x1 .f32 × FVec F S256x1 .f32 → sProp (Res F)) :
    walkSpec c R arg3 arg4 n j hj s K
      = iprop(heldKV c R arg3 arg4 ∗ (heldKV c R arg3 arg4 -∗ K (walkOut R n j hj s))) := rfl

/-- The loop's test on the counter. -/
theorem slt_count (n : ℕ) (h : n < 2 * (pt i).val) :
    Scalar.cmpi .slt (BitVec.ofNat 32 n) (Scalar.muli 2#32 (BitVec.ofNat 32 (i 1).val)) = 1#1 := by
  have h' : ∀ p : Fin 8, ∀ n < 2 * p.val, Scalar.cmpi .slt (BitVec.ofNat 32 n) (Scalar.muli 2#32 (BitVec.ofNat 32 p.val)) = 1#1 := by decide
  exact h' (pt i) n h

theorem slt_end : ¬ Scalar.cmpi .slt (BitVec.ofNat 32 (2 * (pt i).val)) (Scalar.muli 2#32 (BitVec.ofNat 32 (i 1).val)) = 1#1 := by
  have h' : ∀ p : Fin 8, ¬ Scalar.cmpi .slt (BitVec.ofNat 32 (2 * p.val)) (Scalar.muli 2#32 (BitVec.ofNat 32 p.val)) = 1#1 := by decide
  exact h' (pt i)

theorem andi_false_left (x y : BitVec 1) (h : ¬ x = 1#1) : ¬ Scalar.andi x y = 1#1 := by revert x y; decide
theorem andi_false_right (x y : BitVec 1) (h : ¬ y = 1#1) : ¬ Scalar.andi x y = 1#1 := by revert x y; decide
theorem andi_true (x y : BitVec 1) (hx : x = 1#1) (hy : y = 1#1) : Scalar.andi x y = 1#1 := by subst hx hy; decide

theorem addi_one : ∀ n < 16, Scalar.addi (BitVec.ofNat 32 n) 1#32 = BitVec.ofNat 32 (n + 1) := by decide

/-- One step's payloads are `Reads.step`'s parts. -/
theorem step_ra (k : FVec F S256x128 .bf16) (x : FVec F S256x1 .f32) :
    k0_pay106 (k0_pay62 R.q) x k = addf x (rowSum (tileMiss id R.blockA k)) := rfl
theorem step_rb (k : FVec F S256x128 .bf16) (x : FVec F S256x1 .f32) :
    k0_pay6 x (k0_pay107 (k0_pay63 R.q) k) k0_pay108 = addf x (rowSum (tileMiss id R.blockB k)) := rfl
theorem step_most (y x : FVec F S256x1 .f32) (z w : FVec F S256x256 .f32) : k0_pay7 x y z w = most y (k0_pay6 x z w) := rfl

theorem walk_le_wp (E : Set ℕ) :
    ∀ (j n : ℕ) (hj : j ≤ 16), n + j = 2 * (pt i).val → ∀ (s : Walk F) K, walkSpec c R arg3 arg4 n j hj s K
      ⊢ wp frame (wpE (defs₀ (F := F)) 𝒱₀ (c : Thread nD τ) (some j)) E
          (defs₀ (F := F) .tc 1 ⟨i, arg3, harg3, arg4, harg4, k0_pay62 R.q, k0_pay63 R.q, BitVec.ofNat 32 n, s.1, s.2.1, s.2.2⟩) K := by
  intro j
  induction j with
  | zero =>
    intro n hj hn s K
    rw [walkSpec_apply]
    show _ ⊢ wp frame (wpE (defs₀ (F := F)) 𝒱₀ (c : Thread nD τ) (some 0)) E
      (cc0_while1 i arg3 harg3 arg4 harg4 (k0_pay62 R.q) (k0_pay63 R.q) (BitVec.ofNat 32 n) s.1 s.2.1 s.2.2) K
    rw [cc0_while1_eq_skeleton]; unfold cc0_while1_skel
    have hn' : n = 2 * (pt i).val := by omega
    have htest : ¬ Scalar.andi (Scalar.cmpi .slt (BitVec.ofNat 32 n) (Scalar.muli 2#32 (BitVec.ofNat 32 (i 1).val))) (Scalar.cmpi .sgt s.1 0#32) = 1#1 := by
      rw [hn']; exact andi_false_left _ _ (slt_end i)
    have hout : walkOut R n 0 hj s = (BitVec.ofNat 32 n, s.1, s.2.1, s.2.2) := by
      unfold walkOut Reads.walk
      simp only [Nat.add_zero]
    rw [hout]
    simp only [htest, ↓reduceIte, Prog.pure_eq_ret]
    iintro ⟨H, Hk⟩
    rw [wp_ret]; imodintro
    iapply Hk; iexact H
  | succ j ih =>
    intro n hj hn s K
    have hnp : n < 2 * (pt i).val := by omega
    have hp := (pt i).isLt
    rw [walkSpec_apply]
    show _ ⊢ wp frame (wpE (defs₀ (F := F)) 𝒱₀ (c : Thread nD τ) (some (j + 1))) E
      (cc0_while1 i arg3 harg3 arg4 harg4 (k0_pay62 R.q) (k0_pay63 R.q) (BitVec.ofNat 32 n) s.1 s.2.1 s.2.2) K
    rw [cc0_while1_eq_skeleton]; unfold cc0_while1_skel
    by_cases hs : Scalar.cmpi .sgt s.1 0#32 = 1#1
    · have htest := andi_true _ _ (slt_count i n hnp) hs
      have hout : walkOut R n (j + 1) hj s = walkOut R (n + 1) j (by omega) (R.step ⟨j, by omega⟩ s) := by
        unfold walkOut
        conv_lhs => unfold Reads.walk
        simp only [hs, ↓reduceIte]
        rw [show n + ((R.walk j (by omega) (R.step ⟨j, by omega⟩ s)).1 + 1) = n + 1 + (R.walk j (by omega) (R.step ⟨j, by omega⟩ s)).1 by omega]
      have hoff : k0_off3 i (BitVec.ofNat 32 n) = ![(⟨j, by omega⟩ : Fin 16).val * 256, 0] := by
        rw [off3_eq i n hnp]; congr 2; simp only; omega
      rw [hout]
      simp only [htest, ↓reduceIte]
      rw [k0_part15_eq_skeleton]; unfold k0_part15_skel
      simp only [Prog.lift, Prog.bind_op, Prog.bind_ret, Prog.pure_eq_ret]
      unfold heldKV
      iintro ⟨⟨H3, H4⟩, Hk⟩
      iapply (wp_assume 𝒱₀ (c : Thread nD τ) (some (j + 1)) E (chk1_of i n hnp))
      iapply (wp_load_owns 𝒱₀ c (some (j + 1)) E) $$ H3; iintro H3
      iapply (wp_load_owns 𝒱₀ c (some (j + 1)) E) $$ H4; iintro H4
      iapply (wp_load_owns 𝒱₀ c (some (j + 1)) E) $$ H3; iintro H3
      iapply (wp_load_owns 𝒱₀ c (some (j + 1)) E) $$ H4; iintro H4
      rw [read_tile R.k ⟨j, by omega⟩ _ hoff, addi_one n (by omega)]
      simp only [step_most, step_ra, step_rb]
      iapply (wp_call_spec 𝒱₀ (c : Thread nD τ) (some (j + 1)) E (walkSpec c R arg3 arg4 (n + 1) j (by omega) (R.step ⟨j, by omega⟩ s)) j
        (fun u hu => by cases hu; exact Nat.lt_succ_self j)
        (ih (n + 1) (by omega) (by omega) (R.step ⟨j, by omega⟩ s)))
      rw [walkSpec_apply]; unfold heldKV
      isplitl [H3 H4]
      · isplitl [H3]; · iexact H3
        iexact H4
      iintro H
      rw [wp_ret]; imodintro
      iapply Hk; iexact H
    · have htest := andi_false_right (Scalar.cmpi .slt (BitVec.ofNat 32 n) (Scalar.muli 2#32 (BitVec.ofNat 32 (i 1).val))) _ hs
      have hout : walkOut R n (j + 1) hj s = (BitVec.ofNat 32 n, s.1, s.2.1, s.2.2) := by
        unfold walkOut Reads.walk
        simp only [hs, ↓reduceIte, Nat.add_zero]
      rw [hout]
      simp only [htest, ↓reduceIte, Prog.pure_eq_ret]
      iintro ⟨H, Hk⟩
      rw [wp_ret]; imodintro
      iapply Hk; iexact H

end

end Cert.Proof.SB

end
-- ==== Proof.SB.Trip.lean ====
/-
  One trip of the pass over the tiles left of the grid point's own two.
-/
module

public import Idealize.ShloMosaic.Lib.Pipeline.Value
public import proofs.«01_k».proof.Proof.SB.Walk

@[expose] public section

noncomputable section

namespace Cert.Proof.SB

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Contents may be rewritten. -/
theorem owns_eq (c : Dev nD) {s : Shape} {e : EltTy} {m : Memref sig .tc .vmem s e} {X Y : s.Idx → Elt F e} (h : X = Y) :
    (owns (c : Thread nD τ) m fullShare X : sProp (Res F)) ⊢ owns (c : Thread nD τ) m fullShare Y := by rw [h]

/-- The six values the loop carries. -/
def carried (s : Pass F) : FVec F S256x1 .f32 × FVec F S256x1 .f32 × FVec F S256x128 .f32 × FVec F S256x1 .f32 × FVec F S256x1 .f32 × FVec F S256x128 .f32 :=
  (s.a.1, s.a.2.1, s.a.2.2, s.b.1, s.b.2.1, s.b.2.2)

section

variable (c : Dev nD) (i : grid0.Coords) (R : Reads F)
    (arg2 : Memref sig .tc .vmem S512x128 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S512x128 .f32) (harg5 : arg5.IsWhole)
    (arg6 : Memref sig .tc .vmem S512x128 .f32) (harg6 : arg6.IsWhole)
    (arg7 : Memref sig .tc .vmem S512x128 .f32) (harg7 : arg7.IsWhole)
    (arg8 : Memref sig .tc .vmem S512x128 .bf16) (harg8 : arg8.IsWhole)
    (arg9 : Memref sig .tc .vmem S4096x128 .bf16) (harg9 : arg9.IsWhole)
    (arg10 : Memref sig .tc .vmem S4096x128 .bf16) (harg10 : arg10.IsWhole)
    (arg11 : Memref sig .tc .vmem S512x128 .bf16) (harg11 : arg11.IsWhole)
    (arg12 : Memref sig .tc .vmem S4096x128 .f32) (harg12 : arg12.IsWhole)
    (arg13 : Memref sig .tc .vmem S4096x128 .f32) (harg13 : arg13.IsWhole)

/-- The gradients of the keys and the values so far, owned. -/
def heldD (dk dv : FVec F S4096x128 .f32) : sProp (Res F) :=
  iprop(owns (c : Thread nD τ) arg12 fullShare dk ∗ owns (c : Thread nD τ) arg13 fullShare dv)

theorem trip_wp (E : Set ℕ) (bd : Option 𝒱₀.V) (n : ℕ) (hn : n ≤ 2 * (pt i).val) (hw : k0_chk2 i (BitVec.ofNat 32 n))
    (a1 v115 v122 v126 : BitVec 32) (v90 v114 : FVec F S256x1 .f32) (t : Fin (k0_t1_loop i (BitVec.ofNat 32 n)).trips) (j : Fin 16)
    (hj : j.val = 2 * (pt i).val - n + t.val) (s : Pass F) :
    iprop(heldKV c R arg3 arg4 ∗ heldD c arg12 arg13 s.dk s.dv)
      ⊢ wp frame (wpE (defs₀ (F := F)) 𝒱₀ (c : Thread nD τ) bd) E
          (k0_t1_body i arg2 harg2 arg3 harg3 arg4 harg4 arg5 harg5 arg6 harg6 arg7 harg7 arg8 harg8 arg9 harg9 arg10 harg10 arg11 harg11
            arg12 harg12 arg13 harg13 a1 R.dout R.q k0_pay59 k0_pay60 k0_pay61 (k0_pay62 R.q) (k0_pay63 R.q) (k0_pay64 R.dout) (k0_pay65 R.dout)
            v90 v114 v115 v122 (BitVec.ofNat 32 n) hw v126 t (carried s))
          (fun r => iprop(⌜r = carried (R.tile id j s)⌝ ∗ heldKV c R arg3 arg4 ∗ heldD c arg12 arg13 (R.tile id j s).dk (R.tile id j s).dv)) := by
  have hoff : k0_off4 i (BitVec.ofNat 32 n) t = ![j.val * 256, 0] := by rw [off4_eq i n hn t, hj]
  unfold k0_t1_body carried
  simp only [k0_part1_eq_skeleton, k0_part2_eq_skeleton, k0_part3_eq_skeleton]
  unfold k0_part1_skel k0_part2_skel k0_part3_skel
  simp only [Prog.lift, Prog.bind_op, Prog.bind_ret, Prog.pure_eq_ret]
  unfold heldKV heldD
  iintro ⟨⟨H3, H4⟩, H12, H13⟩
  iapply (wp_load_owns 𝒱₀ c bd E) $$ H3; iintro H3
  iapply (wp_load_owns 𝒱₀ c bd E) $$ H4; iintro H4
  rw [read_tile R.k j _ hoff, read_tile R.v j _ hoff]
  iapply (wp_load_owns 𝒱₀ c bd E) $$ H12; iintro H12
  rw [read_tile s.dk j _ hoff]
  iapply (wp_load_owns 𝒱₀ c bd E) $$ H12; iintro H12
  iapply (wp_store_owns 𝒱₀ c bd E) $$ H12; iintro H12
  rw [write_tile s.dk j _ hoff]
  iapply (wp_load_owns 𝒱₀ c bd E) $$ H13; iintro H13
  rw [read_tile s.dv j _ hoff]
  iapply (wp_load_owns 𝒱₀ c bd E) $$ H13; iintro H13
  iapply (wp_store_owns 𝒱₀ c bd E) $$ H13; iintro H13
  rw [write_tile s.dv j _ hoff]
  rw [wp_ret]; imodintro
  isplitr
  · ipureintro
    rfl
  isplitl [H3 H4]
  · isplitl [H3]; · iexact H3
    iexact H4
  isplitl [H12]
  · iapply (owns_eq c ?_) $$ H12
    unfold k0_pay29; dsimp only; rw [shapeCast_self]; rfl
  · iapply (owns_eq c ?_) $$ H13
    unfold k0_pay74; dsimp only; rw [shapeCast_self]; rfl

end

end Cert.Proof.SB

end
-- ==== Proof.SB.Body.lean ====
/-
  The kernel's body: what one grid point leaves in the memrefs it is given.
-/
module

public import proofs.«01_k».proof.Proof.SB.Trip

@[expose] public section

noncomputable section

namespace Cert.Proof.SB

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pass of a grid point, from zero at a head's first. -/
def Reads.after (R : Reads F) (p : Fin 8) (dk dv : FVec F S4096x128 .f32) : Pass F :=
  R.pass p (if p = 0 then k0_pay54 else dk) (if p = 0 then k0_pay55 else dv)

/-- What a head's last grid point writes out, and the others leave. -/
def atLast (p : Fin 8) {α : Type} (new old : α) : α := if p = 7 then new else old

theorem first_iff (i : grid0.Coords) :
    Scalar.cmpi .ne (Scalar.extui (Scalar.cmpi .eq (BitVec.ofNat 32 (i 1).val) 0#32) : BitVec 32) 0#32 = 1#1 ↔ pt i = 0 := by
  have h : ∀ p : Fin 8, Scalar.cmpi .ne (Scalar.extui (Scalar.cmpi .eq (BitVec.ofNat 32 p.val) 0#32) : BitVec 32) 0#32 = 1#1 ↔ p = 0 := by decide
  exact h (pt i)

theorem last_iff (i : grid0.Coords) : k0_cond2 i = 1#1 ↔ pt i = 7 := by
  have h : ∀ p : Fin 8, Scalar.cmpi .ne (Scalar.extui (Scalar.cmpi .eq (BitVec.ofNat 32 p.val) 7#32) : BitVec 32) 0#32 = 1#1 ↔ p = 7 := by decide
  exact h (pt i)

theorem massA_eq (R : Reads F) (d : Fin 16) : k0_pay70 k0_pay61 (k0_pay62 R.q) (tileOf R.k d) = R.massA d := rfl
theorem massB_eq (R : Reads F) (d e : Fin 16) :
    k0_pay69 (k0_pay66 R.q k0_pay61 (tileOf R.k e)) (k0_pay67 R.q (tileOf R.k d)) (k0_pay68 R.q (tileOf R.k d)) = R.massB d e := rfl
theorem most_eq (R : Reads F) (d e : Fin 16) :
    k0_pay71 k0_pay61 (k0_pay62 R.q) (k0_pay66 R.q k0_pay61 (tileOf R.k e)) (k0_pay67 R.q (tileOf R.k d)) (k0_pay68 R.q (tileOf R.k d))
      (tileOf R.k d) = most (R.massA d) (R.massB d e) := rfl
theorem dout_eq (R : Reads F) : k0_pay58 R.g R.dm = R.dout := rfl

section

variable (c : Dev nD) (i : grid0.Coords) (R : Reads F)
    (arg2 : Memref sig .tc .vmem S512x128 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S512x128 .f32) (harg5 : arg5.IsWhole)
    (arg6 : Memref sig .tc .vmem S512x128 .f32) (harg6 : arg6.IsWhole)
    (arg7 : Memref sig .tc .vmem S512x128 .f32) (harg7 : arg7.IsWhole)
    (arg8 : Memref sig .tc .vmem S512x128 .bf16) (harg8 : arg8.IsWhole)
    (arg9 : Memref sig .tc .vmem S4096x128 .bf16) (harg9 : arg9.IsWhole)
    (arg10 : Memref sig .tc .vmem S4096x128 .bf16) (harg10 : arg10.IsWhole)
    (arg11 : Memref sig .tc .vmem S512x128 .bf16) (harg11 : arg11.IsWhole)
    (arg12 : Memref sig .tc .vmem S4096x128 .f32) (harg12 : arg12.IsWhole)
    (arg13 : Memref sig .tc .vmem S4096x128 .f32) (harg13 : arg13.IsWhole)

/-- What the body only reads, owned. -/
def heldIn : sProp (Res F) :=
  iprop(owns (c : Thread nD τ) arg2 fullShare R.q ∗ owns (c : Thread nD τ) arg3 fullShare R.k ∗ owns (c : Thread nD τ) arg4 fullShare R.v
    ∗ owns (c : Thread nD τ) arg5 fullShare R.g ∗ owns (c : Thread nD τ) arg6 fullShare R.o ∗ owns (c : Thread nD τ) arg7 fullShare R.dm)

/-- What it writes. -/
def heldOut (dq dg : FVec F S512x128 .bf16) (dkOut dvOut : FVec F S4096x128 .bf16) (dk dv : FVec F S4096x128 .f32) : sProp (Res F) :=
  iprop(owns (c : Thread nD τ) arg8 fullShare dq ∗ owns (c : Thread nD τ) arg9 fullShare dkOut ∗ owns (c : Thread nD τ) arg10 fullShare dvOut
    ∗ owns (c : Thread nD τ) arg11 fullShare dg ∗ owns (c : Thread nD τ) arg12 fullShare dk ∗ owns (c : Thread nD τ) arg13 fullShare dv)

variable {α : Type} {Q : α → sProp (Res F)}

/-- The grid point's start: the gradients of the keys and the values cleared at a head's first point, the inputs read and
    the gate's gradient written. -/
theorem part7_wp (dg : FVec F S512x128 .bf16) (dk dv : FVec F S4096x128 .f32)
    (k : (Σ' (arg1 : BitVec 32) (v26 : FVec F S512x128 .bf16) (v27 : Vec F S512x128 .bf16) (v33 : FVec F S256x256 .bf16) (v37 : FVec F S256x256 .bf16), IVec S256x256 1)
      → Prog (TpuEff nD τ sig (Elt F) (Λ₀ F) .tc) α) :
    iprop(heldIn c R arg2 arg3 arg4 arg5 arg6 arg7 ∗ owns (c : Thread nD τ) arg11 fullShare dg ∗ heldD c arg12 arg13 dk dv
      ∗ (heldIn c R arg2 arg3 arg4 arg5 arg6 arg7 -∗ owns (c : Thread nD τ) arg11 fullShare R.dg
          -∗ heldD c arg12 arg13 (if pt i = 0 then k0_pay54 else dk) (if pt i = 0 then k0_pay55 else dv)
          -∗ wp frame (wpE (defs₀ (F := F)) 𝒱₀ (c : Thread nD τ) none) Set.univ
              (k ⟨BitVec.ofNat 32 (i 1).val, R.dout, R.q, k0_pay59, k0_pay60, k0_pay61⟩) Q))
      ⊢ wp frame (wpE (defs₀ (F := F)) 𝒱₀ (c : Thread nD τ) none) Set.univ
          (k0_part7 i arg2 harg2 arg3 harg3 arg4 harg4 arg5 harg5 arg6 harg6 arg7 harg7 arg8 harg8 arg9 harg9 arg10 harg10 arg11 harg11
            arg12 harg12 arg13 harg13 >>= k) Q := by
  rw [k0_part7_eq_skeleton]; unfold k0_part7_skel heldIn heldD
  by_cases h : pt i = 0
  · have h' := (first_iff i).mpr h
    simp only [h', h, ↓reduceDIte, ↓reduceIte, Prog.lift, Prog.bind_op, Prog.bind_ret, Prog.pure_eq_ret]
    iintro ⟨⟨H2, H3, H4, H5, H6, H7⟩, H11, ⟨H12, H13⟩, Hk⟩
    iapply (wp_load_owns 𝒱₀ c none Set.univ) $$ H12; iintro H12
    iapply (wp_store_owns 𝒱₀ c none Set.univ) $$ H12; iintro H12
    rw [write_whole4096]
    iapply (wp_load_owns 𝒱₀ c none Set.univ) $$ H13; iintro H13
    iapply (wp_store_owns 𝒱₀ c none Set.univ) $$ H13; iintro H13
    rw [write_whole4096]
    iapply (wp_load_owns 𝒱₀ c none Set.univ) $$ H5; iintro H5
    iapply (wp_load_owns 𝒱₀ c none Set.univ) $$ H6; iintro H6
    iapply (wp_load_owns 𝒱₀ c none Set.univ) $$ H7; iintro H7
    iapply (wp_load_owns 𝒱₀ c none Set.univ) $$ H11; iintro H11
    rw [read_whole512, read_whole512, read_whole512]
    iapply (wp_store_owns 𝒱₀ c none Set.univ) $$ H11; iintro H11
    iapply (wp_load_owns 𝒱₀ c none Set.univ) $$ H2; iintro H2
    rw [write_whole512, read_whole512]
    iapply Hk $$ [H2 H3 H4 H5 H6 H7] [H11] [H12 H13]
    · iframe
    · iexact H11
    · iframe
  · have h' := (not_congr (first_iff i)).mpr h
    simp only [h', h, ↓reduceDIte, ↓reduceIte, Prog.lift, Prog.bind_op, Prog.bind_ret, Prog.pure_eq_ret]
    iintro ⟨⟨H2, H3, H4, H5, H6, H7⟩, H11, ⟨H12, H13⟩, Hk⟩
    iapply (wp_load_owns 𝒱₀ c none Set.univ) $$ H5; iintro H5
    iapply (wp_load_owns 𝒱₀ c none Set.univ) $$ H6; iintro H6
    iapply (wp_load_owns 𝒱₀ c none Set.univ) $$ H7; iintro H7
    iapply (wp_load_owns 𝒱₀ c none Set.univ) $$ H11; iintro H11
    rw [read_whole512, read_whole512, read_whole512]
    iapply (wp_store_owns 𝒱₀ c none Set.univ) $$ H11; iintro H11
    iapply (wp_load_owns 𝒱₀ c none Set.univ) $$ H2; iintro H2
    rw [write_whole512, read_whole512]
    iapply Hk $$ [H2 H3 H4 H5 H6 H7] [H11] [H12 H13]
    · iframe
    · iexact H11
    · iframe

/-- The two blocks of queries, and the masses of the last on the grid point's own tiles. -/
theorem part8_wp
    (k : (Σ' (v39 : FVec F S256x128 .bf16) (v40 : FVec F S256x128 .bf16) (v41 : FVec F S256x128 .bf16) (v42 : FVec F S256x128 .bf16) (v67 : FVec F S256x1 .f32) (v75 : FVec F S256x256 .f32), FVec F S256x256 .f32)
      → Prog (TpuEff nD τ sig (Elt F) (Λ₀ F) .tc) α) :
    iprop(owns (c : Thread nD τ) arg3 fullShare R.k
      ∗ (owns (c : Thread nD τ) arg3 fullShare R.k
          -∗ wp frame (wpE (defs₀ (F := F)) 𝒱₀ (c : Thread nD τ) none) Set.univ
              (k ⟨k0_pay62 R.q, k0_pay63 R.q, k0_pay64 R.dout, k0_pay65 R.dout, k0_pay66 R.q k0_pay61 (tileOf R.k (tileB (pt i))),
                k0_pay67 R.q (tileOf R.k (tileA (pt i))), k0_pay68 R.q (tileOf R.k (tileA (pt i)))⟩) Q))
      ⊢ wp frame (wpE (defs₀ (F := F)) 𝒱₀ (c : Thread nD τ) none) Set.univ
          (k0_part8 i arg2 harg2 arg3 harg3 arg4 harg4 arg5 harg5 arg6 harg6 arg7 harg7 arg8 harg8 arg9 harg9 arg10 harg10 arg11 harg11
            arg12 harg12 arg13 harg13 (BitVec.ofNat 32 (i 1).val) R.dout R.q k0_pay61 >>= k) Q := by
  rw [k0_part8_eq_skeleton]; unfold k0_part8_skel
  simp only [Prog.lift, Prog.bind_op, Prog.bind_ret, Prog.pure_eq_ret]
  iintro ⟨H3, Hk⟩
  iapply (wp_load_owns 𝒱₀ c none Set.univ) $$ H3; iintro H3
  iapply (wp_load_owns 𝒱₀ c none Set.univ) $$ H3; iintro H3
  rw [read_tile R.k _ _ (off1_eq i), read_tile R.k _ _ (off2_eq i)]
  iapply Hk; iexact H3

/-- The masses the walk starts from. -/
theorem part9_wp
    (k : (Σ' (v90 : FVec F S256x1 .f32) (v114 : FVec F S256x1 .f32) (v115 : BitVec 32), BitVec 32) → Prog (TpuEff nD τ sig (Elt F) (Λ₀ F) .tc) α) :
    iprop(owns (c : Thread nD τ) arg3 fullShare R.k
      ∗ (owns (c : Thread nD τ) arg3 fullShare R.k
          -∗ wp frame (wpE (defs₀ (F := F)) 𝒱₀ (c : Thread nD τ) none) Set.univ
              (k ⟨R.massB (tileA (pt i)) (tileB (pt i)), R.massA (tileA (pt i)), Scalar.muli 2#32 (BitVec.ofNat 32 (i 1).val),
                  alive (R.massA (tileA (pt i))) (R.massB (tileA (pt i)) (tileB (pt i)))⟩) Q))
      ⊢ wp frame (wpE (defs₀ (F := F)) 𝒱₀ (c : Thread nD τ) none) Set.univ
          (k0_part9 i arg2 harg2 arg3 harg3 arg4 harg4 arg5 harg5 arg6 harg6 arg7 harg7 arg8 harg8 arg9 harg9 arg10 harg10 arg11 harg11
            arg12 harg12 arg13 harg13 (BitVec.ofNat 32 (i 1).val) k0_pay61 (k0_pay62 R.q) (k0_pay66 R.q k0_pay61 (tileOf R.k (tileB (pt i))))
            (k0_pay67 R.q (tileOf R.k (tileA (pt i)))) (k0_pay68 R.q (tileOf R.k (tileA (pt i)))) >>= k) Q := by
  rw [k0_part9_eq_skeleton]; unfold k0_part9_skel
  simp only [Prog.lift, Prog.bind_op, Prog.bind_ret, Prog.pure_eq_ret]
  iintro ⟨H3, Hk⟩
  iapply (wp_load_owns 𝒱₀ c none Set.univ) $$ H3; iintro H3
  rw [read_tile R.k _ _ (off2_eq i)]
  simp only [massA_eq, massB_eq, most_eq]
  iapply Hk; iexact H3

/-- The pass over the tiles the walk visited. -/
def Reads.left (R : Reads F) (p : Fin 8) (dk dv : FVec F S4096x128 .f32) : Pass F :=
  R.tiles (2 * p.val - (R.walked p).1) (R.walked p).1 (by have := R.walked_le p; omega) (R.start p dk dv)

theorem part10_wp (dk dv : FVec F S4096x128 .f32)
    (k : (Σ' (v133_1 : FVec F S256x1 .f32) (v133_2 : FVec F S256x128 .f32) (v133_3 : FVec F S256x1 .f32) (v133_4 : FVec F S256x1 .f32) (v133_5 : FVec F S256x128 .f32) (v136 : BitVec 32) (v138 : Vec F S256x128 .bf16) (v140 : Vec F S256x128 .bf16) (v143 : FVec F S256x256 .f32) (v157 : FVec F S256x256 .f32) (v160 : FVec F S256x1 .f32) (v161 : FVec F S256x256 .f32) (v162 : FVec F S256x256 .bf16), FVec F S256x256 .f32)
      → Prog (TpuEff nD τ sig (Elt F) (Λ₀ F) .tc) α) :
    iprop(heldKV c R arg3 arg4 ∗ heldD c arg12 arg13 dk dv
      ∗ (heldKV c R arg3 arg4 -∗ heldD c arg12 arg13 (R.left (pt i) dk dv).dk (R.left (pt i) dk dv).dv
          -∗ wp frame (wpE (defs₀ (F := F)) 𝒱₀ (c : Thread nD τ) none) Set.univ
              (k ⟨(R.left (pt i) dk dv).a.2.1, (R.left (pt i) dk dv).a.2.2, (R.left (pt i) dk dv).b.1, (R.left (pt i) dk dv).b.2.1,
                (R.left (pt i) dk dv).b.2.2, Scalar.muli (Scalar.muli 2#32 (BitVec.ofNat 32 (i 1).val)) 256#32,
                tileOf R.k (tileA (pt i)), tileOf R.v (tileA (pt i)), k0_pay76 (k0_pay62 R.q) (tileOf R.k (tileA (pt i))),
                k0_pay77 k0_pay61 (k0_pay62 R.q) (tileOf R.k (tileA (pt i))),
                k0_pay78 k0_pay61 (k0_pay62 R.q) (R.left (pt i) dk dv).a.1 (tileOf R.k (tileA (pt i))),
                k0_pay79 k0_pay61 (k0_pay62 R.q) (tileOf R.k (tileA (pt i))), k0_pay80 k0_pay61 (k0_pay62 R.q) (tileOf R.k (tileA (pt i))),
                k0_pay81 k0_pay61 (k0_pay62 R.q) (tileOf R.k (tileA (pt i)))⟩) Q))
      ⊢ wp frame (wpE (defs₀ (F := F)) 𝒱₀ (c : Thread nD τ) none) Set.univ
          (k0_part10 i arg2 harg2 arg3 harg3 arg4 harg4 arg5 harg5 arg6 harg6 arg7 harg7 arg8 harg8 arg9 harg9 arg10 harg10 arg11 harg11
            arg12 harg12 arg13 harg13 (BitVec.ofNat 32 (i 1).val) R.dout R.q k0_pay59 k0_pay60 k0_pay61
            (k0_pay62 R.q) (k0_pay63 R.q) (k0_pay64 R.dout) (k0_pay65 R.dout)
            (R.massB (tileA (pt i)) (tileB (pt i))) (R.massA (tileA (pt i))) (Scalar.muli 2#32 (BitVec.ofNat 32 (i 1).val))
            (alive (R.massA (tileA (pt i))) (R.massB (tileA (pt i)) (tileB (pt i)))) >>= k) Q := by
  have hle := R.walked_le (pt i)
  have hp := (pt i).isLt
  have hwalk : walkOut R 0 (2 * (pt i).val) (by omega) (alive (R.massA (tileA (pt i))) (R.massB (tileA (pt i)) (tileB (pt i))), R.massA (tileA (pt i)), R.massB (tileA (pt i)) (tileB (pt i)))
      = (BitVec.ofNat 32 (R.walked (pt i)).1, (R.walked (pt i)).2.1, (R.walked (pt i)).2.2.1, (R.walked (pt i)).2.2.2) := by
    unfold walkOut; rw [Nat.zero_add]; rfl
  have hcall := walk_le_wp c i R arg3 harg3 arg4 harg4 Set.univ (2 * (pt i).val) 0 (by omega) (by omega)
    (alive (R.massA (tileA (pt i))) (R.massB (tileA (pt i)) (tileB (pt i))), R.massA (tileA (pt i)), R.massB (tileA (pt i)) (tileB (pt i)))
  rw [k0_part10_eq_skeleton]; unfold k0_part10_skel
  simp only [Prog.lift, Prog.bind_op, Prog.bind_ret, Prog.pure_eq_ret, Prog.bind_assoc]
  iintro ⟨HKV, HD, Hk⟩
  iapply (wp_call_spec 𝒱₀ (c : Thread nD τ) none Set.univ _ (2 * (pt i).val) (fun u hu => nomatch hu) hcall)
  rw [walkSpec_apply, hwalk]
  isplitl [HKV]; · iexact HKV
  iintro HKV
  dsimp only
  iapply (wp_assume 𝒱₀ (c : Thread nD τ) none Set.univ (chk2_of i _ hle))
  have ht1 := t1_trips i _ hle
  have ht2 := t2_trips i _ hle
  have hl : ∀ n (h : n ≤ (R.walked (pt i)).1), 2 * (pt i).val - (R.walked (pt i)).1 + n ≤ 16 := fun n h => by omega
  iapply (Scf.wp_for_bind frame (wpE (defs₀ (F := F)) 𝒱₀ (c : Thread nD τ) none) Set.univ _ _ _ _ _ _
    (fun n acc => iprop(∃ h : n ≤ (R.walked (pt i)).1,
      ⌜acc = carried (R.tiles (2 * (pt i).val - (R.walked (pt i)).1) n (hl n h) (R.start (pt i) dk dv))⌝
      ∗ heldKV c R arg3 arg4 ∗ heldD c arg12 arg13
        (R.tiles (2 * (pt i).val - (R.walked (pt i)).1) n (hl n h) (R.start (pt i) dk dv)).dk
        (R.tiles (2 * (pt i).val - (R.walked (pt i)).1) n (hl n h) (R.start (pt i) dk dv)).dv)) ?_) $$ [HKV HD]
  · iintro %t %acc ⟨%h, %hacc, HKV, HD⟩
    have hlt : t.val < (R.walked (pt i)).1 := lt_of_lt_of_eq t.isLt ht1
    rw [hacc]
    iapply (wp_wand frame (wpE (defs₀ (F := F)) 𝒱₀ (c : Thread nD τ) none) Set.univ) $$ [HKV HD]
    · iapply (trip_wp c i R arg2 harg2 arg3 harg3 arg4 harg4 arg5 harg5 arg6 harg6 arg7 harg7 arg8 harg8 arg9 harg9 arg10 harg10 arg11 harg11
        arg12 harg12 arg13 harg13 Set.univ none (R.walked (pt i)).1 hle (chk2_of i _ hle) _ _ _ _ _ _ t
        ⟨2 * (pt i).val - (R.walked (pt i)).1 + t.val, by omega⟩ rfl)
      isplitl [HKV]; · iexact HKV
      iexact HD
    iintro %r ⟨%hr, HKV, HD⟩
    iexists (Nat.succ_le_of_lt hlt)
    isplitr
    · ipureintro; exact hr
    isplitl [HKV]
    · iexact HKV
    iexact HD
  · iexists (Nat.zero_le _)
    isplitr
    · ipureintro; rfl
    isplitl [HKV]
    · iexact HKV
    iexact HD
  · iintro %acc ⟨%h, %hacc, HKV, HD⟩
    have hs : ∀ n (hn : n = (R.walked (pt i)).1) h', R.tiles (2 * (pt i).val - (R.walked (pt i)).1) n h' (R.start (pt i) dk dv)
        = R.left (pt i) dk dv := by
      intro n hn h'; subst hn; rfl
    rw [hacc, hs _ ht1]
    clear hacc
    generalize R.left (pt i) dk dv = s1
    iapply (Scf.wp_for_bind frame (wpE (defs₀ (F := F)) 𝒱₀ (c : Thread nD τ) none) Set.univ _ _ _ _ _ _
      (fun _ acc => iprop(⌜acc = carried s1⌝ ∗ heldKV c R arg3 arg4 ∗ heldD c arg12 arg13 s1.dk s1.dv)) ?_) $$ [HKV HD]
    · iintro %t
      exact absurd t.isLt (by have : Scf.trips _ _ _ = 0 := ht2; omega)
    · isplitr
      · ipureintro; rfl
      isplitl [HKV]
      · iexact HKV
      iexact HD
    iintro %acc ⟨%hacc, HKV, HD⟩
    rw [hacc]
    unfold heldKV
    icases HKV with ⟨H3, H4⟩
    iapply (wp_load_owns 𝒱₀ c none Set.univ) $$ H3; iintro H3
    iapply (wp_load_owns 𝒱₀ c none Set.univ) $$ H4; iintro H4
    rw [read_tile R.k _ _ (off6_eq i), read_tile R.v _ _ (off6_eq i)]
    iapply Hk $$ [H3 H4] [HD]
    · iframe
    · iexact HD

set_option maxHeartbeats 4000000 in
theorem body_wp (dq dg : FVec F S512x128 .bf16) (dkOut dvOut : FVec F S4096x128 .bf16) (dk dv : FVec F S4096x128 .f32) :
    iprop(heldIn c R arg2 arg3 arg4 arg5 arg6 arg7 ∗ heldOut c arg8 arg9 arg10 arg11 arg12 arg13 dq dg dkOut dvOut dk dv)
      ⊢ wp frame (wpE (defs₀ (F := F)) 𝒱₀ (c : Thread nD τ) none) Set.univ
          (cc0_sb_bwd i arg2 harg2 arg3 harg3 arg4 harg4 arg5 harg5 arg6 harg6 arg7 harg7 arg8 harg8 arg9 harg9 arg10 harg10 arg11 harg11
            arg12 harg12 arg13 harg13)
          (fun _ => iprop(heldIn c R arg2 arg3 arg4 arg5 arg6 arg7 ∗ heldOut c arg8 arg9 arg10 arg11 arg12 arg13 (R.dq (pt i)) R.dg
            (atLast (pt i) (k0_pay4 (R.after (pt i) dk dv).dk) dkOut) (atLast (pt i) (k0_pay5 (R.after (pt i) dk dv).dv) dvOut)
            (R.after (pt i) dk dv).dk (R.after (pt i) dk dv).dv)) := by
  rw [cc0_sb_bwd_eq_skeleton]; unfold cc0_sb_bwd_skel
  generalize hdk : (if pt i = 0 then k0_pay54 else dk) = dk1
  generalize hdv : (if pt i = 0 then k0_pay55 else dv) = dv1
  have hafter : R.after (pt i) dk dv = R.pass (pt i) dk1 dv1 := by unfold Reads.after; rw [hdk, hdv]
  have hdq : R.dq (pt i) = k0_pay3 (R.pass (pt i) dk1 dv1).a.2.2 (R.pass (pt i) dk1 dv1).b.2.2 := by
    obtain ⟨h1, h2⟩ := R.pass_indep (pt i) k0_pay54 k0_pay55 dk1 dv1
    unfold Reads.dq; rw [h1, h2]
  have hpass : R.pass (pt i) dk1 dv1 = R.tail (tileB (pt i)) (R.tile lower (tileA (pt i)) (R.left (pt i) dk1 dv1)) := rfl
  rw [hdq, hafter, hpass]
  unfold heldOut
  iintro ⟨HI, H8, H9, H10, H11, H12, H13⟩
  iapply (part7_wp c i R arg2 harg2 arg3 harg3 arg4 harg4 arg5 harg5 arg6 harg6 arg7 harg7 arg8 harg8 arg9 harg9 arg10 harg10 arg11 harg11
            arg12 harg12 arg13 harg13 dg dk dv)
  isplitl [HI]; · iexact HI
  isplitl [H11]; · iexact H11
  isplitl [H12 H13]
  · unfold heldD; iframe
  rw [hdk, hdv]
  unfold heldIn
  iintro ⟨H2, H3, H4, H5, H6, H7⟩ H11 HD
  dsimp only
  iapply (part8_wp c i R arg2 harg2 arg3 harg3 arg4 harg4 arg5 harg5 arg6 harg6 arg7 harg7 arg8 harg8 arg9 harg9 arg10 harg10 arg11 harg11
            arg12 harg12 arg13 harg13)
  isplitl [H3]; · iexact H3
  iintro H3
  dsimp only
  iapply (part9_wp c i R arg2 harg2 arg3 harg3 arg4 harg4 arg5 harg5 arg6 harg6 arg7 harg7 arg8 harg8 arg9 harg9 arg10 harg10 arg11 harg11
            arg12 harg12 arg13 harg13)
  isplitl [H3]; · iexact H3
  iintro H3
  dsimp only
  iapply (part10_wp c i R arg2 harg2 arg3 harg3 arg4 harg4 arg5 harg5 arg6 harg6 arg7 harg7 arg8 harg8 arg9 harg9 arg10 harg10 arg11 harg11
            arg12 harg12 arg13 harg13 dk1 dv1)
  isplitl [H3 H4]
  · unfold heldKV; iframe
  isplitl [HD]; · iexact HD
  unfold heldKV heldD
  iintro ⟨H3, H4⟩ ⟨H12, H13⟩
  dsimp only
  generalize R.left (pt i) dk1 dv1 = s1
  simp only [k0_part11_eq_skeleton, k0_part12_eq_skeleton, k0_part13_eq_skeleton, k0_part14_eq_skeleton]
  unfold k0_part11_skel k0_part12_skel k0_part13_skel k0_part14_skel
  simp only [Prog.lift, Prog.bind_op, Prog.bind_ret, Prog.pure_eq_ret]
  iapply (wp_load_owns 𝒱₀ c none Set.univ) $$ H12; iintro H12
  iapply (wp_load_owns 𝒱₀ c none Set.univ) $$ H12; iintro H12
  rw [read_tile s1.dk _ _ (off6_eq i)]
  iapply (wp_store_owns 𝒱₀ c none Set.univ) $$ H12; iintro H12
  rw [write_tile s1.dk _ _ (off6_eq i)]
  iapply (wp_load_owns 𝒱₀ c none Set.univ) $$ H13; iintro H13
  iapply (wp_load_owns 𝒱₀ c none Set.univ) $$ H13; iintro H13
  rw [read_tile s1.dv _ _ (off6_eq i)]
  iapply (wp_store_owns 𝒱₀ c none Set.univ) $$ H13; iintro H13
  rw [write_tile s1.dv _ _ (off6_eq i)]
  iapply (wp_load_owns 𝒱₀ c none Set.univ) $$ H3; iintro H3
  iapply (wp_load_owns 𝒱₀ c none Set.univ) $$ H4; iintro H4
  rw [read_tile R.k _ _ (off7_eq i), read_tile R.v _ _ (off7_eq i)]
  ihave H12 := (owns_eq c (Y := (R.tile lower (tileA (pt i)) s1).dk) ?_) $$ H12
  · unfold k0_pay97; dsimp only; rw [shapeCast_self]; rfl
  ihave H13 := (owns_eq c (Y := (R.tile lower (tileA (pt i)) s1).dv) ?_) $$ H13
  · unfold k0_pay98; dsimp only; rw [shapeCast_self]; rfl
  iapply (wp_load_owns 𝒱₀ c none Set.univ) $$ H12; iintro H12
  iapply (wp_load_owns 𝒱₀ c none Set.univ) $$ H12; iintro H12
  iapply (wp_store_owns 𝒱₀ c none Set.univ) $$ H12; iintro H12
  rw [read_tile (R.tile lower (tileA (pt i)) s1).dk _ _ (off7_eq i), write_tile (R.tile lower (tileA (pt i)) s1).dk _ _ (off7_eq i)]
  iapply (wp_load_owns 𝒱₀ c none Set.univ) $$ H13; iintro H13
  iapply (wp_load_owns 𝒱₀ c none Set.univ) $$ H13; iintro H13
  iapply (wp_store_owns 𝒱₀ c none Set.univ) $$ H13; iintro H13
  rw [read_tile (R.tile lower (tileA (pt i)) s1).dv _ _ (off7_eq i), write_tile (R.tile lower (tileA (pt i)) s1).dv _ _ (off7_eq i)]
  ihave H12 := (owns_eq c (Y := (R.tail (tileB (pt i)) (R.tile lower (tileA (pt i)) s1)).dk) ?_) $$ H12
  · unfold k0_pay1; dsimp only; rw [shapeCast_self]; rfl
  ihave H13 := (owns_eq c (Y := (R.tail (tileB (pt i)) (R.tile lower (tileA (pt i)) s1)).dv) ?_) $$ H13
  · unfold k0_pay2; dsimp only; rw [shapeCast_self]; rfl
  iapply (wp_load_owns 𝒱₀ c none Set.univ) $$ H8; iintro H8
  iapply (wp_store_owns 𝒱₀ c none Set.univ) $$ H8; iintro H8
  rw [write_whole512]
  ihave H8 := (owns_eq c (Y := k0_pay3 (R.tail (tileB (pt i)) (R.tile lower (tileA (pt i)) s1)).a.2.2
    (R.tail (tileB (pt i)) (R.tile lower (tileA (pt i)) s1)).b.2.2) ?_) $$ H8
  · rfl
  unfold atLast
  by_cases hl : pt i = 7
  · have hl' := (last_iff i).mpr hl
    simp only [hl', hl, ↓reduceDIte, ↓reduceIte]
    iapply (wp_load_owns 𝒱₀ c none Set.univ) $$ H12; iintro H12
    iapply (wp_load_owns 𝒱₀ c none Set.univ) $$ H9; iintro H9
    iapply (wp_store_owns 𝒱₀ c none Set.univ) $$ H9; iintro H9
    iapply (wp_load_owns 𝒱₀ c none Set.univ) $$ H13; iintro H13
    iapply (wp_load_owns 𝒱₀ c none Set.univ) $$ H10; iintro H10
    iapply (wp_store_owns 𝒱₀ c none Set.univ) $$ H10; iintro H10
    rw [write_whole4096, write_whole4096, read_whole4096, read_whole4096]
    rw [wp_ret]; imodintro
    iframe
  · have hl' := (not_congr (last_iff i)).mpr hl
    simp only [hl', hl, ↓reduceDIte, ↓reduceIte]
    rw [wp_ret]; imodintro
    iframe

end

end Cert.Proof.SB

end
-- ==== Proof.SB.Data.lean ====
/-
  The pipeline's proof data: what each grid point reads, the gradients of the keys and the values carried from point to
  point of a head, and what each point leaves in the staging buffers.
-/
module

public import proofs.«01_k».proof.Proof.SB.Body
public import proofs.«01_k».proof.Proof.Gen.KernelIdeal.Launch
public import proofs.«01_k».proof.Proof.Gen.KernelIdeal.Points
public import Idealize.ShloMosaic.Lib.Pipeline.Frame

@[expose] public section

noncomputable section

namespace Cert.Proof.SB

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf kernel pipe)

variable {F : FTy → Type} [FloatOps F]

/-- Contents of every buffer of a device. -/
abbrev Vals (F : FTy → Type) [FloatOps F] := (c : Dev nD) → (b : Ref sig .tc) → Buf (Elt F) ((c : Thread nD τ).loc b)

variable (V : Vals F)

/-- What grid point `t` reads. -/
def reads (c : Dev nD) (t : Fin (cfg0 (F := F)).N) : Reads F where
  q := ((win0_0).blk t).view.read (Elt F) (V c main_arg0)
  k := ((win0_1).blk t).view.read (Elt F) (V c main_arg0)
  v := ((win0_2).blk t).view.read (Elt F) (V c main_arg0)
  g := ((win0_3).blk t).view.read (Elt F) (V c main_arg1)
  o := ((win0_4).blk t).view.read (Elt F) (V c main_v28)
  dm := ((win0_5).blk t).view.read (Elt F) (V c main_arg2)

/-- The gradients of the keys and the values before point `n`. -/
def traj (c : Dev nD) : ℕ → FVec F S4096x128 .f32 × FVec F S4096x128 .f32
  | 0 => (k0_pay54, k0_pay55)
  | n + 1 => if h : n < (cfg0 (F := F)).N then
      (((reads V c ⟨n, h⟩).after (pt (grid0.coords ⟨n, h⟩)) (traj c n).1 (traj c n).2).dk,
        ((reads V c ⟨n, h⟩).after (pt (grid0.coords ⟨n, h⟩)) (traj c n).1 (traj c n).2).dv)
    else traj c n

theorem traj_succ (c : Dev nD) (t : Fin (cfg0 (F := F)).N) : traj V c (t.val + 1)
    = (((reads V c t).after (pt (grid0.coords t)) (traj V c t.val).1 (traj V c t.val).2).dk,
        ((reads V c t).after (pt (grid0.coords t)) (traj V c t.val).1 (traj V c t.val).2).dv) := by
  conv_lhs => unfold traj
  rw [dif_pos t.isLt]

/-- What the body leaves in each staging buffer. -/
def left (c : Dev nD) : (w : Fin (cfg0 (F := F)).W) → (t : Fin (cfg0 (F := F)).N) → ((cfg0 (F := F)).win w).block.Idx → Elt F ((cfg0 (F := F)).win w).elt
  | ⟨0, _⟩, t => (reads V c t).q
  | ⟨1, _⟩, t => (reads V c t).k
  | ⟨2, _⟩, t => (reads V c t).v
  | ⟨3, _⟩, t => (reads V c t).g
  | ⟨4, _⟩, t => (reads V c t).o
  | ⟨5, _⟩, t => (reads V c t).dm
  | ⟨6, _⟩, t => (reads V c t).dq (pt (grid0.coords t))
  | ⟨7, _⟩, t => k0_pay4 (traj V c (t.val + 1)).1
  | ⟨8, _⟩, t => k0_pay5 (traj V c (t.val + 1)).2
  | ⟨9, _⟩, t => (reads V c t).dg
  | ⟨_ + 10, h⟩, _ => absurd h (Nat.not_lt.2 (Nat.le_add_left _ _))

/-- The scratch buffers between points: anything before the first, then the gradients so far. -/
def Inv (c : Dev nD) (n : ℕ) : sProp (Res F) :=
  if n = 0 then Pipeline.ΦA spec0 c
  else iprop((owns (c : Thread nD τ) (Memref.whole cc0_scratch0) fullShare (traj V c n).1
    ∗ owns (c : Thread nD τ) (Memref.whole cc0_scratch1) fullShare (traj V c n).2) ∗ ∃ r, prngReg c r)

/-- The proof data of the one pipeline. -/
def dats (_ : Fin 1) (c : Dev nD) : Dat τ (Elt F) Unit ℕ (UR nD τ) ℕ (cfg0 (F := F)) c where
  A w := V c (Pipeline.arrRef spec0 w)
  after w t := left V c w t
  Φ t := Inv V c t.val
  q w := Pipeline.shareOf spec0 w
  owed _ := 0

end Cert.Proof.SB

end
-- ==== Proof.SB.Run.lean ====
/-
  The pipeline's body obligation: at every grid point the kernel's body takes the blocks it is handed and the gradients
  carried so far to what the proof data says, and the launch: from any memory whose semaphore counters are zero every
  weakly fair execution ends, with every array of the pipeline at what the write-backs leave and every other buffer as
  the host operations before the call left it.
-/
module

public import proofs.«01_k».proof.Proof.SB.Data
public import Idealize.ShloMosaic.Lib.Pipeline.FrameBody
public import proofs.«01_k».proof.Proof.Gen.KernelIdeal.Launch
public import proofs.«01_k».proof.Proof.Gen.KernelIdeal.Points
public import Idealize.ShloMosaic.Lib.Pipeline.Frame

@[expose] public section

noncomputable section

namespace Cert.Proof.SB

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf kernel pipe)

variable {F : FTy → Type} [FloatOps F]

variable (V : Vals F)

/-! ### What a point finds in the input windows -/

theorem found_0 (c : Dev nD) (t : Fin (cfg0 (F := F)).N) (d) : (dats V 0 c).before 0 t d = (reads V c t).q :=
  (dats V 0 c).before_in_eq_fetched 0 rfl (fun _ => rfl) (fun _ _ _ => rfl) (fun _ => rfl) t d
theorem found_1 (c : Dev nD) (t : Fin (cfg0 (F := F)).N) (d) : (dats V 0 c).before 1 t d = (reads V c t).k :=
  (dats V 0 c).before_in_eq_fetched 1 rfl (fun _ => rfl) (fun _ _ _ => rfl) (fun _ => rfl) t d
theorem found_2 (c : Dev nD) (t : Fin (cfg0 (F := F)).N) (d) : (dats V 0 c).before 2 t d = (reads V c t).v :=
  (dats V 0 c).before_in_eq_fetched 2 rfl (fun _ => rfl) (fun _ _ _ => rfl) (fun _ => rfl) t d
theorem found_3 (c : Dev nD) (t : Fin (cfg0 (F := F)).N) (d) : (dats V 0 c).before 3 t d = (reads V c t).g :=
  (dats V 0 c).before_in_eq_fetched 3 rfl (fun _ => rfl) (fun _ _ _ => rfl) (fun _ => rfl) t d
theorem found_4 (c : Dev nD) (t : Fin (cfg0 (F := F)).N) (d) : (dats V 0 c).before 4 t d = (reads V c t).o :=
  (dats V 0 c).before_in_eq_fetched 4 rfl (fun _ => rfl) (fun _ _ _ => rfl) (fun _ => rfl) t d
theorem found_5 (c : Dev nD) (t : Fin (cfg0 (F := F)).N) (d) : (dats V 0 c).before 5 t d = (reads V c t).dm :=
  (dats V 0 c).before_in_eq_fetched 5 rfl (fun _ => rfl) (fun _ _ _ => rfl) (fun _ => rfl) t d

/-! ### The grid -/

/-- The second coordinate of a point counts the query blocks of a head. -/
theorem pt_val : ∀ t : Fin grid0.N, (pt (grid0.coords t)).val = t.val % 8 := by decide +kernel

theorem pt_last (t : Fin grid0.N) : pt (grid0.coords t) = 7 ↔ t.val % 8 = 7 := by
  rw [← pt_val t, Fin.ext_iff]; rfl

/-! ### The scratch buffers between points -/

/-- At a point the scratch buffers hold some contents from which the point's pass ends where it ends from the gradients
    so far. -/
theorem inv_open (c : Dev nD) (t : Fin (cfg0 (F := F)).N) : Inv V c t.val ⊢
    iprop(∃ dk dv, ⌜(reads V c t).after (pt (grid0.coords t)) dk dv
        = (reads V c t).after (pt (grid0.coords t)) (traj V c t.val).1 (traj V c t.val).2⌝
      ∗ (owns (c : Thread nD τ) (Memref.whole cc0_scratch0) fullShare dk
        ∗ owns (c : Thread nD τ) (Memref.whole cc0_scratch1) fullShare dv) ∗ ∃ r, prngReg c r) := by
  unfold Inv
  by_cases h : t.val = 0
  · rw [if_pos h]
    unfold Pipeline.ΦA
    rw [scopedRest0_eq]
    iintro ⟨⟨⟨%f, Hf⟩, ⟨%g, Hg⟩⟩, Hr⟩
    iexists f, g
    have hp : pt (grid0.coords t) = 0 := Fin.ext (by rw [pt_val t, h]; rfl)
    isplitr
    · ipureintro; rw [hp]; unfold Reads.after; simp only [if_true]
    isplitr [Hr]
    · rw [owns_whole_eq, owns_whole_eq]
      isplitl [Hf]
      · iexists f; isplitr; · (ipureintro; rfl)
        iexact Hf
      · iexists g; isplitr; · (ipureintro; rfl)
        iexact Hg
    · iexact Hr
  · rw [if_neg h]
    iintro ⟨H, Hr⟩
    iexists (traj V c t.val).1, (traj V c t.val).2
    isplitr; · (ipureintro; rfl)
    isplitl [H]; · iexact H
    iexact Hr

/-- The gradients of the keys and the values after a point. -/
theorem inv_close (c : Dev nD) (t : Fin (cfg0 (F := F)).N) :
    iprop((owns (c : Thread nD τ) (Memref.whole cc0_scratch0) fullShare
          ((reads V c t).after (pt (grid0.coords t)) (traj V c t.val).1 (traj V c t.val).2).dk
        ∗ owns (c : Thread nD τ) (Memref.whole cc0_scratch1) fullShare
          ((reads V c t).after (pt (grid0.coords t)) (traj V c t.val).1 (traj V c t.val).2).dv) ∗ ∃ r, prngReg c r)
      ⊢ Inv V c (t.val + 1) := by
  unfold Inv
  rw [if_neg (Nat.succ_ne_zero _), traj_succ]

theorem inv_last (c : Dev nD) : Inv V c (cfg0 (F := F)).N ⊢ Pipeline.ΦA spec0 c := by
  unfold Inv
  rw [if_neg (by rw [show (cfg0 (F := F)).N = 256 from N_0]; decide)]
  unfold Pipeline.ΦA
  rw [scopedRest0_eq, owns_whole_eq, owns_whole_eq]
  iintro ⟨⟨⟨%f, -, Hf⟩, ⟨%g, -, Hg⟩⟩, Hr⟩
  isplitr [Hr]
  · isplitl [Hf]
    · iexists f; iexact Hf
    · iexists g; iexact Hg
  · iexact Hr

/-! ### The obligation -/

/-- What the pipeline asks back of a window: where the body leaves it alone, what was found there. -/
def givenBack (c : Dev nD) (w : Fin (cfg0 (F := F)).W) (t : Fin (cfg0 (F := F)).N) : sProp (Res F) :=
  match (cfg0 (F := F)).idle w ((cfg0 (F := F)).grid.coords t) with
          | true =>
            match ((cfg0 (F := F)).win w).flush t with
            | false => iprop(∃ d, owns (c : Thread nD τ) (((cfg0 (F := F)).win w).stage ((cfg0 (F := F)).slots t w)) fullShare ((dats V 0 c).before w t d))
            | true =>
              match (cfg0 (F := F)).loose w with
              | true => iprop(∃ d, owns (c : Thread nD τ) (((cfg0 (F := F)).win w).stage ((cfg0 (F := F)).slots t w)) fullShare (((cfg0 (F := F)).win w).fill ((cfg0 (F := F)).grid.coords t) d (((cfg0 (F := F)).win w).cut ((cfg0 (F := F)).grid.coords t) ((dats V 0 c).after w t))))
              | false => owns (c : Thread nD τ) (((cfg0 (F := F)).win w).stage ((cfg0 (F := F)).slots t w)) fullShare ((dats V 0 c).after w t)
          | false =>
            match (cfg0 (F := F)).loose w with
            | true => iprop(∃ d, owns (c : Thread nD τ) (((cfg0 (F := F)).win w).stage ((cfg0 (F := F)).slots t w)) fullShare (((cfg0 (F := F)).win w).fill ((cfg0 (F := F)).grid.coords t) d (((cfg0 (F := F)).win w).cut ((cfg0 (F := F)).grid.coords t) ((dats V 0 c).after w t))))
            | false => owns (c : Thread nD τ) (((cfg0 (F := F)).win w).stage ((cfg0 (F := F)).slots t w)) fullShare ((dats V 0 c).after w t)

/-- What a point gives back of a window it may leave alone: the contents found where it does, else the new ones. -/
theorem given_back (c : Dev nD) (w : Fin (cfg0 (F := F)).W) (t : Fin (cfg0 (F := F)).N) (d)
    (hl : (cfg0 (F := F)).loose w = false)
    (hf : (cfg0 (F := F)).idle w ((cfg0 (F := F)).grid.coords t) = true → ((cfg0 (F := F)).win w).flush t = false) :
    owns (c : Thread nD τ) (((cfg0 (F := F)).win w).stage ((cfg0 (F := F)).slots t w)) fullShare
        (if (cfg0 (F := F)).idle w ((cfg0 (F := F)).grid.coords t) = true then (dats V 0 c).before w t d else (dats V 0 c).after w t)
      ⊢ givenBack V c w t := by
  unfold givenBack
  by_cases hi : (cfg0 (F := F)).idle w ((cfg0 (F := F)).grid.coords t) = true
  · rw [if_pos hi, hi, hf hi]
    iintro H; iexists d; iexact H
  · rw [if_neg hi, (Bool.not_eq_true _).mp hi, hl]

theorem idle_7 (t : Fin (cfg0 (F := F)).N) : ((cfg0 (F := F)).idle 7 ((cfg0 (F := F)).grid.coords t) = true) = ¬ pt (grid0.coords t) = 7 := by
  rw [← last_iff]
  show ((!(k0_cond2 (grid0.coords t) == 1#1)) = true) = _
  simp

theorem keep_7 (t : Fin (cfg0 (F := F)).N) (h : (cfg0 (F := F)).idle 7 ((cfg0 (F := F)).grid.coords t) = true) :
    ((cfg0 (F := F)).win 7).flush t = false := by
  rw [idle_7, pt_last] at h
  rw [← Bool.not_eq_true, flush0_7]; exact h

theorem keep_8 (t : Fin (cfg0 (F := F)).N) (h : (cfg0 (F := F)).idle 8 ((cfg0 (F := F)).grid.coords t) = true) :
    ((cfg0 (F := F)).win 8).flush t = false := by
  have h' : (cfg0 (F := F)).idle 7 ((cfg0 (F := F)).grid.coords t) = true := h
  rw [idle_7, pt_last] at h'
  rw [← Bool.not_eq_true, flush0_8]; exact h'

theorem body_row (t : Fin (cfg0 (F := F)).N) :
    defs₀ (F := F) .tc cfg0.body (cfg0.bodyArgs t (cfg0.slots t)) = bodyAt0 t := by
  unfold defs₀; rw [Defs.onTc_tc]

/-- What the body is handed at a point. -/
def handed (c : Dev nD) (t : Fin (cfg0 (F := F)).N) : sProp (Res F) :=
  iprop((dats V 0 c).Φ t.castSucc ∗ (dats V 0 c).owesAt () t.castSucc
      ∗ (∃ d, owns (c : Thread nD τ) (st0_0 t) fullShare ((dats V 0 c).before 0 t d))
      ∗ (∃ d, owns (c : Thread nD τ) (st0_1 t) fullShare ((dats V 0 c).before 1 t d))
      ∗ (∃ d, owns (c : Thread nD τ) (st0_2 t) fullShare ((dats V 0 c).before 2 t d))
      ∗ (∃ d, owns (c : Thread nD τ) (st0_3 t) fullShare ((dats V 0 c).before 3 t d))
      ∗ (∃ d, owns (c : Thread nD τ) (st0_4 t) fullShare ((dats V 0 c).before 4 t d))
      ∗ (∃ d, owns (c : Thread nD τ) (st0_5 t) fullShare ((dats V 0 c).before 5 t d))
      ∗ (∃ d, owns (c : Thread nD τ) (st0_6 t) fullShare ((dats V 0 c).before 6 t d))
      ∗ (∃ d, owns (c : Thread nD τ) (st0_7 t) fullShare ((dats V 0 c).before 7 t d))
      ∗ (∃ d, owns (c : Thread nD τ) (st0_8 t) fullShare ((dats V 0 c).before 8 t d))
      ∗ (∃ d, owns (c : Thread nD τ) (st0_9 t) fullShare ((dats V 0 c).before 9 t d)))

/-- What it gives back. -/
def returned (c : Dev nD) (t : Fin (cfg0 (F := F)).N) : sProp (Res F) :=
  iprop((dats V 0 c).Φ t.succ ∗ (dats V 0 c).owesAt () t.succ
      ∗ owns (c : Thread nD τ) (st0_0 t) fullShare ((dats V 0 c).after 0 t)
      ∗ owns (c : Thread nD τ) (st0_1 t) fullShare ((dats V 0 c).after 1 t)
      ∗ owns (c : Thread nD τ) (st0_2 t) fullShare ((dats V 0 c).after 2 t)
      ∗ owns (c : Thread nD τ) (st0_3 t) fullShare ((dats V 0 c).after 3 t)
      ∗ owns (c : Thread nD τ) (st0_4 t) fullShare ((dats V 0 c).after 4 t)
      ∗ owns (c : Thread nD τ) (st0_5 t) fullShare ((dats V 0 c).after 5 t)
      ∗ owns (c : Thread nD τ) (st0_6 t) fullShare ((dats V 0 c).after 6 t)
      ∗ givenBack V c 7 t
      ∗ givenBack V c 8 t
      ∗ owns (c : Thread nD τ) (st0_9 t) fullShare ((dats V 0 c).after 9 t))

set_option maxHeartbeats 4000000 in
theorem sound_body (c : Dev nD) (t : Fin (cfg0 (F := F)).N) :
    handed V c t ⊢ wp frame (wpE (defs₀ (F := F)) 𝒱₀ (c : Thread nD τ) none) Set.univ (bodyAt0 t) fun _ => returned V c t := by
  unfold handed returned
  simp only [found_0, found_1, found_2, found_3, found_4, found_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HI := (show (dats V 0 c).Φ t.castSucc ⊢ _ from inv_open V c t) $$ HΦ
  icases HI with ⟨%dk, %dv, %hd, ⟨Hk, Hv⟩, Hr⟩
  iapply (wp_wand _ _ _) $$ [H0 H1 H2 H3 H4 H5 H6 H7 H8 H9 Hk Hv]
  · iapply (body_wp c (grid0.coords t) (reads V c t) _ _ _ _ _ _ _ _ _ _ _ _ _ _ _ _ _ _ _ _ _ _ _ _
      ((dats V 0 c).before 6 t d6) ((dats V 0 c).before 9 t d9) ((dats V 0 c).before 7 t d7) ((dats V 0 c).before 8 t d8) dk dv)
    unfold heldIn heldOut
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    isplitl [Hk]; · iexact Hk
    iexact Hv
  iintro %_ ⟨HA, HB⟩
  unfold heldIn heldOut
  icases HA with ⟨H0, H1, H2, H3, H4, H5⟩
  icases HB with ⟨H6, H7, H8, H9, Hk, Hv⟩
  rw [hd]
  isplitl [Hk Hv Hr]
  · iapply (show _ ⊢ (dats V 0 c).Φ t.succ from inv_close V c t)
    iframe
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (given_back V c 7 t d7 rfl (keep_7 t))
    iapply (Entails.of_eq ?_) $$ H7
    rw [if_congr (iff_of_eq (idle_7 t)) rfl rfl]
    unfold atLast
    rw [ite_not, show (dats V 0 c).after 7 t = k0_pay4 (traj V c (t.val + 1)).1 from rfl, traj_succ]
    rfl
  isplitl [H8]
  · iapply (given_back V c 8 t d8 rfl (keep_8 t))
    iapply (Entails.of_eq ?_) $$ H8
    rw [if_congr (iff_of_eq (show ((cfg0 (F := F)).idle 8 ((cfg0 (F := F)).grid.coords t) = true) = _ from idle_7 t)) rfl rfl]
    unfold atLast
    rw [ite_not, show (dats V 0 c).after 8 t = k0_pay5 (traj V c (t.val + 1)).2 from rfl, traj_succ]
    rfl
  iexact H9

theorem obligation (c : Dev nD) : BodyObligationLoose (dats V 0 c) (defs₀ (F := F)) 𝒱₀ () Set.univ := fun t => by
  rw [bigSep_W0, bigSep_W0, body_row]
  exact triple_restated (sound_body V c t) rfl .rfl fun _ => .rfl

/-! ### The run -/

/-- The buffers' contents when the call is reached: the host operations before it have run. -/
def entry (m : (ℓ : Loc nD τ sig) → Buf (Elt F) ℓ) : Vals F := fun c b =>
  StableHlo.after [hostOps0, hostOps0_1, hostOps0_2, hostOps0_3, hostOps0_4, hostOps0_5, hostOps0_6, hostOps0_7, hostOps0_8, hostOps0_9].flatten
    (fun b => m (c, b)) b

theorem run_main (m : (ℓ : Loc nD τ sig) → Buf (Elt F) ℓ) (ρ : Dev nD → PrngReg) :
    θ_run defs (onTc (τ := τ) (main (F := F))) ⟨m, fun _ => 0, ρ⟩
      (fun r => Pipeline.FramePost cfgs (dats (entry m)) 0 (entry m) r ∧ r.2.sem = fun _ => 0) :=
  Pipeline.θ_run_frame_track_shared cfgs (dats (entry m)) 0 launch₀0 defs₀ 𝒱₀ m ρ main
    (obligation (entry m)) (fun _ _ _ => rfl) (fun _ _ => rfl) (entry m)
    (Pipeline.hmain_prefixes cfgs 0 defs₀ 𝒱₀ m main _
      ⟨hostOps0_sub, hostOps0_1_sub, hostOps0_2_sub, hostOps0_3_sub, hostOps0_4_sub, hostOps0_5_sub, hostOps0_6_sub, hostOps0_7_sub, hostOps0_8_sub, hostOps0_9_sub⟩
      (by repeat' constructor) main_chain)
    (fun _ _ => rfl) (fun _ => .rfl) (fun c => inv_last (entry m) c) _ (fun _ h => h)

end Cert.Proof.SB

end
-- ==== Proof.SB.Args.lean ====
/-
  The arguments after the run: the host operations before the call write none of them, and the call only reads them.
-/
module

public import proofs.«01_k».proof.Proof.SB.Run
public import Idealize.ShloMosaic.Lib.Pipeline.Value
public import Idealize.ShloMosaic.Lib.StableHlo.RunRead
public import proofs.«01_k».proof.Proof.Gen.KernelIdeal.Launch
public import proofs.«01_k».proof.Proof.Gen.KernelIdeal.Points
public import Idealize.ShloMosaic.Lib.Pipeline.Frame

@[expose] public section

noncomputable section

namespace Cert.Proof.SB

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf kernel pipe)

variable {F : FTy → Type} [FloatOps F]

variable (m : (ℓ : Loc nD τ sig) → Buf (Elt F) ℓ)

theorem entry_arg0 (c : Dev nD) : entry m c main_arg0 = m ((c : Thread nD τ).loc main_arg0) := by
  unfold entry
  after_reads_simp

theorem entry_arg1 (c : Dev nD) : entry m c main_arg1 = m ((c : Thread nD τ).loc main_arg1) := by
  unfold entry
  after_reads_simp

theorem entry_arg2 (c : Dev nD) : entry m c main_arg2 = m ((c : Thread nD τ).loc main_arg2) := by
  unfold entry
  after_reads_simp

/-- The results and the arguments in a final state of the call. -/
theorem post_results (V : Vals F) (r : PUnit × MemSt nD τ sig (Elt F)) (h : Pipeline.FramePost cfgs (dats V) 0 V r) (c : Dev nD) :
    (r.2.mem ((c : Thread nD τ).loc main_v29_0) = (dats V 0 c).arrAt 6 (cfg0 (F := F)).N
      ∧ r.2.mem ((c : Thread nD τ).loc main_v29_1) = (dats V 0 c).arrAt 7 (cfg0 (F := F)).N
      ∧ r.2.mem ((c : Thread nD τ).loc main_v29_2) = (dats V 0 c).arrAt 8 (cfg0 (F := F)).N
      ∧ r.2.mem ((c : Thread nD τ).loc main_v29_3) = (dats V 0 c).arrAt 9 (cfg0 (F := F)).N)
      ∧ r.2.mem ((c : Thread nD τ).loc main_arg0) = V c main_arg0
      ∧ r.2.mem ((c : Thread nD τ).loc main_arg1) = V c main_arg1
      ∧ r.2.mem ((c : Thread nD τ).loc main_arg2) = V c main_arg2 := by
  have h := (h c).1
  refine ⟨⟨h 6, h 7, h 8, h 9⟩, ?_, ?_, ?_⟩
  · exact (h 0).trans ((dats V 0 c).arrAt_in 0 rfl _)
  · exact (h 3).trans ((dats V 0 c).arrAt_in 3 rfl _)
  · exact (h 5).trans ((dats V 0 c).arrAt_in 5 rfl _)

/-- Each result after the run, each argument, and the semaphores. -/
theorem run_results (ρ : Dev nD → PrngReg) :
    θ_run defs (onTc (τ := τ) (main (F := F))) ⟨m, fun _ => 0, ρ⟩ (fun r => (∀ c : Dev nD,
      (r.2.mem ((c : Thread nD τ).loc main_v29_0) = (dats (entry m) 0 c).arrAt 6 (cfg0 (F := F)).N
      ∧ r.2.mem ((c : Thread nD τ).loc main_v29_1) = (dats (entry m) 0 c).arrAt 7 (cfg0 (F := F)).N
      ∧ r.2.mem ((c : Thread nD τ).loc main_v29_2) = (dats (entry m) 0 c).arrAt 8 (cfg0 (F := F)).N
      ∧ r.2.mem ((c : Thread nD τ).loc main_v29_3) = (dats (entry m) 0 c).arrAt 9 (cfg0 (F := F)).N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  refine (θ_run defs _ _).mono (fun r h => ⟨fun c => ?_, h.2⟩) (run_main m ρ)
  have h' := post_results (entry m) r h.1 c
  rw [entry_arg0, entry_arg1, entry_arg2] at h'
  exact h'

end Cert.Proof.SB

end
-- ==== Proof.SB.Frames.lean ====
/-
  The frames: each program runs from any memory whose semaphore counters are zero, leaves its arguments as they were and
  its counters at zero. The run of the kernel is proved over any float values; it is taken
  at bits for the kernel as printed and at the ideal instance for its ideal form.
-/
module

public import proofs.«01_k».proof.Defs
public import proofs.«01_k».proof.Proof.SB.Args
public import proofs.«01_k».proof.Proof.SBK.Args
public import proofs.«01_k».proof.Proof.Gen.Kernel
public import proofs.«01_k».proof.Proof.Gen.ReferenceIdeal.Run
public import Idealize.ShloMosaic.Lib.Quiescent

@[expose] public section

noncomputable section

namespace Cert.Pre_finite_and_alive.Gen

/-- The side conditions the precondition states. -/
instance facts : Cert.Pre_finite_and_alive.Facts where
  bitsLt_bf16_f32 := by decide
  slices_S4096x12288_S4096x4096_0_0 := by decide
  slices_S4096x12288_S4096x4096_0_4096 := by decide
  slices_S4096x12288_S4096x4096_0_8192 := by decide
  shapeCasts_S4096x4096_S4096x32x128 := by decide
  bcast_S_S32x4096x4096 := by decide
  bcast_S4096_S4096x1_0 := by decide
  bcast_S4096_S1x4096_1 := by decide
  bcast_S_S1x4096 := by decide
  bcast_S1x4096_S4096x4096_0_1 := by decide
  bcast_S4096x1_S4096x4096_0_1 := by decide
  bcast_S4096x4096_S32x4096x4096_1_2 := by decide
  reducesTo_S32x4096x4096_S32x4096_d2 := by decide
  h_S_ := by decide
  shapeCasts_S32x4096_S32x8x512 := by decide
  bcast_S_S4096x12288 := by decide
  bcast_S_S4096x4096 := by decide
  reducesTo_S32x8x512_S32x8_d2 := by decide
  bcast_S_S32x8 := by decide
  dot_S4096x32x128_S4096x32x128_S32x4096x4096_2_2_0_0_1_1_wf := by decide

end Cert.Pre_finite_and_alive.Gen

namespace Cert.Proof.SB

open Idealize.ShloMosaic Idealize.ShloMosaic.TcCoe
open Idealize.SL.Sem

theorem frame_kernel : Cert.quiescent_Kernel (hKernel := Cert.Kernel.Gen.facts) := fun m ρ _ =>
  (θ_run Cert.Kernel.defs _ _).mono (fun _ h => ⟨fun c => (h.1 c).2, h.2⟩) (Cert.Proof.SBK.run_results (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_results (F := Ideal) m ρ)

theorem frame_ideal_pre : Cert.quiescent_KernelIdeal_pre_finite_and_alive (hKernelIdeal := Cert.KernelIdeal.Gen.facts)
    (hPre_finite_and_alive := Cert.Pre_finite_and_alive.Gen.facts) := fun m ρ _ =>
  (θ_run Cert.KernelIdeal.defs _ _).mono (fun _ h => ⟨fun c => (h.1 c).2, h.2⟩) (run_results (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_reference_pre : Cert.quiescent_ReferenceIdeal_pre_finite_and_alive (hReferenceIdeal := Cert.ReferenceIdeal.Gen.facts)
    (hPre_finite_and_alive := Cert.Pre_finite_and_alive.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Proof.SB

end
-- ==== Proof.SB.TileVal.lean ====
/-
  One tile at the extended reals: when what a tile reads is finite, everything it computes is the coerced value of the
  real model.
-/
module

public import proofs.«01_k».proof.Proof.SB.Tile
public import proofs.«01_k».proof.Proof.SB.Model
public import Idealize.ShloMosaic.Lib.WordCmp

@[expose] public section

noncomputable section

namespace Cert.Proof.SB

open Cert.KernelIdeal Cert.KernelIdeal.Gen
open Idealize.ShloMosaic Idealize.SL.Sem

/-! ## Words -/

theorem ofInt_bit (p : Bool) :
    FloatOps.sitofp (F := Ideal) .f32 (BitVec.setWidth 32 (BitVec.ofBool p)) = (((if p then 1 else 0 : ℝ)) : EReal) := by
  cases p
  · show (((BitVec.setWidth 32 (BitVec.ofBool false)).toInt : ℝ) : EReal) = _
    have : (BitVec.setWidth 32 (BitVec.ofBool false)).toInt = 0 := by decide
    rw [this]; simp
  · show (((BitVec.setWidth 32 (BitVec.ofBool true)).toInt : ℝ) : EReal) = _
    have : (BitVec.setWidth 32 (BitVec.ofBool true)).toInt = 1 := by decide
    rw [this]; simp

theorem sgt_bit {x c : ℕ} (hx : x < 4096) (hc : c < 4096) :
    IntOp.cmpi .sgt (BitVec.ofNat 32 x) (BitVec.ofNat 32 c) = BitVec.ofBool (decide (c < x)) :=
  WordCmp.cmpi_sgt_ofNat (by omega) (by omega)

theorem slt_bit {x c : ℕ} (hx : x < 4096) (hc : c < 4096) :
    IntOp.cmpi .slt (BitVec.ofNat 32 x) (BitVec.ofNat 32 c) = BitVec.ofBool (decide (x < c)) :=
  WordCmp.cmpi_slt_ofNat (by omega) (by omega)

theorem select_bit {α : Type} (p : Prop) [Decidable p] (x y : α) :
    Scalar.select (BitVec.ofBool (decide p)) x y = if p then x else y := by
  by_cases h : p
  · rw [if_pos h, decide_eq_true h]; rfl
  · rw [if_neg h, decide_eq_false h]; rfl

/-- The scale. -/
def scale : ℝ := (Ideal.ofBits .f32 0x3DB504F3#32 : EReal).toReal

theorem scale_coe : (Ideal.ofBits .f32 1035273459#32 : EReal) = ((scale : ℝ) : EReal) := by
  unfold scale
  refine (EReal.coe_toReal ?_ ?_).symm <;> simp [Ideal.ofBits, Ideal.ieee, -EReal.coe_mul]

/-! ## The operations -/

theorem scores_val (q k : FVec Ideal S256x128 .bf16) (f g : ℕ → Fin 128 → ℝ) (t s : ℕ)
    (hq : ∀ (r : Fin 256) d, q (ix2 r d) = (f (t + r.val) d : EReal))
    (hk : ∀ (r : Fin 256) d, k (ix2 r d) = (g (s + r.val) d : EReal)) (r c : Fin 256) :
    scores q k (ix2 r c) = (((∑ d, f (t + r.val) d * g (s + c.val) d) * scale : ℝ) : EReal) := by
  pointwise [scores, rowsDot, scales]
  simp only [hq, hk, ← EReal.coe_mul, coe_sum, scale_coe]

theorem rowsDot_val (q k : FVec Ideal S256x128 .bf16) (f g : ℕ → Fin 128 → ℝ) (t s : ℕ)
    (hq : ∀ (r : Fin 256) d, q (ix2 r d) = (f (t + r.val) d : EReal))
    (hk : ∀ (r : Fin 256) d, k (ix2 r d) = (g (s + r.val) d : EReal)) (r c : Fin 256) :
    rowsDot q k (ix2 r c) = ((∑ d, f (t + r.val) d * g (s + c.val) d : ℝ) : EReal) := by
  pointwise [rowsDot]
  simp only [hq, hk, ← EReal.coe_mul, coe_sum]

theorem logMiss_val (z : FVec Ideal S256x256 .f32) (r c : Fin 256) (x : ℝ) (hz : z (ix2 r c) = (x : EReal)) :
    logMiss z (ix2 r c) = ((-sp x : ℝ) : EReal) := by
  pointwise [logMiss, zeros]
  rw [hz]
  have ha : FloatOps.absf (F := Ideal) (φ := .f32) (x : EReal) = ((|x| : ℝ) : EReal) := coe_abs x
  rw [ha]
  have h0 : (0 : EReal) - ((|x| : ℝ) : EReal) = ((-|x| : ℝ) : EReal) := by
    rw [← EReal.coe_zero, ← EReal.coe_sub, zero_sub]
  have h1 : (0 : EReal) - (x : EReal) = ((-x : ℝ) : EReal) := by
    rw [← EReal.coe_zero, ← EReal.coe_sub, zero_sub]
  rw [h0, h1, log_one_add_exp, ← EReal.coe_zero, coe_min, ← EReal.coe_sub, min_sub_log]

theorem rowSum_val (z : FVec Ideal S256x256 .f32) (r : Fin 256) (f : Fin 256 → ℝ)
    (hz : ∀ c, z (ix2 r c) = (f c : EReal)) : rowSum z (ix2 r 0) = ((∑ c, f c : ℝ) : EReal) := by
  pointwise [rowSum]
  simp only [hz, coe_sum]

theorem sumsAfter_val (z : FVec Ideal S256x256 .f32) (r c : Fin 256) (f : ℕ → ℝ) (b : ℕ)
    (hz : ∀ x : Fin 256, z (ix2 r x) = (f (b + x.val) : EReal)) :
    sumsBy k0_pay59 z (ix2 r c) = ((∑ i ∈ Finset.Ico (b + c.val + 1) (b + 256), f i : ℝ) : EReal) := by
  pointwise [sumsBy, k0_pay59]
  have h1 : ∀ x : Fin 256, IntOp.cmpi .sgt (BitVec.ofNat 32 x.val) (BitVec.ofNat 32 c.val) = BitVec.ofBool (decide (c.val < x.val)) :=
    fun x => sgt_bit (by omega) (by omega)
  simp only [h1, ofInt_bit, hz, ← EReal.coe_mul, ← EReal.coe_sub, sub_self, zero_mul, coe_sum, ← EReal.coe_add,
    Finset.sum_const_zero, add_zero, decide_eq_true_eq]
  rw [sum_after]

theorem sumsBefore_val (z : FVec Ideal S256x256 .f32) (r c : Fin 256) (f : ℕ → ℝ) (b : ℕ)
    (hz : ∀ x : Fin 256, z (ix2 r x) = (f (b + x.val) : EReal)) :
    sumsBy k0_pay60 z (ix2 r c) = ((∑ i ∈ Finset.Ico b (b + c.val), f i : ℝ) : EReal) := by
  pointwise [sumsBy, k0_pay60]
  have h1 : ∀ x : Fin 256, IntOp.cmpi .slt (BitVec.ofNat 32 x.val) (BitVec.ofNat 32 c.val) = BitVec.ofBool (decide (x.val < c.val)) :=
    fun x => slt_bit (by omega) (by omega)
  simp only [h1, ofInt_bit, hz, ← EReal.coe_mul, ← EReal.coe_sub, sub_self, zero_mul, coe_sum, ← EReal.coe_add,
    Finset.sum_const_zero, add_zero, decide_eq_true_eq]
  rw [sum_before f 256 c.val b c.isLt.le]

/-! ## The mask -/

/-- The mask `m` of the tile at position `s` against the queries from `t` on keeps the keys before the query. -/
def Sees (m : FVec Ideal S256x256 .f32 → FVec Ideal S256x256 .f32) (t s : ℕ) : Prop :=
  ∀ x (r c : Fin 256), m x (ix2 r c) = if s + c.val < t + r.val then x (ix2 r c) else 0

theorem sees_id {t s : ℕ} (h : s + 256 ≤ t) : Sees id t s := fun x r c => by
  rw [if_pos (by omega)]; rfl

theorem sees_lower (t : ℕ) : Sees lower t t := fun x r c => by
  pointwise [lower, k0_pay61, zeros]
  rw [slt_bit (by omega) (by omega), select_bit]
  by_cases h : c.val < r.val
  · rw [if_pos h, if_pos (by omega)]
  · rw [if_neg h, if_neg (by omega)]

/-! ## One tile against one block -/

/-- The block holds the queries, and the gradients of the outputs, from position `t` on. -/
structure BlockAt (H : Head) (t : ℕ) (b : Block Ideal) : Prop where
  q : ∀ (r : Fin 256) d, b.1 (ix2 r d) = (H.q (t + r.val) d : EReal)
  g : ∀ (r : Fin 256) d, b.2 (ix2 r d) = (H.g (t + r.val) d : EReal)

/-- The tile holds the keys and values from position `s` on. -/
structure TileAt (H : Head) (s : ℕ) (k v : FVec Ideal S256x128 .bf16) : Prop where
  k : ∀ (r : Fin 256) d, k (ix2 r d) = (H.k (s + r.val) d : EReal)
  v : ∀ (r : Fin 256) d, v (ix2 r d) = (H.v (s + r.val) d : EReal)

/-- What a block carries when the tiles left of position `n` are done. -/
structure CarryAt (H : Head) (t n : ℕ) (s : Carry Ideal) : Prop where
  rem : ∀ r : Fin 256, s.1 (ix2 r 0) = (H.suffix (t + r.val) n : EReal)
  pre : ∀ r : Fin 256, s.2.1 (ix2 r 0) = (H.left (t + r.val) n : EReal)
  dq : ∀ (r : Fin 256) d, s.2.2 (ix2 r d) = (H.dq n (t + r.val) d : EReal)

section

variable {H : Head} (hc : H.c = scale) {m : FVec Ideal S256x256 .f32 → FVec Ideal S256x256 .f32} {t s : ℕ} (hm : Sees m t s)
  {b : Block Ideal} (hb : BlockAt H t b) {k v : FVec Ideal S256x128 .bf16}
include hc hm hb

theorem tileMiss_val (hk : ∀ (r : Fin 256) d, k (ix2 r d) = (H.k (s + r.val) d : EReal)) (r c : Fin 256) :
    tileMiss m b k (ix2 r c) = (H.l (t + r.val) (s + c.val) : EReal) := by
  unfold tileMiss
  rw [hm, logMiss_val _ r c _ (scores_val b.1 k H.q H.k t s hb.q hk r c), Head.l, Head.z, hc]
  split <;> simp

theorem missSum_val (hk : ∀ (r : Fin 256) d, k (ix2 r d) = (H.k (s + r.val) d : EReal)) (r : Fin 256) :
    rowSum (tileMiss m b k) (ix2 r 0) = ((∑ i ∈ Finset.Ico s (s + 256), H.l (t + r.val) i : ℝ) : EReal) := by
  rw [rowSum_val _ r _ fun c => tileMiss_val hc hm hb hk r c, sum_whole (fun i => H.l (t + r.val) i) 256 s]

variable (hs : s + 256 ≤ 4096) (hk : TileAt H s k v) {x : Carry Ideal} (hx : CarryAt H t s x)
include hs hk hx

theorem rem_val (r : Fin 256) :
    x.1 (ix2 r 0) - rowSum (tileMiss m b k) (ix2 r 0) = (H.suffix (t + r.val) (s + 256) : EReal) := by
  rw [hx.rem, missSum_val hc hm hb hk.k, ← EReal.coe_sub, ← H.suffix_split (t + r.val) (Nat.le_add_right s 256) hs]
  congr 1; ring

theorem tileWeights_val (r c : Fin 256) :
    tileWeights m b k x (ix2 r c) = (H.a (t + r.val) (s + c.val) : EReal) := by
  unfold tileWeights
  rw [hm]
  unfold Head.a
  split
  · pointwise [weights, along]
    rw [sumsAfter_val _ r c (fun i => H.l (t + r.val) i) s fun y => tileMiss_val hc hm hb hk.k r y,
      rem_val hc hm hb hs hk hx, tileMiss_val hc hm hb hk.k, scores_val b.1 k H.q H.k t s hb.q hk.k,
      ← EReal.coe_add, ← EReal.coe_add, ← EReal.coe_add, Ideal.exp_coe,
      H.suffix_split (t + r.val) (by omega) hs, Head.z, hc]
  · simp

theorem tileTake_val (r c : Fin 256) :
    tileTake m b k v x (ix2 r c) = (H.take (t + r.val) (s + c.val) : EReal) := by
  unfold tileTake
  pointwise
  rw [rowsDot_val b.2 v H.g H.v t s hb.g hk.v, tileWeights_val hc hm hb hs hk hx, ← EReal.coe_mul, Head.take]

theorem tileGrad_val (r c : Fin 256) :
    tileGrad m b k v x (ix2 r c) = ((H.dz (t + r.val) (s + c.val) * H.c : ℝ) : EReal) := by
  unfold tileGrad
  pointwise [scales]
  rw [hm, scale_coe, hc, EReal.coe_mul]
  congr 1
  unfold Head.dz
  split
  · pointwise [scoreGrad, along]
    rw [tileTake_val hc hm hb hs hk hx, tileMiss_val hc hm hb hk.k, scores_val b.1 k H.q H.k t s hb.q hk.k,
      sumsBefore_val _ r c (fun i => H.take (t + r.val) i) s fun y => tileTake_val hc hm hb hs hk hx r y, hx.pre,
      ← EReal.coe_add, Ideal.exp_coe, ← EReal.coe_add, Ideal.exp_coe, ← EReal.coe_mul, ← EReal.coe_mul, ← EReal.coe_sub,
      add_comm (∑ i ∈ _, _) (H.left _ _), H.left_split (t + r.val) (Nat.le_add_right s c.val), Head.z, hc]
  · simp

theorem tileNext_val : CarryAt H t (s + 256) (tileNext m b k v x) where
  rem := fun r => rem_val hc hm hb hs hk hx r
  pre := fun r => by
    unfold tileNext
    pointwise
    rw [hx.pre, rowSum_val _ r _ fun c => tileTake_val hc hm hb hs hk hx r c,
      sum_whole (fun i => H.take (t + r.val) i) 256 s, ← EReal.coe_add, H.left_split _ (Nat.le_add_right s 256)]
  dq := fun r d => by
    unfold tileNext
    pointwise
    simp only [hx.dq, tileGrad_val hc hm hb hs hk hx, hk.k, ← EReal.coe_mul, coe_sum, ← EReal.coe_add]
    rw [sum_whole (fun i => (H.dz (t + r.val) i * H.c) * H.k i d) 256 s, H.dq_split _ _ (Nat.le_add_right s 256)]

end

end Cert.Proof.SB

end
-- ==== Proof.SB.RefVal.lean ====
/-
  The reference at the extended reals: on finite arguments every named term is the coerced value of the real model, and so
  is each of its four results.
-/
module

public import proofs.«01_k».proof.Proof.SB.TileVal
public import proofs.«01_k».proof.Proof.SB.Scan
public import proofs.«01_k».proof.Proof.Gen.ReferenceIdeal.Run

@[expose] public section

noncomputable section

namespace Cert.Proof.SB

open Cert.ReferenceIdeal Cert.ReferenceIdeal.Value
open Idealize.ShloMosaic Idealize.SL.Sem

/-- The logistic function. -/
def logis (x : ℝ) : ℝ := 1 / (1 + Real.exp (-x))

theorem logis_val (x : ℝ) : Ideal.div 1 (1 + Ideal.exp ((-x : ℝ) : EReal)) = ((logis x : ℝ) : EReal) := by
  have h : (1 + Real.exp (-x)) ≠ 0 := (one_add_exp_pos (-x)).ne'
  rw [Ideal.exp_coe, ← EReal.coe_one, ← EReal.coe_add]
  unfold logis
  rw [Ideal.div_coe h, ← EReal.coe_mul, one_mul]

/-- Head `h` of the arguments: the products' thirds `x`, the gate `y` and the gradient `w` of the gated outputs. -/
def headOf (x y w : ℕ → ℕ → ℝ) (h : ℕ) : Head where
  c := scale
  q := fun t d => x t (h * 128 + d.val)
  k := fun t d => x t (4096 + (h * 128 + d.val))
  v := fun t d => x t (8192 + (h * 128 + d.val))
  g := fun t d => w t (h * 128 + d.val) * (y t (h * 128 + d.val) * logis (y t (h * 128 + d.val)))

/-- The arguments are the coerced values of `x`, `y` and `w`. -/
structure ArgsAt (x y w : ℕ → ℕ → ℝ) (a0 : (⟨2, ![4096, 12288]⟩ : Shape).Idx → EReal) (a1 a2 : (⟨2, ![4096, 4096]⟩ : Shape).Idx → EReal) : Prop where
  x : ∀ (i : Fin 4096) (j : Fin 12288), a0 (ix2 i j) = (x i.val j.val : EReal)
  y : ∀ i j : Fin 4096, a1 (ix2 i j) = (y i.val j.val : EReal)
  w : ∀ i j : Fin 4096, a2 (ix2 i j) = (w i.val j.val : EReal)

section

variable {x y w : ℕ → ℕ → ℝ} {V0 : Valuation τ sig (Elt Ideal)}
  (hV : ArgsAt x y w (V0 (Proc.devRef .tc main_arg0)) (V0 (Proc.devRef .tc main_arg1)) (V0 (Proc.devRef .tc main_arg2)))
include hV

theorem v4_val (t : Fin 4096) (h : Fin 32) (d : Fin 128) :
    res_main_v4 V0 (ix3 t h d) = ((headOf x y w h.val).q t.val d : EReal) := by
  pointwise [res_main_v4, res_main_v0]
  exact hV.x _ _

theorem v5_val (t : Fin 4096) (h : Fin 32) (d : Fin 128) :
    res_main_v5 V0 (ix3 t h d) = ((headOf x y w h.val).k t.val d : EReal) := by
  pointwise [res_main_v5, res_main_v0]
  exact hV.x _ _

theorem v6_val (t : Fin 4096) (h : Fin 32) (d : Fin 128) :
    res_main_v6 V0 (ix3 t h d) = ((headOf x y w h.val).v t.val d : EReal) := by
  pointwise [res_main_v6, res_main_v0]
  exact hV.x _ _

theorem v9_val (h : Fin 32) (t s : Fin 4096) :
    res_main_v9 V0 (ix3 h t s) = ((headOf x y w h.val).z t.val s.val : EReal) := by
  pointwise [res_main_v9]
  simp only [v4_val hV, v5_val hV, ← EReal.coe_mul, coe_sum, scale_coe]
  rfl

omit hV in
theorem v16_val (t s : Fin 4096) :
    res_main_v16 V0 (ix2 t s) = BitVec.ofBool (decide (s.val < t.val)) := by
  pointwise [res_main_v16]
  exact slt_bit s.isLt t.isLt

omit hV in
theorem v20_1_val (h : Fin 32) (t s : Fin 4096) :
    res_main_v20_1 V0 (ix3 h t s) = BitVec.ofBool (decide (s.val < t.val)) := by
  pointwise [res_main_v20_1]
  exact v16_val t s

omit hV in
theorem v25_1_val (h : Fin 32) (t s : Fin 4096) :
    res_main_v25_1 V0 (ix3 h t s) = BitVec.ofBool (decide (s.val < t.val)) := by
  pointwise [res_main_v25_1]
  exact v16_val t s

omit hV in
/-- `softplus` as the host writes it. -/
theorem softplus_val (z : ℝ) : max (z : EReal) 0 + Ideal.log1p (Ideal.exp (-FloatOps.absf (F := Ideal) (φ := .f32) (z : EReal)))
    = (sp z : EReal) := by
  have ha : FloatOps.absf (F := Ideal) (φ := .f32) (z : EReal) = ((|z| : ℝ) : EReal) := coe_abs z
  rw [ha, ← EReal.coe_neg]
  unfold Ideal.log1p
  rw [log_one_add_exp, ← EReal.coe_zero, coe_max, ← EReal.coe_add]
  rfl

theorem call0_val (h : Fin 32) (t s : Fin 4096) :
    res_main_call0_v1_0 V0 (ix3 h t s) = (sp (-(headOf x y w h.val).z t.val s.val) : EReal) := by
  pointwise [res_main_call0_v1_0, res_main_call0_call0_v3, res_main_call0_v0, res_main_call0_call0_cst]
  rw [if_neg (fun h => h rfl), v9_val hV, ← EReal.coe_neg, softplus_val]

theorem call1_val (h : Fin 32) (t s : Fin 4096) :
    res_main_call1_v1_0 V0 (ix3 h t s) = (sp ((headOf x y w h.val).z t.val s.val) : EReal) := by
  pointwise [res_main_call1_v1_0, res_main_call1_call0_v3, res_main_call1_v0, res_main_call1_call0_cst]
  rw [if_neg (fun h => h rfl), v9_val hV, ← EReal.coe_neg, ← EReal.coe_neg, neg_neg, softplus_val]

omit hV in
theorem const_zero : (constant S_ FTy.f32 0#32 : FVec Ideal S_ .f32) ix0 = 0 := by
  pointwise

theorem v20_0_val (h : Fin 32) (t s : Fin 4096) :
    res_main_v20_0 V0 (ix3 h t s) = ((headOf x y w h.val).l t.val s.val : EReal) := by
  pointwise [res_main_v20_0]
  rw [v20_1_val, select_bit, call1_val hV, Head.l]
  split
  · exact (EReal.coe_neg _).symm
  · exact const_zero

omit hV in
theorem sum_fin (n : ℕ) (f : ℕ → ℝ) : ∑ i : Fin n, f i.val = ∑ i ∈ Finset.Ico 0 n, f i := by
  rw [Fin.sum_univ_eq_sum_range f n, Finset.range_eq_Ico]

omit hV in
theorem revSum_val (X : FVec Ideal S32x4096x4096 .f32) (f : ℕ → ℝ) (h : Fin 32) (t s : Fin 4096)
    (hX : ∀ i : Fin 4096, X (ix3 h t i) = (f i.val : EReal)) :
    Host.reduceWindowAdd ![1, 1, 4096] ![1, 1, 1] ![0, 0, 0] ![0, 0, 4095] X
        (broadcastInDim S_ ![] Gen.bcast_S_S_ (constant S_ FTy.f32 0#32))
        Gen.reduceWindows_S32x4096x4096_S32x4096x4096_w1s1p0_0_w1s1p0_0_w4096s1p0_4095 Gen.h_S_ (ix3 h t s)
      = ((∑ i ∈ Finset.Ico s.val 4096, f i : ℝ) : EReal) := by
  have h0 : (broadcastInDim S_ ![] Gen.bcast_S_S_ (constant S_ FTy.f32 0#32) : FVec Ideal S_ .f32) (Shape.Idx.first Gen.h_S_) = 0 := by
    pointwise
  unfold Host.reduceWindowAdd
  rw [h0]
  exact (window_apply 0 4095 X _ h t s f hX).trans (congrArg _ (sum_from f 4096 s.val s.isLt.le))

omit hV in
theorem fwdSum_val (X : FVec Ideal S32x4096x4096 .f32) (f : ℕ → ℝ) (h : Fin 32) (t s : Fin 4096)
    (hX : ∀ i : Fin 4096, X (ix3 h t i) = (f i.val : EReal)) :
    Host.reduceWindowAdd ![1, 1, 4096] ![1, 1, 1] ![0, 0, 4095] ![0, 0, 0] X
        (broadcastInDim S_ ![] Gen.bcast_S_S_ (constant S_ FTy.f32 0#32))
        Gen.reduceWindows_S32x4096x4096_S32x4096x4096_w1s1p0_0_w1s1p0_0_w4096s1p4095_0 Gen.h_S_ (ix3 h t s)
      = ((∑ i ∈ Finset.Ico 0 (s.val + 1), f i : ℝ) : EReal) := by
  have h0 : (broadcastInDim S_ ![] Gen.bcast_S_S_ (constant S_ FTy.f32 0#32) : FVec Ideal S_ .f32) (Shape.Idx.first Gen.h_S_) = 0 := by
    pointwise
  unfold Host.reduceWindowAdd
  rw [h0]
  exact (window_apply 4095 0 X _ h t s f hX).trans (congrArg _ (sum_upto f 4095 s.val (by omega)))

theorem v24_val (h : Fin 32) (t s : Fin 4096) :
    res_main_v24 V0 (ix3 h t s) = (Real.exp (-sp (-(headOf x y w h.val).z t.val s.val) + (headOf x y w h.val).suffix t.val (s.val + 1)) : EReal) := by
  pointwise [res_main_v24]
  rw [revSum_val _ _ h t s fun i => v20_0_val hV h t i, call0_val hV, v20_0_val hV, ← EReal.coe_neg, ← EReal.coe_sub,
    ← EReal.coe_add, Ideal.exp_coe, Finset.sum_eq_sum_Ico_succ_bot s.isLt, add_sub_cancel_left]
  rfl

theorem v25_0_val (h : Fin 32) (t s : Fin 4096) :
    res_main_v25_0 V0 (ix3 h t s) = ((headOf x y w h.val).a t.val s.val : EReal) := by
  pointwise [res_main_v25_0]
  rw [v25_1_val, select_bit, v24_val hV, Head.a]
  split
  · rename_i hlt
    rw [sp_neg, Head.l, if_pos hlt]
    congr 2; ring
  · exact const_zero

theorem v28_val (t : Fin 4096) (j : Fin 4096) :
    res_main_v28 V0 (ix2 t j) = ((headOf x y w (j.val / 128)).o t.val ⟨j.val % 128, Nat.mod_lt _ (by decide)⟩ : EReal) := by
  pointwise [res_main_v28]
  simp only [v6_val hV, v25_0_val hV, ← EReal.coe_mul, coe_sum]
  rw [Head.o, ← sum_fin]

theorem v29_2_val (t j : Fin 4096) : res_main_v29_2 V0 (ix2 t j) = (logis (y t.val j.val) : EReal) := by
  pointwise [res_main_v29_2]
  rw [hV.y, ← EReal.coe_neg, logis_val]

theorem v31_val (t j : Fin 4096) : res_main_v31 V0 (ix2 t j)
    = (((headOf x y w (j.val / 128)).o t.val ⟨j.val % 128, Nat.mod_lt _ (by decide)⟩ * w t.val j.val : ℝ) : EReal) := by
  pointwise [res_main_v31]
  rw [v28_val hV, hV.w, ← EReal.coe_mul]

theorem v35_val (h : Fin 32) (t : Fin 4096) (d : Fin 128) :
    res_main_v35 V0 (ix3 h d t) = ((headOf x y w h.val).g t.val d : EReal) := by
  pointwise [res_main_v35, res_main_v29_0]
  rw [hV.y, hV.w, v29_2_val hV, ← EReal.coe_mul, ← EReal.coe_mul]
  rfl

theorem v40_val (h : Fin 32) (t s : Fin 4096) :
    res_main_v40 V0 (ix3 h t s) = ((headOf x y w h.val).take t.val s.val : EReal) := by
  have ha := v25_0_val hV h t s
  pointwise [res_main_v25_0] at ha
  pointwise [res_main_v40]
  rw [v25_1_val, select_bit] at ha ⊢
  simp only [v35_val hV, v6_val hV, ← EReal.coe_mul, coe_sum]
  rw [Head.take]
  split
  · rename_i hlt
    rw [if_pos hlt] at ha
    rw [ha, ← EReal.coe_mul]
  · rename_i hlt
    rw [Head.a, if_neg hlt]; simp

omit hV in
theorem inf_top : (Ideal.ofBits FTy.f32 2139095040#32 : EReal) = ⊤ := by
  simp [Ideal.ofBits, Ideal.ieee]

theorem v50_val (h : Fin 32) (t s : Fin 4096) :
    res_main_v50 V0 (ix3 h t s) = (((headOf x y w h.val).dz t.val s.val * (headOf x y w h.val).c : ℝ) : EReal) := by
  pointwise [res_main_v50]
  rw [fwdSum_val _ _ h t s fun i => v40_val hV h t i, v40_val hV, call0_val hV, call1_val hV, v20_1_val, select_bit, inf_top]
  have e0 : res_main_call0_v0 V0 (ix3 h t s) = ((-(headOf x y w h.val).z t.val s.val : ℝ) : EReal) := by
    pointwise [res_main_call0_v0]
    rw [v9_val hV, EReal.coe_neg]
  have e1 : res_main_call1_v0 V0 (ix3 h t s) = (((headOf x y w h.val).z t.val s.val : ℝ) : EReal) := by
    pointwise [res_main_call1_v0]
    rw [v9_val hV, neg_neg]
  rw [e0, e1, if_neg (EReal.coe_ne_top _), if_neg (EReal.coe_ne_top _), if_neg (EReal.coe_ne_top _), if_neg (EReal.coe_ne_top _),
    scale_coe, ← EReal.coe_sub, ← EReal.coe_sub, Ideal.exp_coe, Ideal.exp_coe, ← EReal.coe_neg ((headOf x y w h.val).take _ _),
    ← EReal.coe_add]
  rw [EReal.coe_mul ((headOf x y w h.val).dz _ _)]
  congr 1
  rw [Head.dz, sp_neg]
  split
  · rename_i hlt
    rw [Finset.sum_Ico_succ_top (Nat.zero_le _), Head.left, Head.l, if_pos hlt]
    simp only [← EReal.coe_neg, ← EReal.coe_mul, ← EReal.coe_add]
    congr 1
    rw [show -(headOf x y w h.val).z t.val s.val - (sp ((headOf x y w h.val).z t.val s.val) - (headOf x y w h.val).z t.val s.val)
      = -sp ((headOf x y w h.val).z t.val s.val) by ring, show (headOf x y w h.val).z t.val s.val - sp ((headOf x y w h.val).z t.val s.val)
      = -sp ((headOf x y w h.val).z t.val s.val) + (headOf x y w h.val).z t.val s.val by ring]
    ring
  · rename_i hlt
    rw [Head.take, Head.a, if_neg hlt]
    simp

/-! ## The results -/

omit hV in
/-- Column `j` of a result: its head and feature. -/
def colDq (x y w : ℕ → ℕ → ℝ) (t j : Fin 4096) : ℝ :=
  (headOf x y w (j.val / 128)).dq 4096 t.val ⟨j.val % 128, Nat.mod_lt _ (by decide)⟩

/-- the keys', -/
def colDk (x y w : ℕ → ℕ → ℝ) (t j : Fin 4096) : ℝ :=
  (headOf x y w (j.val / 128)).dk 4096 t.val ⟨j.val % 128, Nat.mod_lt _ (by decide)⟩

/-- the values', -/
def colDv (x y w : ℕ → ℕ → ℝ) (t j : Fin 4096) : ℝ :=
  (headOf x y w (j.val / 128)).dv 4096 t.val ⟨j.val % 128, Nat.mod_lt _ (by decide)⟩

/-- and the gate's. -/
def colDg (x y w : ℕ → ℕ → ℝ) (t j : Fin 4096) : ℝ :=
  (w t.val j.val * (headOf x y w (j.val / 128)).o t.val ⟨j.val % 128, Nat.mod_lt _ (by decide)⟩)
    * (logis (y t.val j.val) * (1 + y t.val j.val * (1 - logis (y t.val j.val))))

theorem ref_dq (t j : Fin 4096) :
    (truncf .bf16 (shapeCast S4096x4096 (transpose S4096x32x128 [1, 0, 2] (Host.dotGeneral (φ₁ := .f32) (φ₂ := .f32) dot_S32x4096x4096_S4096x32x128_S32x4096x128_2_0_1_2_0_1 none (res_main_v50 V0 : FVec Ideal S32x4096x4096 .f32) (res_main_v5 V0 : FVec Ideal S4096x32x128 .f32)) Gen.transposes_S32x4096x128_S4096x32x128_1_0_2) Gen.shapeCasts_S4096x32x128_S4096x4096) Gen.bitsLt_bf16_f32 : FVec Ideal S4096x4096 .bf16) (ix2 t j)
      = (colDq x y w t j : EReal) := by
  pointwise
  simp only [v50_val hV, v5_val hV, ← EReal.coe_mul, coe_sum]
  rw [colDq, Head.dq, ← sum_fin]

theorem ref_dk (t j : Fin 4096) :
    (truncf .bf16 (shapeCast S4096x4096 (transpose S4096x32x128 [1, 0, 2] (Host.dotGeneral (φ₁ := .f32) (φ₂ := .f32) dot_S32x4096x4096_S4096x32x128_S32x4096x128_1_0_2_2_0_1 none (res_main_v50 V0 : FVec Ideal S32x4096x4096 .f32) (res_main_v4 V0 : FVec Ideal S4096x32x128 .f32)) Gen.transposes_S32x4096x128_S4096x32x128_1_0_2) Gen.shapeCasts_S4096x32x128_S4096x4096) Gen.bitsLt_bf16_f32 : FVec Ideal S4096x4096 .bf16) (ix2 t j)
      = (colDk x y w t j : EReal) := by
  pointwise
  simp only [v50_val hV, v4_val hV, ← EReal.coe_mul, coe_sum]
  rw [colDk, Head.dk, ← sum_fin]

theorem ref_dv (t j : Fin 4096) :
    (truncf .bf16 (shapeCast S4096x4096 (transpose S4096x32x128 [2, 0, 1] (Host.dotGeneral (φ₁ := .f32) (φ₂ := .f32) dot_S32x128x4096_S32x4096x4096_S32x128x4096_2_1_1_2_0_0 none (res_main_v35 V0 : FVec Ideal S32x128x4096 .f32) (res_main_v25_0 V0 : FVec Ideal S32x4096x4096 .f32)) Gen.transposes_S32x128x4096_S4096x32x128_2_0_1) Gen.shapeCasts_S4096x32x128_S4096x4096) Gen.bitsLt_bf16_f32 : FVec Ideal S4096x4096 .bf16) (ix2 t j)
      = (colDv x y w t j : EReal) := by
  pointwise
  simp only [v35_val hV, v25_0_val hV, ← EReal.coe_mul, coe_sum]
  rw [colDv, Head.dv, ← sum_fin]
  congr 1
  exact Finset.sum_congr rfl fun i _ => mul_comm _ _

theorem ref_dg (t j : Fin 4096) :
    (truncf .bf16 (addf (mulf (res_main_v31 V0) (res_main_v29_2 V0)) (mulf (mulf (V0 (Proc.devRef .tc main_arg1)) (res_main_v31 V0)) (mulf (res_main_v29_2 V0) (subf (broadcastInDim S4096x4096 ![] Gen.bcast_S_S4096x4096 (constant S_ .f32 0x3F800000#32)) (res_main_v29_2 V0))))) Gen.bitsLt_bf16_f32 : FVec Ideal S4096x4096 .bf16) (ix2 t j)
      = (colDg x y w t j : EReal) := by
  pointwise
  rw [v31_val hV, v29_2_val hV, hV.y, ← EReal.coe_one, ← EReal.coe_sub]
  simp only [← EReal.coe_mul, ← EReal.coe_add]
  congr 1
  rw [colDg]
  ring

end

end Cert.Proof.SB

end
-- ==== Proof.SB.Mixer.lean ====
/-
  The array the call reads as the forward pass's output: what the host operations before the call leave in it, as a term of
  the first argument, and its value.
-/
module

public import proofs.«01_k».proof.Proof.SB.Args
public import proofs.«01_k».proof.Proof.SB.RefVal

@[expose] public section

noncomputable section

namespace Cert.Proof.SB

open Cert.KernelIdeal Cert.KernelIdeal.Gen

open Idealize.ShloMosaic
open Idealize.ShloMosaic.TcCoe
open Idealize.SL Idealize.SL.Sem

/-- A third of the products, one row of 128 features per head. -/
def mixQ (a : FVec Ideal S4096x12288 .bf16) : FVec Ideal S4096x32x128 .f32 :=
  shapeCast S4096x32x128 (extractStridedSlice S4096x4096 ![0, 0] (extf .f32 a bitsLt_bf16_f32) slices_S4096x12288_S4096x4096_0_0) shapeCasts_S4096x4096_S4096x32x128

def mixK (a : FVec Ideal S4096x12288 .bf16) : FVec Ideal S4096x32x128 .f32 :=
  shapeCast S4096x32x128 (extractStridedSlice S4096x4096 ![0, 4096] (extf .f32 a bitsLt_bf16_f32) slices_S4096x12288_S4096x4096_0_4096) shapeCasts_S4096x4096_S4096x32x128

def mixV (a : FVec Ideal S4096x12288 .bf16) : FVec Ideal S4096x32x128 .f32 :=
  shapeCast S4096x32x128 (extractStridedSlice S4096x4096 ![0, 8192] (extf .f32 a bitsLt_bf16_f32) slices_S4096x12288_S4096x4096_0_8192) shapeCasts_S4096x4096_S4096x32x128

/-- The scores. -/
def mixZ (a : FVec Ideal S4096x12288 .bf16) : FVec Ideal S32x4096x4096 .f32 :=
  mulf (Host.dotGeneral dot_S4096x32x128_S4096x32x128_S32x4096x4096_2_2_0_0_1_1 none (mixQ a) (mixK a))
    (broadcastInDim S32x4096x4096 ![] bcast_S_S32x4096x4096 (constant S_ .f32 0x3DB504F3#32))

/-- The earlier keys of a query, in every head. -/
def mixM : IVec S32x4096x4096 1 :=
  broadcastInDim S32x4096x4096 ![1, 2] bcast_S4096x4096_S32x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- Zeros. -/
def mixO : FVec Ideal S32x4096x4096 .f32 := broadcastInDim S32x4096x4096 ![] bcast_S_S32x4096x4096 (constant S_ .f32 0x00000000#32)

/-- The logarithm of the logistic function. -/
def mixLog (z : FVec Ideal S32x4096x4096 .f32) : FVec Ideal S32x4096x4096 .f32 :=
  Host.negf (select (cmpf .une (subf (Host.negf z) mixO) (subf (Host.negf z) mixO)) (addf (Host.negf z) mixO)
    (addf (maximumf (Host.negf z) mixO) (Host.log1p (Host.exp (Host.negf (Host.absf (subf (Host.negf z) mixO)))))))

/-- The logarithms of the sticks' remainders, -/
def mixL (a : FVec Ideal S4096x12288 .bf16) : FVec Ideal S32x4096x4096 .f32 :=
  select mixM (mixLog (Host.negf (mixZ a))) mixO

/-- and the weights. -/
def mixA (a : FVec Ideal S4096x12288 .bf16) : FVec Ideal S32x4096x4096 .f32 :=
  select mixM (Host.exp (addf (mixLog (mixZ a)) (subf
    (Host.reduceWindowAdd ![1, 1, 4096] ![1, 1, 1] ![0, 0, 0] ![0, 0, 4095] (mixL a) (broadcastInDim S_ ![] bcast_S_S_ (constant S_ .f32 0x00000000#32))
      reduceWindows_S32x4096x4096_S32x4096x4096_w1s1p0_0_w1s1p0_0_w4096s1p0_4095 h_S_) (mixL a)))) mixO

def mixed (a : FVec Ideal S4096x12288 .bf16) : FVec Ideal S4096x4096 .f32 :=
  shapeCast S4096x4096 (transpose S4096x32x128 [2, 0, 1]
    (Host.dotGeneral dot_S4096x32x128_S32x4096x4096_S32x128x4096_0_2_2_1_1_0 none (mixV a) (mixA a))
    transposes_S32x128x4096_S4096x32x128_2_0_1) shapeCasts_S4096x32x128_S4096x4096

variable (m : (ℓ : Loc nD τ sig) → Buf (Elt Ideal) ℓ)

theorem entry_v28 (c : Dev nD) : entry m c main_v28 = mixed (m ((c : Thread nD τ).loc main_arg0)) := by
  unfold entry
  after_reads_simp
  rfl

variable {x : ℕ → ℕ → ℝ} (y w : ℕ → ℕ → ℝ) {a : FVec Ideal S4096x12288 .bf16}
  (hx : ∀ (i : Fin 4096) (j : Fin 12288), a (ix2 i j) = (x i.val j.val : EReal))
include hx

theorem mixQ_val (t : Fin 4096) (h : Fin 32) (d : Fin 128) : mixQ a (ix3 t h d) = ((headOf x y w h.val).q t.val d : EReal) := by
  pointwise [mixQ]
  exact hx _ _

theorem mixK_val (t : Fin 4096) (h : Fin 32) (d : Fin 128) : mixK a (ix3 t h d) = ((headOf x y w h.val).k t.val d : EReal) := by
  pointwise [mixK]
  exact hx _ _

theorem mixV_val (t : Fin 4096) (h : Fin 32) (d : Fin 128) : mixV a (ix3 t h d) = ((headOf x y w h.val).v t.val d : EReal) := by
  pointwise [mixV]
  exact hx _ _

theorem mixZ_val (h : Fin 32) (t s : Fin 4096) : mixZ a (ix3 h t s) = ((headOf x y w h.val).z t.val s.val : EReal) := by
  pointwise [mixZ]
  simp only [mixQ_val y w hx, mixK_val y w hx, ← EReal.coe_mul, coe_sum, scale_coe]
  rfl

omit hx in
theorem mixM_val (h : Fin 32) (t s : Fin 4096) : mixM (ix3 h t s) = BitVec.ofBool (decide (s.val < t.val)) := by
  pointwise [mixM]
  exact slt_bit s.isLt t.isLt

omit hx in
theorem mixO_val (h : Fin 32) (t s : Fin 4096) : mixO (ix3 h t s) = 0 := by
  pointwise [mixO]

omit hx in
theorem mixLog_val (z : FVec Ideal S32x4096x4096 .f32) (r : ℝ) (h : Fin 32) (t s : Fin 4096) (hz : z (ix3 h t s) = (r : EReal)) :
    mixLog z (ix3 h t s) = ((-sp (-r) : ℝ) : EReal) := by
  pointwise [mixLog, mixO]
  rw [if_neg (fun h => h rfl), hz, ← EReal.coe_neg, softplus_val, EReal.coe_neg]

theorem mixL_val (h : Fin 32) (t s : Fin 4096) : mixL a (ix3 h t s) = ((headOf x y w h.val).l t.val s.val : EReal) := by
  have hz : Host.negf (mixZ a) (ix3 h t s) = ((-(headOf x y w h.val).z t.val s.val : ℝ) : EReal) := by
    pointwise
    rw [mixZ_val y w hx, EReal.coe_neg]
  pointwise [mixL]
  rw [mixM_val, select_bit, mixO_val, mixLog_val _ _ _ _ _ hz, neg_neg, Head.l]
  split <;> rfl

theorem mixA_val (h : Fin 32) (t s : Fin 4096) : mixA a (ix3 h t s) = ((headOf x y w h.val).a t.val s.val : EReal) := by
  pointwise [mixA]
  rw [mixM_val, select_bit, mixO_val, Head.a]
  split
  · rename_i hlt
    rw [mixLog_val _ _ _ _ _ (mixZ_val y w hx h t s), revSum_val _ _ h t s fun i => mixL_val y w hx h t i, mixL_val y w hx,
      ← EReal.coe_sub, ← EReal.coe_add, Ideal.exp_coe, Finset.sum_eq_sum_Ico_succ_bot s.isLt, add_sub_cancel_left, sp_neg, Head.l, if_pos hlt,
      Head.suffix]
    congr 2; ring
  · rfl

theorem mixed_val (t j : Fin 4096) :
    mixed a (ix2 t j) = ((headOf x y w (j.val / 128)).o t.val ⟨j.val % 128, Nat.mod_lt _ (by decide)⟩ : EReal) := by
  pointwise [mixed]
  simp only [mixV_val y w hx, mixA_val y w hx, ← EReal.coe_mul, coe_sum]
  rw [Head.o, ← sum_fin]

end Cert.Proof.SB

end
-- ==== Proof.SB.PassVal.lean ====
/-
  One grid point at the extended reals: the walk visits every tile to the left while some row is above the bound, and the
  pass adds the point's part of the keys' and values' gradients.
-/
module

public import proofs.«01_k».proof.Proof.SB.TileVal
public import proofs.«01_k».proof.Proof.SB.Rules

@[expose] public section

noncomputable section

namespace Cert.Proof.SB

open Cert.KernelIdeal Cert.KernelIdeal.Gen
open Idealize.ShloMosaic Idealize.SL.Sem

/-! ## Tiles of an array -/

theorem tileRect_emb (j : Fin 16) (r : Fin 256) (d : Fin 128) :
    (tileRect j).emb (ix2 r d) = ix2 (⟨256 * j.val + r.val, by omega⟩ : Fin 4096) d := by
  funext a
  apply Fin.ext
  match a with
  | 0 => show j.val * 256 + 1 * r.val = 256 * j.val + r.val; omega
  | 1 => show 0 + 1 * d.val = d.val; omega

theorem tileOf_apply {α : Type} (X : S4096x128.Idx → α) (j : Fin 16) (r : Fin 256) (d : Fin 128) :
    tileOf X j (ix2 r d) = X (ix2 (⟨256 * j.val + r.val, by omega⟩ : Fin 4096) d) := by
  unfold tileOf
  rw [tileRect_emb]

theorem setTile_in {α : Type} (X : S4096x128.Idx → α) (j : Fin 16) (Y : S256x128.Idx → α) (r : Fin 256) (d : Fin 128) :
    setTile X j Y (ix2 (⟨256 * j.val + r.val, by omega⟩ : Fin 4096) d) = Y (ix2 r d) := by
  unfold setTile
  rw [← tileRect_emb]
  exact Rect.overlay_emb (tileRect j) X Y (ix2 r d)

theorem setTile_out {α : Type} (X : S4096x128.Idx → α) (j : Fin 16) (Y : S256x128.Idx → α) (s : Fin 4096) (d : Fin 128)
    (h : s.val < 256 * j.val ∨ 256 * j.val + 256 ≤ s.val) : setTile X j Y (ix2 s d) = X (ix2 s d) := by
  unfold setTile
  refine Rect.overlay_of_not_mem _ _ _ fun hmem => ?_
  obtain ⟨x, hx, he⟩ := (LoadRect.mem_set (tileRect j).toLoadRect).1 hmem 0
  change x < 256 at hx
  change s.val = j.val * 256 + 1 * x at he
  omega

/-- A row of the array lies in tile `j` or outside it. -/
theorem tile_cases (j : Fin 16) (i : Fin 4096) :
    (∃ r : Fin 256, i = ⟨256 * j.val + r.val, by omega⟩) ∨ (i.val < 256 * j.val ∨ 256 * j.val + 256 ≤ i.val) := by
  by_cases h : 256 * j.val ≤ i.val ∧ i.val < 256 * j.val + 256
  · exact Or.inl ⟨⟨i.val - 256 * j.val, by omega⟩, Fin.ext (by dsimp only; omega)⟩
  · exact Or.inr (by omega)

/-! ## What a point reads -/

/-- The point's arrays hold the head `H`, its queries from position `t` on. -/
structure ReadsAt (H : Head) (t : ℕ) (R : Reads Ideal) : Prop where
  q : ∀ (r : Fin 512) d, R.q (ix2 r d) = (H.q (t + r.val) d : EReal)
  g : ∀ (r : Fin 512) d, R.dout (ix2 r d) = (H.g (t + r.val) d : EReal)
  k : ∀ (s : Fin 4096) d, R.k (ix2 s d) = (H.k s.val d : EReal)
  v : ∀ (s : Fin 4096) d, R.v (ix2 s d) = (H.v s.val d : EReal)

section

variable {H : Head} {p : ℕ} {R : Reads Ideal} (hR : ReadsAt H (256 * (2 * p)) R)
include hR

theorem blockA_at : BlockAt H (256 * (2 * p)) R.blockA where
  q := fun r d => by
    pointwise [Reads.blockA, k0_pay62]
    exact (hR.q _ d).trans (by first | rfl | (congr 2; simp))
  g := fun r d => by
    pointwise [Reads.blockA, k0_pay64]
    exact (hR.g _ d).trans (by first | rfl | (congr 2; simp))

theorem blockB_at : BlockAt H (256 * (2 * p + 1)) R.blockB where
  q := fun r d => by
    pointwise [Reads.blockB, k0_pay63]
    exact (hR.q _ d).trans (by congr 2; show 256 * (2 * p) + (256 + r.val) = _; omega)
  g := fun r d => by
    pointwise [Reads.blockB, k0_pay65]
    exact (hR.g _ d).trans (by congr 2; show 256 * (2 * p) + (256 + r.val) = _; omega)

theorem tile_at (j : Fin 16) : TileAt H (256 * j.val) (tileOf R.k j) (tileOf R.v j) where
  k := fun r d => (tileOf_apply R.k j r d).trans (hR.k _ d)
  v := fun r d => (tileOf_apply R.v j r d).trans (hR.v _ d)

end

/-! ## The walk -/

/-- The bound at which the walk stops. -/
def bound : EReal := Ideal.ofBits .f32 0xC2DC0000#32

theorem most_ge (x y : FVec Ideal S256x1 .f32) (r : Fin 256) : max (x (ix2 r 0)) (y (ix2 r 0)) ≤ most x y := by
  pointwise [most]
  refine (Finset.le_fold_max _).2 (Or.inr ⟨(r, 0), Finset.mem_univ _, le_refl _⟩)

theorem alive_of (x y : FVec Ideal S256x1 .f32) (r : Fin 256) (h : bound < x (ix2 r 0) ∨ bound < y (ix2 r 0)) :
    Scalar.cmpi .sgt (alive x y) 0#32 = 1#1 := by
  have hm : bound < most x y := lt_of_lt_of_le (lt_max_iff.2 h) (most_ge x y r)
  unfold alive
  have : Scalar.cmpf .ogt (most x y) (Scalar.ofBits (F := Ideal) .f32 0xC2DC0000#32) = 1#1 := by
    show BitVec.ofBool (decide (bound < most x y)) = 1#1
    rw [decide_eq_true hm]; rfl
  rw [this]
  decide

/-- Some row of the point is still above the bound when every tile but the first is counted. -/
def Above (H : Head) (p : ℕ) : Prop :=
  ∃ r : Fin 512, bound < (H.suffix (256 * (2 * p) + r.val) 256 : EReal)

/-- What the walk carries when the tiles from position `n` on are counted. -/
structure WalkAt (H : Head) (p n : ℕ) (w : Walk Ideal) : Prop where
  word : w.1 = alive w.2.1 w.2.2
  a : ∀ r : Fin 256, w.2.1 (ix2 r 0) = (H.suffix (256 * (2 * p) + r.val) n : EReal)
  b : ∀ r : Fin 256, w.2.2 (ix2 r 0) = (H.suffix (256 * (2 * p + 1) + r.val) n : EReal)

theorem WalkAt.goes {H : Head} {p n : ℕ} {w : Walk Ideal} (h : WalkAt H p n w) (ha : Above H p) (h1 : 256 ≤ n)
    (hn : n ≤ 4096) : Scalar.cmpi .sgt w.1 0#32 = 1#1 := by
  obtain ⟨r, hr⟩ := ha
  rw [h.word]
  by_cases hlt : r.val < 256
  · refine alive_of _ _ ⟨r.val, hlt⟩ (Or.inl (lt_of_lt_of_le hr ?_))
    rw [h.a]
    exact EReal.coe_le_coe_iff.2 (H.suffix_mono _ h1 hn)
  · refine alive_of _ _ ⟨r.val - 256, by omega⟩ (Or.inr (lt_of_lt_of_le hr ?_))
    rw [h.b]
    have : 256 * (2 * p) + r.val = 256 * (2 * p + 1) + (r.val - 256) := by omega
    rw [this]
    exact EReal.coe_le_coe_iff.2 (H.suffix_mono _ h1 hn)

section

variable {H : Head} (hc : H.c = scale) {p : ℕ} {R : Reads Ideal} (hR : ReadsAt H (256 * (2 * p)) R)
include hc hR

theorem step_at (j : Fin 16) (hj : j.val < 2 * p) {w : Walk Ideal} (hw : WalkAt H p (256 * (j.val + 1)) w) :
    WalkAt H p (256 * j.val) (R.step j w) where
  word := rfl
  a := fun r => by
    unfold Reads.step
    pointwise
    rw [hw.a, missSum_val hc (sees_id (by omega)) (blockA_at hR) (tile_at hR j).k, ← EReal.coe_add,
      ← H.suffix_split _ (m := 256 * j.val) (n := 256 * j.val + 256) (by omega) (by omega)]
    congr 1
    exact add_comm _ _
  b := fun r => by
    unfold Reads.step
    pointwise
    rw [hw.b, missSum_val hc (sees_id (by omega)) (blockB_at hR) (tile_at hR j).k, ← EReal.coe_add,
      ← H.suffix_split _ (m := 256 * j.val) (n := 256 * j.val + 256) (by omega) (by omega)]
    congr 1
    exact add_comm _ _

theorem walk_at (ha : Above H p) : ∀ (j : ℕ) (hj : j ≤ 16) (_ : j ≤ 2 * p) (w : Walk Ideal), WalkAt H p (256 * j) w →
    (R.walk j hj w).1 = j ∧ WalkAt H p 0 (R.walk j hj w).2
  | 0, _, _, w, hw => ⟨rfl, hw⟩
  | j + 1, hj, hp, w, hw => by
    unfold Reads.walk
    rw [if_pos (hw.goes ha (by omega) (by omega))]
    obtain ⟨h1, h2⟩ := walk_at ha j (by omega) (by omega) (R.step ⟨j, by omega⟩ w) (step_at hc hR ⟨j, by omega⟩ (by simpa using hp) hw)
    exact ⟨congrArg (· + 1) h1, h2⟩

end

section

variable {H : Head} (hc : H.c = scale) (i : Fin 8) {R : Reads Ideal} (hR : ReadsAt H (256 * (2 * i.val)) R)
include hc hR

theorem walked_at (ha : Above H i.val) : (R.walked i).1 = 2 * i.val ∧ WalkAt H i.val 0 (R.walked i).2 := by
  unfold Reads.walked
  refine walk_at hc hR ha (2 * i.val) (by omega) (le_refl _) _ ⟨rfl, fun r => ?_, fun r => ?_⟩
  · dsimp only
    unfold Reads.massA
    rw [missSum_val hc (sees_lower _) (blockA_at hR) (tile_at hR ⟨2 * i.val, by omega⟩).k]
    rw [← H.suffix_split _ (m := 256 * (2 * i.val)) (n := 256 * (2 * i.val) + 256) (by omega) (by omega),
      H.suffix_own _ (by omega), add_zero]
  · dsimp only
    unfold Reads.massB
    pointwise
    rw [missSum_val hc (sees_lower _) (blockB_at hR) (tile_at hR ⟨2 * i.val + 1, by omega⟩).k,
      missSum_val hc (s := 256 * (2 * i.val)) (sees_id (by omega)) (blockB_at hR) (tile_at hR ⟨2 * i.val, by omega⟩).k,
      ← EReal.coe_add,
      ← H.suffix_split _ (m := 256 * (2 * i.val)) (n := 256 * (2 * i.val) + 256) (by omega) (by omega),
      ← H.suffix_split _ (m := 256 * (2 * i.val) + 256) (n := 256 * (2 * i.val + 1) + 256) (by omega) (by omega),
      H.suffix_own _ (by omega), add_zero, add_comm]
    rfl

end

/-! ## The pass -/

/-- The sums of the keys' gradients: complete up to block `p` left of position `n`, up to the block before elsewhere. -/
structure PassAt (H : Head) (p n : ℕ) (s : Pass Ideal) : Prop where
  a : CarryAt H (256 * (2 * p)) n s.a
  b : CarryAt H (256 * (2 * p + 1)) n s.b
  dk : ∀ (i : Fin 4096) d, s.dk (ix2 i d) = (H.dk (256 * (2 * p) + (if i.val < n then 512 else 0)) i.val d : EReal)
  dv : ∀ (i : Fin 4096) d, s.dv (ix2 i d) = (H.dv (256 * (2 * p) + (if i.val < n then 512 else 0)) i.val d : EReal)

theorem addRows_val (x y : FVec Ideal S256x256 .bf16) (q : FVec Ideal S512x128 .bf16) (old : FVec Ideal S256x128 .f32)
    (f g : ℕ → ℝ) (t : ℕ) (r : Fin 256) (d : Fin 128) (e : ℝ)
    (hx : ∀ c : Fin 256, x (ix2 c r) = (f (t + c.val) : EReal)) (hy : ∀ c : Fin 256, y (ix2 c r) = (f (t + 256 + c.val) : EReal))
    (hq : ∀ c : Fin 512, q (ix2 c d) = (g (t + c.val) : EReal)) (ho : old (ix2 r d) = (e : EReal)) :
    addRows x y q old (ix2 r d) = ((e + ∑ i ∈ Finset.Ico t (t + 512), f i * g i : ℝ) : EReal) := by
  pointwise [addRows]
  simp only [hx, hy, hq, ho, ← EReal.coe_mul, coe_sum, ← EReal.coe_add]
  have e : ∀ c : Fin 256, g (t + (256 + c.val)) = g (t + 256 + c.val) := fun c => by rw [Nat.add_assoc]
  simp only [e]
  rw [sum_whole (fun i => f i * g i) 256 t, sum_whole (fun i => f i * g i) 256 (t + 256),
    Finset.sum_Ico_consecutive _ (by omega) (by omega)]

theorem addBlock_val (x : FVec Ideal S256x256 .bf16) (q : FVec Ideal S256x128 .bf16) (old : FVec Ideal S256x128 .f32)
    (f g : ℕ → ℝ) (t : ℕ) (r : Fin 256) (d : Fin 128) (e : ℝ)
    (hx : ∀ c : Fin 256, x (ix2 c r) = (f (t + c.val) : EReal))
    (hq : ∀ c : Fin 256, q (ix2 c d) = (g (t + c.val) : EReal)) (ho : old (ix2 r d) = (e : EReal)) :
    addBlock x q old (ix2 r d) = ((e + ∑ i ∈ Finset.Ico t (t + 256), f i * g i : ℝ) : EReal) := by
  pointwise [addBlock]
  simp only [hx, hq, ho, ← EReal.coe_mul, coe_sum, ← EReal.coe_add]
  rw [sum_whole (fun i => f i * g i) 256 t]

section

variable {H : Head} (hc : H.c = scale) {p : ℕ} {R : Reads Ideal} (hR : ReadsAt H (256 * (2 * p)) R)
include hc hR

/-- A tile both blocks see. -/
theorem tile_pass {m : FVec Ideal S256x256 .f32 → FVec Ideal S256x256 .f32} (j : Fin 16) (hj : j.val ≤ 2 * p)
    (hm : Sees m (256 * (2 * p)) (256 * j.val)) {s : Pass Ideal} (hs : PassAt H p (256 * j.val) s) :
    PassAt H p (256 * (j.val + 1)) (R.tile m j s) where
  a := tileNext_val hc hm (blockA_at hR) (by omega) (tile_at hR j) hs.a
  b := tileNext_val hc (sees_id (by omega)) (blockB_at hR) (by omega) (tile_at hR j) hs.b
  dk := fun i d => by
    unfold Reads.tile
    dsimp only
    rcases tile_cases j i with ⟨r, rfl⟩ | hi
    · rw [setTile_in, addRows_val _ _ _ _ (fun t => H.dz t (256 * j.val + r.val) * H.c) (fun t => H.q t d) (256 * (2 * p)) r d
          (H.dk (256 * (2 * p)) (256 * j.val + r.val) d)
          (fun c => tileGrad_val hc hm (blockA_at hR) (by omega) (tile_at hR j) hs.a c r)
          (fun c => (tileGrad_val hc (sees_id (by omega)) (blockB_at hR) (by omega) (tile_at hR j) hs.b c r).trans (by rfl))
          (fun c => hR.q c d)
          ((tileOf_apply s.dk j r d).trans ((hs.dk _ d).trans (by rw [if_neg (by dsimp only; omega), Nat.add_zero]))),
        H.dk_split _ _ (by omega), if_pos (by dsimp only; omega)]
    · rw [setTile_out _ _ _ _ _ hi, hs.dk]
      have : (i.val < 256 * j.val) ↔ (i.val < 256 * (j.val + 1)) := by omega
      simp only [this]
  dv := fun i d => by
    unfold Reads.tile
    dsimp only
    rcases tile_cases j i with ⟨r, rfl⟩ | hi
    · rw [setTile_in, addRows_val (truncf .bf16 (tileWeights m R.blockA (tileOf R.k j) s.a) bitsLt_bf16_f32)
          (truncf .bf16 (tileWeights id R.blockB (tileOf R.k j) s.b) bitsLt_bf16_f32) _ _ (fun t => H.a t (256 * j.val + r.val)) (fun t => H.g t d) (256 * (2 * p)) r d
          (H.dv (256 * (2 * p)) (256 * j.val + r.val) d)
          (fun c => tileWeights_val hc hm (blockA_at hR) (by omega) (tile_at hR j) hs.a c r)
          (fun c => (tileWeights_val hc (sees_id (by omega)) (blockB_at hR) (by omega) (tile_at hR j) hs.b c r).trans (by rfl))
          (fun c => hR.g c d)
          ((tileOf_apply s.dv j r d).trans ((hs.dv _ d).trans (by rw [if_neg (by dsimp only; omega), Nat.add_zero]))),
        H.dv_split _ _ (by omega), if_pos (by dsimp only; omega)]
    · rw [setTile_out _ _ _ _ _ hi, hs.dv]
      have : (i.val < 256 * j.val) ↔ (i.val < 256 * (j.val + 1)) := by omega
      simp only [this]

theorem tiles_pass (n : ℕ) (h : 0 + n ≤ 16) (hn : n ≤ 2 * p) {s : Pass Ideal} (hs : PassAt H p 0 s) :
    PassAt H p (256 * n) (R.tiles 0 n h s) := by
  induction n with
  | zero => exact hs
  | succ n ih =>
    have h1 : (⟨0 + n, by omega⟩ : Fin 16) = ⟨n, by omega⟩ := Fin.ext (Nat.zero_add n)
    unfold Reads.tiles
    rw [h1]
    exact tile_pass hc hR ⟨n, by omega⟩ (by dsimp only; omega) (sees_id (by dsimp only; omega)) (ih (by omega) (by omega))

/-- The tile only the second block sees: the sums of the keys' and values' gradients are complete, and the second block's
    queries' gradient. -/
theorem tail_pass (hp : p < 8) {s : Pass Ideal} (hs : PassAt H p (256 * (2 * p + 1)) s) :
    (∀ (r : Fin 256) d, (R.tail ⟨2 * p + 1, by omega⟩ s).b.2.2 (ix2 r d) = (H.dq (256 * (2 * p + 2)) (256 * (2 * p + 1) + r.val) d : EReal))
    ∧ (∀ (i : Fin 4096) d, (R.tail ⟨2 * p + 1, by omega⟩ s).dk (ix2 i d) = (H.dk (256 * (2 * (p + 1))) i.val d : EReal))
    ∧ (∀ (i : Fin 4096) d, (R.tail ⟨2 * p + 1, by omega⟩ s).dv (ix2 i d) = (H.dv (256 * (2 * (p + 1))) i.val d : EReal)) := by
  have hB := blockB_at hR
  have hT := tile_at hR ⟨2 * p + 1, by omega⟩
  have hm := sees_lower (256 * (2 * p + 1))
  have e1 : 256 * (2 * p + 1) + 256 = 256 * (2 * (p + 1)) := by omega
  refine ⟨fun r d => (tileNext_val hc hm hB (by omega) hT hs.b).dq r d, fun i d => ?_, fun i d => ?_⟩
  · unfold Reads.tail
    dsimp only
    rcases tile_cases ⟨2 * p + 1, by omega⟩ i with ⟨r, rfl⟩ | hi
    · rw [setTile_in (j := ⟨2 * p + 1, by omega⟩), addBlock_val _ _ _ (fun t => H.dz t (256 * (2 * p + 1) + r.val) * H.c) (fun t => H.q t d) (256 * (2 * p + 1)) r d
          (H.dk (256 * (2 * p + 1)) (256 * (2 * p + 1) + r.val) d)
          (fun c => tileGrad_val hc hm hB (by omega) hT hs.b c r) (fun c => hB.q c d)
          ((tileOf_apply s.dk ⟨2 * p + 1, by omega⟩ r d).trans ((hs.dk _ d).trans (by
            rw [if_neg (by dsimp only; omega), H.dk_zero _ _ (by dsimp only; omega), H.dk_zero _ _ (by omega)]))),
        H.dk_split _ _ (by omega), e1]
    · dsimp only at hi
      rw [setTile_out _ ⟨2 * p + 1, by omega⟩ _ _ _ hi, hs.dk]
      by_cases h : i.val < 256 * (2 * p + 1)
      · rw [if_pos h]; congr 2
      · rw [if_neg h, H.dk_zero _ _ (by omega), H.dk_zero _ _ (by omega)]
  · unfold Reads.tail
    dsimp only
    rcases tile_cases ⟨2 * p + 1, by omega⟩ i with ⟨r, rfl⟩ | hi
    · rw [setTile_in (j := ⟨2 * p + 1, by omega⟩), addBlock_val (truncf .bf16 (tileWeights lower R.blockB (tileOf R.k ⟨2 * p + 1, by omega⟩) s.b) bitsLt_bf16_f32)
          _ _ (fun t => H.a t (256 * (2 * p + 1) + r.val)) (fun t => H.g t d) (256 * (2 * p + 1)) r d
          (H.dv (256 * (2 * p + 1)) (256 * (2 * p + 1) + r.val) d)
          (fun c => tileWeights_val hc hm hB (by omega) hT hs.b c r) (fun c => hB.g c d)
          ((tileOf_apply s.dv ⟨2 * p + 1, by omega⟩ r d).trans ((hs.dv _ d).trans (by
            rw [if_neg (by dsimp only; omega), H.dv_zero _ _ (by dsimp only; omega), H.dv_zero _ _ (by omega)]))),
        H.dv_split _ _ (by omega), e1]
    · dsimp only at hi
      rw [setTile_out _ ⟨2 * p + 1, by omega⟩ _ _ _ hi, hs.dv]
      by_cases h : i.val < 256 * (2 * p + 1)
      · rw [if_pos h]; congr 2
      · rw [if_neg h, H.dv_zero _ _ (by omega), H.dv_zero _ _ (by omega)]

end

section

variable {H : Head} (hc : H.c = scale) (i : Fin 8) {R : Reads Ideal} (hR : ReadsAt H (256 * (2 * i.val)) R)
  (ha : Above H i.val) {dk dv : FVec Ideal S4096x128 .f32}
  (hdk : ∀ (s : Fin 4096) d, dk (ix2 s d) = (H.dk (256 * (2 * i.val)) s.val d : EReal))
  (hdv : ∀ (s : Fin 4096) d, dv (ix2 s d) = (H.dv (256 * (2 * i.val)) s.val d : EReal))
include hc hR ha hdk hdv

theorem start_pass : PassAt H i.val 0 (R.start i dk dv) where
  a := { rem := (walked_at hc i hR ha).2.a
         pre := fun r => by unfold Reads.start; pointwise [k0_pay72]; simp [Head.left]
         dq := fun r d => by unfold Reads.start; pointwise [k0_pay73]; simp [Head.dq] }
  b := { rem := (walked_at hc i hR ha).2.b
         pre := fun r => by unfold Reads.start; pointwise [k0_pay72]; simp [Head.left]
         dq := fun r d => by unfold Reads.start; pointwise [k0_pay73]; simp [Head.dq] }
  dk := fun s d => by rw [if_neg (Nat.not_lt_zero _), Nat.add_zero]; exact hdk s d
  dv := fun s d => by rw [if_neg (Nat.not_lt_zero _), Nat.add_zero]; exact hdv s d

/-- The pass of a grid point. -/
theorem pass_val :
    (∀ (r : Fin 256) d, (R.pass i dk dv).a.2.2 (ix2 r d) = (H.dq 4096 (256 * (2 * i.val) + r.val) d : EReal))
    ∧ (∀ (r : Fin 256) d, (R.pass i dk dv).b.2.2 (ix2 r d) = (H.dq 4096 (256 * (2 * i.val + 1) + r.val) d : EReal))
    ∧ (∀ (s : Fin 4096) d, (R.pass i dk dv).dk (ix2 s d) = (H.dk (256 * (2 * (i.val + 1))) s.val d : EReal))
    ∧ (∀ (s : Fin 4096) d, (R.pass i dk dv).dv (ix2 s d) = (H.dv (256 * (2 * (i.val + 1))) s.val d : EReal)) := by
  have hw := (walked_at hc i hR ha).1
  have hs := start_pass hc i hR ha hdk hdv
  unfold Reads.pass
  have e : ∀ (n j : ℕ) (h : j + n ≤ 16), j = 0 → n = 2 * i.val → PassAt H i.val (256 * (2 * i.val)) (R.tiles j n h (R.start i dk dv)) := by
    rintro n j h rfl rfl
    exact tiles_pass hc hR _ h (le_refl _) hs
  have h1 := tile_pass hc hR ⟨2 * i.val, by omega⟩ (le_refl _) (sees_lower _)
    (e (R.walked i).1 (2 * i.val - (R.walked i).1) (by have := R.walked_le i; omega) (by omega) hw)
  obtain ⟨h2, h3, h4⟩ := tail_pass hc hR i.isLt h1
  refine ⟨fun r d => ?_, fun r d => ?_, h3, h4⟩
  · exact (h1.a.dq r d).trans (congrArg _ (H.dq_all _ _ (by dsimp only; omega) (by dsimp only; omega)))
  · exact (h2 r d).trans (congrArg _ (H.dq_all _ _ (by omega) (by omega)))

/-- The queries' gradient a grid point writes. -/
theorem dq_val (r : Fin 512) (d : Fin 128) :
    k0_pay3 (R.pass i dk dv).a.2.2 (R.pass i dk dv).b.2.2 (ix2 r d) = (H.dq 4096 (256 * (2 * i.val) + r.val) d : EReal) := by
  obtain ⟨h1, h2, -, -⟩ := pass_val hc i hR ha hdk hdv
  pointwise [k0_pay3]
  split
  · exact h1 _ d
  · refine (h2 _ d).trans ?_
    congr 2
    dsimp only; omega

end

end Cert.Proof.SB

end
-- ==== Proof.SB.Out.lean ====
/-
  The call's value: each point reads rows of its head of the real model, so the carried gradients are the model's partial
  sums over the rows so far, and the four arrays end at the model's gradients.
-/
module

public import proofs.«01_k».proof.Proof.SB.Mixer
public import proofs.«01_k».proof.Proof.SB.PassVal
public import Idealize.ShloMosaic.Lib.Pipeline.ValueKit

@[expose] public section

noncomputable section

namespace Cert.Proof.SB

open Cert.KernelIdeal Cert.KernelIdeal.Gen

open Idealize.ShloMosaic
open Idealize.ShloMosaic.TcCoe
open Idealize.SL Idealize.SL.Sem

/-! ### The blocks of the windows -/

theorem idx_0 : ∀ t : Fin grid0.N, win0_0.index t = ![t.val % 8, t.val / 8] := by decide +kernel
theorem idx_1 : ∀ t : Fin grid0.N, win0_1.index t = ![0, 32 + t.val / 8] := by decide +kernel
theorem idx_2 : ∀ t : Fin grid0.N, win0_2.index t = ![0, 64 + t.val / 8] := by decide +kernel
theorem idx_3 : ∀ t : Fin grid0.N, win0_3.index t = ![t.val % 8, t.val / 8] := by decide +kernel
theorem idx_4 : ∀ t : Fin grid0.N, win0_4.index t = ![t.val % 8, t.val / 8] := by decide +kernel
theorem idx_5 : ∀ t : Fin grid0.N, win0_5.index t = ![t.val % 8, t.val / 8] := by decide +kernel
theorem idx_6 : ∀ t : Fin grid0.N, win0_6.index t = ![t.val % 8, t.val / 8] := by decide +kernel
theorem idx_7 : ∀ t : Fin grid0.N, win0_7.index t = ![0, t.val / 8] := by decide +kernel
theorem idx_8 : ∀ t : Fin grid0.N, win0_8.index t = ![0, t.val / 8] := by decide +kernel
theorem idx_9 : ∀ t : Fin grid0.N, win0_9.index t = ![t.val % 8, t.val / 8] := by decide +kernel

theorem head_lt (t : Fin grid0.N) : t.val / 8 < 32 := by
  have h : t.val < 256 := t.isLt
  omega

theorem row_lt (t : Fin grid0.N) (r : Fin 512) : t.val % 8 * 512 + r.val < 4096 := by omega
theorem col_lt (t : Fin grid0.N) (d : Fin 128) : t.val / 8 * 128 + d.val < 4096 := by have := head_lt t; omega

variable (V : Vals Ideal) (c : Dev nD)

theorem read_q (t : Fin grid0.N) (r : Fin 512) (d : Fin 128) :
    (reads V c t).q (ix2 r d) = V c main_arg0 (ix2 ⟨t.val % 8 * 512 + r.val, row_lt t r⟩ ⟨t.val / 8 * 128 + d.val, (col_lt t d).trans (by decide)⟩) := by
  show View.read (Elt Ideal) (win0_0.blk t).view (V c main_arg0) _ = _
  blk_ext [idx_0 t]

theorem read_k (t : Fin grid0.N) (s : Fin 4096) (d : Fin 128) :
    (reads V c t).k (ix2 s d) = V c main_arg0 (ix2 s ⟨4096 + (t.val / 8 * 128 + d.val), by have := col_lt t d; omega⟩) := by
  show View.read (Elt Ideal) (win0_1.blk t).view (V c main_arg0) _ = _
  blk_ext [idx_1 t]

theorem read_v (t : Fin grid0.N) (s : Fin 4096) (d : Fin 128) :
    (reads V c t).v (ix2 s d) = V c main_arg0 (ix2 s ⟨8192 + (t.val / 8 * 128 + d.val), by have := col_lt t d; omega⟩) := by
  show View.read (Elt Ideal) (win0_2.blk t).view (V c main_arg0) _ = _
  blk_ext [idx_2 t]

theorem read_g (t : Fin grid0.N) (r : Fin 512) (d : Fin 128) :
    (reads V c t).g (ix2 r d) = V c main_arg1 (ix2 ⟨t.val % 8 * 512 + r.val, row_lt t r⟩ ⟨t.val / 8 * 128 + d.val, col_lt t d⟩) := by
  show View.read (Elt Ideal) (win0_3.blk t).view (V c main_arg1) _ = _
  blk_ext [idx_3 t]

theorem read_o (t : Fin grid0.N) (r : Fin 512) (d : Fin 128) :
    (reads V c t).o (ix2 r d) = V c main_v28 (ix2 ⟨t.val % 8 * 512 + r.val, row_lt t r⟩ ⟨t.val / 8 * 128 + d.val, col_lt t d⟩) := by
  show View.read (Elt Ideal) (win0_4.blk t).view (V c main_v28) _ = _
  blk_ext [idx_4 t]

theorem read_dm (t : Fin grid0.N) (r : Fin 512) (d : Fin 128) :
    (reads V c t).dm (ix2 r d) = V c main_arg2 (ix2 ⟨t.val % 8 * 512 + r.val, row_lt t r⟩ ⟨t.val / 8 * 128 + d.val, col_lt t d⟩) := by
  show View.read (Elt Ideal) (win0_5.blk t).view (V c main_arg2) _ = _
  blk_ext [idx_5 t]

/-- The logistic function as the body writes it. -/
theorem gate_val (g : FVec Ideal S512x128 .f32) (r : Fin 512) (d : Fin 128) (y : ℝ) (h : g (ix2 r d) = (y : EReal)) :
    k0_pay56 (F := Ideal) g (ix2 r d) = (logis y : EReal) := by
  pointwise [k0_pay56]
  rw [h, zero_sub, ← EReal.coe_neg, logis_val]

variable {V c} {x y w : ℕ → ℕ → ℝ} (hV : ArgsAt x y w (V c main_arg0) (V c main_arg1) (V c main_arg2))
include hV

theorem reads_at (t : Fin grid0.N) : ReadsAt (headOf x y w (t.val / 8)) (256 * (2 * (t.val % 8))) (reads V c t) := by
  have e : ∀ r : ℕ, 256 * (2 * (t.val % 8)) + r = t.val % 8 * 512 + r := fun r => by omega
  refine ⟨fun r d => ?_, fun r d => ?_, fun s d => ?_, fun s d => ?_⟩
  · rw [read_q, hV.x, e]; rfl
  · have hg := (read_g V c t r d).trans (hV.y _ _)
    have hd := (read_dm V c t r d).trans (hV.w _ _)
    unfold Reads.dout
    pointwise [k0_pay58]
    rw [gate_val _ r d _ hg, hg, hd, e, ← EReal.coe_mul, ← EReal.coe_mul]
    rfl
  · rw [read_k, hV.x]; rfl
  · rw [read_v, hV.x]; rfl

variable (ha : ∀ (h : Fin 32) (p : Fin 8), Above (headOf x y w h.val) p.val)
include ha

omit hV in
theorem above_at (t : Fin grid0.N) : Above (headOf x y w (t.val / 8)) (pt (grid0.coords t)).val := ha ⟨t.val / 8, head_lt t⟩ _

omit hV ha in
theorem zeros_dk (s : Fin 4096) (d : Fin 128) (H : Head) : k0_pay54 (F := Ideal) (ix2 s d) = (H.dk 0 s.val d : EReal) := by
  rw [H.dk_zero s.val d (Nat.zero_le _)]
  pointwise [k0_pay54]
  rfl

omit hV ha in
theorem zeros_dv (s : Fin 4096) (d : Fin 128) (H : Head) : k0_pay55 (F := Ideal) (ix2 s d) = (H.dv 0 s.val d : EReal) := by
  rw [H.dv_zero s.val d (Nat.zero_le _)]
  pointwise [k0_pay55]
  rfl

/-- The gradients of the keys and the values before a point, over the rows before its block: zeros at a head's first. -/
def CarriedAt (x y w : ℕ → ℕ → ℝ) (V : Vals Ideal) (c : Dev nD) (t : Fin grid0.N) : Prop :=
  (∀ (s : Fin 4096) d, (if pt (grid0.coords t) = 0 then k0_pay54 (F := Ideal) else (traj V c t.val).1) (ix2 s d)
      = ((headOf x y w (t.val / 8)).dk (256 * (2 * (pt (grid0.coords t)).val)) s.val d : EReal))
  ∧ ∀ (s : Fin 4096) d, (if pt (grid0.coords t) = 0 then k0_pay55 (F := Ideal) else (traj V c t.val).2) (ix2 s d)
      = ((headOf x y w (t.val / 8)).dv (256 * (2 * (pt (grid0.coords t)).val)) s.val d : EReal)

theorem pass_at (t : Fin grid0.N) (h : CarriedAt x y w V c t) :
    (∀ (s : Fin 4096) d, (traj V c (t.val + 1)).1 (ix2 s d) = ((headOf x y w (t.val / 8)).dk (256 * (2 * (t.val % 8 + 1))) s.val d : EReal))
    ∧ (∀ (s : Fin 4096) d, (traj V c (t.val + 1)).2 (ix2 s d) = ((headOf x y w (t.val / 8)).dv (256 * (2 * (t.val % 8 + 1))) s.val d : EReal)) := by
  have hr := reads_at hV t
  rw [← pt_val t] at hr
  obtain ⟨-, -, h3, h4⟩ := pass_val rfl (pt (grid0.coords t)) hr (above_at ha t) h.1 h.2
  rw [traj_succ V c t, ← pt_val t]
  exact ⟨h3, h4⟩

theorem carried_at : ∀ (n : ℕ) (h : n < grid0.N), CarriedAt x y w V c ⟨n, h⟩ := by
  intro n
  induction n with
  | zero =>
    intro h
    have h0 : pt (grid0.coords ⟨0, h⟩) = 0 := Fin.ext (pt_val _)
    unfold CarriedAt
    rw [h0, if_pos rfl, if_pos rfl]
    exact ⟨fun s d => zeros_dk s d _, fun s d => zeros_dv s d _⟩
  | succ n ih =>
    intro h
    have hv := pt_val ⟨n + 1, h⟩
    by_cases h0 : pt (grid0.coords ⟨n + 1, h⟩) = 0
    · unfold CarriedAt
      rw [h0, if_pos rfl, if_pos rfl]
      exact ⟨fun s d => zeros_dk s d _, fun s d => zeros_dv s d _⟩
    · have h1 : (n + 1) % 8 ≠ 0 := fun e => h0 (Fin.ext (hv.trans e))
      obtain ⟨h2, h3⟩ := pass_at hV ha ⟨n, by omega⟩ (ih (by omega))
      unfold CarriedAt
      rw [if_neg h0, if_neg h0, hv]
      dsimp only at h2 h3 ⊢
      rw [show (n + 1) / 8 = n / 8 by omega, show (n + 1) % 8 = n % 8 + 1 by omega]
      exact ⟨h2, h3⟩

theorem dq_at (t : Fin grid0.N) (r : Fin 512) (d : Fin 128) : (reads V c t).dq (pt (grid0.coords t)) (ix2 r d)
    = ((headOf x y w (t.val / 8)).dq 4096 (t.val % 8 * 512 + r.val) d : EReal) := by
  have hr := reads_at hV t
  rw [← pt_val t] at hr
  have hc := carried_at hV ha t.val t.isLt
  have := dq_val rfl (pt (grid0.coords t)) hr (above_at ha t) hc.1 hc.2 r d
  rw [show 256 * (2 * (pt (grid0.coords t)).val) + r.val = t.val % 8 * 512 + r.val by rw [pt_val]; omega] at this
  obtain ⟨h1, h2⟩ := (reads V c t).pass_indep (pt (grid0.coords t)) k0_pay54 k0_pay55
    (if pt (grid0.coords t) = 0 then k0_pay54 else (traj V c t.val).1) (if pt (grid0.coords t) = 0 then k0_pay55 else (traj V c t.val).2)
  unfold Reads.dq
  rw [h1, h2]
  exact this

theorem dk_at (t : Fin grid0.N) (h7 : t.val % 8 = 7) (s : Fin 4096) (d : Fin 128) : k0_pay4 (F := Ideal) (traj V c (t.val + 1)).1 (ix2 s d)
    = ((headOf x y w (t.val / 8)).dk 4096 s.val d : EReal) := by
  have := (pass_at hV ha t (carried_at hV ha t.val t.isLt)).1 s d
  rw [h7] at this
  pointwise [k0_pay4]
  exact this

theorem dv_at (t : Fin grid0.N) (h7 : t.val % 8 = 7) (s : Fin 4096) (d : Fin 128) : k0_pay5 (F := Ideal) (traj V c (t.val + 1)).2 (ix2 s d)
    = ((headOf x y w (t.val / 8)).dv 4096 s.val d : EReal) := by
  have := (pass_at hV ha t (carried_at hV ha t.val t.isLt)).2 s d
  rw [h7] at this
  pointwise [k0_pay5]
  exact this

omit ha in
theorem dg_at (ho : ∀ t j : Fin 4096, V c main_v28 (ix2 t j) = ((headOf x y w (j.val / 128)).o t.val ⟨j.val % 128, Nat.mod_lt _ (by decide)⟩ : EReal))
    (t : Fin grid0.N) (r : Fin 512) (d : Fin 128) : (reads V c t).dg (ix2 r d)
      = (colDg x y w ⟨t.val % 8 * 512 + r.val, row_lt t r⟩ ⟨t.val / 8 * 128 + d.val, col_lt t d⟩ : EReal) := by
  have hg := (read_g V c t r d).trans (hV.y _ _)
  have hd := (read_dm V c t r d).trans (hV.w _ _)
  have hO := (read_o V c t r d).trans (ho _ _)
  unfold Reads.dg
  pointwise [k0_pay57]
  rw [gate_val _ r d _ hg, hg, hd, hO, ← EReal.coe_one]
  simp only [← EReal.coe_mul, ← EReal.coe_add, ← EReal.coe_sub]
  rfl

/-! ### The arrays -/

omit hV ha in
theorem colDq_at (t : Fin 4096) {h : ℕ} (d : Fin 128) (hj : h * 128 + d.val < 4096) :
    colDq x y w t ⟨h * 128 + d.val, hj⟩ = (headOf x y w h).dq 4096 t.val d := by
  have e1 : (h * 128 + d.val) / 128 = h := by omega
  have e2 : (⟨(h * 128 + d.val) % 128, Nat.mod_lt _ (by decide)⟩ : Fin 128) = d := Fin.ext (by dsimp only; omega)
  unfold colDq
  dsimp only
  rw [e2, e1]

omit hV ha in
theorem colDk_at (t : Fin 4096) {h : ℕ} (d : Fin 128) (hj : h * 128 + d.val < 4096) :
    colDk x y w t ⟨h * 128 + d.val, hj⟩ = (headOf x y w h).dk 4096 t.val d := by
  have e1 : (h * 128 + d.val) / 128 = h := by omega
  have e2 : (⟨(h * 128 + d.val) % 128, Nat.mod_lt _ (by decide)⟩ : Fin 128) = d := Fin.ext (by dsimp only; omega)
  unfold colDk
  dsimp only
  rw [e2, e1]

omit hV ha in
theorem colDv_at (t : Fin 4096) {h : ℕ} (d : Fin 128) (hj : h * 128 + d.val < 4096) :
    colDv x y w t ⟨h * 128 + d.val, hj⟩ = (headOf x y w h).dv 4096 t.val d := by
  have e1 : (h * 128 + d.val) / 128 = h := by omega
  have e2 : (⟨(h * 128 + d.val) % 128, Nat.mod_lt _ (by decide)⟩ : Fin 128) = d := Fin.ext (by dsimp only; omega)
  unfold colDv
  dsimp only
  rw [e2, e1]

omit hV ha in
theorem all_ix2 {A B : ℕ} {P : (⟨2, ![A, B]⟩ : Shape).Idx → Prop} (h : ∀ r d, P (ix2 r d)) (z : (⟨2, ![A, B]⟩ : Shape).Idx) : P z := by
  have e : z = ix2 (z 0) (z 1) := by funext a; fin_cases a <;> rfl
  rw [e]; exact h _ _

omit hV ha in
theorem emb_6 (t : Fin grid0.N) (r : Fin 512) (d : Fin 128) :
    (win0_6.blk t).view.emb (ix2 r d) = (ix2 ⟨t.val % 8 * 512 + r.val, row_lt t r⟩ ⟨t.val / 8 * 128 + d.val, col_lt t d⟩ : S4096x4096.Idx) := by
  blk_ext [idx_6 t]

theorem arr_dq : (dats V 0 c).arrAt 6 (cfg0 (F := Ideal)).N = fun i : S4096x4096.Idx => (colDq x y w (i 0) (i 1) : EReal) := by
  refine (dats V 0 c).arrAt_eq_of_covers 6 _ (by decide +kernel) fun t hf z => ?_
  blk_simp
  refine all_ix2 (P := fun z => (reads V c t).dq (pt (grid0.coords t)) z
    = (fun i : S4096x4096.Idx => (colDq x y w (i 0) (i 1) : EReal)) ((win0_6.blk t).view.emb z)) (fun r d => ?_) z
  rw [emb_6]
  exact (dq_at hV ha t r d).trans (congrArg _ (colDq_at ⟨t.val % 8 * 512 + r.val, row_lt t r⟩ d (col_lt t d)).symm)

omit hV ha in
theorem emb_7 (t : Fin grid0.N) (r : Fin 4096) (d : Fin 128) :
    (win0_7.blk t).view.emb (ix2 r d) = (ix2 r ⟨t.val / 8 * 128 + d.val, col_lt t d⟩ : S4096x4096.Idx) := by
  blk_ext [idx_7 t]

theorem arr_dk : (dats V 0 c).arrAt 7 (cfg0 (F := Ideal)).N = fun i : S4096x4096.Idx => (colDk x y w (i 0) (i 1) : EReal) := by
  refine (dats V 0 c).arrAt_eq_of_covers 7 _ (by decide +kernel) fun t hf z => ?_
  blk_simp
  refine all_ix2 (P := fun z => k0_pay4 (F := Ideal) (traj V c (t.val + 1)).1 z
    = (fun i : S4096x4096.Idx => (colDk x y w (i 0) (i 1) : EReal)) ((win0_7.blk t).view.emb z)) (fun r d => ?_) z
  rw [emb_7]
  exact (dk_at hV ha t ((flush0_7 t).1 hf) r d).trans (congrArg _ (colDk_at r d (col_lt t d)).symm)

omit hV ha in
theorem emb_8 (t : Fin grid0.N) (r : Fin 4096) (d : Fin 128) :
    (win0_8.blk t).view.emb (ix2 r d) = (ix2 r ⟨t.val / 8 * 128 + d.val, col_lt t d⟩ : S4096x4096.Idx) := by
  blk_ext [idx_8 t]

theorem arr_dv : (dats V 0 c).arrAt 8 (cfg0 (F := Ideal)).N = fun i : S4096x4096.Idx => (colDv x y w (i 0) (i 1) : EReal) := by
  refine (dats V 0 c).arrAt_eq_of_covers 8 _ (by decide +kernel) fun t hf z => ?_
  blk_simp
  refine all_ix2 (P := fun z => k0_pay5 (F := Ideal) (traj V c (t.val + 1)).2 z
    = (fun i : S4096x4096.Idx => (colDv x y w (i 0) (i 1) : EReal)) ((win0_8.blk t).view.emb z)) (fun r d => ?_) z
  rw [emb_8]
  exact (dv_at hV ha t ((flush0_8 t).1 hf) r d).trans (congrArg _ (colDv_at r d (col_lt t d)).symm)

omit hV ha in
theorem emb_9 (t : Fin grid0.N) (r : Fin 512) (d : Fin 128) :
    (win0_9.blk t).view.emb (ix2 r d) = (ix2 ⟨t.val % 8 * 512 + r.val, row_lt t r⟩ ⟨t.val / 8 * 128 + d.val, col_lt t d⟩ : S4096x4096.Idx) := by
  blk_ext [idx_9 t]

omit ha in
theorem arr_dg
    (ho : ∀ t j : Fin 4096, V c main_v28 (ix2 t j) = ((headOf x y w (j.val / 128)).o t.val ⟨j.val % 128, Nat.mod_lt _ (by decide)⟩ : EReal)) : (dats V 0 c).arrAt 9 (cfg0 (F := Ideal)).N = fun i : S4096x4096.Idx => (colDg x y w (i 0) (i 1) : EReal) := by
  refine (dats V 0 c).arrAt_eq_of_covers 9 _ (by decide +kernel) fun t hf z => ?_
  blk_simp
  refine all_ix2 (P := fun z => (reads V c t).dg z
    = (fun i : S4096x4096.Idx => (colDg x y w (i 0) (i 1) : EReal)) ((win0_9.blk t).view.emb z)) (fun r d => ?_) z
  rw [emb_9]
  exact dg_at hV ho t r d

end Cert.Proof.SB

end
-- ==== Proof.SB.PreVal.lean ====
/-
  What the precondition gives: the arguments are coerced real numbers, and of every head and block of rows one row's factor
  after the first two tiles of keys is above the kernel's bound.
-/
module

public import proofs.«01_k».proof.Pre_finite_and_alive
public import proofs.«01_k».proof.Proof.SB.RefVal
public import proofs.«01_k».proof.Proof.SB.PassVal

@[expose] public section

noncomputable section

namespace Cert.Proof.SB

open Cert.Pre_finite_and_alive
open Idealize.ShloMosaic Idealize.SL.Sem

variable [Facts] {a0 : FVec Ideal S4096x12288 .bf16} {a1 a2 : FVec Ideal S4096x4096 .f32}

/-- The values of an array of two axes. -/
def valuesOf {A B : ℕ} (a : (⟨2, ![A, B]⟩ : Shape).Idx → EReal) (i j : ℕ) : ℝ :=
  if h : i < A ∧ j < B then (a (ix2 ⟨i, h.1⟩ ⟨j, h.2⟩)).toReal else 0

omit [Facts] in
theorem real_of_bit {z : EReal} (h : BitVec.ofBool (decide (FloatOps.absf (F := Ideal) (φ := .f32) z < Ideal.ofBits FTy.f32 2139095040#32)) = 1#1) :
    z = ((z.toReal : ℝ) : EReal) := by
  rw [inf_top] at h
  have h2 : FloatOps.absf (F := Ideal) (φ := .f32) z < ⊤ := by
    by_contra hc
    rw [decide_eq_false hc] at h
    exact absurd h (by decide)
  have h3 : max z (-z) < ⊤ := h2
  refine (EReal.coe_toReal ?_ ?_).symm
  · rintro rfl; simp at h3
  · rintro rfl; simp at h3

omit [Facts] in
theorem valuesOf_apply {A B : ℕ} (a : (⟨2, ![A, B]⟩ : Shape).Idx → EReal) (i : Fin A) (j : Fin B) :
    valuesOf a i.val j.val = (a (ix2 i j)).toReal := dif_pos ⟨i.isLt, j.isLt⟩

theorem pre_args (h : (fn a0 a1 a2).1 = (fun _ => 1#1)) (h' : (fn a0 a1 a2).2.1 = (fun _ => 1#1)) (h'' : (fn a0 a1 a2).2.2.1 = (fun _ => 1#1)) :
    ArgsAt (valuesOf a0) (valuesOf a1) (valuesOf a2) a0 a1 a2 where
  x i j := by
    have h1 := congrFun h (ix2 i j)
    pointwise [fn, fn_part1] at h1
    rw [valuesOf_apply]
    exact real_of_bit h1
  y i j := by
    have h1 := congrFun h' (ix2 i j)
    pointwise [fn, fn_part1] at h1
    rw [valuesOf_apply]
    exact real_of_bit h1
  w i j := by
    have h1 := congrFun h'' (ix2 i j)
    pointwise [fn, fn_part1] at h1
    rw [valuesOf_apply]
    exact real_of_bit h1

omit [Facts] in
theorem bottom : (Ideal.ofBits FTy.f32 4286578688#32 : EReal) = ⊥ := by
  simp [Ideal.ofBits, Ideal.ieee]

omit [Facts] in
theorem zero_word : id (constant S_ FTy.f32 0#32 : FVec Ideal S_ .f32) ix0 = 0 := by
  show (constant S_ FTy.f32 0#32 : FVec Ideal S_ .f32) ix0 = 0
  pointwise

omit [Facts] in
/-- One term of the sum over the keys after the first two tiles. -/
theorem late_val {s t : ℕ} (hs : s < 4096) (ht : t < 4096) (z : ℝ) :
    Scalar.select (IntOp.andi (IntOp.cmpi .sge (BitVec.ofNat 32 s) 256#32) (IntOp.cmpi .slt (BitVec.ofNat 32 s) (BitVec.ofNat 32 t)))
      ((-sp z : ℝ) : EReal) 0 = ((if 256 ≤ s then (if s < t then -sp z else 0) else 0 : ℝ) : EReal) := by
  have h1 : IntOp.cmpi .sge (BitVec.ofNat 32 s) 256#32 = BitVec.ofBool (decide (256 ≤ s)) := WordCmp.cmpi_sge_ofNat (by omega) (by omega)
  rw [h1, slt_bit hs ht]
  by_cases a : 256 ≤ s <;> by_cases b : s < t <;> simp [a, b, IntOp.andi, Scalar.select]

theorem pre_alive {x y w : ℕ → ℕ → ℝ} (hx : ∀ (i : Fin 4096) (j : Fin 12288), a0 (ix2 i j) = (x i.val j.val : EReal))
    (h : (fn a0 a1 a2).2.2.2 = (fun _ => 1#1)) (n : Fin 32) (p : Fin 8) : Above (headOf x y w n.val) p.val := by
  have h1 := congrFun h (ix2 n p)
  pointwise [fn, fn_part1, fn_softplus, fn_log_sigmoid, fn_where] at h1
  simp only [ne_eq, not_true_eq_false, if_false, hx, ← EReal.coe_mul, coe_sum, scale_coe, ← EReal.coe_neg, neg_neg, softplus_val, zero_word] at h1
  have h2 := (WordCmp.ofBool_decide_eq_one_iff _).1 h1
  rw [Finset.lt_fold_max, bottom] at h2
  obtain h2 | ⟨r, -, h2⟩ := h2
  · exact absurd h2 not_lt_bot
  refine ⟨r, lt_of_lt_of_eq h2 ?_⟩
  have ht : p.val * 512 + r.val < 4096 := by omega
  rw [Finset.sum_congr rfl fun s _ => late_val s.isLt ht _, coe_sum]
  congr 1
  rw [Fin.sum_univ_eq_sum_range (fun s => if 256 ≤ s then (if s < p.val * 512 + r.val then -sp ((∑ d : Fin 128, x (p.val * 512 + r.val) (n.val * 128 + d.val) * x s (4096 + (n.val * 128 + d.val))) * scale) else 0) else 0) 4096,
    ← Finset.sum_filter, Head.suffix, show (Finset.range 4096).filter (fun s => 256 ≤ s) = Finset.Ico 256 4096 by ext s; simp; omega]
  refine Finset.sum_congr rfl fun s _ => ?_
  rw [show p.val * 512 + r.val = 256 * (2 * p.val) + r.val by omega]
  rfl

end Cert.Proof.SB

end
-- ==== Proof.SB.Value.lean ====
/-
  The value claim: on finite arguments of which no block of rows is dead after its first tile, the call's four arrays are
  the reference's four gradients.
-/
module

public import proofs.«01_k».proof.Proof.SB.Out
public import proofs.«01_k».proof.Proof.SB.PreVal
public import proofs.«01_k».proof.Proof.SB.Frames

@[expose] public section

noncomputable section

namespace Cert.Proof.SB

open Idealize.ShloMosaic
open Idealize.ShloMosaic.TcCoe
open Idealize.SL Idealize.SL.Sem

variable (m : (ℓ : Loc KernelIdeal.nD KernelIdeal.τ KernelIdeal.sig) → Buf (Elt Ideal) ℓ)

/-- The values of the three arguments on a device. -/
abbrev argX (c : Dev KernelIdeal.nD) : ℕ → ℕ → ℝ := valuesOf (A := 4096) (B := 12288) (m (c.tc.loc KernelIdeal.main_arg0))
abbrev argY (c : Dev KernelIdeal.nD) : ℕ → ℕ → ℝ := valuesOf (A := 4096) (B := 4096) (m (c.tc.loc KernelIdeal.main_arg1))
abbrev argW (c : Dev KernelIdeal.nD) : ℕ → ℕ → ℝ := valuesOf (A := 4096) (B := 4096) (m (c.tc.loc KernelIdeal.main_arg2))

theorem ext_ix2 {A B : ℕ} {f g : (⟨2, ![A, B]⟩ : Shape).Idx → EReal} (h : ∀ r d, f (ix2 r d) = g (ix2 r d)) : f = g :=
  funext fun i => all_ix2 (P := fun i => f i = g i) h i

theorem algebraic : Cert.algebraic_KernelIdeal_ReferenceIdeal_pre_finite_and_alive (hPre_finite_and_alive := Cert.Pre_finite_and_alive.Gen.facts) := by
  intro m g m' g' hpre hagree
  have hA : ∀ c, ArgsAt (argX m c) (argY m c) (argW m c) (m (c.tc.loc KernelIdeal.main_arg0)) (m (c.tc.loc KernelIdeal.main_arg1))
      (m (c.tc.loc KernelIdeal.main_arg2)) := fun c => pre_args (hpre c).1 (hpre c).2.1 (hpre c).2.2.1
  have ha : ∀ c (h : Fin 32) (p : Fin 8), Above (headOf (argX m c) (argY m c) (argW m c) h.val) p.val :=
    fun c h p => pre_alive (hA c).x (hpre c).2.2.2 h p
  refine ⟨fun c => fun i : KernelIdeal.S4096x4096.Idx => (colDq (argX m c) (argY m c) (argW m c) (i 0) (i 1) : EReal),
    fun c => fun i : KernelIdeal.S4096x4096.Idx => (colDk (argX m c) (argY m c) (argW m c) (i 0) (i 1) : EReal),
    fun c => fun i : KernelIdeal.S4096x4096.Idx => (colDv (argX m c) (argY m c) (argW m c) (i 0) (i 1) : EReal),
    fun c => fun i : KernelIdeal.S4096x4096.Idx => (colDg (argX m c) (argY m c) (argW m c) (i 0) (i 1) : EReal), ?_, ?_⟩
  · refine (θ_run KernelIdeal.defs _ _).mono (fun r h c => ?_) (run_results m g)
    obtain ⟨⟨h0, h1, h2, h3⟩, h4⟩ := h.1 c
    have hE : ArgsAt (argX m c) (argY m c) (argW m c) (entry m c KernelIdeal.main_arg0) (entry m c KernelIdeal.main_arg1)
        (entry m c KernelIdeal.main_arg2) := by
      rw [entry_arg0, entry_arg1, entry_arg2]; exact hA c
    have ho : ∀ t j : Fin 4096, entry m c KernelIdeal.main_v28 (ix2 t j)
        = ((headOf (argX m c) (argY m c) (argW m c) (j.val / 128)).o t.val ⟨j.val % 128, Nat.mod_lt _ (by decide)⟩ : EReal) := by
      intro t j
      rw [entry_v28]
      exact mixed_val (argY m c) (argW m c) (hA c).x t j
    exact ⟨h0.trans (arr_dq hE (ha c)), h1.trans (arr_dk hE (ha c)), h2.trans (arr_dv hE (ha c)), h3.trans (arr_dg hE ho), h4⟩
  · refine (θ_run ReferenceIdeal.defs _ _).mono (fun r h c => ?_) (Cert.ReferenceIdeal.Value.run (F := Ideal) m' g')
    obtain ⟨h0, h1, h2, h3, h4⟩ := h c
    have hE : ArgsAt (argX m c) (argY m c) (argW m c) (StableHlo.launchContents m' c (Proc.devRef .tc ReferenceIdeal.main_arg0))
        (StableHlo.launchContents m' c (Proc.devRef .tc ReferenceIdeal.main_arg1))
        (StableHlo.launchContents m' c (Proc.devRef .tc ReferenceIdeal.main_arg2)) := by
      have e0 : StableHlo.launchContents m' c (Proc.devRef .tc ReferenceIdeal.main_arg0) = m (c.tc.loc KernelIdeal.main_arg0) := (hagree c).1
      have e1 : StableHlo.launchContents m' c (Proc.devRef .tc ReferenceIdeal.main_arg1) = m (c.tc.loc KernelIdeal.main_arg1) := (hagree c).2.1
      have e2 : StableHlo.launchContents m' c (Proc.devRef .tc ReferenceIdeal.main_arg2) = m (c.tc.loc KernelIdeal.main_arg2) := (hagree c).2.2
      rw [e0, e1, e2]; exact hA c
    exact ⟨h0.trans (ext_ix2 (ref_dq hE)), h1.trans (ext_ix2 (ref_dk hE)),
      h2.trans (ext_ix2 (ref_dv hE)), h3.trans (ext_ix2 (ref_dg hE)), h4⟩

end Cert.Proof.SB

end
-- ==== Proof.lean ====
/-
  The claim: every part is proved in a module of its own under `Proof/SB`, `Proof/Mm` and `Proof/Norm` and, for the version's
  own `sb_bwd`, under `Proof/SBK`.
-/
module

public import proofs.«01_k».proof.Proof.Gen.GradH.Frame
public import proofs.«01_k».proof.Proof.Mm.GradH
public import proofs.«01_k».proof.Proof.Gen.GradW.Frame
public import proofs.«01_k».proof.Proof.Mm.GradW
public import proofs.«01_k».proof.Proof.Gen.GradMixed.Frame
public import proofs.«01_k».proof.Proof.Mm.GradMixed
public import proofs.«01_k».proof.Proof.Gen.GradOut.Frame
public import proofs.«01_k».proof.Proof.Mm.GradOut
public import proofs.«01_k».proof.Proof.Gen.Qkv.Frame
public import proofs.«01_k».proof.Proof.Mm.Qkv
public import proofs.«01_k».proof.Proof.Gen.Gate.Frame
public import proofs.«01_k».proof.Proof.Mm.Gate
public import proofs.«01_k».proof.Proof.Gen.OutProj.Frame
public import proofs.«01_k».proof.Proof.Mm.OutProj
public import proofs.«01_k».proof.Proof.Gen.OutProjE.Frame
public import proofs.«01_k».proof.Proof.Mm.OutProjE
public import proofs.«01_k».proof.Proof.Gen.GradOutE.Frame
public import proofs.«01_k».proof.Proof.Mm.GradOutE
public import proofs.«01_k».proof.Proof.Gen.GateA.Frame
public import proofs.«01_k».proof.Proof.Mm.GateA
public import proofs.«01_k».proof.Proof.Gen.QkvB.Frame
public import proofs.«01_k».proof.Proof.Mm.QkvB
public import proofs.«01_k».proof.Proof.Gen.GateB.Frame
public import proofs.«01_k».proof.Proof.Mm.GateB
public import proofs.«01_k».proof.Proof.Gen.PostBwd.Frame
public import proofs.«01_k».proof.Proof.Norm.PostBwd
public import proofs.«01_k».proof.Proof.Gen.PreBwd.Frame
public import proofs.«01_k».proof.Proof.Norm.PreBwd
public import proofs.«01_k».proof.Proof.Gen.PreNorm.Frame
public import proofs.«01_k».proof.Proof.Norm.PreNorm
public import proofs.«01_k».proof.Proof.Gen.PostNorm.Frame
public import proofs.«01_k».proof.Proof.Norm.PostNorm
public import proofs.«01_k».proof.Proof.Gen.Loss.Frame
public import proofs.«01_k».proof.Proof.Norm.Loss
public import proofs.«01_k».proof.Proof.Gen.AdamIn.Frame
public import proofs.«01_k».proof.Proof.Norm.AdamIn
public import proofs.«01_k».proof.Proof.Gen.AdamOut.Frame
public import proofs.«01_k».proof.Proof.Norm.AdamOut
public import proofs.«01_k».proof.Proof.Gen.AdamInE.Frame
public import proofs.«01_k».proof.Proof.Norm.AdamInE
public import proofs.«01_k».proof.Proof.Gen.AdamOutE.Frame
public import proofs.«01_k».proof.Proof.Norm.AdamOutE
public import proofs.«01_k».proof.Proof.Gen.AdamSmall.Frame
public import proofs.«01_k».proof.Proof.Norm.AdamSmall
public import proofs.«01_k».proof.Proof.Gen.PreBwdE.Frame
public import proofs.«01_k».proof.Proof.Norm.PreBwdE
public import proofs.«01_k».proof.Proof.Gen.PreNormE.Frame
public import proofs.«01_k».proof.Proof.Norm.PreNormE
public import proofs.«01_k».proof.Proof.Gen.PostNormE.Frame
public import proofs.«01_k».proof.Proof.Norm.PostNormE
public import proofs.«01_k».proof.Proof.Gen.PostBwdE.Frame
public import proofs.«01_k».proof.Proof.Norm.PostBwdE
public import proofs.«01_k».proof.Proof.Gen.Forget.Frame
public import proofs.«01_k».proof.Proof.Mm.Forget
public import proofs.«01_k».proof.Proof.Gen.GradForget.Frame
public import proofs.«01_k».proof.Proof.Mm.GradForget
public import proofs.«01_k».proof.Proof.Gen.GradHForget.Frame
public import proofs.«01_k».proof.Proof.Mm.GradHForget
public import proofs.«01_k».proof.Proof.Gen.GateSum.Frame
public import proofs.«01_k».proof.Proof.Mm.GateSum
public import proofs.«01_k».proof.Proof.Mm.Frames
public import proofs.«01_k».proof.Defs
public import proofs.«01_k».proof.Proof.SB.Frames
public import proofs.«01_k».proof.Proof.SB.Value

@[expose] public section

noncomputable section

namespace Cert.Proof

open Cert.Proof.SB

theorem claim : Cert.Claim :=
  ⟨Cert.Kernel.Gen.facts,
    Cert.KernelIdeal.Gen.facts,
    Cert.ReferenceIdeal.Gen.facts,
    Cert.GradH.Gen.facts,
    Cert.GradHIdeal.Gen.facts,
    Cert.GradHRefIdeal.Gen.facts,
    Cert.GradW.Gen.facts,
    Cert.GradWIdeal.Gen.facts,
    Cert.GradWRefIdeal.Gen.facts,
    Cert.GradMixed.Gen.facts,
    Cert.GradMixedIdeal.Gen.facts,
    Cert.GradMixedRefIdeal.Gen.facts,
    Cert.GradOut.Gen.facts,
    Cert.GradOutIdeal.Gen.facts,
    Cert.GradOutRefIdeal.Gen.facts,
    Cert.Qkv.Gen.facts,
    Cert.QkvIdeal.Gen.facts,
    Cert.QkvRefIdeal.Gen.facts,
    Cert.Gate.Gen.facts,
    Cert.GateIdeal.Gen.facts,
    Cert.GateRefIdeal.Gen.facts,
    Cert.OutProj.Gen.facts,
    Cert.OutProjIdeal.Gen.facts,
    Cert.OutProjRefIdeal.Gen.facts,
    Cert.OutProjE.Gen.facts,
    Cert.OutProjEIdeal.Gen.facts,
    Cert.OutProjERefIdeal.Gen.facts,
    Cert.GradOutE.Gen.facts,
    Cert.GradOutEIdeal.Gen.facts,
    Cert.GradOutERefIdeal.Gen.facts,
    Cert.GateA.Gen.facts,
    Cert.GateAIdeal.Gen.facts,
    Cert.GateARefIdeal.Gen.facts,
    Cert.QkvB.Gen.facts,
    Cert.QkvBIdeal.Gen.facts,
    Cert.QkvBRefIdeal.Gen.facts,
    Cert.GateB.Gen.facts,
    Cert.GateBIdeal.Gen.facts,
    Cert.GateBRefIdeal.Gen.facts,
    Cert.PostBwd.Gen.facts,
    Cert.PostBwdIdeal.Gen.facts,
    Cert.PostBwdRefIdeal.Gen.facts,
    Cert.PreBwd.Gen.facts,
    Cert.PreBwdIdeal.Gen.facts,
    Cert.PreBwdRefIdeal.Gen.facts,
    Cert.PreNorm.Gen.facts,
    Cert.PreNormIdeal.Gen.facts,
    Cert.PreNormRefIdeal.Gen.facts,
    Cert.PostNorm.Gen.facts,
    Cert.PostNormIdeal.Gen.facts,
    Cert.PostNormRefIdeal.Gen.facts,
    Cert.Loss.Gen.facts,
    Cert.LossIdeal.Gen.facts,
    Cert.LossRefIdeal.Gen.facts,
    Cert.AdamIn.Gen.facts,
    Cert.AdamInIdeal.Gen.facts,
    Cert.AdamInRefIdeal.Gen.facts,
    Cert.AdamOut.Gen.facts,
    Cert.AdamOutIdeal.Gen.facts,
    Cert.AdamOutRefIdeal.Gen.facts,
    Cert.AdamInE.Gen.facts,
    Cert.AdamInEIdeal.Gen.facts,
    Cert.AdamInERefIdeal.Gen.facts,
    Cert.AdamOutE.Gen.facts,
    Cert.AdamOutEIdeal.Gen.facts,
    Cert.AdamOutERefIdeal.Gen.facts,
    Cert.AdamSmall.Gen.facts,
    Cert.AdamSmallIdeal.Gen.facts,
    Cert.AdamSmallRefIdeal.Gen.facts,
    Cert.PreBwdE.Gen.facts,
    Cert.PreBwdEIdeal.Gen.facts,
    Cert.PreBwdERefIdeal.Gen.facts,
    Cert.PreNormE.Gen.facts,
    Cert.PreNormEIdeal.Gen.facts,
    Cert.PreNormERefIdeal.Gen.facts,
    Cert.PostNormE.Gen.facts,
    Cert.PostNormEIdeal.Gen.facts,
    Cert.PostNormERefIdeal.Gen.facts,
    Cert.PostBwdE.Gen.facts,
    Cert.PostBwdEIdeal.Gen.facts,
    Cert.PostBwdERefIdeal.Gen.facts,
    Cert.Forget.Gen.facts,
    Cert.ForgetIdeal.Gen.facts,
    Cert.ForgetRefIdeal.Gen.facts,
    Cert.GradForget.Gen.facts,
    Cert.GradForgetIdeal.Gen.facts,
    Cert.GradForgetRefIdeal.Gen.facts,
    Cert.GradHForget.Gen.facts,
    Cert.GradHForgetIdeal.Gen.facts,
    Cert.GradHForgetRefIdeal.Gen.facts,
    Cert.GateSum.Gen.facts,
    Cert.GateSumIdeal.Gen.facts,
    Cert.GateSumRefIdeal.Gen.facts,
    Cert.Pre_finite_and_alive.Gen.facts,
    frame_kernel, frame_ideal, frame_ideal_pre, frame_reference, frame_reference_pre,
    fun m ρ _ => Cert.GradH.Gen.frame m ρ, fun m ρ _ => Cert.GradHIdeal.Gen.frame m ρ, GradH.frame_reference,
    fun m ρ _ => Cert.GradW.Gen.frame m ρ, fun m ρ _ => Cert.GradWIdeal.Gen.frame m ρ, GradW.frame_reference,
    fun m ρ _ => Cert.GradMixed.Gen.frame m ρ, fun m ρ _ => Cert.GradMixedIdeal.Gen.frame m ρ, GradMixed.frame_reference,
    fun m ρ _ => Cert.GradOut.Gen.frame m ρ, fun m ρ _ => Cert.GradOutIdeal.Gen.frame m ρ, GradOut.frame_reference,
    fun m ρ _ => Cert.Qkv.Gen.frame m ρ, fun m ρ _ => Cert.QkvIdeal.Gen.frame m ρ, Qkv.frame_reference,
    fun m ρ _ => Cert.Gate.Gen.frame m ρ, fun m ρ _ => Cert.GateIdeal.Gen.frame m ρ, Gate.frame_reference,
    fun m ρ _ => Cert.OutProj.Gen.frame m ρ, fun m ρ _ => Cert.OutProjIdeal.Gen.frame m ρ, OutProj.frame_reference,
    fun m ρ _ => Cert.OutProjE.Gen.frame m ρ, fun m ρ _ => Cert.OutProjEIdeal.Gen.frame m ρ, OutProjE.frame_reference,
    fun m ρ _ => Cert.GradOutE.Gen.frame m ρ, fun m ρ _ => Cert.GradOutEIdeal.Gen.frame m ρ, GradOutE.frame_reference,
    fun m ρ _ => Cert.GateA.Gen.frame m ρ, fun m ρ _ => Cert.GateAIdeal.Gen.frame m ρ, GateA.frame_reference,
    fun m ρ _ => Cert.QkvB.Gen.frame m ρ, fun m ρ _ => Cert.QkvBIdeal.Gen.frame m ρ, QkvB.frame_reference,
    fun m ρ _ => Cert.GateB.Gen.frame m ρ, fun m ρ _ => Cert.GateBIdeal.Gen.frame m ρ, GateB.frame_reference,
    fun m ρ _ => Cert.PostBwd.Gen.frame m ρ, fun m ρ _ => Cert.PostBwdIdeal.Gen.frame m ρ, PostBwd.frame_reference,
    fun m ρ _ => Cert.PreBwd.Gen.frame m ρ, fun m ρ _ => Cert.PreBwdIdeal.Gen.frame m ρ, PreBwd.frame_reference,
    fun m ρ _ => Cert.PreNorm.Gen.frame m ρ, fun m ρ _ => Cert.PreNormIdeal.Gen.frame m ρ, PreNorm.frame_reference,
    fun m ρ _ => Cert.PostNorm.Gen.frame m ρ, fun m ρ _ => Cert.PostNormIdeal.Gen.frame m ρ, PostNorm.frame_reference,
    fun m ρ _ => Cert.Loss.Gen.frame m ρ, fun m ρ _ => Cert.LossIdeal.Gen.frame m ρ, Loss.frame_reference,
    fun m ρ _ => Cert.AdamIn.Gen.frame m ρ, fun m ρ _ => Cert.AdamInIdeal.Gen.frame m ρ, AdamIn.frame_reference,
    fun m ρ _ => Cert.AdamOut.Gen.frame m ρ, fun m ρ _ => Cert.AdamOutIdeal.Gen.frame m ρ, AdamOut.frame_reference,
    fun m ρ _ => Cert.AdamInE.Gen.frame m ρ, fun m ρ _ => Cert.AdamInEIdeal.Gen.frame m ρ, AdamInE.frame_reference,
    fun m ρ _ => Cert.AdamOutE.Gen.frame m ρ, fun m ρ _ => Cert.AdamOutEIdeal.Gen.frame m ρ, AdamOutE.frame_reference,
    fun m ρ _ => Cert.AdamSmall.Gen.frame m ρ, fun m ρ _ => Cert.AdamSmallIdeal.Gen.frame m ρ, AdamSmall.frame_reference,
    fun m ρ _ => Cert.PreBwdE.Gen.frame m ρ, fun m ρ _ => Cert.PreBwdEIdeal.Gen.frame m ρ, PreBwdE.frame_reference,
    fun m ρ _ => Cert.PreNormE.Gen.frame m ρ, fun m ρ _ => Cert.PreNormEIdeal.Gen.frame m ρ, PreNormE.frame_reference,
    fun m ρ _ => Cert.PostNormE.Gen.frame m ρ, fun m ρ _ => Cert.PostNormEIdeal.Gen.frame m ρ, PostNormE.frame_reference,
    fun m ρ _ => Cert.PostBwdE.Gen.frame m ρ, fun m ρ _ => Cert.PostBwdEIdeal.Gen.frame m ρ, PostBwdE.frame_reference,
    fun m ρ _ => Cert.Forget.Gen.frame m ρ, fun m ρ _ => Cert.ForgetIdeal.Gen.frame m ρ, Forget.frame_reference,
    fun m ρ _ => Cert.GradForget.Gen.frame m ρ, fun m ρ _ => Cert.GradForgetIdeal.Gen.frame m ρ, GradForget.frame_reference,
    fun m ρ _ => Cert.GradHForget.Gen.frame m ρ, fun m ρ _ => Cert.GradHForgetIdeal.Gen.frame m ρ, GradHForget.frame_reference,
    fun m ρ _ => Cert.GateSum.Gen.frame m ρ, fun m ρ _ => Cert.GateSumIdeal.Gen.frame m ρ, GateSum.frame_reference,
    trivial, algebraic,
    trivial, GradH.algebraic,
    trivial, GradW.algebraic,
    trivial, GradMixed.algebraic,
    trivial, GradOut.algebraic,
    trivial, Qkv.algebraic,
    trivial, Gate.algebraic,
    trivial, OutProj.algebraic,
    trivial, OutProjE.algebraic,
    trivial, GradOutE.algebraic,
    trivial, GateA.algebraic,
    trivial, QkvB.algebraic,
    trivial, GateB.algebraic,
    trivial, PostBwd.algebraic,
    trivial, PreBwd.algebraic,
    trivial, PreNorm.algebraic,
    trivial, PostNorm.algebraic,
    trivial, Loss.algebraic,
    AdamIn.preserves, AdamIn.algebraic,
    AdamOut.preserves, AdamOut.algebraic,
    AdamInE.preserves, AdamInE.algebraic,
    AdamOutE.preserves, AdamOutE.algebraic,
    AdamSmall.preserves, AdamSmall.algebraic,
    trivial, PreBwdE.algebraic,
    trivial, PreNormE.algebraic,
    trivial, PostNormE.algebraic,
    trivial, PostBwdE.algebraic,
    trivial, Forget.algebraic,
    trivial, GradForget.algebraic,
    trivial, GradHForget.algebraic,
    trivial, GateSum.algebraic⟩

end Cert.Proof

end
